-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelDc (m : (ℓ : Loc Cert.KernelDc.nD Cert.KernelDc.τ Cert.KernelDc.sig) → Buf (Elt Bits) ℓ) : Prop :=
  True

def Pre_KernelDcIdeal (m : (ℓ : Loc Cert.KernelDcIdeal.nD Cert.KernelDcIdeal.τ Cert.KernelDcIdeal.sig) → Buf (Elt Ideal) ℓ) : Prop :=
  True

def Pre_ReferenceDcIdeal (m : (ℓ : Loc Cert.ReferenceDcIdeal.nD Cert.ReferenceDcIdeal.τ Cert.ReferenceDcIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelDc [hKernelDc : Cert.KernelDc.Facts] : Prop :=
  ∀ (m : (ℓ : Loc Cert.KernelDc.nD Cert.KernelDc.τ Cert.KernelDc.sig) → Buf (Elt Bits) ℓ) (g : Dev Cert.KernelDc.nD → PrngReg), Pre_KernelDc m →
    θ_run (Cert.KernelDc.defs (F := Bits)) (onTc (τ := Cert.KernelDc.τ) (Cert.KernelDc.main (F := Bits))) ⟨m, fun _ => 0, g⟩ (fun r => (∀ c : Dev Cert.KernelDc.nD,
      r.2.mem ((c.tc : Thread Cert.KernelDc.nD Cert.KernelDc.τ).loc Cert.KernelDc.main_arg0) = m ((c.tc : Thread Cert.KernelDc.nD Cert.KernelDc.τ).loc Cert.KernelDc.main_arg0)
      ∧ r.2.mem ((c.tc : Thread Cert.KernelDc.nD Cert.KernelDc.τ).loc Cert.KernelDc.main_arg1) = m ((c.tc : Thread Cert.KernelDc.nD Cert.KernelDc.τ).loc Cert.KernelDc.main_arg1)
      ∧ r.2.mem ((c.tc : Thread Cert.KernelDc.nD Cert.KernelDc.τ).loc Cert.KernelDc.main_arg2) = m ((c.tc : Thread Cert.KernelDc.nD Cert.KernelDc.τ).loc Cert.KernelDc.main_arg2)
      ∧ r.2.mem ((c.tc : Thread Cert.KernelDc.nD Cert.KernelDc.τ).loc Cert.KernelDc.main_arg3) = m ((c.tc : Thread Cert.KernelDc.nD Cert.KernelDc.τ).loc Cert.KernelDc.main_arg3)
      ∧ r.2.mem ((c.tc : Thread Cert.KernelDc.nD Cert.KernelDc.τ).loc Cert.KernelDc.main_arg4) = m ((c.tc : Thread Cert.KernelDc.nD Cert.KernelDc.τ).loc Cert.KernelDc.main_arg4)
      ∧ r.2.mem ((c.tc : Thread Cert.KernelDc.nD Cert.KernelDc.τ).loc Cert.KernelDc.main_arg5) = m ((c.tc : Thread Cert.KernelDc.nD Cert.KernelDc.τ).loc Cert.KernelDc.main_arg5)
      ∧ r.2.mem ((c.tc : Thread Cert.KernelDc.nD Cert.KernelDc.τ).loc Cert.KernelDc.main_arg6) = m ((c.tc : Thread Cert.KernelDc.nD Cert.KernelDc.τ).loc Cert.KernelDc.main_arg6)
      ∧ r.2.mem ((c.tc : Thread Cert.KernelDc.nD Cert.KernelDc.τ).loc Cert.KernelDc.main_arg7) = m ((c.tc : Thread Cert.KernelDc.nD Cert.KernelDc.τ).loc Cert.KernelDc.main_arg7))
      ∧ r.2.sem = fun _ => 0)

def quiescent_KernelDcIdeal [hKernelDcIdeal : Cert.KernelDcIdeal.Facts] : Prop :=
  ∀ (m : (ℓ : Loc Cert.KernelDcIdeal.nD Cert.KernelDcIdeal.τ Cert.KernelDcIdeal.sig) → Buf (Elt Ideal) ℓ) (g : Dev Cert.KernelDcIdeal.nD → PrngReg), Pre_KernelDcIdeal m →
    θ_run (Cert.KernelDcIdeal.defs (F := Ideal)) (onTc (τ := Cert.KernelDcIdeal.τ) (Cert.KernelDcIdeal.main (F := Ideal))) ⟨m, fun _ => 0, g⟩ (fun r => (∀ c : Dev Cert.KernelDcIdeal.nD,
      r.2.mem ((c.tc : Thread Cert.KernelDcIdeal.nD Cert.KernelDcIdeal.τ).loc Cert.KernelDcIdeal.main_arg0) = m ((c.tc : Thread Cert.KernelDcIdeal.nD Cert.KernelDcIdeal.τ).loc Cert.KernelDcIdeal.main_arg0)
      ∧ r.2.mem ((c.tc : Thread Cert.KernelDcIdeal.nD Cert.KernelDcIdeal.τ).loc Cert.KernelDcIdeal.main_arg1) = m ((c.tc : Thread Cert.KernelDcIdeal.nD Cert.KernelDcIdeal.τ).loc Cert.KernelDcIdeal.main_arg1)
      ∧ r.2.mem ((c.tc : Thread Cert.KernelDcIdeal.nD Cert.KernelDcIdeal.τ).loc Cert.KernelDcIdeal.main_arg2) = m ((c.tc : Thread Cert.KernelDcIdeal.nD Cert.KernelDcIdeal.τ).loc Cert.KernelDcIdeal.main_arg2)
      ∧ r.2.mem ((c.tc : Thread Cert.KernelDcIdeal.nD Cert.KernelDcIdeal.τ).loc Cert.KernelDcIdeal.main_arg3) = m ((c.tc : Thread Cert.KernelDcIdeal.nD Cert.KernelDcIdeal.τ).loc Cert.KernelDcIdeal.main_arg3)
      ∧ r.2.mem ((c.tc : Thread Cert.KernelDcIdeal.nD Cert.KernelDcIdeal.τ).loc Cert.KernelDcIdeal.main_arg4) = m ((c.tc : Thread Cert.KernelDcIdeal.nD Cert.KernelDcIdeal.τ).loc Cert.KernelDcIdeal.main_arg4)
      ∧ r.2.mem ((c.tc : Thread Cert.KernelDcIdeal.nD Cert.KernelDcIdeal.τ).loc Cert.KernelDcIdeal.main_arg5) = m ((c.tc : Thread Cert.KernelDcIdeal.nD Cert.KernelDcIdeal.τ).loc Cert.KernelDcIdeal.main_arg5)
      ∧ r.2.mem ((c.tc : Thread Cert.KernelDcIdeal.nD Cert.KernelDcIdeal.τ).loc Cert.KernelDcIdeal.main_arg6) = m ((c.tc : Thread Cert.KernelDcIdeal.nD Cert.KernelDcIdeal.τ).loc Cert.KernelDcIdeal.main_arg6)
      ∧ r.2.mem ((c.tc : Thread Cert.KernelDcIdeal.nD Cert.KernelDcIdeal.τ).loc Cert.KernelDcIdeal.main_arg7) = m ((c.tc : Thread Cert.KernelDcIdeal.nD Cert.KernelDcIdeal.τ).loc Cert.KernelDcIdeal.main_arg7))
      ∧ r.2.sem = fun _ => 0)

def quiescent_ReferenceDcIdeal [hReferenceDcIdeal : Cert.ReferenceDcIdeal.Facts] : Prop :=
  ∀ (m : (ℓ : Loc Cert.ReferenceDcIdeal.nD Cert.ReferenceDcIdeal.τ Cert.ReferenceDcIdeal.sig) → Buf (Elt Ideal) ℓ) (g : Dev Cert.ReferenceDcIdeal.nD → PrngReg), Pre_ReferenceDcIdeal m →
    θ_run (Cert.ReferenceDcIdeal.defs (F := Ideal)) (onTc (τ := Cert.ReferenceDcIdeal.τ) (Cert.ReferenceDcIdeal.main (F := Ideal))) ⟨m, fun _ => 0, g⟩ (fun r => (∀ c : Dev Cert.ReferenceDcIdeal.nD,
      r.2.mem ((c.tc : Thread Cert.ReferenceDcIdeal.nD Cert.ReferenceDcIdeal.τ).loc Cert.ReferenceDcIdeal.main_arg0) = m ((c.tc : Thread Cert.ReferenceDcIdeal.nD Cert.ReferenceDcIdeal.τ).loc Cert.ReferenceDcIdeal.main_arg0)
      ∧ r.2.mem ((c.tc : Thread Cert.ReferenceDcIdeal.nD Cert.ReferenceDcIdeal.τ).loc Cert.ReferenceDcIdeal.main_arg1) = m ((c.tc : Thread Cert.ReferenceDcIdeal.nD Cert.ReferenceDcIdeal.τ).loc Cert.ReferenceDcIdeal.main_arg1)
      ∧ r.2.mem ((c.tc : Thread Cert.ReferenceDcIdeal.nD Cert.ReferenceDcIdeal.τ).loc Cert.ReferenceDcIdeal.main_arg2) = m ((c.tc : Thread Cert.ReferenceDcIdeal.nD Cert.ReferenceDcIdeal.τ).loc Cert.ReferenceDcIdeal.main_arg2)
      ∧ r.2.mem ((c.tc : Thread Cert.ReferenceDcIdeal.nD Cert.ReferenceDcIdeal.τ).loc Cert.ReferenceDcIdeal.main_arg3) = m ((c.tc : Thread Cert.ReferenceDcIdeal.nD Cert.ReferenceDcIdeal.τ).loc Cert.ReferenceDcIdeal.main_arg3)
      ∧ r.2.mem ((c.tc : Thread Cert.ReferenceDcIdeal.nD Cert.ReferenceDcIdeal.τ).loc Cert.ReferenceDcIdeal.main_arg4) = m ((c.tc : Thread Cert.ReferenceDcIdeal.nD Cert.ReferenceDcIdeal.τ).loc Cert.ReferenceDcIdeal.main_arg4)
      ∧ r.2.mem ((c.tc : Thread Cert.ReferenceDcIdeal.nD Cert.ReferenceDcIdeal.τ).loc Cert.ReferenceDcIdeal.main_arg5) = m ((c.tc : Thread Cert.ReferenceDcIdeal.nD Cert.ReferenceDcIdeal.τ).loc Cert.ReferenceDcIdeal.main_arg5)
      ∧ r.2.mem ((c.tc : Thread Cert.ReferenceDcIdeal.nD Cert.ReferenceDcIdeal.τ).loc Cert.ReferenceDcIdeal.main_arg6) = m ((c.tc : Thread Cert.ReferenceDcIdeal.nD Cert.ReferenceDcIdeal.τ).loc Cert.ReferenceDcIdeal.main_arg6)
      ∧ r.2.mem ((c.tc : Thread Cert.ReferenceDcIdeal.nD Cert.ReferenceDcIdeal.τ).loc Cert.ReferenceDcIdeal.main_arg7) = m ((c.tc : Thread Cert.ReferenceDcIdeal.nD Cert.ReferenceDcIdeal.τ).loc Cert.ReferenceDcIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelDc_KernelDcIdeal : Prop :=
  True

def algebraic_KernelDcIdeal_ReferenceDcIdeal [hKernelDcIdeal : Cert.KernelDcIdeal.Facts] [hReferenceDcIdeal : Cert.ReferenceDcIdeal.Facts] : Prop :=
  ∀ (m : (ℓ : Loc Cert.KernelDcIdeal.nD Cert.KernelDcIdeal.τ Cert.KernelDcIdeal.sig) → Buf (Elt Ideal) ℓ) (g : Dev Cert.KernelDcIdeal.nD → PrngReg)
    (m' : (ℓ : Loc Cert.ReferenceDcIdeal.nD Cert.ReferenceDcIdeal.τ Cert.ReferenceDcIdeal.sig) → Buf (Elt Ideal) ℓ) (g' : Dev Cert.ReferenceDcIdeal.nD → PrngReg), Pre_KernelDcIdeal m →
    (∀ c : Dev Cert.KernelDcIdeal.nD,
      m' ((c.tc : Thread Cert.ReferenceDcIdeal.nD Cert.ReferenceDcIdeal.τ).loc Cert.ReferenceDcIdeal.main_arg0) = m ((c.tc : Thread Cert.KernelDcIdeal.nD Cert.KernelDcIdeal.τ).loc Cert.KernelDcIdeal.main_arg0)
      ∧ m' ((c.tc : Thread Cert.ReferenceDcIdeal.nD Cert.ReferenceDcIdeal.τ).loc Cert.ReferenceDcIdeal.main_arg1) = m ((c.tc : Thread Cert.KernelDcIdeal.nD Cert.KernelDcIdeal.τ).loc Cert.KernelDcIdeal.main_arg1)
      ∧ m' ((c.tc : Thread Cert.ReferenceDcIdeal.nD Cert.ReferenceDcIdeal.τ).loc Cert.ReferenceDcIdeal.main_arg2) = m ((c.tc : Thread Cert.KernelDcIdeal.nD Cert.KernelDcIdeal.τ).loc Cert.KernelDcIdeal.main_arg2)
      ∧ m' ((c.tc : Thread Cert.ReferenceDcIdeal.nD Cert.ReferenceDcIdeal.τ).loc Cert.ReferenceDcIdeal.main_arg3) = m ((c.tc : Thread Cert.KernelDcIdeal.nD Cert.KernelDcIdeal.τ).loc Cert.KernelDcIdeal.main_arg3)
      ∧ m' ((c.tc : Thread Cert.ReferenceDcIdeal.nD Cert.ReferenceDcIdeal.τ).loc Cert.ReferenceDcIdeal.main_arg4) = m ((c.tc : Thread Cert.KernelDcIdeal.nD Cert.KernelDcIdeal.τ).loc Cert.KernelDcIdeal.main_arg4)
      ∧ m' ((c.tc : Thread Cert.ReferenceDcIdeal.nD Cert.ReferenceDcIdeal.τ).loc Cert.ReferenceDcIdeal.main_arg5) = m ((c.tc : Thread Cert.KernelDcIdeal.nD Cert.KernelDcIdeal.τ).loc Cert.KernelDcIdeal.main_arg5)
      ∧ m' ((c.tc : Thread Cert.ReferenceDcIdeal.nD Cert.ReferenceDcIdeal.τ).loc Cert.ReferenceDcIdeal.main_arg6) = m ((c.tc : Thread Cert.KernelDcIdeal.nD Cert.KernelDcIdeal.τ).loc Cert.KernelDcIdeal.main_arg6)
      ∧ m' ((c.tc : Thread Cert.ReferenceDcIdeal.nD Cert.ReferenceDcIdeal.τ).loc Cert.ReferenceDcIdeal.main_arg7) = m ((c.tc : Thread Cert.KernelDcIdeal.nD Cert.KernelDcIdeal.τ).loc Cert.KernelDcIdeal.main_arg7)) →
    ∃ (v0 : (c : Dev Cert.KernelDcIdeal.nD) → Buf (Elt Ideal) ((c.tc : Thread Cert.KernelDcIdeal.nD Cert.KernelDcIdeal.τ).loc Cert.KernelDcIdeal.main_v6)),
      θ_run (Cert.KernelDcIdeal.defs (F := Ideal)) (onTc (τ := Cert.KernelDcIdeal.τ) (Cert.KernelDcIdeal.main (F := Ideal))) ⟨m, fun _ => 0, g⟩ (fun r => ∀ c : Dev Cert.KernelDcIdeal.nD,
          r.2.mem ((c.tc : Thread Cert.KernelDcIdeal.nD Cert.KernelDcIdeal.τ).loc Cert.KernelDcIdeal.main_v6) = v0 c
          ∧ r.2.mem ((c.tc : Thread Cert.KernelDcIdeal.nD Cert.KernelDcIdeal.τ).loc Cert.KernelDcIdeal.main_arg0) = m ((c.tc : Thread Cert.KernelDcIdeal.nD Cert.KernelDcIdeal.τ).loc Cert.KernelDcIdeal.main_arg0)
          ∧ r.2.mem ((c.tc : Thread Cert.KernelDcIdeal.nD Cert.KernelDcIdeal.τ).loc Cert.KernelDcIdeal.main_arg1) = m ((c.tc : Thread Cert.KernelDcIdeal.nD Cert.KernelDcIdeal.τ).loc Cert.KernelDcIdeal.main_arg1)
          ∧ r.2.mem ((c.tc : Thread Cert.KernelDcIdeal.nD Cert.KernelDcIdeal.τ).loc Cert.KernelDcIdeal.main_arg2) = m ((c.tc : Thread Cert.KernelDcIdeal.nD Cert.KernelDcIdeal.τ).loc Cert.KernelDcIdeal.main_arg2)
          ∧ r.2.mem ((c.tc : Thread Cert.KernelDcIdeal.nD Cert.KernelDcIdeal.τ).loc Cert.KernelDcIdeal.main_arg3) = m ((c.tc : Thread Cert.KernelDcIdeal.nD Cert.KernelDcIdeal.τ).loc Cert.KernelDcIdeal.main_arg3)
          ∧ r.2.mem ((c.tc : Thread Cert.KernelDcIdeal.nD Cert.KernelDcIdeal.τ).loc Cert.KernelDcIdeal.main_arg4) = m ((c.tc : Thread Cert.KernelDcIdeal.nD Cert.KernelDcIdeal.τ).loc Cert.KernelDcIdeal.main_arg4)
          ∧ r.2.mem ((c.tc : Thread Cert.KernelDcIdeal.nD Cert.KernelDcIdeal.τ).loc Cert.KernelDcIdeal.main_arg5) = m ((c.tc : Thread Cert.KernelDcIdeal.nD Cert.KernelDcIdeal.τ).loc Cert.KernelDcIdeal.main_arg5)
          ∧ r.2.mem ((c.tc : Thread Cert.KernelDcIdeal.nD Cert.KernelDcIdeal.τ).loc Cert.KernelDcIdeal.main_arg6) = m ((c.tc : Thread Cert.KernelDcIdeal.nD Cert.KernelDcIdeal.τ).loc Cert.KernelDcIdeal.main_arg6)
          ∧ r.2.mem ((c.tc : Thread Cert.KernelDcIdeal.nD Cert.KernelDcIdeal.τ).loc Cert.KernelDcIdeal.main_arg7) = m ((c.tc : Thread Cert.KernelDcIdeal.nD Cert.KernelDcIdeal.τ).loc Cert.KernelDcIdeal.main_arg7))
      ∧ θ_run (Cert.ReferenceDcIdeal.defs (F := Ideal)) (onTc (τ := Cert.ReferenceDcIdeal.τ) (Cert.ReferenceDcIdeal.main (F := Ideal))) ⟨m', fun _ => 0, g'⟩ (fun r => ∀ c : Dev Cert.ReferenceDcIdeal.nD,
          r.2.mem ((c.tc : Thread Cert.ReferenceDcIdeal.nD Cert.ReferenceDcIdeal.τ).loc Cert.ReferenceDcIdeal.main_v0) = v0 c
          ∧ r.2.mem ((c.tc : Thread Cert.ReferenceDcIdeal.nD Cert.ReferenceDcIdeal.τ).loc Cert.ReferenceDcIdeal.main_arg0) = m' ((c.tc : Thread Cert.ReferenceDcIdeal.nD Cert.ReferenceDcIdeal.τ).loc Cert.ReferenceDcIdeal.main_arg0)
          ∧ r.2.mem ((c.tc : Thread Cert.ReferenceDcIdeal.nD Cert.ReferenceDcIdeal.τ).loc Cert.ReferenceDcIdeal.main_arg1) = m' ((c.tc : Thread Cert.ReferenceDcIdeal.nD Cert.ReferenceDcIdeal.τ).loc Cert.ReferenceDcIdeal.main_arg1)
          ∧ r.2.mem ((c.tc : Thread Cert.ReferenceDcIdeal.nD Cert.ReferenceDcIdeal.τ).loc Cert.ReferenceDcIdeal.main_arg2) = m' ((c.tc : Thread Cert.ReferenceDcIdeal.nD Cert.ReferenceDcIdeal.τ).loc Cert.ReferenceDcIdeal.main_arg2)
          ∧ r.2.mem ((c.tc : Thread Cert.ReferenceDcIdeal.nD Cert.ReferenceDcIdeal.τ).loc Cert.ReferenceDcIdeal.main_arg3) = m' ((c.tc : Thread Cert.ReferenceDcIdeal.nD Cert.ReferenceDcIdeal.τ).loc Cert.ReferenceDcIdeal.main_arg3)
          ∧ r.2.mem ((c.tc : Thread Cert.ReferenceDcIdeal.nD Cert.ReferenceDcIdeal.τ).loc Cert.ReferenceDcIdeal.main_arg4) = m' ((c.tc : Thread Cert.ReferenceDcIdeal.nD Cert.ReferenceDcIdeal.τ).loc Cert.ReferenceDcIdeal.main_arg4)
          ∧ r.2.mem ((c.tc : Thread Cert.ReferenceDcIdeal.nD Cert.ReferenceDcIdeal.τ).loc Cert.ReferenceDcIdeal.main_arg5) = m' ((c.tc : Thread Cert.ReferenceDcIdeal.nD Cert.ReferenceDcIdeal.τ).loc Cert.ReferenceDcIdeal.main_arg5)
          ∧ r.2.mem ((c.tc : Thread Cert.ReferenceDcIdeal.nD Cert.ReferenceDcIdeal.τ).loc Cert.ReferenceDcIdeal.main_arg6) = m' ((c.tc : Thread Cert.ReferenceDcIdeal.nD Cert.ReferenceDcIdeal.τ).loc Cert.ReferenceDcIdeal.main_arg6)
          ∧ r.2.mem ((c.tc : Thread Cert.ReferenceDcIdeal.nD Cert.ReferenceDcIdeal.τ).loc Cert.ReferenceDcIdeal.main_arg7) = m' ((c.tc : Thread Cert.ReferenceDcIdeal.nD Cert.ReferenceDcIdeal.τ).loc Cert.ReferenceDcIdeal.main_arg7))

def Claim : Prop :=
  ∃ (hKernel : Cert.Kernel.Facts) (hKernelIdeal : Cert.KernelIdeal.Facts) (hReferenceIdeal : Cert.ReferenceIdeal.Facts) (hKernelDc : Cert.KernelDc.Facts) (hKernelDcIdeal : Cert.KernelDcIdeal.Facts) (hReferenceDcIdeal : Cert.ReferenceDcIdeal.Facts),
    quiescent_Kernel (hKernel := hKernel)
    ∧ quiescent_KernelIdeal (hKernelIdeal := hKernelIdeal)
    ∧ quiescent_ReferenceIdeal (hReferenceIdeal := hReferenceIdeal)
    ∧ quiescent_KernelDc (hKernelDc := hKernelDc)
    ∧ quiescent_KernelDcIdeal (hKernelDcIdeal := hKernelDcIdeal)
    ∧ quiescent_ReferenceDcIdeal (hReferenceDcIdeal := hReferenceDcIdeal)
    ∧ preserves_Kernel_KernelIdeal
    ∧ algebraic_KernelIdeal_ReferenceIdeal (hKernelIdeal := hKernelIdeal) (hReferenceIdeal := hReferenceIdeal)
    ∧ preserves_KernelDc_KernelDcIdeal
    ∧ algebraic_KernelDcIdeal_ReferenceDcIdeal (hKernelDcIdeal := hKernelDcIdeal) (hReferenceDcIdeal := hReferenceDcIdeal)
-- ==== Kernel.lean ====
abbrev S3x640x512 : Shape := ⟨3, ![3, 640, 512]⟩
abbrev S3x640x4 : Shape := ⟨3, ![3, 640, 4]⟩
abbrev S3x640x16x128 : Shape := ⟨4, ![3, 640, 16, 128]⟩
abbrev S3x5x16x128 : Shape := ⟨4, ![3, 5, 16, 128]⟩
abbrev S1920x512 : Shape := ⟨2, ![1920, 512]⟩
abbrev S3x4x640 : Shape := ⟨3, ![3, 4, 640]⟩
abbrev S30720x128 : Shape := ⟨2, ![30720, 128]⟩
abbrev S15x16x128 : Shape := ⟨3, ![15, 16, 128]⟩
abbrev S512x4x4x128 : Shape := ⟨4, ![512, 4, 4, 128]⟩
abbrev S512x1920 : Shape := ⟨2, ![512, 1920]⟩
abbrev S2x512x4x128 : Shape := ⟨4, ![2, 512, 4, 128]⟩
abbrev S1 : Shape := ⟨1, ![1]⟩
abbrev S2 : Shape := ⟨1, ![2]⟩
abbrev S_ : Shape := ⟨0, ![]⟩
abbrev S128x128 : Shape := ⟨2, ![128, 128]⟩
abbrev S1x1x128 : Shape := ⟨3, ![1, 1, 128]⟩
abbrev S1x128 : Shape := ⟨2, ![1, 128]⟩
abbrev S2048x128 : Shape := ⟨2, ![2048, 128]⟩
abbrev S128x4x4x128 : Shape := ⟨4, ![128, 4, 4, 128]⟩
abbrev S128x1x4x128 : Shape := ⟨4, ![128, 1, 4, 128]⟩
abbrev S128x4x128 : Shape := ⟨3, ![128, 4, 128]⟩
abbrev S128x1x128 : Shape := ⟨3, ![128, 1, 128]⟩
abbrev S128x512 : Shape := ⟨2, ![128, 512]⟩
abbrev S256x512 : Shape := ⟨2, ![256, 512]⟩
abbrev S512x256 : Shape := ⟨2, ![512, 256]⟩
abbrev S512x512 : Shape := ⟨2, ![512, 512]⟩
abbrev S512x128 : Shape := ⟨2, ![512, 128]⟩
abbrev S1x512x4x128 : Shape := ⟨4, ![1, 512, 4, 128]⟩
abbrev S512x4x128 : Shape := ⟨3, ![512, 4, 128]⟩
abbrev S512x1x4x128 : Shape := ⟨4, ![512, 1, 4, 128]⟩

abbrev nBuf : Space → Nat
  | .hbm => 14
  | .vmem => 8
  | .smem => 0
  | _ => 0

abbrev bufTy : (tb : Table) → Fin (tcTables nBuf tb) → BufTy
  | .hbm, ⟨0, _⟩ => ⟨S3x640x512, .fp8e4m3⟩
  | .hbm, ⟨1, _⟩ => ⟨S3x640x4, .f32⟩
  | .hbm, ⟨2, _⟩ => ⟨S3x640x16x128, .fp8e5m2⟩
  | .hbm, ⟨3, _⟩ => ⟨S3x5x16x128, .f32⟩
  | .hbm, ⟨4, _⟩ => ⟨S3x640x16x128, .fp8e5m2⟩
  | .hbm, ⟨5, _⟩ => ⟨S3x5x16x128, .f32⟩
  | .hbm, ⟨6, _⟩ => ⟨S1920x512, .fp8e4m3⟩
  | .hbm, ⟨7, _⟩ => ⟨S3x4x640, .f32⟩
  | .hbm, ⟨8, _⟩ => ⟨S30720x128, .fp8e5m2⟩
  | .hbm, ⟨9, _⟩ => ⟨S15x16x128, .f32⟩
  | .hbm, ⟨10, _⟩ => ⟨S30720x128, .fp8e5m2⟩
  | .hbm, ⟨11, _⟩ => ⟨S15x16x128, .f32⟩
  | .hbm, ⟨12, _⟩ => ⟨S512x4x4x128, .f32⟩
  | .hbm, ⟨13, _⟩ => ⟨S512x4x4x128, .f32⟩
  | .local _ .vmem, ⟨0, _⟩ => ⟨S3x4x640, .f32⟩
  | .local _ .vmem, ⟨1, _⟩ => ⟨S30720x128, .fp8e5m2⟩
  | .local _ .vmem, ⟨2, _⟩ => ⟨S15x16x128, .f32⟩
  | .local _ .vmem, ⟨3, _⟩ => ⟨S30720x128, .fp8e5m2⟩
  | .local _ .vmem, ⟨4, _⟩ => ⟨S15x16x128, .f32⟩
  | .local _ .vmem, ⟨5, _⟩ => ⟨S1920x512, .fp8e4m3⟩
  | .local _ .vmem, ⟨6, _⟩ => ⟨S512x1920, .bf16⟩
  | .local _ .vmem, ⟨7, _⟩ => ⟨S2x512x4x128, .f32⟩
  | _, _ => ⟨S3x640x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3x4x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S30720x128 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S30720x128 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S15x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S3x640x512 : Shape := ⟨3, ![3, 640, 512]⟩
abbrev S3x640x4 : Shape := ⟨3, ![3, 640, 4]⟩
abbrev S3x640x16x128 : Shape := ⟨4, ![3, 640, 16, 128]⟩
abbrev S3x5x16x128 : Shape := ⟨4, ![3, 5, 16, 128]⟩
abbrev S512x4x4x128 : Shape := ⟨4, ![512, 4, 4, 128]⟩
abbrev S1920x512 : Shape := ⟨2, ![1920, 512]⟩
abbrev S1920x4 : Shape := ⟨2, ![1920, 4]⟩
abbrev S1920x4x128 : Shape := ⟨3, ![1920, 4, 128]⟩
abbrev S1920x4x1 : Shape := ⟨3, ![1920, 4, 1]⟩
abbrev S1920x16x128 : Shape := ⟨3, ![1920, 16, 128]⟩
abbrev S15x16x128 : Shape := ⟨3, ![15, 16, 128]⟩
abbrev S15x128x16x128 : Shape := ⟨4, ![15, 128, 16, 128]⟩
abbrev S15x1x16x128 : Shape := ⟨4, ![15, 1, 16, 128]⟩
abbrev S1920x2048 : Shape := ⟨2, ![1920, 2048]⟩
abbrev S512x2048 : Shape := ⟨2, ![512, 2048]⟩

abbrev nBuf : Space → Nat
  | .hbm => 8
  | .vmem => 8
  | .smem => 0
  | _ => 0

abbrev bufTy : (tb : Table) → Fin (tcTables nBuf tb) → BufTy
  | .hbm, ⟨0, _⟩ => ⟨S3x640x512, .fp8e4m3⟩
  | .hbm, ⟨1, _⟩ => ⟨S3x640x4, .f32⟩
  | .hbm, ⟨2, _⟩ => ⟨S3x640x16x128, .fp8e5m2⟩
  | .hbm, ⟨3, _⟩ => ⟨S3x5x16x128, .f32⟩
  | .hbm, ⟨4, _⟩ => ⟨S3x640x16x128, .fp8e5m2⟩
  | .hbm, ⟨5, _⟩ => ⟨S3x5x16x128, .f32⟩
  | .hbm, ⟨6, _⟩ => ⟨S512x4x4x128, .f32⟩
  | .hbm, ⟨7, _⟩ => ⟨S512x4x4x128, .f32⟩
  | .local _ .vmem, ⟨0, _⟩ => ⟨S3x640x512, .fp8e4m3⟩
  | .local _ .vmem, ⟨1, _⟩ => ⟨S3x640x4, .f32⟩
  | .local _ .vmem, ⟨2, _⟩ => ⟨S3x640x16x128, .fp8e5m2⟩
  | .local _ .vmem, ⟨3, _⟩ => ⟨S3x5x16x128, .f32⟩
  | .local _ .vmem, ⟨4, _⟩ => ⟨S3x640x16x128, .fp8e5m2⟩
  | .local _ .vmem, ⟨5, _⟩ => ⟨S3x5x16x128, .f32⟩
  | .local _ .vmem, ⟨6, _⟩ => ⟨S512x4x4x128, .f32⟩
  | .local _ .vmem, ⟨7, _⟩ => ⟨S512x4x4x128, .f32⟩
  | _, _ => ⟨S3x640x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3x640x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x16x128 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x5x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x16x128 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x5x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x4x4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x4x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelDc.lean ====
abbrev S3x640x16x128 : Shape := ⟨4, ![3, 640, 16, 128]⟩
abbrev S3x640x16 : Shape := ⟨3, ![3, 640, 16]⟩
abbrev S512x16x128 : Shape := ⟨3, ![512, 16, 128]⟩
abbrev S4x16 : Shape := ⟨2, ![4, 16]⟩
abbrev S30720x128 : Shape := ⟨2, ![30720, 128]⟩
abbrev S3x16x640 : Shape := ⟨3, ![3, 16, 640]⟩
abbrev S8192x128 : Shape := ⟨2, ![8192, 128]⟩
abbrev S1920x512 : Shape := ⟨2, ![1920, 512]⟩
abbrev S2x8x512x256 : Shape := ⟨4, ![2, 8, 512, 256]⟩
abbrev S4608x128 : Shape := ⟨2, ![4608, 128]⟩
abbrev S2 : Shape := ⟨1, ![2]⟩
abbrev S5 : Shape := ⟨1, ![5]⟩
abbrev S1 : Shape := ⟨1, ![1]⟩
abbrev S_ : Shape := ⟨0, ![]⟩
abbrev S2048x128 : Shape := ⟨2, ![2048, 128]⟩
abbrev S128x4x4x128 : Shape := ⟨4, ![128, 4, 4, 128]⟩
abbrev S128x1x4x128 : Shape := ⟨4, ![128, 1, 4, 128]⟩
abbrev S128x4x128 : Shape := ⟨3, ![128, 4, 128]⟩
abbrev S1x1 : Shape := ⟨2, ![1, 1]⟩
abbrev S128x128 : Shape := ⟨2, ![128, 128]⟩
abbrev S128x1x128 : Shape := ⟨3, ![128, 1, 128]⟩
abbrev S1x1x128x128 : Shape := ⟨4, ![1, 1, 128, 128]⟩
abbrev S1x16x128 : Shape := ⟨3, ![1, 16, 128]⟩
abbrev S16x128 : Shape := ⟨2, ![16, 128]⟩
abbrev S16x1 : Shape := ⟨2, ![16, 1]⟩
abbrev S32x128 : Shape := ⟨2, ![32, 128]⟩
abbrev S256x9x2x128 : Shape := ⟨4, ![256, 9, 2, 128]⟩
abbrev S256x1x2x128 : Shape := ⟨4, ![256, 1, 2, 128]⟩
abbrev S256x2x128 : Shape := ⟨3, ![256, 2, 128]⟩
abbrev S256x1x128 : Shape := ⟨3, ![256, 1, 128]⟩
abbrev S256x128 : Shape := ⟨2, ![256, 128]⟩
abbrev S256x256 : Shape := ⟨2, ![256, 256]⟩
abbrev S1x1x512x256 : Shape := ⟨4, ![1, 1, 512, 256]⟩
abbrev S512x256 : Shape := ⟨2, ![512, 256]⟩
abbrev S128x256 : Shape := ⟨2, ![128, 256]⟩
abbrev S2304x128 : Shape := ⟨2, ![2304, 128]⟩
abbrev S128x9x2x128 : Shape := ⟨4, ![128, 9, 2, 128]⟩
abbrev S128x1x2x128 : Shape := ⟨4, ![128, 1, 2, 128]⟩
abbrev S128x2x128 : Shape := ⟨3, ![128, 2, 128]⟩
abbrev S512x128 : Shape := ⟨2, ![512, 128]⟩

abbrev nBuf : Space → Nat
  | .hbm => 15
  | .vmem => 12
  | .smem => 2
  | _ => 0

abbrev bufTy : (tb : Table) → Fin (tcTables nBuf tb) → BufTy
  | .hbm, ⟨0, _⟩ => ⟨S3x640x16x128, .fp8e5m2⟩
  | .hbm, ⟨1, _⟩ => ⟨S3x640x16, .f32⟩
  | .hbm, ⟨2, _⟩ => ⟨S3x640x16x128, .fp8e5m2⟩
  | .hbm, ⟨3, _⟩ => ⟨S3x640x16, .f32⟩
  | .hbm, ⟨4, _⟩ => ⟨S512x16x128, .fp8e4m3⟩
  | .hbm, ⟨5, _⟩ => ⟨S4x16, .f32⟩
  | .hbm, ⟨6, _⟩ => ⟨S512x16x128, .fp8e4m3⟩
  | .hbm, ⟨7, _⟩ => ⟨S4x16, .f32⟩
  | .hbm, ⟨8, _⟩ => ⟨S30720x128, .fp8e5m2⟩
  | .hbm, ⟨9, _⟩ => ⟨S3x16x640, .f32⟩
  | .hbm, ⟨10, _⟩ => ⟨S30720x128, .fp8e5m2⟩
  | .hbm, ⟨11, _⟩ => ⟨S3x16x640, .f32⟩
  | .hbm, ⟨12, _⟩ => ⟨S8192x128, .fp8e4m3⟩
  | .hbm, ⟨13, _⟩ => ⟨S8192x128, .fp8e4m3⟩
  | .hbm, ⟨14, _⟩ => ⟨S1920x512, .bf16⟩
  | .local _ .vmem, ⟨0, _⟩ => ⟨S30720x128, .fp8e5m2⟩
  | .local _ .vmem, ⟨1, _⟩ => ⟨S3x16x640, .f32⟩
  | .local _ .vmem, ⟨2, _⟩ => ⟨S30720x128, .fp8e5m2⟩
  | .local _ .vmem, ⟨3, _⟩ => ⟨S3x16x640, .f32⟩
  | .local _ .vmem, ⟨4, _⟩ => ⟨S8192x128, .fp8e4m3⟩
  | .local _ .vmem, ⟨5, _⟩ => ⟨S8192x128, .fp8e4m3⟩
  | .local _ .vmem, ⟨6, _⟩ => ⟨S2x8x512x256, .bf16⟩
  | .local _ .vmem, ⟨7, _⟩ => ⟨S1920x512, .bf16⟩
  | .local _ .vmem, ⟨8, _⟩ => ⟨S4608x128, .bf16⟩
  | .local _ .vmem, ⟨9, _⟩ => ⟨S4608x128, .bf16⟩
  | .local _ .vmem, ⟨10, _⟩ => ⟨S4608x128, .bf16⟩
  | .local _ .vmem, ⟨11, _⟩ => ⟨S4608x128, .bf16⟩
  | .local _ .smem, ⟨0, _⟩ => ⟨S4x16, .f32⟩
  | .local _ .smem, ⟨1, _⟩ => ⟨S4x16, .f32⟩
  | _, _ => ⟨S3x640x16x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_mult1 : BitVec 32 :=
  let c0_i32_812 : BitVec 32 := 0#32
  c0_i32_812
def k0_mult2 : BitVec 32 :=
  let c0_i32_813 : BitVec 32 := 0#32
  c0_i32_813
def k0_off1 (c0_i32_812 : BitVec 32) (c0_i32_816 : BitVec 32) : Fin 2 → Nat :=
  let v1416 : BitVec 32 := c0_i32_812
  let v1428 : BitVec 32 := Scalar.addi v1416 c0_i32_816
  let v1429 : Index := Scalar.indexCast v1428
  let c0_817 : Index := 0#32
  ![v1429.toNat, 0]
def k0_off1_at (r : Fin 192) : BitVec 32 × BitVec 32 :=
  if r.val < 96 then
    if r.val < 48 then
      if r.val < 24 then
        if r.val < 12 then
          if r.val < 6 then
            if r.val < 3 then
              if r.val < 1 then
                (0#32, 0#32)
              else
                if r.val < 2 then
                  (0#32, 32#32)
                else
                  (0#32, 64#32)
            else
              if r.val < 4 then
                (0#32, 96#32)
              else
                if r.val < 5 then
                  (0#32, 128#32)
                else
                  (0#32, 160#32)
          else
            if r.val < 9 then
              if r.val < 7 then
                (0#32, 192#32)
              else
                if r.val < 8 then
                  (0#32, 224#32)
                else
                  (0#32, 256#32)
            else
              if r.val < 10 then
                (0#32, 288#32)
              else
                if r.val < 11 then
                  (0#32, 320#32)
                else
                  (0#32, 352#32)
        else
          if r.val < 18 then
            if r.val < 15 then
              if r.val < 13 then
                (0#32, 384#32)
              else
                if r.val < 14 then
                  (0#32, 416#32)
                else
                  (0#32, 448#32)
            else
              if r.val < 16 then
                (0#32, 480#32)
              else
                if r.val < 17 then
                  (0#32, 512#32)
                else
                  (0#32, 544#32)
          else
            if r.val < 21 then
              if r.val < 19 then
                (0#32, 576#32)
              else
                if r.val < 20 then
                  (0#32, 608#32)
                else
                  (0#32, 640#32)
            else
              if r.val < 22 then
                (0#32, 672#32)
              else
                if r.val < 23 then
                  (0#32, 704#32)
                else
                  (0#32, 736#32)
      else
        if r.val < 36 then
          if r.val < 30 then
            if r.val < 27 then
              if r.val < 25 then
                (0#32, 768#32)
              else
                if r.val < 26 then
                  (0#32, 800#32)
                else
                  (0#32, 832#32)
            else
              if r.val < 28 then
                (0#32, 864#32)
              else
                if r.val < 29 then
                  (0#32, 896#32)
                else
                  (0#32, 928#32)
          else
            if r.val < 33 then
              if r.val < 31 then
                (0#32, 960#32)
              else
                if r.val < 32 then
                  (0#32, 992#32)
                else
                  (0#32, 1024#32)
            else
              if r.val < 34 then
                (0#32, 1056#32)
              else
                if r.val < 35 then
                  (0#32, 1088#32)
                else
                  (0#32, 1120#32)
        else
          if r.val < 42 then
            if r.val < 39 then
              if r.val < 37 then
                (0#32, 1152#32)
              else
                if r.val < 38 then
                  (0#32, 1184#32)
                else
                  (0#32, 1216#32)
            else
              if r.val < 40 then
                (0#32, 1248#32)
              else
                if r.val < 41 then
                  (0#32, 1280#32)
                else
                  (0#32, 1312#32)
          else
            if r.val < 45 then
              if r.val < 43 then
                (0#32, 1344#32)
              else
                if r.val < 44 then
                  (0#32, 1376#32)
                else
                  (0#32, 1408#32)
            else
              if r.val < 46 then
                (0#32, 1440#32)
              else
                if r.val < 47 then
                  (0#32, 1472#32)
                else
                  (0#32, 1504#32)
    else
      if r.val < 72 then
        if r.val < 60 then
          if r.val < 54 then
            if r.val < 51 then
              if r.val < 49 then
                (0#32, 1536#32)
              else
                if r.val < 50 then
                  (0#32, 1568#32)
                else
                  (0#32, 1600#32)
            else
              if r.val < 52 then
                (0#32, 1632#32)
              else
                if r.val < 53 then
                  (0#32, 1664#32)
                else
                  (0#32, 1696#32)
          else
            if r.val < 57 then
              if r.val < 55 then
                (0#32, 1728#32)
              else
                if r.val < 56 then
                  (0#32, 1760#32)
                else
                  (0#32, 1792#32)
            else
              if r.val < 58 then
                (0#32, 1824#32)
              else
                if r.val < 59 then
                  (0#32, 1856#32)
                else
                  (0#32, 1888#32)
        else
          if r.val < 66 then
            if r.val < 63 then
              if r.val < 61 then
                (0#32, 1920#32)
              else
                if r.val < 62 then
                  (0#32, 1952#32)
                else
                  (0#32, 1984#32)
            else
              if r.val < 64 then
                (0#32, 2016#32)
              else
                if r.val < 65 then
                  (2048#32, 0#32)
                else
                  (2048#32, 32#32)
          else
            if r.val < 69 then
              if r.val < 67 then
                (2048#32, 64#32)
              else
                if r.val < 68 then
                  (2048#32, 96#32)
                else
                  (2048#32, 128#32)
            else
              if r.val < 70 then
                (2048#32, 160#32)
              else
                if r.val < 71 then
                  (2048#32, 192#32)
                else
                  (2048#32, 224#32)
      else
        if r.val < 84 then
          if r.val < 78 then
            if r.val < 75 then
              if r.val < 73 then
                (2048#32, 256#32)
              else
                if r.val < 74 then
                  (2048#32, 288#32)
                else
                  (2048#32, 320#32)
            else
              if r.val < 76 then
                (2048#32, 352#32)
              else
                if r.val < 77 then
                  (2048#32, 384#32)
                else
                  (2048#32, 416#32)
          else
            if r.val < 81 then
              if r.val < 79 then
                (2048#32, 448#32)
              else
                if r.val < 80 then
                  (2048#32, 480#32)
                else
                  (2048#32, 512#32)
            else
              if r.val < 82 then
                (2048#32, 544#32)
              else
                if r.val < 83 then
                  (2048#32, 576#32)
                else
                  (2048#32, 608#32)
        else
          if r.val < 90 then
            if r.val < 87 then
              if r.val < 85 then
                (2048#32, 640#32)
              else
                if r.val < 86 then
                  (2048#32, 672#32)
                else
                  (2048#32, 704#32)
            else
              if r.val < 88 then
                (2048#32, 736#32)
              else
                if r.val < 89 then
                  (2048#32, 768#32)
                else
                  (2048#32, 800#32)
          else
            if r.val < 93 then
              if r.val < 91 then
                (2048#32, 832#32)
              else
                if r.val < 92 then
                  (2048#32, 864#32)
                else
                  (2048#32, 896#32)
            else
              if r.val < 94 then
                (2048#32, 928#32)
              else
                if r.val < 95 then
                  (2048#32, 960#32)
                else
                  (2048#32, 992#32)
  else
    if r.val < 144 then
      if r.val < 120 then
        if r.val < 108 then
          if r.val < 102 then
            if r.val < 99 then
              if r.val < 97 then
                (2048#32, 1024#32)
              else
                if r.val < 98 then
                  (2048#32, 1056#32)
                else
                  (2048#32, 1088#32)
            else
              if r.val < 100 then
                (2048#32, 1120#32)
              else
                if r.val < 101 then
                  (2048#32, 1152#32)
                else
                  (2048#32, 1184#32)
          else
            if r.val < 105 then
              if r.val < 103 then
                (2048#32, 1216#32)
              else
                if r.val < 104 then
                  (2048#32, 1248#32)
                else
                  (2048#32, 1280#32)
            else
              if r.val < 106 then
                (2048#32, 1312#32)
              else
                if r.val < 107 then
                  (2048#32, 1344#32)
                else
                  (2048#32, 1376#32)
        else
          if r.val < 114 then
            if r.val < 111 then
              if r.val < 109 then
                (2048#32, 1408#32)
              else
                if r.val < 110 then
                  (2048#32, 1440#32)
                else
                  (2048#32, 1472#32)
            else
              if r.val < 112 then
                (2048#32, 1504#32)
              else
                if r.val < 113 then
                  (2048#32, 1536#32)
                else
                  (2048#32, 1568#32)
          else
            if r.val < 117 then
              if r.val < 115 then
                (2048#32, 1600#32)
              else
                if r.val < 116 then
                  (2048#32, 1632#32)
                else
                  (2048#32, 1664#32)
            else
              if r.val < 118 then
                (2048#32, 1696#32)
              else
                if r.val < 119 then
                  (2048#32, 1728#32)
                else
                  (2048#32, 1760#32)
      else
        if r.val < 132 then
          if r.val < 126 then
            if r.val < 123 then
              if r.val < 121 then
                (2048#32, 1792#32)
              else
                if r.val < 122 then
                  (2048#32, 1824#32)
                else
                  (2048#32, 1856#32)
            else
              if r.val < 124 then
                (2048#32, 1888#32)
              else
                if r.val < 125 then
                  (2048#32, 1920#32)
                else
                  (2048#32, 1952#32)
          else
            if r.val < 129 then
              if r.val < 127 then
                (2048#32, 1984#32)
              else
                if r.val < 128 then
                  (2048#32, 2016#32)
                else
                  (28672#32, 0#32)
            else
              if r.val < 130 then
                (28672#32, 32#32)
              else
                if r.val < 131 then
                  (28672#32, 64#32)
                else
                  (28672#32, 96#32)
        else
          if r.val < 138 then
            if r.val < 135 then
              if r.val < 133 then
                (28672#32, 128#32)
              else
                if r.val < 134 then
                  (28672#32, 160#32)
                else
                  (28672#32, 192#32)
            else
              if r.val < 136 then
                (28672#32, 224#32)
              else
                if r.val < 137 then
                  (28672#32, 256#32)
                else
                  (28672#32, 288#32)
          else
            if r.val < 141 then
              if r.val < 139 then
                (28672#32, 320#32)
              else
                if r.val < 140 then
                  (28672#32, 352#32)
                else
                  (28672#32, 384#32)
            else
              if r.val < 142 then
                (28672#32, 416#32)
              else
                if r.val < 143 then
                  (28672#32, 448#32)
                else
                  (28672#32, 480#32)
    else
      if r.val < 168 then
        if r.val < 156 then
          if r.val < 150 then
            if r.val < 147 then
              if r.val < 145 then
                (28672#32, 512#32)
              else
                if r.val < 146 then
                  (28672#32, 544#32)
                else
                  (28672#32, 576#32)
            else
              if r.val < 148 then
                (28672#32, 608#32)
              else
                if r.val < 149 then
                  (28672#32, 640#32)
                else
                  (28672#32, 672#32)
          else
            if r.val < 153 then
              if r.val < 151 then
                (28672#32, 704#32)
              else
                if r.val < 152 then
                  (28672#32, 736#32)
                else
                  (28672#32, 768#32)
            else
              if r.val < 154 then
                (28672#32, 800#32)
              else
                if r.val < 155 then
                  (28672#32, 832#32)
                else
                  (28672#32, 864#32)
        else
          if r.val < 162 then
            if r.val < 159 then
              if r.val < 157 then
                (28672#32, 896#32)
              else
                if r.val < 158 then
                  (28672#32, 928#32)
                else
                  (28672#32, 960#32)
            else
              if r.val < 160 then
                (28672#32, 992#32)
              else
                if r.val < 161 then
                  (28672#32, 1024#32)
                else
                  (28672#32, 1056#32)
          else
            if r.val < 165 then
              if r.val < 163 then
                (28672#32, 1088#32)
              else
                if r.val < 164 then
                  (28672#32, 1120#32)
                else
                  (28672#32, 1152#32)
            else
              if r.val < 166 then
                (28672#32, 1184#32)
              else
                if r.val < 167 then
                  (28672#32, 1216#32)
                else
                  (28672#32, 1248#32)
      else
        if r.val < 180 then
          if r.val < 174 then
            if r.val < 171 then
              if r.val < 169 then
                (28672#32, 1280#32)
              else
                if r.val < 170 then
                  (28672#32, 1312#32)
                else
                  (28672#32, 1344#32)
            else
              if r.val < 172 then
                (28672#32, 1376#32)
              else
                if r.val < 173 then
                  (28672#32, 1408#32)
                else
                  (28672#32, 1440#32)
          else
            if r.val < 177 then
              if r.val < 175 then
                (28672#32, 1472#32)
              else
                if r.val < 176 then
                  (28672#32, 1504#32)
                else
                  (28672#32, 1536#32)
            else
              if r.val < 178 then
                (28672#32, 1568#32)
              else
                if r.val < 179 then
                  (28672#32, 1600#32)
                else
                  (28672#32, 1632#32)
        else
          if r.val < 186 then
            if r.val < 183 then
              if r.val < 181 then
                (28672#32, 1664#32)
              else
                if r.val < 182 then
                  (28672#32, 1696#32)
                else
                  (28672#32, 1728#32)
            else
              if r.val < 184 then
                (28672#32, 1760#32)
              else
                if r.val < 185 then
                  (28672#32, 1792#32)
                else
                  (28672#32, 1824#32)
          else
            if r.val < 189 then
              if r.val < 187 then
                (28672#32, 1856#32)
              else
                if r.val < 188 then
                  (28672#32, 1888#32)
                else
                  (28672#32, 1920#32)
            else
              if r.val < 190 then
                (28672#32, 1952#32)
              else
                if r.val < 191 then
                  (28672#32, 1984#32)
                else
                  (28672#32, 2016#32)
def k0_mult3 : BitVec 32 :=
  let c0_i32_1010 : BitVec 32 := 0#32
  c0_i32_1010
def k0_mult4 : BitVec 32 :=
  let c0_i32_1011 : BitVec 32 := 0#32
  c0_i32_1011
def k0_mult5 : BitVec 32 :=
  let c2048_i32 : BitVec 32 := 2048#32
  c2048_i32
def k0_mult6 : BitVec 32 :=
  let c128_i32_1398 : BitVec 32 := 128#32
  c128_i32_1398
def k0_mult7 : BitVec 32 :=
  let c2048_i32_1657 : BitVec 32 := 2048#32
  c2048_i32_1657
def k0_mult8 : BitVec 32 :=
  let c128_i32_1658 : BitVec 32 := 128#32
  c128_i32_1658
@[reducible] def k0_t1_loop : Scf.Loop 32 :=
  let c0_i32_2045 : BitVec 32 := 0#32
  let c3_i32 : BitVec 32 := 3#32
  let v6816 : BitVec 32 := Scalar.addi c0_i32_2045 c3_i32
  let c1_i32_2046 : BitVec 32 := 1#32
  ⟨c0_i32_2045, v6816, c1_i32_2046⟩
def k0_mult9 (k0_t1 : Fin k0_t1_loop.trips) : BitVec 32 :=
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c256_i32_3062 : BitVec 32 := 256#32
  let v9999 : BitVec 32 := Scalar.muli v9998 c256_i32_3062
  v9999
def k0_off2 (k0_t1 : Fin k0_t1_loop.trips) : Fin 2 → Nat :=
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c256_i32_3062 : BitVec 32 := 256#32
  let v9999 : BitVec 32 := Scalar.muli v9998 c256_i32_3062
  let v10000 : BitVec 32 := v9999
  let v10211 : Index := Scalar.indexCast v10000
  let c0_3175 : Index := 0#32
  ![v10211.toNat, 0]
def k0_off3 (k0_t1 : Fin k0_t1_loop.trips) : Fin 2 → Nat :=
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c256_i32_3062 : BitVec 32 := 256#32
  let v9999 : BitVec 32 := Scalar.muli v9998 c256_i32_3062
  let v10000 : BitVec 32 := v9999
  let v10218 : Index := Scalar.indexCast v10000
  let c128_3176 : Index := 128#32
  ![v10218.toNat, 128]
def k0_off4 (k0_t1 : Fin k0_t1_loop.trips) : Fin 2 → Nat :=
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c256_i32_3062 : BitVec 32 := 256#32
  let v9999 : BitVec 32 := Scalar.muli v9998 c256_i32_3062
  let v10000 : BitVec 32 := v9999
  let v10225 : Index := Scalar.indexCast v10000
  let c256_3177 : Index := 256#32
  ![v10225.toNat, 256]
def k0_off5 (k0_t1 : Fin k0_t1_loop.trips) : Fin 2 → Nat :=
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c256_i32_3062 : BitVec 32 := 256#32
  let v9999 : BitVec 32 := Scalar.muli v9998 c256_i32_3062
  let v10000 : BitVec 32 := v9999
  let v10232 : Index := Scalar.indexCast v10000
  let c384_3178 : Index := 384#32
  ![v10232.toNat, 384]
def k0_mult10 (k0_t1 : Fin k0_t1_loop.trips) : BitVec 32 :=
  let c2_i32_3180 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c1_i32_3179 : BitVec 32 := 1#32
  let v10236 : BitVec 32 := Scalar.addi v9998 c1_i32_3179
  let v10237 : BitVec 32 := Scalar.muli c2_i32_3180 v10236
  let c2048_i32_3181 : BitVec 32 := 2048#32
  let v10238 : BitVec 32 := Scalar.muli v10237 c2048_i32_3181
  v10238
def k0_mult11 (k0_t1 : Fin k0_t1_loop.trips) : BitVec 32 :=
  let c2_i32_3180 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c1_i32_3179 : BitVec 32 := 1#32
  let v10236 : BitVec 32 := Scalar.addi v9998 c1_i32_3179
  let v10237 : BitVec 32 := Scalar.muli c2_i32_3180 v10236
  let c5_i32_3188 : BitVec 32 := 5#32
  let c0_i32_3189 : BitVec 32 := 0#32
  let v10257 : BitVec 1 := Scalar.cmpi .eq c5_i32_3188 c0_i32_3189
  let c1_i32_3190 : BitVec 32 := 1#32
  let v10258 : BitVec 32 := Scalar.select v10257 c1_i32_3190 c5_i32_3188
  let v10259 : BitVec 32 := Scalar.remsi v10237 v10258
  let c0_i32_3192 : BitVec 32 := 0#32
  let v10261 : BitVec 1 := Scalar.cmpi .slt v10259 c0_i32_3192
  let c0_i32_3193 : BitVec 32 := 0#32
  let v10262 : BitVec 1 := Scalar.cmpi .slt v10258 c0_i32_3193
  let v10263 : BitVec 1 := Scalar.xori v10261 v10262
  let c0_i32_3191 : BitVec 32 := 0#32
  let v10260 : BitVec 1 := Scalar.cmpi .ne v10259 c0_i32_3191
  let v10264 : BitVec 1 := Scalar.andi v10263 v10260
  let v10265 : BitVec 32 := Scalar.addi v10259 v10258
  let v10266 : BitVec 32 := Scalar.select v10264 v10265 v10259
  let c128_i32_3194 : BitVec 32 := 128#32
  let v10267 : BitVec 32 := Scalar.muli v10266 c128_i32_3194
  v10267
def k0_off6 (k0_t1 : Fin k0_t1_loop.trips) (c1_i32_3179 : BitVec 32) : Fin 3 → Nat :=
  let c2_i32_3180 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let v10236 : BitVec 32 := Scalar.addi v9998 c1_i32_3179
  let v10237 : BitVec 32 := Scalar.muli c2_i32_3180 v10236
  let c0_i32_3182 : BitVec 32 := 0#32
  let v10241 : BitVec 1 := Scalar.cmpi .sgt v10237 c0_i32_3182
  let v10242 : BitVec 32 := Scalar.extui v10241
  let c0_i32_3183 : BitVec 32 := 0#32
  let v10243 : BitVec 1 := Scalar.cmpi .slt v10237 c0_i32_3183
  let v10244 : BitVec 32 := Scalar.extui v10243
  let v10245 : BitVec 32 := Scalar.subi v10242 v10244
  let c5_i32 : BitVec 32 := 5#32
  let c0_i32_3184 : BitVec 32 := 0#32
  let v10246 : BitVec 1 := Scalar.cmpi .sgt c5_i32 c0_i32_3184
  let v10247 : BitVec 32 := Scalar.extui v10246
  let c0_i32_3185 : BitVec 32 := 0#32
  let v10248 : BitVec 1 := Scalar.cmpi .slt c5_i32 c0_i32_3185
  let v10249 : BitVec 32 := Scalar.extui v10248
  let v10250 : BitVec 32 := Scalar.subi v10247 v10249
  let v10251 : BitVec 1 := Scalar.cmpi .ne v10245 v10250
  let v10252 : BitVec 32 := Scalar.remsi v10237 c5_i32
  let c0_i32_3186 : BitVec 32 := 0#32
  let v10253 : BitVec 1 := Scalar.cmpi .ne v10252 c0_i32_3186
  let v10254 : BitVec 1 := Scalar.andi v10251 v10253
  let v10240 : BitVec 32 := Scalar.divsi v10237 c5_i32
  let c1_i32_3187 : BitVec 32 := 1#32
  let v10255 : BitVec 32 := Scalar.subi v10240 c1_i32_3187
  let v10256 : BitVec 32 := Scalar.select v10254 v10255 v10240
  let v10269 : Index := Scalar.indexCast v10256
  let c0_3195 : Index := 0#32
  let c5_i32_3188 : BitVec 32 := 5#32
  let c0_i32_3189 : BitVec 32 := 0#32
  let v10257 : BitVec 1 := Scalar.cmpi .eq c5_i32_3188 c0_i32_3189
  let c1_i32_3190 : BitVec 32 := 1#32
  let v10258 : BitVec 32 := Scalar.select v10257 c1_i32_3190 c5_i32_3188
  let v10259 : BitVec 32 := Scalar.remsi v10237 v10258
  let c0_i32_3192 : BitVec 32 := 0#32
  let v10261 : BitVec 1 := Scalar.cmpi .slt v10259 c0_i32_3192
  let c0_i32_3193 : BitVec 32 := 0#32
  let v10262 : BitVec 1 := Scalar.cmpi .slt v10258 c0_i32_3193
  let v10263 : BitVec 1 := Scalar.xori v10261 v10262
  let c0_i32_3191 : BitVec 32 := 0#32
  let v10260 : BitVec 1 := Scalar.cmpi .ne v10259 c0_i32_3191
  let v10264 : BitVec 1 := Scalar.andi v10263 v10260
  let v10265 : BitVec 32 := Scalar.addi v10259 v10258
  let v10266 : BitVec 32 := Scalar.select v10264 v10265 v10259
  let c128_i32_3194 : BitVec 32 := 128#32
  let v10267 : BitVec 32 := Scalar.muli v10266 c128_i32_3194
  let v10268 : BitVec 32 := v10267
  let v10270 : Index := Scalar.indexCast v10268
  ![v10269.toNat, 0, v10270.toNat]
def k0_off7 (k0_t1 : Fin k0_t1_loop.trips) (c1_i32_3179 : BitVec 32) (c0_i32_3196 : BitVec 32) : Fin 2 → Nat :=
  let c2_i32_3180 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let v10236 : BitVec 32 := Scalar.addi v9998 c1_i32_3179
  let v10237 : BitVec 32 := Scalar.muli c2_i32_3180 v10236
  let c2048_i32_3181 : BitVec 32 := 2048#32
  let v10238 : BitVec 32 := Scalar.muli v10237 c2048_i32_3181
  let v10239 : BitVec 32 := v10238
  let v10280 : BitVec 32 := Scalar.addi v10239 c0_i32_3196
  let v10281 : Index := Scalar.indexCast v10280
  let c0_3197 : Index := 0#32
  ![v10281.toNat, 0]
def k0_mult12 (k0_t1 : Fin k0_t1_loop.trips) : BitVec 32 :=
  let c2_i32_3180 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c1_i32_3179 : BitVec 32 := 1#32
  let v10236 : BitVec 32 := Scalar.addi v9998 c1_i32_3179
  let v10237 : BitVec 32 := Scalar.muli c2_i32_3180 v10236
  let c2048_i32_3580 : BitVec 32 := 2048#32
  let v11618 : BitVec 32 := Scalar.muli v10237 c2048_i32_3580
  v11618
def k0_mult13 (k0_t1 : Fin k0_t1_loop.trips) : BitVec 32 :=
  let c2_i32_3180 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c1_i32_3179 : BitVec 32 := 1#32
  let v10236 : BitVec 32 := Scalar.addi v9998 c1_i32_3179
  let v10237 : BitVec 32 := Scalar.muli c2_i32_3180 v10236
  let c5_i32_3588 : BitVec 32 := 5#32
  let c0_i32_3589 : BitVec 32 := 0#32
  let v11637 : BitVec 1 := Scalar.cmpi .eq c5_i32_3588 c0_i32_3589
  let c1_i32_3590 : BitVec 32 := 1#32
  let v11638 : BitVec 32 := Scalar.select v11637 c1_i32_3590 c5_i32_3588
  let v11639 : BitVec 32 := Scalar.remsi v10237 v11638
  let c0_i32_3592 : BitVec 32 := 0#32
  let v11641 : BitVec 1 := Scalar.cmpi .slt v11639 c0_i32_3592
  let c0_i32_3593 : BitVec 32 := 0#32
  let v11642 : BitVec 1 := Scalar.cmpi .slt v11638 c0_i32_3593
  let v11643 : BitVec 1 := Scalar.xori v11641 v11642
  let c0_i32_3591 : BitVec 32 := 0#32
  let v11640 : BitVec 1 := Scalar.cmpi .ne v11639 c0_i32_3591
  let v11644 : BitVec 1 := Scalar.andi v11643 v11640
  let v11645 : BitVec 32 := Scalar.addi v11639 v11638
  let v11646 : BitVec 32 := Scalar.select v11644 v11645 v11639
  let c128_i32_3594 : BitVec 32 := 128#32
  let v11647 : BitVec 32 := Scalar.muli v11646 c128_i32_3594
  v11647
def k0_mult14 (k0_t1 : Fin k0_t1_loop.trips) : BitVec 32 :=
  let c2_i32_3980 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c1_i32_3179 : BitVec 32 := 1#32
  let v10236 : BitVec 32 := Scalar.addi v9998 c1_i32_3179
  let v12998 : BitVec 32 := Scalar.muli c2_i32_3980 v10236
  let c1_i32_3981 : BitVec 32 := 1#32
  let v12999 : BitVec 32 := Scalar.addi v12998 c1_i32_3981
  let c2048_i32_3982 : BitVec 32 := 2048#32
  let v13000 : BitVec 32 := Scalar.muli v12999 c2048_i32_3982
  v13000
def k0_mult15 (k0_t1 : Fin k0_t1_loop.trips) : BitVec 32 :=
  let c2_i32_3980 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c1_i32_3179 : BitVec 32 := 1#32
  let v10236 : BitVec 32 := Scalar.addi v9998 c1_i32_3179
  let v12998 : BitVec 32 := Scalar.muli c2_i32_3980 v10236
  let c1_i32_3981 : BitVec 32 := 1#32
  let v12999 : BitVec 32 := Scalar.addi v12998 c1_i32_3981
  let c5_i32_3990 : BitVec 32 := 5#32
  let c0_i32_3991 : BitVec 32 := 0#32
  let v13019 : BitVec 1 := Scalar.cmpi .eq c5_i32_3990 c0_i32_3991
  let c1_i32_3992 : BitVec 32 := 1#32
  let v13020 : BitVec 32 := Scalar.select v13019 c1_i32_3992 c5_i32_3990
  let v13021 : BitVec 32 := Scalar.remsi v12999 v13020
  let c0_i32_3994 : BitVec 32 := 0#32
  let v13023 : BitVec 1 := Scalar.cmpi .slt v13021 c0_i32_3994
  let c0_i32_3995 : BitVec 32 := 0#32
  let v13024 : BitVec 1 := Scalar.cmpi .slt v13020 c0_i32_3995
  let v13025 : BitVec 1 := Scalar.xori v13023 v13024
  let c0_i32_3993 : BitVec 32 := 0#32
  let v13022 : BitVec 1 := Scalar.cmpi .ne v13021 c0_i32_3993
  let v13026 : BitVec 1 := Scalar.andi v13025 v13022
  let v13027 : BitVec 32 := Scalar.addi v13021 v13020
  let v13028 : BitVec 32 := Scalar.select v13026 v13027 v13021
  let c128_i32_3996 : BitVec 32 := 128#32
  let v13029 : BitVec 32 := Scalar.muli v13028 c128_i32_3996
  v13029
def k0_off8 (k0_t1 : Fin k0_t1_loop.trips) (c1_i32_3179 : BitVec 32) : Fin 3 → Nat :=
  let c2_i32_3980 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let v10236 : BitVec 32 := Scalar.addi v9998 c1_i32_3179
  let v12998 : BitVec 32 := Scalar.muli c2_i32_3980 v10236
  let c1_i32_3981 : BitVec 32 := 1#32
  let v12999 : BitVec 32 := Scalar.addi v12998 c1_i32_3981
  let c0_i32_3984 : BitVec 32 := 0#32
  let v13003 : BitVec 1 := Scalar.cmpi .sgt v12999 c0_i32_3984
  let v13004 : BitVec 32 := Scalar.extui v13003
  let c0_i32_3985 : BitVec 32 := 0#32
  let v13005 : BitVec 1 := Scalar.cmpi .slt v12999 c0_i32_3985
  let v13006 : BitVec 32 := Scalar.extui v13005
  let v13007 : BitVec 32 := Scalar.subi v13004 v13006
  let c5_i32_3983 : BitVec 32 := 5#32
  let c0_i32_3986 : BitVec 32 := 0#32
  let v13008 : BitVec 1 := Scalar.cmpi .sgt c5_i32_3983 c0_i32_3986
  let v13009 : BitVec 32 := Scalar.extui v13008
  let c0_i32_3987 : BitVec 32 := 0#32
  let v13010 : BitVec 1 := Scalar.cmpi .slt c5_i32_3983 c0_i32_3987
  let v13011 : BitVec 32 := Scalar.extui v13010
  let v13012 : BitVec 32 := Scalar.subi v13009 v13011
  let v13013 : BitVec 1 := Scalar.cmpi .ne v13007 v13012
  let v13014 : BitVec 32 := Scalar.remsi v12999 c5_i32_3983
  let c0_i32_3988 : BitVec 32 := 0#32
  let v13015 : BitVec 1 := Scalar.cmpi .ne v13014 c0_i32_3988
  let v13016 : BitVec 1 := Scalar.andi v13013 v13015
  let v13002 : BitVec 32 := Scalar.divsi v12999 c5_i32_3983
  let c1_i32_3989 : BitVec 32 := 1#32
  let v13017 : BitVec 32 := Scalar.subi v13002 c1_i32_3989
  let v13018 : BitVec 32 := Scalar.select v13016 v13017 v13002
  let v13031 : Index := Scalar.indexCast v13018
  let c0_3997 : Index := 0#32
  let c5_i32_3990 : BitVec 32 := 5#32
  let c0_i32_3991 : BitVec 32 := 0#32
  let v13019 : BitVec 1 := Scalar.cmpi .eq c5_i32_3990 c0_i32_3991
  let c1_i32_3992 : BitVec 32 := 1#32
  let v13020 : BitVec 32 := Scalar.select v13019 c1_i32_3992 c5_i32_3990
  let v13021 : BitVec 32 := Scalar.remsi v12999 v13020
  let c0_i32_3994 : BitVec 32 := 0#32
  let v13023 : BitVec 1 := Scalar.cmpi .slt v13021 c0_i32_3994
  let c0_i32_3995 : BitVec 32 := 0#32
  let v13024 : BitVec 1 := Scalar.cmpi .slt v13020 c0_i32_3995
  let v13025 : BitVec 1 := Scalar.xori v13023 v13024
  let c0_i32_3993 : BitVec 32 := 0#32
  let v13022 : BitVec 1 := Scalar.cmpi .ne v13021 c0_i32_3993
  let v13026 : BitVec 1 := Scalar.andi v13025 v13022
  let v13027 : BitVec 32 := Scalar.addi v13021 v13020
  let v13028 : BitVec 32 := Scalar.select v13026 v13027 v13021
  let c128_i32_3996 : BitVec 32 := 128#32
  let v13029 : BitVec 32 := Scalar.muli v13028 c128_i32_3996
  let v13030 : BitVec 32 := v13029
  let v13032 : Index := Scalar.indexCast v13030
  ![v13031.toNat, 0, v13032.toNat]
def k0_off9 (k0_t1 : Fin k0_t1_loop.trips) (c1_i32_3179 : BitVec 32) (c0_i32_3998 : BitVec 32) : Fin 2 → Nat :=
  let c2_i32_3980 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let v10236 : BitVec 32 := Scalar.addi v9998 c1_i32_3179
  let v12998 : BitVec 32 := Scalar.muli c2_i32_3980 v10236
  let c1_i32_3981 : BitVec 32 := 1#32
  let v12999 : BitVec 32 := Scalar.addi v12998 c1_i32_3981
  let c2048_i32_3982 : BitVec 32 := 2048#32
  let v13000 : BitVec 32 := Scalar.muli v12999 c2048_i32_3982
  let v13001 : BitVec 32 := v13000
  let v13042 : BitVec 32 := Scalar.addi v13001 c0_i32_3998
  let v13043 : Index := Scalar.indexCast v13042
  let c0_3999 : Index := 0#32
  ![v13043.toNat, 0]
def k0_mult16 (k0_t1 : Fin k0_t1_loop.trips) : BitVec 32 :=
  let c2_i32_3980 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c1_i32_3179 : BitVec 32 := 1#32
  let v10236 : BitVec 32 := Scalar.addi v9998 c1_i32_3179
  let v12998 : BitVec 32 := Scalar.muli c2_i32_3980 v10236
  let c1_i32_3981 : BitVec 32 := 1#32
  let v12999 : BitVec 32 := Scalar.addi v12998 c1_i32_3981
  let c2048_i32_4382 : BitVec 32 := 2048#32
  let v14380 : BitVec 32 := Scalar.muli v12999 c2048_i32_4382
  v14380
def k0_mult17 (k0_t1 : Fin k0_t1_loop.trips) : BitVec 32 :=
  let c2_i32_3980 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c1_i32_3179 : BitVec 32 := 1#32
  let v10236 : BitVec 32 := Scalar.addi v9998 c1_i32_3179
  let v12998 : BitVec 32 := Scalar.muli c2_i32_3980 v10236
  let c1_i32_3981 : BitVec 32 := 1#32
  let v12999 : BitVec 32 := Scalar.addi v12998 c1_i32_3981
  let c5_i32_4390 : BitVec 32 := 5#32
  let c0_i32_4391 : BitVec 32 := 0#32
  let v14399 : BitVec 1 := Scalar.cmpi .eq c5_i32_4390 c0_i32_4391
  let c1_i32_4392 : BitVec 32 := 1#32
  let v14400 : BitVec 32 := Scalar.select v14399 c1_i32_4392 c5_i32_4390
  let v14401 : BitVec 32 := Scalar.remsi v12999 v14400
  let c0_i32_4394 : BitVec 32 := 0#32
  let v14403 : BitVec 1 := Scalar.cmpi .slt v14401 c0_i32_4394
  let c0_i32_4395 : BitVec 32 := 0#32
  let v14404 : BitVec 1 := Scalar.cmpi .slt v14400 c0_i32_4395
  let v14405 : BitVec 1 := Scalar.xori v14403 v14404
  let c0_i32_4393 : BitVec 32 := 0#32
  let v14402 : BitVec 1 := Scalar.cmpi .ne v14401 c0_i32_4393
  let v14406 : BitVec 1 := Scalar.andi v14405 v14402
  let v14407 : BitVec 32 := Scalar.addi v14401 v14400
  let v14408 : BitVec 32 := Scalar.select v14406 v14407 v14401
  let c128_i32_4396 : BitVec 32 := 128#32
  let v14409 : BitVec 32 := Scalar.muli v14408 c128_i32_4396
  v14409
def k0_mult18 (k0_t1 : Fin k0_t1_loop.trips) : BitVec 32 :=
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c1_i32_4782 : BitVec 32 := 1#32
  let v15760 : BitVec 32 := Scalar.addi v9998 c1_i32_4782
  let c256_i32_4783 : BitVec 32 := 256#32
  let v15761 : BitVec 32 := Scalar.muli v15760 c256_i32_4783
  v15761
def k0_off10 (k0_t1 : Fin k0_t1_loop.trips) : Fin 2 → Nat :=
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c1_i32_4782 : BitVec 32 := 1#32
  let v15760 : BitVec 32 := Scalar.addi v9998 c1_i32_4782
  let c256_i32_4783 : BitVec 32 := 256#32
  let v15761 : BitVec 32 := Scalar.muli v15760 c256_i32_4783
  let v15762 : BitVec 32 := v15761
  let v15973 : Index := Scalar.indexCast v15762
  let c0_4896 : Index := 0#32
  ![v15973.toNat, 0]
def k0_off11 (k0_t1 : Fin k0_t1_loop.trips) : Fin 2 → Nat :=
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c1_i32_4782 : BitVec 32 := 1#32
  let v15760 : BitVec 32 := Scalar.addi v9998 c1_i32_4782
  let c256_i32_4783 : BitVec 32 := 256#32
  let v15761 : BitVec 32 := Scalar.muli v15760 c256_i32_4783
  let v15762 : BitVec 32 := v15761
  let v15980 : Index := Scalar.indexCast v15762
  let c128_4897 : Index := 128#32
  ![v15980.toNat, 128]
def k0_off12 (k0_t1 : Fin k0_t1_loop.trips) : Fin 2 → Nat :=
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c1_i32_4782 : BitVec 32 := 1#32
  let v15760 : BitVec 32 := Scalar.addi v9998 c1_i32_4782
  let c256_i32_4783 : BitVec 32 := 256#32
  let v15761 : BitVec 32 := Scalar.muli v15760 c256_i32_4783
  let v15762 : BitVec 32 := v15761
  let v15987 : Index := Scalar.indexCast v15762
  let c256_4898 : Index := 256#32
  ![v15987.toNat, 256]
def k0_off13 (k0_t1 : Fin k0_t1_loop.trips) : Fin 2 → Nat :=
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c1_i32_4782 : BitVec 32 := 1#32
  let v15760 : BitVec 32 := Scalar.addi v9998 c1_i32_4782
  let c256_i32_4783 : BitVec 32 := 256#32
  let v15761 : BitVec 32 := Scalar.muli v15760 c256_i32_4783
  let v15762 : BitVec 32 := v15761
  let v15994 : Index := Scalar.indexCast v15762
  let c384_4899 : Index := 384#32
  ![v15994.toNat, 384]
def k0_mult19 (k0_t1 : Fin k0_t1_loop.trips) : BitVec 32 :=
  let c2_i32_4901 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c2_i32_4900 : BitVec 32 := 2#32
  let v15998 : BitVec 32 := Scalar.addi v9998 c2_i32_4900
  let v15999 : BitVec 32 := Scalar.muli c2_i32_4901 v15998
  let c2048_i32_4902 : BitVec 32 := 2048#32
  let v16000 : BitVec 32 := Scalar.muli v15999 c2048_i32_4902
  v16000
def k0_mult20 (k0_t1 : Fin k0_t1_loop.trips) : BitVec 32 :=
  let c2_i32_4901 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c2_i32_4900 : BitVec 32 := 2#32
  let v15998 : BitVec 32 := Scalar.addi v9998 c2_i32_4900
  let v15999 : BitVec 32 := Scalar.muli c2_i32_4901 v15998
  let c5_i32_4910 : BitVec 32 := 5#32
  let c0_i32_4911 : BitVec 32 := 0#32
  let v16019 : BitVec 1 := Scalar.cmpi .eq c5_i32_4910 c0_i32_4911
  let c1_i32_4912 : BitVec 32 := 1#32
  let v16020 : BitVec 32 := Scalar.select v16019 c1_i32_4912 c5_i32_4910
  let v16021 : BitVec 32 := Scalar.remsi v15999 v16020
  let c0_i32_4914 : BitVec 32 := 0#32
  let v16023 : BitVec 1 := Scalar.cmpi .slt v16021 c0_i32_4914
  let c0_i32_4915 : BitVec 32 := 0#32
  let v16024 : BitVec 1 := Scalar.cmpi .slt v16020 c0_i32_4915
  let v16025 : BitVec 1 := Scalar.xori v16023 v16024
  let c0_i32_4913 : BitVec 32 := 0#32
  let v16022 : BitVec 1 := Scalar.cmpi .ne v16021 c0_i32_4913
  let v16026 : BitVec 1 := Scalar.andi v16025 v16022
  let v16027 : BitVec 32 := Scalar.addi v16021 v16020
  let v16028 : BitVec 32 := Scalar.select v16026 v16027 v16021
  let c128_i32_4916 : BitVec 32 := 128#32
  let v16029 : BitVec 32 := Scalar.muli v16028 c128_i32_4916
  v16029
def k0_mult21 (k0_t1 : Fin k0_t1_loop.trips) : BitVec 32 :=
  let c2_i32_4901 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c2_i32_4900 : BitVec 32 := 2#32
  let v15998 : BitVec 32 := Scalar.addi v9998 c2_i32_4900
  let v15999 : BitVec 32 := Scalar.muli c2_i32_4901 v15998
  let c2048_i32_5302 : BitVec 32 := 2048#32
  let v17380 : BitVec 32 := Scalar.muli v15999 c2048_i32_5302
  v17380
def k0_mult22 (k0_t1 : Fin k0_t1_loop.trips) : BitVec 32 :=
  let c2_i32_4901 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c2_i32_4900 : BitVec 32 := 2#32
  let v15998 : BitVec 32 := Scalar.addi v9998 c2_i32_4900
  let v15999 : BitVec 32 := Scalar.muli c2_i32_4901 v15998
  let c5_i32_5310 : BitVec 32 := 5#32
  let c0_i32_5311 : BitVec 32 := 0#32
  let v17399 : BitVec 1 := Scalar.cmpi .eq c5_i32_5310 c0_i32_5311
  let c1_i32_5312 : BitVec 32 := 1#32
  let v17400 : BitVec 32 := Scalar.select v17399 c1_i32_5312 c5_i32_5310
  let v17401 : BitVec 32 := Scalar.remsi v15999 v17400
  let c0_i32_5314 : BitVec 32 := 0#32
  let v17403 : BitVec 1 := Scalar.cmpi .slt v17401 c0_i32_5314
  let c0_i32_5315 : BitVec 32 := 0#32
  let v17404 : BitVec 1 := Scalar.cmpi .slt v17400 c0_i32_5315
  let v17405 : BitVec 1 := Scalar.xori v17403 v17404
  let c0_i32_5313 : BitVec 32 := 0#32
  let v17402 : BitVec 1 := Scalar.cmpi .ne v17401 c0_i32_5313
  let v17406 : BitVec 1 := Scalar.andi v17405 v17402
  let v17407 : BitVec 32 := Scalar.addi v17401 v17400
  let v17408 : BitVec 32 := Scalar.select v17406 v17407 v17401
  let c128_i32_5316 : BitVec 32 := 128#32
  let v17409 : BitVec 32 := Scalar.muli v17408 c128_i32_5316
  v17409
def k0_mult23 (k0_t1 : Fin k0_t1_loop.trips) : BitVec 32 :=
  let c2_i32_5702 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c2_i32_4900 : BitVec 32 := 2#32
  let v15998 : BitVec 32 := Scalar.addi v9998 c2_i32_4900
  let v18760 : BitVec 32 := Scalar.muli c2_i32_5702 v15998
  let c1_i32_5703 : BitVec 32 := 1#32
  let v18761 : BitVec 32 := Scalar.addi v18760 c1_i32_5703
  let c2048_i32_5704 : BitVec 32 := 2048#32
  let v18762 : BitVec 32 := Scalar.muli v18761 c2048_i32_5704
  v18762
def k0_mult24 (k0_t1 : Fin k0_t1_loop.trips) : BitVec 32 :=
  let c2_i32_5702 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c2_i32_4900 : BitVec 32 := 2#32
  let v15998 : BitVec 32 := Scalar.addi v9998 c2_i32_4900
  let v18760 : BitVec 32 := Scalar.muli c2_i32_5702 v15998
  let c1_i32_5703 : BitVec 32 := 1#32
  let v18761 : BitVec 32 := Scalar.addi v18760 c1_i32_5703
  let c5_i32_5712 : BitVec 32 := 5#32
  let c0_i32_5713 : BitVec 32 := 0#32
  let v18781 : BitVec 1 := Scalar.cmpi .eq c5_i32_5712 c0_i32_5713
  let c1_i32_5714 : BitVec 32 := 1#32
  let v18782 : BitVec 32 := Scalar.select v18781 c1_i32_5714 c5_i32_5712
  let v18783 : BitVec 32 := Scalar.remsi v18761 v18782
  let c0_i32_5716 : BitVec 32 := 0#32
  let v18785 : BitVec 1 := Scalar.cmpi .slt v18783 c0_i32_5716
  let c0_i32_5717 : BitVec 32 := 0#32
  let v18786 : BitVec 1 := Scalar.cmpi .slt v18782 c0_i32_5717
  let v18787 : BitVec 1 := Scalar.xori v18785 v18786
  let c0_i32_5715 : BitVec 32 := 0#32
  let v18784 : BitVec 1 := Scalar.cmpi .ne v18783 c0_i32_5715
  let v18788 : BitVec 1 := Scalar.andi v18787 v18784
  let v18789 : BitVec 32 := Scalar.addi v18783 v18782
  let v18790 : BitVec 32 := Scalar.select v18788 v18789 v18783
  let c128_i32_5718 : BitVec 32 := 128#32
  let v18791 : BitVec 32 := Scalar.muli v18790 c128_i32_5718
  v18791
def k0_mult25 (k0_t1 : Fin k0_t1_loop.trips) : BitVec 32 :=
  let c2_i32_5702 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c2_i32_4900 : BitVec 32 := 2#32
  let v15998 : BitVec 32 := Scalar.addi v9998 c2_i32_4900
  let v18760 : BitVec 32 := Scalar.muli c2_i32_5702 v15998
  let c1_i32_5703 : BitVec 32 := 1#32
  let v18761 : BitVec 32 := Scalar.addi v18760 c1_i32_5703
  let c2048_i32_6104 : BitVec 32 := 2048#32
  let v20142 : BitVec 32 := Scalar.muli v18761 c2048_i32_6104
  v20142
def k0_mult26 (k0_t1 : Fin k0_t1_loop.trips) : BitVec 32 :=
  let c2_i32_5702 : BitVec 32 := 2#32
  let c2_i32 : BitVec 32 := 2#32
  let c0_i32_2045 : BitVec 32 := 0#32
  let c1_i32_2046 : BitVec 32 := 1#32
  let arg19 : BitVec 32 := Scf.iv c0_i32_2045 c1_i32_2046 k0_t1
  let v9998 : BitVec 32 := Scalar.muli c2_i32 arg19
  let c2_i32_4900 : BitVec 32 := 2#32
  let v15998 : BitVec 32 := Scalar.addi v9998 c2_i32_4900
  let v18760 : BitVec 32 := Scalar.muli c2_i32_5702 v15998
  let c1_i32_5703 : BitVec 32 := 1#32
  let v18761 : BitVec 32 := Scalar.addi v18760 c1_i32_5703
  let c5_i32_6112 : BitVec 32 := 5#32
  let c0_i32_6113 : BitVec 32 := 0#32
  let v20161 : BitVec 1 := Scalar.cmpi .eq c5_i32_6112 c0_i32_6113
  let c1_i32_6114 : BitVec 32 := 1#32
  let v20162 : BitVec 32 := Scalar.select v20161 c1_i32_6114 c5_i32_6112
  let v20163 : BitVec 32 := Scalar.remsi v18761 v20162
  let c0_i32_6116 : BitVec 32 := 0#32
  let v20165 : BitVec 1 := Scalar.cmpi .slt v20163 c0_i32_6116
  let c0_i32_6117 : BitVec 32 := 0#32
  let v20166 : BitVec 1 := Scalar.cmpi .slt v20162 c0_i32_6117
  let v20167 : BitVec 1 := Scalar.xori v20165 v20166
  let c0_i32_6115 : BitVec 32 := 0#32
  let v20164 : BitVec 1 := Scalar.cmpi .ne v20163 c0_i32_6115
  let v20168 : BitVec 1 := Scalar.andi v20167 v20164
  let v20169 : BitVec 32 := Scalar.addi v20163 v20162
  let v20170 : BitVec 32 := Scalar.select v20168 v20169 v20163
  let c128_i32_6118 : BitVec 32 := 128#32
  let v20171 : BitVec 32 := Scalar.muli v20170 c128_i32_6118
  v20171
def k0_mult27 : BitVec 32 :=
  let c1536_i32_2048 : BitVec 32 := 1536#32
  c1536_i32_2048
def k0_mult28 : BitVec 32 :=
  let c28672_i32 : BitVec 32 := 28672#32
  c28672_i32
def k0_mult29 : BitVec 32 :=
  let c512_i32_2164 : BitVec 32 := 512#32
  c512_i32_2164
def k0_mult30 : BitVec 32 :=
  let c28672_i32_2551 : BitVec 32 := 28672#32
  c28672_i32_2551
def k0_mult31 : BitVec 32 :=
  let c512_i32_2552 : BitVec 32 := 512#32
  c512_i32_2552
def k0_mult32 : BitVec 32 :=
  let c1792_i32_2939 : BitVec 32 := 1792#32
  c1792_i32_2939
def k0_mult33 : BitVec 32 :=
  let c0_i32_3056 : BitVec 32 := 0#32
  c0_i32_3056
abbrev stage0_0 : Fin 1 → Memref sig .tc .vmem S30720x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x16x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S30720x128 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x16x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceDcIdeal.lean ====
abbrev S3x640x16x128 : Shape := ⟨4, ![3, 640, 16, 128]⟩
abbrev S3x640x16 : Shape := ⟨3, ![3, 640, 16]⟩
abbrev S512x16x128 : Shape := ⟨3, ![512, 16, 128]⟩
abbrev S4x16 : Shape := ⟨2, ![4, 16]⟩
abbrev S1920x512 : Shape := ⟨2, ![1920, 512]⟩
abbrev S1920x16x128 : Shape := ⟨3, ![1920, 16, 128]⟩
abbrev S1920x16 : Shape := ⟨2, ![1920, 16]⟩
abbrev S1920x16x1 : Shape := ⟨3, ![1920, 16, 1]⟩
abbrev S1920x2048 : Shape := ⟨2, ![1920, 2048]⟩
abbrev S4x128x16x128 : Shape := ⟨4, ![4, 128, 16, 128]⟩
abbrev S4x1x16x1 : Shape := ⟨4, ![4, 1, 16, 1]⟩
abbrev S512x2048 : Shape := ⟨2, ![512, 2048]⟩

abbrev nBuf : Space → Nat
  | .hbm => 9
  | .vmem => 9
  | .smem => 0
  | _ => 0

abbrev bufTy : (tb : Table) → Fin (tcTables nBuf tb) → BufTy
  | .hbm, ⟨0, _⟩ => ⟨S3x640x16x128, .fp8e5m2⟩
  | .hbm, ⟨1, _⟩ => ⟨S3x640x16, .f32⟩
  | .hbm, ⟨2, _⟩ => ⟨S3x640x16x128, .fp8e5m2⟩
  | .hbm, ⟨3, _⟩ => ⟨S3x640x16, .f32⟩
  | .hbm, ⟨4, _⟩ => ⟨S512x16x128, .fp8e4m3⟩
  | .hbm, ⟨5, _⟩ => ⟨S4x16, .f32⟩
  | .hbm, ⟨6, _⟩ => ⟨S512x16x128, .fp8e4m3⟩
  | .hbm, ⟨7, _⟩ => ⟨S4x16, .f32⟩
  | .hbm, ⟨8, _⟩ => ⟨S1920x512, .bf16⟩
  | .local _ .vmem, ⟨0, _⟩ => ⟨S3x640x16x128, .fp8e5m2⟩
  | .local _ .vmem, ⟨1, _⟩ => ⟨S3x640x16, .f32⟩
  | .local _ .vmem, ⟨2, _⟩ => ⟨S3x640x16x128, .fp8e5m2⟩
  | .local _ .vmem, ⟨3, _⟩ => ⟨S3x640x16, .f32⟩
  | .local _ .vmem, ⟨4, _⟩ => ⟨S512x16x128, .fp8e4m3⟩
  | .local _ .vmem, ⟨5, _⟩ => ⟨S4x16, .f32⟩
  | .local _ .vmem, ⟨6, _⟩ => ⟨S512x16x128, .fp8e4m3⟩
  | .local _ .vmem, ⟨7, _⟩ => ⟨S4x16, .f32⟩
  | .local _ .vmem, ⟨8, _⟩ => ⟨S1920x512, .bf16⟩
  | _, _ => ⟨S3x640x16x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S3x640x16x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x16x128 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x16x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x16x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1920x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Kernel.Body.lean ====
/- The kernel's body, written again as its loops. The printed body is one straight line of 8525
   statements; here the same operations stand once each, over the loop indices the source has: the 15
   row groups and 4 lane groups of the widened and transposed `c`, the 15 token groups of an
   accumulated product, the 4 column blocks and 2 results of the outer loop. `body_eq` says that the
   printed body is this program. -/
module

public import proofs.«01_k».proof.Proof.Gen.Kernel
public import Idealize.ShloMosaic.Lib.Tactic

@[expose] public section

noncomputable section

namespace Cert.Kernel.Hand

open Idealize.ShloMosaic Idealize.ShloMosaic.TcCoe Idealize.SL.Sem
open Cert.Kernel Cert.Kernel.Gen

variable {F : FTy → Type} [FloatOps F]

/-! ## The rectangles the loops read and write -/

theorem inbCc : ∀ (g : Fin 15) (rb : Fin 4), ∀ a, (![128 * g.1, 128 * rb.1] : Fin 2 → Nat) a + S128x128.size a ≤ S1920x512.size a := by decide
theorem inbCs : ∀ (g : Fin 15) (rb : Fin 4), ∀ a, (![g.1 / 5, rb.1, g.1 % 5 * 128] : Fin 3 → Nat) a + S1x1x128.size a ≤ S3x4x640.size a := by decide
theorem inbCt : ∀ (g : Fin 15) (rb : Fin 4), ∀ a, (![128 * rb.1, 128 * g.1] : Fin 2 → Nat) a + S128x128.size a ≤ S512x1920.size a := by decide
theorem packedCt : ∀ (g : Fin 15) (rb : Fin 4), (Rect.unit (s := S512x1920) ![128 * rb.1, 128 * g.1] S128x128.size (inbCt g rb)).PackedRows (EltTy.packing .bf16) := by decide
theorem inbTok : ∀ (g : Fin 15), ∀ a, (![2048 * g.1, 0] : Fin 2 → Nat) a + S2048x128.size a ≤ S30720x128.size a := by decide
theorem inbTs : ∀ (g : Fin 15) (j k : Fin 4), ∀ a, (![g.1, 4 * j.1 + k.1, 0] : Fin 3 → Nat) a + S1x1x128.size a ≤ S15x16x128.size a := by decide
theorem slicesJ : ∀ (j : Fin 4), S128x4x4x128.Slices ![0, j.1, 0, 0] S128x1x4x128 := by decide
theorem slicesK : ∀ (k : Fin 4), S128x4x128.Slices ![0, k.1, 0] S128x1x128 := by decide
theorem inbPair : ∀ (p : Fin 7), ∀ a, (![0, 256 * p.1] : Fin 2 → Nat) a + S512x256.size a ≤ S512x1920.size a := by decide
theorem inbSlot : ∀ (i : Fin 2), ∀ a, (![i.1, 0, 0, 0] : Fin 4 → Nat) a + S1x512x4x128.size a ≤ S2x512x4x128.size a := by decide
theorem leadingSlot : ∀ (i : Fin 2), (Rect.unit (s := S2x512x4x128) ![i.1, 0, 0, 0] S1x512x4x128.size (inbSlot i)).LeadingBlock := by decide
theorem inbStride : ∀ (k : Fin 4), ∀ a, S512x128.size a = 0 ∨ (![k.1, 0] : Fin 2 → Nat) a + (![4, 1] : Fin 2 → Nat) a * (S512x128.size a - 1) < S2048x128.size a := by decide
theorem slicesAcc : ∀ (k : Fin 4), S512x512.Slices ![0, 128 * k.1] S512x128 := by decide
theorem inbSem : ∀ (i : Fin 2), ∀ a, (![i.1] : Fin 1 → Nat) a + S1.size a ≤ S2.size a := by decide
theorem inbOut : ∀ (j : Fin 4), ∀ a, (![0, j.1, 0, 0] : Fin 4 → Nat) a + S512x1x4x128.size a ≤ S512x4x4x128.size a := by decide

abbrev rCc (g : Fin 15) (rb : Fin 4) : Rect S1920x512 := Rect.unit (s := S1920x512) ![128 * g.1, 128 * rb.1] S128x128.size (inbCc g rb)
abbrev rCs (g : Fin 15) (rb : Fin 4) : Rect S3x4x640 := Rect.unit (s := S3x4x640) ![g.1 / 5, rb.1, g.1 % 5 * 128] S1x1x128.size (inbCs g rb)
abbrev rCt (g : Fin 15) (rb : Fin 4) : Rect S512x1920 := Rect.unit (s := S512x1920) ![128 * rb.1, 128 * g.1] S128x128.size (inbCt g rb)
abbrev rTok (g : Fin 15) : Rect S30720x128 := Rect.unit (s := S30720x128) ![2048 * g.1, 0] S2048x128.size (inbTok g)
abbrev rTs (g : Fin 15) (j k : Fin 4) : Rect S15x16x128 := Rect.unit (s := S15x16x128) ![g.1, 4 * j.1 + k.1, 0] S1x1x128.size (inbTs g j k)
abbrev rPair (p : Fin 7) : Rect S512x1920 := Rect.unit (s := S512x1920) ![0, 256 * p.1] S512x256.size (inbPair p)
abbrev rLast : Rect S512x1920 := Rect.unit (s := S512x1920) ![0, 1792] S512x128.size inb_S512x1920_S512x128_0_1792
abbrev lStride (k : Fin 4) : LoadRect S2048x128 := ⟨![k.1, 0], S512x128.size, ![4, 1], inbStride k⟩
abbrev rStride (k : Fin 4) : Rect S2048x128 := ⟨lStride k, spos_4_1⟩

/-! ## What is computed between the memory operations -/

/-- One 128×128 tile of `c`, widened and turned, times its row of scales. -/
def ctPay (v : Vec F S128x128 .fp8e4m3) (s : Vec F S1x1x128 .f32) : FVec F S128x128 .bf16 :=
  shapeCast S128x128 (mulf (transpose S128x128 [1, 0] (extf .bf16 v bitsLt_fp8e4m3_bf16 : FVec F S128x128 .bf16) transposes_S128x128_p1_0_S128x128)
    (broadcastTo S128x128 (truncf .bf16 (shapeCast S1x128 s shapeCasts_S1x1x128_S1x128 : FVec F S1x128 .f32) bitsLt_bf16_f32 : FVec F S1x128 .bf16) broadcasts_S1x128_S128x128)) shapeCasts_S128x128_S128x128

/-- Column block `j` of the widths of one token group. -/
def codesJ (j : Fin 4) (v : Vec F S2048x128 .fp8e5m2) : FVec F S128x4x128 .fp8e5m2 :=
  shapeCast S128x4x128 (extractStridedSlice S128x1x4x128 ![0, j.1, 0, 0]
    (shapeCast S128x4x4x128 (shapeCast S2048x128 v shapeCasts_S2048x128_S2048x128 : FVec F S2048x128 .fp8e5m2) shapeCasts_S2048x128_S128x4x4x128 : FVec F S128x4x4x128 .fp8e5m2) (slicesJ j) : FVec F S128x1x4x128 .fp8e5m2)
    shapeCasts_S128x1x4x128_S128x4x128

/-- One head's 128 columns of it, widened, times the head's row of scales. -/
def headPay (k : Fin 4) (w : FVec F S128x4x128 .fp8e5m2) (s : Vec F S1x1x128 .f32) : FVec F S128x128 .bf16 :=
  mulf (extf .bf16 (shapeCast S128x128 (extractStridedSlice S128x1x128 ![0, k.1, 0] w (slicesK k) : FVec F S128x1x128 .fp8e5m2) shapeCasts_S128x1x128_S128x128 : FVec F S128x128 .fp8e5m2) bitsLt_fp8e5m2_bf16)
    (broadcastTo S128x128 (truncf .bf16 (shapeCast S1x128 s shapeCasts_S1x1x128_S1x128 : FVec F S1x128 .f32) bitsLt_bf16_f32 : FVec F S1x128 .bf16) broadcasts_S1x128_S128x128)

/-- The four heads side by side: one token group of the right factor. -/
def rhsPay (j : Fin 4) (v : Vec F S2048x128 .fp8e5m2) (s0 s1 s2 s3 : Vec F S1x1x128 .f32) : FVec F S128x512 .bf16 :=
  concatenate S128x512 1 [⟨S128x128, headPay 0 (codesJ j v) s0⟩, ⟨S128x128, headPay 1 (codesJ j v) s1⟩, ⟨S128x128, headPay 2 (codesJ j v) s2⟩, ⟨S128x128, headPay 3 (codesJ j v) s3⟩]
    concatenates_S128x128_S128x128_S128x128_S128x128_S128x512_d1

/-- The product over two token groups. -/
def pairDot (l : Vec F S512x256 .bf16) (a b : FVec F S128x512 .bf16) : FVec F S512x512 .f32 :=
  matmul dot_S512x256_S256x512_S512x512_1_0_0_1_n_n none l
    (concatenate S256x512 0 [⟨S128x512, a⟩, ⟨S128x512, b⟩] concatenates_S128x512_S128x512_S256x512_d0 : FVec F S256x512 .bf16)
    (constant S512x512 .f32 0x00000000#32)

/-- The product over the last token group. -/
def lastDot (l : Vec F S512x128 .bf16) (a : FVec F S128x512 .bf16) : FVec F S512x512 .f32 :=
  matmul dot_S512x128_S128x512_S512x512_1_0_0_1_n_n none l a (constant S512x512 .f32 0x00000000#32)

/-- One head's 128 columns of a finished block. -/
def stPay (k : Fin 4) (acc : FVec F S512x512 .f32) : FVec F S512x128 .f32 :=
  shapeCast S512x128 (extractStridedSlice S512x128 ![0, 128 * k.1] acc (slicesAcc k) : FVec F S512x128 .f32) shapeCasts_S512x128_S512x128

/-! ## The program -/

/-- The kernel's programs. -/
abbrev P (F : FTy → Type) [FloatOps F] (α : Type) : Type _ := Prog (TpuEff nD τ sig (Elt F) Λ₀ .tc) α

/-- The pairs of loop indices of the first loop, in order: 4 lane groups for each of 15 row groups. -/
def gOf (n : ℕ) : Fin 15 := ⟨n / 4 % 15, Nat.mod_lt _ (by decide)⟩
def rbOf (n : ℕ) : Fin 4 := ⟨n % 4, Nat.mod_lt _ (by decide)⟩

section
variable (arg1 : Memref sig .tc .vmem S3x4x640 .f32) (arg8 : Memref sig .tc .vmem S1920x512 .fp8e4m3)
  (arg9 : Memref sig .tc .vmem S512x1920 .bf16) (harg9 : arg9.IsWhole)

/-- One tile: read it and its scales, store it. -/
def ctStep (g : Fin 15) (rb : Fin 4) (k : P F PUnit) : P F PUnit :=
  .op (.load arg8 (rCc g rb).toLoadRect (View.loadsAt_vmem h_S128x128)) fun v =>
  .op (.load arg1 (rCs g rb).toLoadRect (View.loadsAt_vmem h_S1x1x128)) fun s =>
  .op (.load arg9 (rCt g rb).toLoadRect (View.loadsAt_vmem h_S128x128)) fun _ =>
  .op (.store arg9 (rCt g rb) (ctPay v s) Finset.univ (View.stores_vmem h_S128x128 (harg9.storeExact_slice rfl _ (packedCt g rb)) (fun _ => rfl)) (.inl rfl)) fun _ => k

/-- `m` tiles from tile `n` on. -/
def ctLoop : (m n : ℕ) → P F PUnit → P F PUnit
  | 0, _, k => k
  | m + 1, n, k => ctStep arg1 arg8 arg9 harg9 (gOf n) (rbOf n) (ctLoop m (n + 1) k)
end

section
variable (tok : Memref sig .tc .vmem S30720x128 .fp8e5m2) (ts : Memref sig .tc .vmem S15x16x128 .f32)
  (arg9 : Memref sig .tc .vmem S512x1920 .bf16)

/-- One token group of the right factor. -/
def rhs (j : Fin 4) (g : Fin 15) (k : FVec F S128x512 .bf16 → P F PUnit) : P F PUnit :=
  .op (.load tok (rTok g).toLoadRect (View.loadsAt_vmem h_S2048x128)) fun v =>
  .op (.load ts (rTs g j 0).toLoadRect (View.loadsAt_vmem h_S1x1x128)) fun s0 =>
  .op (.load ts (rTs g j 1).toLoadRect (View.loadsAt_vmem h_S1x1x128)) fun s1 =>
  .op (.load ts (rTs g j 2).toLoadRect (View.loadsAt_vmem h_S1x1x128)) fun s2 =>
  .op (.load ts (rTs g j 3).toLoadRect (View.loadsAt_vmem h_S1x1x128)) fun s3 =>
  k (rhsPay j v s0 s1 s2 s3)

/-- The two token groups of pair `p`. -/
def g0 (p : Fin 7) : Fin 15 := ⟨2 * p.1, by omega⟩
def g1 (p : Fin 7) : Fin 15 := ⟨2 * p.1 + 1, by omega⟩
def pOf (n : ℕ) : Fin 7 := ⟨n % 7, Nat.mod_lt _ (by decide)⟩

/-- The product over pair `p`. -/
def pair (j : Fin 4) (p : Fin 7) (k : FVec F S512x512 .f32 → P F PUnit) : P F PUnit :=
  rhs tok ts j (g0 p) fun a => rhs tok ts j (g1 p) fun b =>
  .op (.load arg9 (rPair p).toLoadRect (View.loadsAt_vmem h_S512x256)) fun l => k (pairDot l a b)

/-- `m` pairs from pair `n` on, added to what is there. -/
def pairs (j : Fin 4) : (m n : ℕ) → FVec F S512x512 .f32 → (FVec F S512x512 .f32 → P F PUnit) → P F PUnit
  | 0, _, acc, k => k acc
  | m + 1, n, acc, k => pair tok ts arg9 j (pOf n) fun d => pairs j m (n + 1) (addf acc d) k

/-- The whole sum for column block `j`. -/
def acc (j : Fin 4) (k : FVec F S512x512 .f32 → P F PUnit) : P F PUnit :=
  pair tok ts arg9 j 0 fun d => pairs tok ts arg9 j 6 1 d fun a =>
  rhs tok ts j 14 fun b =>
  .op (.load arg9 rLast.toLoadRect (View.loadsAt_vmem h_S512x128)) fun l => k (addf a (lastDot l b))
end

section
variable (arg10 : Memref sig .tc .vmem S2x512x4x128 .f32) (harg10 : arg10.IsWhole) (out : Memref sig .tc .hbm S512x4x4x128 .f32)
  (arg12 : DmaSems sig S2)

/-- Slot `i` of the staging buffer. -/
abbrev slot (i : Fin 2) : Memref sig .tc .vmem S512x4x128 .f32 :=
  (arg10.slice (Rect.unit (s := S2x512x4x128) ![i.1, 0, 0, 0] S1x512x4x128.size (inbSlot i)) (fun _ => rfl)).squeeze S512x4x128 squeezes_S1x512x4x128_S512x4x128

/-- It, read as 2048 rows. -/
abbrev slotRows (i : Fin 2) : Memref sig .tc .vmem S2048x128 .f32 :=
  (slot arg10 i).reshape S2048x128 reshapes_S512x4x128_S2048x128.1 reshapes_S512x4x128_S2048x128.2 ((View.contiguous_reshape _ _).mpr (harg10.contiguous.slice _ (leadingSlot i)))

/-- Column block `j` of a result. -/
abbrev outJ (j : Fin 4) : Memref sig .tc .hbm S512x4x128 .f32 :=
  (out.slice (Rect.unit (s := S512x4x4x128) ![0, j.1, 0, 0] S512x1x4x128.size (inbOut j)) (fun _ => rfl)).squeeze S512x4x128 squeezes_S512x1x4x128_S512x4x128

/-- Slot `i`'s semaphore. -/
abbrev semI (i : Fin 2) : DmaSem sig := ((arg12.slice (Rect.unit (s := S2) ![i.1] S1.size (inbSem i))).squeeze S_ squeezes_S1_S_).sem

/-- The wait for slot `i`'s copy into column block `j`. -/
def waitOut (i : Fin 2) (j : Fin 4) (k : P F PUnit) : P F PUnit :=
  .op (.waitDma2 (semI arg12 i) (slot arg10 i) (outJ out j) ((View.wordExact_bits rfl).reshape _ _) ((View.wordExact_bits rfl).reshape _ _)) fun _ => k

/-- One head's columns into slot `i`, every fourth row. -/
def put (i : Fin 2) (h : Fin 4) (a : FVec F S512x512 .f32) (k : P F PUnit) : P F PUnit :=
  .op (.load (slotRows arg10 harg10 i) (lStride h) (View.loadsAt_vmem h_S512x128)) fun _ =>
  .op (.store (slotRows arg10 harg10 i) (rStride h) (stPay h a) Finset.univ (View.stores_vmem_bits_univ h_S512x128 rfl) (.inl rfl)) fun _ => k

/-- The four heads into slot `i`, and slot `i` sent to column block `j`. -/
def flush (i : Fin 2) (j : Fin 4) (a : FVec F S512x512 .f32) (k : P F PUnit) : P F PUnit :=
  put arg10 harg10 i 0 a <| put arg10 harg10 i 1 a <| put arg10 harg10 i 2 a <| put arg10 harg10 i 3 a <|
  .op (.enqueueDma (slot arg10 i) (.here (outJ out j)) (.dma (semI arg12 i)) ((View.wordExact_bits rfl).reshape _ _) ((View.wordExact_bits rfl).reshape _ _) ⟨Or.inl rfl, trivial⟩) fun _ => k
end

section
variable (arg0 : Memref sig .tc .hbm S1920x512 .fp8e4m3) (harg0 : arg0.IsWhole) (arg1 : Memref sig .tc .vmem S3x4x640 .f32)
  (arg2 : Memref sig .tc .vmem S30720x128 .fp8e5m2) (arg3 : Memref sig .tc .vmem S15x16x128 .f32)
  (arg4 : Memref sig .tc .vmem S30720x128 .fp8e5m2) (arg5 : Memref sig .tc .vmem S15x16x128 .f32)
  (arg6 arg7 : Memref sig .tc .hbm S512x4x4x128 .f32)
  (arg8 : Memref sig .tc .vmem S1920x512 .fp8e4m3) (harg8 : arg8.IsWhole) (arg9 : Memref sig .tc .vmem S512x1920 .bf16) (harg9 : arg9.IsWhole)
  (arg10 : Memref sig .tc .vmem S2x512x4x128 .f32) (harg10 : arg10.IsWhole) (arg11 : DmaSems sig S1) (arg12 : DmaSems sig S2)

/-- Column blocks after the first: each waits for the slot's last copy. -/
def laterJ (j : Fin 4) (k : P F PUnit) : P F PUnit :=
  acc arg2 arg3 arg9 j fun a => waitOut arg10 arg6 arg12 0 j <| flush arg10 harg10 arg6 arg12 0 j a <|
  acc arg4 arg5 arg9 j fun b => waitOut arg10 arg7 arg12 1 j <| flush arg10 harg10 arg7 arg12 1 j b k

/-- Everything after the tiles. -/
def phase2 : P F PUnit :=
  acc arg2 arg3 arg9 0 fun a => flush arg10 harg10 arg6 arg12 0 0 a <|
  acc arg4 arg5 arg9 0 fun b => flush arg10 harg10 arg7 arg12 1 0 b <|
  laterJ arg2 arg3 arg4 arg5 arg6 arg7 arg9 arg10 harg10 arg12 1 <|
  laterJ arg2 arg3 arg4 arg5 arg6 arg7 arg9 arg10 harg10 arg12 2 <|
  laterJ arg2 arg3 arg4 arg5 arg6 arg7 arg9 arg10 harg10 arg12 3 <|
  waitOut arg10 arg6 arg12 0 0 <| waitOut arg10 arg7 arg12 1 0 <| .ret ⟨⟩

/-- The semaphore of the copy in. -/
abbrev semC : DmaSem sig := ((arg11.slice (Rect.unit (s := S1) ![0] S1.size inb_S1_S1_0)).squeeze S_ squeezes_S1_S_).sem

/-- The body. -/
def body : P F PUnit :=
  .op (.enqueueDma arg0 (.here arg8) (.dma (semC arg11)) harg0.wordExact harg8.wordExact ⟨Or.inl rfl, trivial⟩) fun _ =>
  .op (.waitDma2 (semC arg11) arg0 arg8 harg0.wordExact harg8.wordExact) fun _ =>
  ctLoop arg1 arg8 arg9 harg9 60 0 <|
  phase2 arg2 arg3 arg4 arg5 arg6 arg7 arg9 arg10 harg10 arg12

end

/-- The printed body is this program. -/
theorem body_eq (arg0 : Memref sig .tc .hbm S1920x512 .fp8e4m3) (harg0 : arg0.IsWhole) (arg1 : Memref sig .tc .vmem S3x4x640 .f32) (harg1 : arg1.IsWhole) (arg2 : Memref sig .tc .vmem S30720x128 .fp8e5m2) (harg2 : arg2.IsWhole) (arg3 : Memref sig .tc .vmem S15x16x128 .f32) (harg3 : arg3.IsWhole) (arg4 : Memref sig .tc .vmem S30720x128 .fp8e5m2) (harg4 : arg4.IsWhole) (arg5 : Memref sig .tc .vmem S15x16x128 .f32) (harg5 : arg5.IsWhole) (arg6 : Memref sig .tc .hbm S512x4x4x128 .f32) (harg6 : arg6.IsWhole) (arg7 : Memref sig .tc .hbm S512x4x4x128 .f32) (harg7 : arg7.IsWhole) (arg8 : Memref sig .tc .vmem S1920x512 .fp8e4m3) (harg8 : arg8.IsWhole) (arg9 : Memref sig .tc .vmem S512x1920 .bf16) (harg9 : arg9.IsWhole) (arg10 : Memref sig .tc .vmem S2x512x4x128 .f32) (harg10 : arg10.IsWhole) (arg11 : DmaSems sig S1) (arg12 : DmaSems sig S2) :
    cc0_mla_kv_backward (F := F) arg0 harg0 arg1 harg1 arg2 harg2 arg3 harg3 arg4 harg4 arg5 harg5 arg6 harg6 arg7 harg7 arg8 harg8 arg9 harg9 arg10 harg10 arg11 arg12 =
      body arg0 harg0 arg1 arg2 arg3 arg4 arg5 arg6 arg7 arg8 harg8 arg9 harg9 arg10 harg10 arg11 arg12 := by
  sl_kernel_rfl

end Cert.Kernel.Hand

end
-- ==== Proof.Kernel.Steps.lean ====
/- What each loop of the body does, over one core's separation state: the tiles leave `CT` in the
   turned buffer, an accumulated product is `ACC`, the strided stores leave one column block in a slot
   of the staging buffer, and a copy carries it to its result. -/
module

public import proofs.«01_k».proof.Proof.Kernel.Body
public import Idealize.ShloMosaic.Lib.Pipeline.FrameBody
public import Idealize.ShloMosaic.Lib.Ring
public import Idealize.ShloMosaic.Lib.Transfers
public import Idealize.ShloMosaic.Lib.ValueLayout

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 ix4)
open Cert.Kernel Cert.Kernel.Gen

variable {F : FTy → Type} [FloatOps F]

local notation "𝕄" => MT nD τ sig Unit (Elt F) ℕ (Pipeline.UD sig nD τ) ℕ

/-- Buffer contents under a memref. -/
abbrev Cont (F : FTy → Type) {sp : Space} {s : Shape} {e : EltTy} (c : Dev nD) (m : Memref sig .tc sp s e) : Type :=
  Buf (Elt F) (m.view.loc (c : Thread nD τ))

/-- The elements of a memref, held at `f`. -/
abbrev Pt {sp : Space} {s : Shape} {e : EltTy} (c : Dev nD) (m : Memref sig .tc sp s e) (q : PosShare TreeShare) (f : Cont F c m) : sProp 𝕄 :=
  m.view.loc (c : Thread nD τ) ↦[m.view.set]{q} f

/-- What a memref reads. -/
abbrev rd {sp : Space} {s : Shape} {e : EltTy} {c : Dev nD} (m : Memref sig .tc sp s e) (f : Cont F c m) : s.Idx → Elt F e :=
  m.view.read (Elt F) f

/-- The weakest precondition of a kernel program on core `c`. -/
abbrev WP (c : Dev nD) (p : P F PUnit.{1}) (Q : PUnit.{1} → sProp 𝕄) : sProp 𝕄 :=
  wp frame (wpE (defs₀ (F := F)) Variants.none (c : Thread nD τ) none) Set.univ p Q

variable {c : Dev nD}

/-! ## One memory operation -/

theorem load_step {Q : PUnit.{1} → sProp 𝕄} {s : Shape} {e : EltTy} {m : Memref sig .tc .vmem s e} {r : Rect s} {hl : m.view.LoadsAt r.toLoadRect}
    {k : (r.shape.Idx → Elt F e) → P F PUnit.{1}} {q : PosShare TreeShare} {f : Cont F c m} :
    Pt c m q f ⊢ iprop((Pt c m q f -∗ WP c (k fun x => rd m f (r.emb x)) Q) -∗ WP c (.op (.load m r.toLoadRect hl) k) Q) :=
  wp_load (defs := defs₀ (F := F)) Variants.none (c : Thread nD τ) none (Γ := .empty) Set.univ (Q := Q) (m := m) (r := r.toLoadRect) (hl := hl)
    (k := k) (S := m.view.set) (q := q) (f := f) (View.setOn_subset_set _ _)

theorem store_step {Q : PUnit.{1} → sProp 𝕄} {s : Shape} {e : EltTy} {m : Memref sig .tc .vmem s e} {r : Rect s} {w : r.shape.Idx → Elt F e}
    {ha : (m.access r).Stores Finset.univ} {hx : Finset.univ = Finset.univ ∨ ∀ a, r.stride a = 1} {k : PUnit.{1} → P F PUnit.{1}} {f : Cont F c m} :
    Pt c m fullShare f ⊢ iprop((Pt c m fullShare ((m.access r).write (Elt F) f w Finset.univ) -∗ WP c (k ⟨⟩) Q)
      -∗ WP c (.op (.store m r w Finset.univ ha hx) k) Q) :=
  wp_store (defs := defs₀ (F := F)) Variants.none (c : Thread nD τ) none (Γ := .empty) Set.univ (Q := Q) (m := m) (r := r) (w := w) (Mk := Finset.univ)
    (hx := ha) (hm := hx) (k := k) (S := m.view.set) (f := f) ((View.setOn_subset_set _ _).trans (View.set_slice_subset _ _))

/-! ## The tiles -/

/-- The turned, scaled `c` the tiles make of the codes `cc` and the scales `cs`. -/
def CT (cc : S1920x512.Idx → Elt F .fp8e4m3) (cs : S3x4x640.Idx → Elt F .f32) : S512x1920.Idx → Elt F .bf16 := fun y =>
  ctPay (fun x => cc ((rCc ⟨(y 1).1 / 128, Nat.div_lt_of_lt_mul (y 1).2⟩ ⟨(y 0).1 / 128, Nat.div_lt_of_lt_mul (y 0).2⟩).emb x))
    (fun x => cs ((rCs ⟨(y 1).1 / 128, Nat.div_lt_of_lt_mul (y 1).2⟩ ⟨(y 0).1 / 128, Nat.div_lt_of_lt_mul (y 0).2⟩).emb x))
    (ix2 (⟨(y 0).1 % 128, Nat.mod_lt _ (by decide)⟩ : Fin 128) (⟨(y 1).1 % 128, Nat.mod_lt _ (by decide)⟩ : Fin 128))

theorem CT_emb (cc : S1920x512.Idx → Elt F .fp8e4m3) (cs : S3x4x640.Idx → Elt F .f32) (g : Fin 15) (rb : Fin 4) (x : S128x128.Idx) :
    CT cc cs ((rCt g rb).emb x) = ctPay (fun x => cc ((rCc g rb).emb x)) (fun x => cs ((rCs g rb).emb x)) x := by
  have h0 : (((rCt g rb).emb x) 0).1 = 128 * rb.1 + (x 0).1 := by
    show 128 * rb.1 + 1 * (x 0).1 = _; omega
  have h1 : (((rCt g rb).emb x) 1).1 = 128 * g.1 + (x 1).1 := by
    show 128 * g.1 + 1 * (x 1).1 = _; omega
  have l0 : (x 0).1 < 128 := (x 0).2
  have l1 : (x 1).1 < 128 := (x 1).2
  have hg : (⟨(((rCt g rb).emb x) 1).1 / 128, Nat.div_lt_of_lt_mul (((rCt g rb).emb x) 1).2⟩ : Fin 15) = g := Fin.ext (by show (((rCt g rb).emb x) 1).1 / 128 = g.1; rw [h1]; omega)
  have hr : (⟨(((rCt g rb).emb x) 0).1 / 128, Nat.div_lt_of_lt_mul (((rCt g rb).emb x) 0).2⟩ : Fin 4) = rb := Fin.ext (by show (((rCt g rb).emb x) 0).1 / 128 = rb.1; rw [h0]; omega)
  unfold CT
  rw [hg, hr]
  congr 1
  funext a
  apply Fin.ext
  match a with
  | ⟨0, _⟩ => show (((rCt g rb).emb x) 0).1 % 128 = (x 0).1; rw [h0]; omega
  | ⟨1, _⟩ => show (((rCt g rb).emb x) 1).1 % 128 = (x 1).1; rw [h1]; omega

section
variable {arg1 : Memref sig .tc .vmem S3x4x640 .f32} {arg8 : Memref sig .tc .vmem S1920x512 .fp8e4m3}
  {arg9 : Memref sig .tc .vmem S512x1920 .bf16} {harg9 : arg9.IsWhole}
  {q1 q8 : PosShare TreeShare} {f1 : Cont F c arg1} {f8 : Cont F c arg8}

/-- The first `n` tiles are there. -/
def CtOk (f1 : Cont F c arg1) (f8 : Cont F c arg8) (n : ℕ) (f9 : Cont F c arg9) : Prop :=
  ∀ y : S512x1920.Idx, 4 * ((y 1).1 / 128) + (y 0).1 / 128 < n → rd arg9 f9 y = CT (rd arg8 f8) (rd arg1 f1) y

theorem ctStep_wp {Q : PUnit.{1} → sProp 𝕄} {k : P F PUnit.{1}} {n : ℕ} (hn : n < 60) {f9 : Cont F c arg9} (h : CtOk f1 f8 n f9) :
    iprop(Pt c arg1 q1 f1 ∗ Pt c arg8 q8 f8 ∗ Pt c arg9 fullShare f9
      ∗ (∀ f9', ⌜CtOk f1 f8 (n + 1) f9'⌝ -∗ Pt c arg1 q1 f1 -∗ Pt c arg8 q8 f8 -∗ Pt c arg9 fullShare f9' -∗ WP c k Q))
      ⊢ WP c (ctStep arg1 arg8 arg9 harg9 (gOf n) (rbOf n) k) Q := by
  unfold ctStep
  iintro ⟨H1, H8, H9, Hk⟩
  iapply load_step $$ H8; iintro H8
  iapply load_step $$ H1; iintro H1
  iapply load_step $$ H9; iintro H9
  iapply store_step $$ H9; iintro H9
  suffices hs : CtOk f1 f8 (n + 1) _ by iapply Hk $$ %_ %hs H1 H8 H9
  intro y hy
  by_cases hm : y ∈ (Finset.univ : Finset S128x128.Idx).map (rCt (gOf n) (rbOf n)).emb
  · obtain ⟨x, -, rfl⟩ := Finset.mem_map.mp hm
    rw [CT_emb]
    exact View.read_slice_write_emb _ _ _ (Finset.mem_univ x)
  · rw [← h y ?_]
    · exact View.read_slice_write_of_not_mem _ _ _ _ hm
    · by_contra hlt
      have e : 4 * ((y 1).1 / 128) + (y 0).1 / 128 = n := by omega
      have l0 : (y 0).1 < 512 := (y 0).2
      have l1 : (y 1).1 < 1920 := (y 1).2
      apply hm
      refine Finset.mem_map.mpr ⟨ix2 (⟨(y 0).1 % 128, Nat.mod_lt _ (by decide)⟩ : Fin 128) (⟨(y 1).1 % 128, Nat.mod_lt _ (by decide)⟩ : Fin 128), Finset.mem_univ _, ?_⟩
      funext a
      apply Fin.ext
      match a with
      | ⟨0, _⟩ => show 128 * (n % 4) + 1 * ((y 0).1 % 128) = (y 0).1; omega
      | ⟨1, _⟩ => show 128 * (n / 4 % 15) + 1 * ((y 1).1 % 128) = (y 1).1; omega

theorem ctLoop_wp {Q : PUnit.{1} → sProp 𝕄} {k : P F PUnit.{1}} (m : ℕ) : ∀ (n : ℕ) (hn : n + m ≤ 60) (f9 : Cont F c arg9) (h : CtOk f1 f8 n f9),
    iprop(Pt c arg1 q1 f1 ∗ Pt c arg8 q8 f8 ∗ Pt c arg9 fullShare f9
      ∗ (∀ f9', ⌜CtOk f1 f8 (n + m) f9'⌝ -∗ Pt c arg1 q1 f1 -∗ Pt c arg8 q8 f8 -∗ Pt c arg9 fullShare f9' -∗ WP c k Q))
      ⊢ WP c (ctLoop arg1 arg8 arg9 harg9 m n k) Q := by
  induction m with
  | zero =>
    intro n hn f9 h
    unfold ctLoop
    iintro ⟨H1, H8, H9, Hk⟩
    iapply Hk $$ %_ %h H1 H8 H9
  | succ m ih =>
    intro n hn f9 h
    unfold ctLoop
    iintro ⟨H1, H8, H9, Hk⟩
    iapply (ctStep_wp (by omega) h)
    isplitl [H1]; · iexact H1
    isplitl [H8]; · iexact H8
    isplitl [H9]; · iexact H9
    iintro %f9' %h' H1 H8 H9
    iapply (ih (n + 1) (by omega) f9' h')
    isplitl [H1]; · iexact H1
    isplitl [H8]; · iexact H8
    isplitl [H9]; · iexact H9
    iintro %f %hf H1 H8 H9
    have hf' : CtOk f1 f8 (n + (m + 1)) f := by
      rw [show n + (m + 1) = n + 1 + m by omega]
      exact hf
    iapply Hk $$ %_ %hf' H1 H8 H9
end

/-! ## The accumulated product -/

section
variable (tok : S30720x128.Idx → Elt F .fp8e5m2) (ts : S15x16x128.Idx → Elt F .f32) (ct : S512x1920.Idx → Elt F .bf16)

/-- One token group of the right factor. -/
def RHS (j : Fin 4) (g : Fin 15) : FVec F S128x512 .bf16 :=
  rhsPay j (fun x => tok ((rTok g).emb x)) (fun x => ts ((rTs g j 0).emb x)) (fun x => ts ((rTs g j 1).emb x))
    (fun x => ts ((rTs g j 2).emb x)) (fun x => ts ((rTs g j 3).emb x))

/-- The product over pair `p` of token groups. -/
def PAIR (j : Fin 4) (p : Fin 7) : FVec F S512x512 .f32 :=
  pairDot (fun x => ct ((rPair p).emb x)) (RHS tok ts j (g0 p)) (RHS tok ts j (g1 p))

/-- `m` pairs from pair `n` on, added to what is there. -/
def PAIRS (j : Fin 4) : (m n : ℕ) → FVec F S512x512 .f32 → FVec F S512x512 .f32
  | 0, _, a => a
  | m + 1, n, a => PAIRS j m (n + 1) (addf a (PAIR tok ts ct j (pOf n)))

/-- The whole sum for column block `j`. -/
def ACC (j : Fin 4) : FVec F S512x512 .f32 :=
  addf (PAIRS tok ts ct j 6 1 (PAIR tok ts ct j 0)) (lastDot (fun x => ct (rLast.emb x)) (RHS tok ts j 14))
end

section
variable {tok : Memref sig .tc .vmem S30720x128 .fp8e5m2} {ts : Memref sig .tc .vmem S15x16x128 .f32}
  {arg9 : Memref sig .tc .vmem S512x1920 .bf16} {qt qs : PosShare TreeShare} {ft : Cont F c tok} {fs : Cont F c ts} {f9 : Cont F c arg9}

theorem rhs_wp {Q : PUnit.{1} → sProp 𝕄} {j : Fin 4} {g : Fin 15} {k : FVec F S128x512 .bf16 → P F PUnit.{1}} :
    iprop(Pt c tok qt ft ∗ Pt c ts qs fs
      ∗ (Pt c tok qt ft -∗ Pt c ts qs fs -∗ WP c (k (RHS (rd tok ft) (rd ts fs) j g)) Q))
      ⊢ WP c (rhs tok ts j g k) Q := by
  unfold rhs
  iintro ⟨Ht, Hs, Hk⟩
  iapply load_step $$ Ht; iintro Ht
  iapply load_step $$ Hs; iintro Hs
  iapply load_step $$ Hs; iintro Hs
  iapply load_step $$ Hs; iintro Hs
  iapply load_step $$ Hs; iintro Hs
  iapply Hk $$ Ht Hs

theorem pair_wp {Q : PUnit.{1} → sProp 𝕄} {j : Fin 4} {p : Fin 7} {k : FVec F S512x512 .f32 → P F PUnit.{1}} :
    iprop(Pt c tok qt ft ∗ Pt c ts qs fs ∗ Pt c arg9 fullShare f9
      ∗ (Pt c tok qt ft -∗ Pt c ts qs fs -∗ Pt c arg9 fullShare f9 -∗ WP c (k (PAIR (rd tok ft) (rd ts fs) (rd arg9 f9) j p)) Q))
      ⊢ WP c (pair tok ts arg9 j p k) Q := by
  unfold pair
  iintro ⟨Ht, Hs, H9, Hk⟩
  iapply rhs_wp
  isplitl [Ht]; · iexact Ht
  isplitl [Hs]; · iexact Hs
  iintro Ht Hs
  iapply rhs_wp
  isplitl [Ht]; · iexact Ht
  isplitl [Hs]; · iexact Hs
  iintro Ht Hs
  iapply load_step $$ H9; iintro H9
  iapply Hk $$ Ht Hs H9

theorem pairs_wp {Q : PUnit.{1} → sProp 𝕄} {j : Fin 4} {k : FVec F S512x512 .f32 → P F PUnit.{1}} (m : ℕ) : ∀ (n : ℕ) (a : FVec F S512x512 .f32),
    iprop(Pt c tok qt ft ∗ Pt c ts qs fs ∗ Pt c arg9 fullShare f9
      ∗ (Pt c tok qt ft -∗ Pt c ts qs fs -∗ Pt c arg9 fullShare f9 -∗ WP c (k (PAIRS (rd tok ft) (rd ts fs) (rd arg9 f9) j m n a)) Q))
      ⊢ WP c (pairs tok ts arg9 j m n a k) Q := by
  induction m with
  | zero =>
    intro n a
    unfold pairs PAIRS
    iintro ⟨Ht, Hs, H9, Hk⟩
    iapply Hk $$ Ht Hs H9
  | succ m ih =>
    intro n a
    unfold pairs PAIRS
    iintro ⟨Ht, Hs, H9, Hk⟩
    iapply pair_wp
    isplitl [Ht]; · iexact Ht
    isplitl [Hs]; · iexact Hs
    isplitl [H9]; · iexact H9
    iintro Ht Hs H9
    iapply (ih (n + 1) _)
    isplitl [Ht]; · iexact Ht
    isplitl [Hs]; · iexact Hs
    isplitl [H9]; · iexact H9
    iexact Hk

theorem acc_wp {Q : PUnit.{1} → sProp 𝕄} {j : Fin 4} {k : FVec F S512x512 .f32 → P F PUnit.{1}} :
    iprop(Pt c tok qt ft ∗ Pt c ts qs fs ∗ Pt c arg9 fullShare f9
      ∗ (Pt c tok qt ft -∗ Pt c ts qs fs -∗ Pt c arg9 fullShare f9 -∗ WP c (k (ACC (rd tok ft) (rd ts fs) (rd arg9 f9) j)) Q))
      ⊢ WP c (acc tok ts arg9 j k) Q := by
  unfold acc
  iintro ⟨Ht, Hs, H9, Hk⟩
  iapply pair_wp
  isplitl [Ht]; · iexact Ht
  isplitl [Hs]; · iexact Hs
  isplitl [H9]; · iexact H9
  iintro Ht Hs H9
  iapply (pairs_wp 6 1 _)
  isplitl [Ht]; · iexact Ht
  isplitl [Hs]; · iexact Hs
  isplitl [H9]; · iexact H9
  iintro Ht Hs H9
  iapply rhs_wp
  isplitl [Ht]; · iexact Ht
  isplitl [Hs]; · iexact Hs
  iintro Ht Hs
  iapply load_step $$ H9; iintro H9
  iapply Hk $$ Ht Hs H9
end

end Cert.Kernel.Hand

end
-- ==== Proof.Kernel.Copies.lean ====
/- A finished column block on its way to its result: the strided stores leave it in a slot of the
   staging buffer, the copy carries the slot to the block, and the wait hands both back. -/
module

public import proofs.«01_k».proof.Proof.Kernel.Steps

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Cert.Kernel Cert.Kernel.Gen

variable {F : FTy → Type} [FloatOps F]

local notation "𝕄" => MT nD τ sig Unit (Elt F) ℕ (Pipeline.UD sig nD τ) ℕ

variable {c : Dev nD}

/-- The counters a copy's flight is kept in. -/
abbrev EC : UEmb Counters 𝕄 := countersEmb (U := Pipeline.UD sig nD τ)

theorem stPay_apply (h : Fin 4) (a : FVec F S512x512 .f32) (x : S512x128.Idx) :
    stPay h a x = a (ix2 (⟨(x 0).1, (x 0).2⟩ : Fin 512) (⟨128 * h.1 + (x 1).1, by have : (x 1).1 < 128 := (x 1).2; omega⟩ : Fin 512)) := by
  unfold stPay
  refine (congrArg _ (Shape.reshapeEquiv_self _ x)).trans ?_
  show a _ = a _
  congr 1
  funext b
  apply Fin.ext
  match b with
  | ⟨0, _⟩ => show 0 + (x 0).1 = (x 0).1; omega
  | ⟨1, _⟩ => rfl

section
variable {arg10 : Memref sig .tc .vmem S2x512x4x128 .f32} {harg10 : arg10.IsWhole} {i : Fin 2}

/-- The heads below `n` of block `a` are in the slot. -/
def StOk (n : ℕ) (a : FVec F S512x512 .f32) (f : Cont F c (slot arg10 i)) : Prop :=
  ∀ y : S512x4x128.Idx, (y 1).1 < n → rd (slot arg10 i) f y
    = a (ix2 (⟨(y 0).1, (y 0).2⟩ : Fin 512) (⟨128 * (y 1).1 + (y 2).1, by have h1 : (y 1).1 < 4 := (y 1).2; have h2 : (y 2).1 < 128 := (y 2).2; omega⟩ : Fin 512))

theorem read_reshape {κ : Kind} {sp : Space} {s s' : Shape} {e : EltTy} (v : View sig κ sp s e) (h : s'.numel = s.numel)
    (f : v.ty.Contents (Elt F)) (x : s'.Idx) : (v.reshape s' h).read (Elt F) f x = v.read (Elt F) f (Shape.reshapeEquiv h x) := rfl

/-- The row of the slot that holds row `r`, head `h`. -/
theorem rows_eq {h : S2048x128.numel = S512x4x128.numel} (y : S512x4x128.Idx) (x : S2048x128.Idx)
    (h0 : (x 0).1 = 4 * (y 0).1 + (y 1).1) (h1 : (x 1).1 = (y 2).1) : Shape.reshapeEquiv h x = y := by
  apply Shape.reshapeEquiv_eq_of_rowMajor
  rw [Shape.rowMajor_val_three, Shape.rowMajor_val_two, h0, h1]
  show ((y 0).1 * 4 + (y 1).1) * 128 + (y 2).1 = (4 * (y 0).1 + (y 1).1) * 128 + (y 2).1
  omega

theorem stOk_write {h : Fin 4} {a : FVec F S512x512 .f32} {f : Cont F c (slot arg10 i)} (hf : StOk h.1 a f) :
    StOk (c := c) (arg10 := arg10) (i := i) (h.1 + 1) a (((slotRows arg10 harg10 i).access (rStride h)).write (Elt F) f (stPay h a) Finset.univ) := by
  intro y hy
  have l0 : (y 0).1 < 512 := (y 0).2
  have l1 : (y 1).1 < 4 := (y 1).2
  have l2 : (y 2).1 < 128 := (y 2).2
  have e : Shape.reshapeEquiv reshapes_S512x4x128_S2048x128.1 (ix2 (⟨4 * (y 0).1 + (y 1).1, by omega⟩ : Fin 2048) (⟨(y 2).1, l2⟩ : Fin 128)) = y :=
    rows_eq y _ rfl rfl
  have hrd : ∀ f' : Cont F c (slot arg10 i), rd (slot arg10 i) f' y
      = (slotRows arg10 harg10 i).view.read (Elt F) f' (ix2 (⟨4 * (y 0).1 + (y 1).1, by omega⟩ : Fin 2048) (⟨(y 2).1, l2⟩ : Fin 128)) := fun f' => by
    refine Eq.trans ?_ (read_reshape (slot arg10 i).view reshapes_S512x4x128_S2048x128.1 f' _).symm
    rw [e]
  rw [hrd]
  by_cases hm : (y 1).1 = h.1
  · have ey : (ix2 (⟨4 * (y 0).1 + (y 1).1, by omega⟩ : Fin 2048) (⟨(y 2).1, l2⟩ : Fin 128) : S2048x128.Idx)
        = (rStride h).emb (ix2 (⟨(y 0).1, l0⟩ : Fin 512) (⟨(y 2).1, l2⟩ : Fin 128) : S512x128.Idx) := by
      funext b
      apply Fin.ext
      match b with
      | ⟨0, _⟩ => show 4 * (y 0).1 + (y 1).1 = h.1 + 4 * (y 0).1; omega
      | ⟨1, _⟩ => show (y 2).1 = 0 + 1 * (y 2).1; omega
    rw [ey]
    refine (View.read_slice_write_emb _ _ _ (Finset.mem_univ _)).trans ((stPay_apply _ _ _).trans ?_)
    congr 2
    apply Fin.ext
    show 128 * h.1 + (y 2).1 = 128 * (y 1).1 + (y 2).1
    rw [hm]
  · rw [View.read_slice_write_of_not_mem]
    · rw [← hrd]
      exact hf y (by omega)
    · intro hx
      obtain ⟨x, -, hx⟩ := Finset.mem_map.mp hx
      have h0 := congrArg (fun z : S2048x128.Idx => (z 0).1) hx
      have h0' : h.1 + 4 * (x 0).1 = 4 * (y 0).1 + (y 1).1 := h0
      omega

theorem put_wp {Q : PUnit.{1} → sProp 𝕄} {h : Fin 4} {a : FVec F S512x512 .f32} {k : P F PUnit.{1}} {f : Cont F c (slot arg10 i)} (hf : StOk h.1 a f) :
    iprop(Pt c (slot arg10 i) fullShare f ∗ (∀ f' : Cont F c (slot arg10 i), ⌜StOk (h.1 + 1) a f'⌝ -∗ Pt c (slot arg10 i) fullShare f' -∗ WP c k Q))
      ⊢ WP c (put arg10 harg10 i h a k) Q := by
  have hset : (slotRows arg10 harg10 i).view.set ⊆ (slot arg10 i).view.set := (View.set_reshape _ _).le
  unfold put
  iintro ⟨H, Hk⟩
  iapply (wp_load (defs := defs₀ (F := F)) Variants.none (c : Thread nD τ) none (Γ := .empty) Set.univ (Q := Q) (m := slotRows arg10 harg10 i) (r := lStride h)
    (S := (slot arg10 i).view.set) (q := fullShare) (f := f) ((View.setOn_subset_set _ _).trans hset)) $$ H
  iintro H
  iapply (wp_store (defs := defs₀ (F := F)) Variants.none (c : Thread nD τ) none (Γ := .empty) Set.univ (Q := Q) (m := slotRows arg10 harg10 i) (r := rStride h)
    (w := stPay h a) (Mk := Finset.univ) (S := (slot arg10 i).view.set) (f := f)
    (((View.setOn_subset_set _ _).trans (View.set_slice_subset _ _)).trans hset)) $$ H
  iintro H
  have hs := stOk_write (harg10 := harg10) hf
  iapply Hk $$ %_ %hs H

end

section
variable {arg10 : Memref sig .tc .vmem S2x512x4x128 .f32} {harg10 : arg10.IsWhole} {i : Fin 2}
  {out : Memref sig .tc .hbm S512x4x4x128 .f32} {arg12 : DmaSems sig S2}

/-- The result whose column blocks are `A`. -/
def DW (A : Fin 4 → FVec F S512x512 .f32) : S512x4x4x128.Idx → Elt F .f32 := fun y =>
  A ⟨(y 1).1, (y 1).2⟩ (ix2 (⟨(y 0).1, (y 0).2⟩ : Fin 512)
    (⟨128 * (y 2).1 + (y 3).1, by have h1 : (y 2).1 < 4 := (y 2).2; have h2 : (y 3).1 < 128 := (y 3).2; omega⟩ : Fin 512))

/-- The column blocks below `j` are in the result. -/
def OutOk (A : Fin 4 → FVec F S512x512 .f32) (j : ℕ) (f : Cont F c out) : Prop :=
  ∀ y : S512x4x4x128.Idx, (y 1).1 < j → rd out f y = DW A y

theorem outOk_write {A : Fin 4 → FVec F S512x512 .f32} {j : Fin 4} {fo : Cont F c out} {fs : Cont F c (slot arg10 i)}
    (ho : OutOk A j.1 fo) (hs : StOk 4 (A j) fs) :
    OutOk (c := c) (out := out) A (j.1 + 1) ((outJ out j).view.write (Elt F) fo (rd (slot arg10 i) fs) Finset.univ) := by
  intro y hy
  have l0 : (y 0).1 < 512 := (y 0).2
  have l1 : (y 1).1 < 4 := (y 1).2
  have l2 : (y 2).1 < 4 := (y 2).2
  have l3 : (y 3).1 < 128 := (y 3).2
  by_cases hm : (y 1).1 = j.1
  · have hre : ∀ h : S512x4x128.numel = S512x1x4x128.numel, Shape.reshapeEquiv h (ix3 (⟨(y 0).1, l0⟩ : Fin 512) (⟨(y 2).1, l2⟩ : Fin 4) (⟨(y 3).1, l3⟩ : Fin 128))
        = (ix4 (⟨(y 0).1, l0⟩ : Fin 512) (0 : Fin 1) (⟨(y 2).1, l2⟩ : Fin 4) (⟨(y 3).1, l3⟩ : Fin 128) : S512x1x4x128.Idx) := fun h => by
      apply Shape.reshapeEquiv_eq_of_rowMajor
      rw [Shape.rowMajor_val_three, Shape.rowMajor_val_four]
      show (((y 0).1 * 1 + 0) * 4 + (y 2).1) * 128 + (y 3).1 = ((y 0).1 * 4 + (y 2).1) * 128 + (y 3).1
      omega
    have hy' : y = (Rect.unit (s := S512x4x4x128) ![0, j.1, 0, 0] S512x1x4x128.size (inbOut j)).emb
        (Shape.reshapeEquiv squeezes_S512x1x4x128_S512x4x128.numel_eq (ix3 (⟨(y 0).1, l0⟩ : Fin 512) (⟨(y 2).1, l2⟩ : Fin 4) (⟨(y 3).1, l3⟩ : Fin 128))) := by
      rw [hre]
      funext b
      apply Fin.ext
      match b with
      | ⟨0, _⟩ => show (y 0).1 = 0 + 1 * (y 0).1; omega
      | ⟨1, _⟩ => show (y 1).1 = j.1 + 1 * 0; omega
      | ⟨2, _⟩ => show (y 2).1 = 0 + 1 * (y 2).1; omega
      | ⟨3, _⟩ => show (y 3).1 = 0 + 1 * (y 3).1; omega
    have e1 : rd (c := c) out ((outJ out j).view.write (Elt F) fo (rd (slot arg10 i) fs) Finset.univ) y
        = rd (slot arg10 i) fs (ix3 (⟨(y 0).1, l0⟩ : Fin 512) (⟨(y 2).1, l2⟩ : Fin 4) (⟨(y 3).1, l3⟩ : Fin 128)) := by
      refine (congrArg _ hy').trans ?_
      exact congrFun (View.read_write_univ (v := (outJ out j).view) fo (rd (slot arg10 i) fs)) _
    rw [e1, hs _ l2]
    unfold DW
    rw [show (⟨(y 1).1, (y 1).2⟩ : Fin 4) = j from Fin.ext hm]
  · rw [← ho y (by omega)]
    refine View.read_congr_at (v := out.view) y (View.write_of_not_mem _ _ _ fun hx => ?_)
    rw [show (outJ out j).view.setOn Finset.univ = (out.view.slice (Rect.unit (s := S512x4x4x128) ![0, j.1, 0, 0] S512x1x4x128.size (inbOut j))).set
      from View.set_reshape _ _] at hx
    obtain ⟨x, -, hx⟩ := Finset.mem_map.mp hx
    have h1 : j.1 + 1 * (x 1).1 = (y 1).1 := congrArg (fun z : S512x4x4x128.Idx => (z 1).1) (out.view.emb.injective hx)
    have l : (x 1).1 < 1 := (x 1).2
    omega

theorem outJ_sub (j : Fin 4) : (outJ out j).view.set ⊆ out.view.set :=
  (View.set_reshape _ _).le.trans (View.set_slice_subset _ _)

/-- Slot `i` and its result are here, the column blocks below `j` done. -/
def Idle (c : Dev nD) (arg10 : Memref sig .tc .vmem S2x512x4x128 .f32) (out : Memref sig .tc .hbm S512x4x4x128 .f32) (arg12 : DmaSems sig S2)
    (i : Fin 2) (A : Fin 4 → FVec F S512x512 .f32) (j : ℕ) : sProp 𝕄 :=
  iprop(∃ fo : Cont F c out, ∃ fs : Cont F c (slot arg10 i), Pt c out fullShare fo ∗ Pt c (slot arg10 i) fullShare fs
    ∗ semVal ((c : Thread nD τ), .dma (semI arg12 i)) 0 ∗ ⌜OutOk A j fo⌝)

/-- Slot `i`'s copy is under way, and brings the column blocks below `j`. -/
def Flying (c : Dev nD) (arg10 : Memref sig .tc .vmem S2x512x4x128 .f32) (out : Memref sig .tc .hbm S512x4x4x128 .f32) (arg12 : DmaSems sig S2)
    (i : Fin 2) (A : Fin 4 → FVec F S512x512 .f32) (j : ℕ) : sProp 𝕄 :=
  iprop(∃ fo : Cont F c out, ∃ fs : Cont F c (slot arg10 i),
    Transfers.Flight EC (c : Thread nD τ) (.dma (semI arg12 i)) () (outJ out 0).view.dmaCredit (iprop(Pt c out fullShare fo ∗ Pt c (slot arg10 i) fullShare fs))
    ∗ ⌜OutOk A j fo⌝)

theorem flush_wp {Q : PUnit.{1} → sProp 𝕄} {A : Fin 4 → FVec F S512x512 .f32} {j : Fin 4} {k : P F PUnit.{1}} :
    iprop(Idle c arg10 out arg12 i A j.1 ∗ (Flying c arg10 out arg12 i A (j.1 + 1) -∗ WP c k Q))
      ⊢ WP c (flush arg10 harg10 out arg12 i j (A j) k) Q := by
  unfold flush Idle
  iintro ⟨⟨%fo, %fs, Ho, Hs, Hsem, %ho⟩, Hk⟩
  have h0 : StOk (c := c) (arg10 := arg10) (i := i) 0 (A j) fs := fun _ h => absurd h (Nat.not_lt_zero _)
  iapply (put_wp (h := 0) h0)
  isplitl [Hs]; · iexact Hs
  iintro %f1 %h1 Hs
  iapply (put_wp (h := 1) h1)
  isplitl [Hs]; · iexact Hs
  iintro %f2 %h2 Hs
  iapply (put_wp (h := 2) h2)
  isplitl [Hs]; · iexact Hs
  iintro %f3 %h3 Hs
  iapply (put_wp (h := 3) h3)
  isplitl [Hs]; · iexact Hs
  iintro %f4 %h4 Hs
  iapply (Transfers.wp_dmaLocal (defs := defs₀ (F := F)) (Q := Q) EC Variants.none (c : Thread nD τ) none () (outJ out 0).view.dmaCredit
    (src := slot arg10 i) (dst := outJ out j) (Sd := out.view.set) (fs := f4) (fd := fo)
    rfl (View.dmaCredit_pos _ (by decide)) (outJ_sub j)) $$ [Hs Ho Hsem]
  · isplitl [Hs]; · iexact Hs
    isplitl [Ho]; · iexact Ho
    iexact Hsem
  iintro Hf
  iapply Hk
  unfold Flying
  iexists _
  iexists f4
  isplitl [Hf]; · iexact Hf
  ipureintro
  exact outOk_write ho h4

theorem waitOut_wp {Q : PUnit.{1} → sProp 𝕄} {A : Fin 4 → FVec F S512x512 .f32} {n : ℕ} {j : Fin 4} {k : P F PUnit.{1}} {W : Waits sig Unit} :
    iprop(Flying c arg10 out arg12 i A n ∗ owes (c : Thread nD τ) 0 W
      ∗ (∀ W' : Waits sig Unit, Idle c arg10 out arg12 i A n -∗ owes (c : Thread nD τ) 0 W' -∗ WP c k Q))
      ⊢ WP c (waitOut arg10 out arg12 i j k) Q := by
  unfold waitOut Flying
  iintro ⟨⟨%fo, %fs, Hf, %ho⟩, HW, Hk⟩
  iapply (Transfers.wp_waitLocal (defs := defs₀ (F := F)) (Q := Q) EC Variants.none (c : Thread nD τ) none (srcw := slot arg10 i) (dstw := outJ out j) (hsrc := (View.wordExact_bits rfl).reshape _ _) (hdst := (View.wordExact_bits rfl).reshape _ _) () (N := (outJ out 0).view.dmaCredit) rfl) $$ [Hf HW]
  · isplitl [Hf]; · iexact Hf
    iexact HW
  iintro ⟨⟨Ho, Hs⟩, Hsem, HW⟩
  iapply Hk $$ %_ [Ho Hs Hsem] HW
  unfold Idle
  iexists fo
  iexists fs
  isplitl [Ho]; · iexact Ho
  isplitl [Hs]; · iexact Hs
  isplitl [Hsem]; · iexact Hsem
  ipureintro
  exact ho

end

end Cert.Kernel.Hand

end
-- ==== Proof.Kernel.Run.lean ====
/- The whole body over one core's separation state: both results end at the column blocks `ACC`
   makes of the operands, the operands as they were, every semaphore at zero. -/
module

public import proofs.«01_k».proof.Proof.Kernel.Copies

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Cert.Kernel Cert.Kernel.Gen

variable {F : FTy → Type} [FloatOps F]

local notation "𝕄" => MT nD τ sig Unit (Elt F) ℕ (Pipeline.UD sig nD τ) ℕ

variable {c : Dev nD}

variable {arg0 : Memref sig .tc .hbm S1920x512 .fp8e4m3} {harg0 : arg0.IsWhole} {arg1 : Memref sig .tc .vmem S3x4x640 .f32}
  {arg2 : Memref sig .tc .vmem S30720x128 .fp8e5m2} {arg3 : Memref sig .tc .vmem S15x16x128 .f32}
  {arg4 : Memref sig .tc .vmem S30720x128 .fp8e5m2} {arg5 : Memref sig .tc .vmem S15x16x128 .f32}
  {arg6 arg7 : Memref sig .tc .hbm S512x4x4x128 .f32}
  {arg8 : Memref sig .tc .vmem S1920x512 .fp8e4m3} {harg8 : arg8.IsWhole} {arg9 : Memref sig .tc .vmem S512x1920 .bf16} {harg9 : arg9.IsWhole}
  {arg10 : Memref sig .tc .vmem S2x512x4x128 .f32} {harg10 : arg10.IsWhole} {arg11 : DmaSems sig S1} {arg12 : DmaSems sig S2}
  {q1 q2 q3 q4 q5 : PosShare TreeShare} {f1 : Cont F c arg1} {f2 : Cont F c arg2} {f3 : Cont F c arg3} {f4 : Cont F c arg4} {f5 : Cont F c arg5}
  {f9 : Cont F c arg9}

/-- What the accumulated products read. -/
def Ops (c : Dev nD) (arg2 : Memref sig .tc .vmem S30720x128 .fp8e5m2) (arg3 : Memref sig .tc .vmem S15x16x128 .f32)
    (arg4 : Memref sig .tc .vmem S30720x128 .fp8e5m2) (arg5 : Memref sig .tc .vmem S15x16x128 .f32) (arg9 : Memref sig .tc .vmem S512x1920 .bf16)
    (q2 q3 q4 q5 : PosShare TreeShare) (f2 : Cont F c arg2) (f3 : Cont F c arg3) (f4 : Cont F c arg4) (f5 : Cont F c arg5) (f9 : Cont F c arg9) : sProp 𝕄 :=
  iprop(Pt c arg2 q2 f2 ∗ Pt c arg3 q3 f3 ∗ Pt c arg4 q4 f4 ∗ Pt c arg5 q5 f5 ∗ Pt c arg9 fullShare f9)

theorem accA_wp {Q : PUnit.{1} → sProp 𝕄} {j : Fin 4} {k : FVec F S512x512 .f32 → P F PUnit.{1}} :
    iprop(Ops c arg2 arg3 arg4 arg5 arg9 q2 q3 q4 q5 f2 f3 f4 f5 f9
      ∗ (Ops c arg2 arg3 arg4 arg5 arg9 q2 q3 q4 q5 f2 f3 f4 f5 f9 -∗ WP c (k (ACC (rd arg2 f2) (rd arg3 f3) (rd arg9 f9) j)) Q))
      ⊢ WP c (acc arg2 arg3 arg9 j k) Q := by
  unfold Ops
  iintro ⟨⟨H2, H3, H4, H5, H9⟩, Hk⟩
  iapply acc_wp
  isplitl [H2]; · iexact H2
  isplitl [H3]; · iexact H3
  isplitl [H9]; · iexact H9
  iintro H2 H3 H9
  iapply Hk
  isplitl [H2]; · iexact H2
  isplitl [H3]; · iexact H3
  isplitl [H4]; · iexact H4
  isplitl [H5]; · iexact H5
  iexact H9

theorem accB_wp {Q : PUnit.{1} → sProp 𝕄} {j : Fin 4} {k : FVec F S512x512 .f32 → P F PUnit.{1}} :
    iprop(Ops c arg2 arg3 arg4 arg5 arg9 q2 q3 q4 q5 f2 f3 f4 f5 f9
      ∗ (Ops c arg2 arg3 arg4 arg5 arg9 q2 q3 q4 q5 f2 f3 f4 f5 f9 -∗ WP c (k (ACC (rd arg4 f4) (rd arg5 f5) (rd arg9 f9) j)) Q))
      ⊢ WP c (acc arg4 arg5 arg9 j k) Q := by
  unfold Ops
  iintro ⟨⟨H2, H3, H4, H5, H9⟩, Hk⟩
  iapply acc_wp
  isplitl [H4]; · iexact H4
  isplitl [H5]; · iexact H5
  isplitl [H9]; · iexact H9
  iintro H4 H5 H9
  iapply Hk
  isplitl [H2]; · iexact H2
  isplitl [H3]; · iexact H3
  isplitl [H4]; · iexact H4
  isplitl [H5]; · iexact H5
  iexact H9

theorem laterJ_wp {Q : PUnit.{1} → sProp 𝕄} {j : Fin 4} {k : P F PUnit.{1}} {W : Waits sig Unit} :
    iprop(Ops c arg2 arg3 arg4 arg5 arg9 q2 q3 q4 q5 f2 f3 f4 f5 f9
      ∗ Flying c arg10 arg6 arg12 0 (ACC (rd arg2 f2) (rd arg3 f3) (rd arg9 f9)) j.1
      ∗ Flying c arg10 arg7 arg12 1 (ACC (rd arg4 f4) (rd arg5 f5) (rd arg9 f9)) j.1
      ∗ owes (c : Thread nD τ) 0 W
      ∗ (∀ W' : Waits sig Unit, Ops c arg2 arg3 arg4 arg5 arg9 q2 q3 q4 q5 f2 f3 f4 f5 f9
        -∗ Flying c arg10 arg6 arg12 0 (ACC (rd arg2 f2) (rd arg3 f3) (rd arg9 f9)) (j.1 + 1)
        -∗ Flying c arg10 arg7 arg12 1 (ACC (rd arg4 f4) (rd arg5 f5) (rd arg9 f9)) (j.1 + 1)
        -∗ owes (c : Thread nD τ) 0 W' -∗ WP c k Q))
      ⊢ WP c (laterJ arg2 arg3 arg4 arg5 arg6 arg7 arg9 arg10 harg10 arg12 j k) Q := by
  unfold laterJ
  iintro ⟨HO, HA, HB, HW, Hk⟩
  iapply accA_wp
  isplitl [HO]; · iexact HO
  iintro HO
  iapply waitOut_wp
  isplitl [HA]; · iexact HA
  isplitl [HW]; · iexact HW
  iintro %W1 HA HW
  iapply flush_wp
  isplitl [HA]; · iexact HA
  iintro HA
  iapply accB_wp
  isplitl [HO]; · iexact HO
  iintro HO
  iapply waitOut_wp
  isplitl [HB]; · iexact HB
  isplitl [HW]; · iexact HW
  iintro %W2 HB HW
  iapply flush_wp
  isplitl [HB]; · iexact HB
  iintro HB
  iapply Hk $$ %_ HO HA HB HW

theorem phase2_wp {Q : PUnit.{1} → sProp 𝕄} {W : Waits sig Unit} :
    iprop(Ops c arg2 arg3 arg4 arg5 arg9 q2 q3 q4 q5 f2 f3 f4 f5 f9
      ∗ Idle c arg10 arg6 arg12 0 (ACC (rd arg2 f2) (rd arg3 f3) (rd arg9 f9)) 0
      ∗ Idle c arg10 arg7 arg12 1 (ACC (rd arg4 f4) (rd arg5 f5) (rd arg9 f9)) 0
      ∗ owes (c : Thread nD τ) 0 W
      ∗ (∀ W' : Waits sig Unit, Ops c arg2 arg3 arg4 arg5 arg9 q2 q3 q4 q5 f2 f3 f4 f5 f9
        -∗ Idle c arg10 arg6 arg12 0 (ACC (rd arg2 f2) (rd arg3 f3) (rd arg9 f9)) 4
        -∗ Idle c arg10 arg7 arg12 1 (ACC (rd arg4 f4) (rd arg5 f5) (rd arg9 f9)) 4
        -∗ owes (c : Thread nD τ) 0 W' -∗ Q ⟨⟩))
      ⊢ WP c (phase2 arg2 arg3 arg4 arg5 arg6 arg7 arg9 arg10 harg10 arg12) Q := by
  unfold phase2
  iintro ⟨HO, HA, HB, HW, Hk⟩
  iapply accA_wp
  isplitl [HO]; · iexact HO
  iintro HO
  iapply (flush_wp (j := 0))
  isplitl [HA]; · iexact HA
  iintro HA
  iapply accB_wp
  isplitl [HO]; · iexact HO
  iintro HO
  iapply (flush_wp (j := 0))
  isplitl [HB]; · iexact HB
  iintro HB
  iapply (laterJ_wp (j := 1))
  isplitl [HO]; · iexact HO
  isplitl [HA]; · iexact HA
  isplitl [HB]; · iexact HB
  isplitl [HW]; · iexact HW
  iintro %W1 HO HA HB HW
  iapply (laterJ_wp (j := 2))
  isplitl [HO]; · iexact HO
  isplitl [HA]; · iexact HA
  isplitl [HB]; · iexact HB
  isplitl [HW]; · iexact HW
  iintro %W2 HO HA HB HW
  iapply (laterJ_wp (j := 3))
  isplitl [HO]; · iexact HO
  isplitl [HA]; · iexact HA
  isplitl [HB]; · iexact HB
  isplitl [HW]; · iexact HW
  iintro %W3 HO HA HB HW
  iapply waitOut_wp
  isplitl [HA]; · iexact HA
  isplitl [HW]; · iexact HW
  iintro %W4 HA HW
  iapply waitOut_wp
  isplitl [HB]; · iexact HB
  isplitl [HW]; · iexact HW
  iintro %W5 HB HW
  iapply (le_wp_ret _ _ _ _ Q)
  ispecialize Hk $$ %W5 HO
  iapply Hk $$ [HA] [HB] HW
  · iexact HA
  · iexact HB

theorem body_wp {Q : PUnit.{1} → sProp 𝕄} {W : Waits sig Unit} {f0 : Cont F c arg0} {f8 : Cont F c arg8} {f9 : Cont F c arg9} :
    iprop(Pt c arg0 fullShare f0 ∗ Pt c arg1 q1 f1 ∗ Ops c arg2 arg3 arg4 arg5 arg9 q2 q3 q4 q5 f2 f3 f4 f5 f9
      ∗ Pt c arg8 fullShare f8 ∗ semVal ((c : Thread nD τ), .dma (semC arg11)) 0
      ∗ Idle c arg10 arg6 arg12 0 (ACC (rd arg2 f2) (rd arg3 f3) (CT (rd arg0 f0) (rd arg1 f1))) 0
      ∗ Idle c arg10 arg7 arg12 1 (ACC (rd arg4 f4) (rd arg5 f5) (CT (rd arg0 f0) (rd arg1 f1))) 0
      ∗ owes (c : Thread nD τ) 0 W
      ∗ (∀ W' : Waits sig Unit, ∀ f8' : Cont F c arg8, ∀ f9' : Cont F c arg9,
        Pt c arg0 fullShare f0 -∗ Pt c arg1 q1 f1 -∗ Ops c arg2 arg3 arg4 arg5 arg9 q2 q3 q4 q5 f2 f3 f4 f5 f9'
        -∗ Pt c arg8 fullShare f8' -∗ semVal ((c : Thread nD τ), .dma (semC arg11)) 0
        -∗ Idle c arg10 arg6 arg12 0 (ACC (rd arg2 f2) (rd arg3 f3) (CT (rd arg0 f0) (rd arg1 f1))) 4
        -∗ Idle c arg10 arg7 arg12 1 (ACC (rd arg4 f4) (rd arg5 f5) (CT (rd arg0 f0) (rd arg1 f1))) 4
        -∗ owes (c : Thread nD τ) 0 W' -∗ Q ⟨⟩))
      ⊢ WP c (body arg0 harg0 arg1 arg2 arg3 arg4 arg5 arg6 arg7 arg8 harg8 arg9 harg9 arg10 harg10 arg11 arg12) Q := by
  unfold body
  iintro ⟨H0, H1, HO, H8, HS, HA, HB, HW, Hk⟩
  iapply (Transfers.wp_dmaLocal (defs := defs₀ (F := F)) (Q := Q) EC Variants.none (c : Thread nD τ) none () arg8.view.dmaCredit
    (src := arg0) (dst := arg8) (Sd := arg8.view.set) (fs := f0) (fd := f8)
    rfl (View.dmaCredit_pos _ (by decide)) subset_rfl) $$ [H0 H8 HS]
  · isplitl [H0]; · iexact H0
    isplitl [H8]; · iexact H8
    iexact HS
  iintro Hf
  iapply (Transfers.wp_waitLocal (defs := defs₀ (F := F)) (Q := Q) EC Variants.none (c : Thread nD τ) none (srcw := arg0) (dstw := arg8)
    (hsrc := harg0.wordExact) (hdst := harg8.wordExact) () (N := arg8.view.dmaCredit) rfl) $$ [Hf HW]
  · isplitl [Hf]; · iexact Hf
    iexact HW
  iintro ⟨⟨H8, H0⟩, HS, HW⟩
  have e8 : rd (c := c) arg8 (arg8.view.write (Elt F) f8 (rd arg0 f0) Finset.univ) = rd arg0 f0 := View.read_write_univ _ _
  unfold Ops
  icases HO with ⟨H2, H3, H4, H5, H9⟩
  have h9 : CtOk (c := c) (arg9 := arg9) (arg8 := arg8) f1 (arg8.view.write (Elt F) f8 (rd arg0 f0) Finset.univ) 0 f9 := fun _ h => absurd h (Nat.not_lt_zero _)
  iapply (ctLoop_wp (arg8 := arg8) (harg9 := harg9) 60 0 (by decide) f9 h9)
  isplitl [H1]; · iexact H1
  isplitl [H8]; · iexact H8
  isplitl [H9]; · iexact H9
  iintro %f9' %h9' H1 H8 H9
  have e9 : rd arg9 f9' = CT (rd arg0 f0) (rd arg1 f1) := by
    funext y
    have l0 : (y 0).1 < 512 := (y 0).2
    have l1 : (y 1).1 < 1920 := (y 1).2
    rw [h9' y (by omega), e8]
  rw [← e9]
  iapply phase2_wp
  unfold Ops
  isplitl [H2 H3 H4 H5 H9]
  · isplitl [H2]; · iexact H2
    isplitl [H3]; · iexact H3
    isplitl [H4]; · iexact H4
    isplitl [H5]; · iexact H5
    iexact H9
  isplitl [HA]; · iexact HA
  isplitl [HB]; · iexact HB
  isplitl [HW]; · iexact HW
  iintro %W1 HO HA HB HW
  iapply Hk $$ %_ %_ %_ H0 H1 HO H8 HS HA HB HW

end Cert.Kernel.Hand

end
-- ==== Proof.Kernel.Whole.lean ====
/- The whole program: the host operations, the one launch, its body by `body_wp`. It ends with its
   arguments unchanged, every semaphore at zero, and both results at the column blocks `ACC` makes of
   the arrays the region finds. -/
module

public import proofs.«01_k».proof.Proof.Gen.Kernel.Frame
public import proofs.«01_k».proof.Proof.Kernel.Run
public import Idealize.ShloMosaic.Lib.Pipeline.FrameValue

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch is handed -/

/-- The semaphores of the copy in and of the two slots. -/
abbrev osem0 : Fin 3 → SemLoc sig := fun j => (![SemLoc.dma (semC cc0_scratch3), SemLoc.dma (semI cc0_scratch4 0), SemLoc.dma (semI cc0_scratch4 1)] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semC cc0_scratch3)) 0 ∗ semVal ((c : Thread nD τ), SemLoc.dma (semI cc0_scratch4 0)) 0
          ∗ semVal ((c : Thread nD τ), SemLoc.dma (semI cc0_scratch4 1)) 0) := by
  rw [Pipeline.ownSems0_eq_of_list c osem0 [0, 1, 2] (by decide) (by decide)]; rfl

/-- The operand the body copies in, and the results it copies out. -/
def H0 : Finset (Ref sig .tc) := {main_v0}
def R0 : Finset (Ref sig .tc) := {main_v6_0, main_v6_1}
theorem H0_sub : H0 ⊆ Pipeline.restRefs sig spec0 := by decide
theorem R0_sub : R0 ⊆ Pipeline.restRefs sig spec0 \ H0 := by decide

/-- A whole buffer, as the memref on it. -/
theorem Pt_whole (c : Dev nD) (b : Ref sig .tc) (q : PosShare TreeShare) (f : Buf (Elt F) ((c : Thread nD τ).loc b)) :
    (((c : Thread nD τ).loc b) ↦{q} f : sProp 𝕄) = ((Memref.whole b : Memref sig .tc _ _ _).view.loc (c : Thread nD τ) ↦[(Memref.whole b : Memref sig .tc _ _ _).view.set]{q} f) := by
  rw [show (Memref.whole b : Memref sig .tc _ _ _).view.set = Finset.univ from View.set_whole b]

theorem hbmPts0_eq (c : Dev nD) :
    (bigSep H0 (fun b => ((c : Thread nD τ).loc b) ↦{fullShare} V m c b) : sProp 𝕄) = Pt c (Memref.whole main_v0) fullShare (V m c main_v0) := by
  rw [BI.bigSep_eq_bigSepL_of_eq [main_v0] (by decide) (by decide)]
  exact Pt_whole c main_v0 fullShare _

theorem routed0_eq (c : Dev nD) (G : (b : Ref sig .tc) → Buf (Elt F) ((c : Thread nD τ).loc b)) :
    (Pipeline.routed R0 c G : sProp 𝕄)
      = iprop(Pt c (Memref.whole main_v6_0) fullShare (G main_v6_0) ∗ Pt c (Memref.whole main_v6_1) fullShare (G main_v6_1)) := by
  unfold Pipeline.routed; rw [BI.bigSep_eq_bigSepL_of_eq [main_v6_0, main_v6_1] (by decide) (by decide)]
  simp only [BI.bigSepL_cons_cons, BI.bigSepL_singleton]
  rw [Pt_whole, Pt_whole]
  rfl

/-! ## The two slots of the staging buffer -/

theorem slot_set {arg10 : Memref sig .tc .vmem S2x512x4x128 .f32} (i : Fin 2) :
    (slot arg10 i).view.set = (arg10.view.slice (Rect.unit (s := S2x512x4x128) ![i.1, 0, 0, 0] S1x512x4x128.size (inbSlot i))).set :=
  View.set_reshape _ _

theorem slot_disj {arg10 : Memref sig .tc .vmem S2x512x4x128 .f32} :
    (slot arg10 1).view.set ⊆ arg10.view.set \ (slot arg10 0).view.set := by
  rw [slot_set, slot_set]
  intro x hx
  refine Finset.mem_sdiff.mpr ⟨View.set_slice_subset _ _ hx, fun hx' => ?_⟩
  obtain ⟨a, -, ha⟩ := Finset.mem_map.mp hx
  obtain ⟨b, -, hb⟩ := Finset.mem_map.mp hx'
  have h : 1 + 1 * (a 0).1 = 0 + 1 * (b 0).1 := congrArg (fun z : S2x512x4x128.Idx => (z 0).1) (arg10.view.emb.injective (ha.trans hb.symm))
  have l : (b 0).1 < 1 := (b 0).2
  omega

theorem slots_split {c : Dev nD} {arg10 : Memref sig .tc .vmem S2x512x4x128 .f32} (f : Cont F c arg10) :
    (Pt c arg10 fullShare f : sProp 𝕄) ⊢ iprop(Pt c (slot arg10 0) fullShare f ∗ Pt c (slot arg10 1) fullShare f
      ∗ (arg10.view.loc (c : Thread nD τ) ↦[(arg10.view.set \ (slot arg10 0).view.set) \ (slot arg10 1).view.set]{fullShare} f)) := by
  have h0 : (slot arg10 0).view.set ⊆ arg10.view.set := (slot_set 0).le.trans (View.set_slice_subset _ _)
  iintro H
  icases (pointsTo_split_subset h0).1 $$ H with ⟨H0, H⟩
  icases (pointsTo_split_subset (slot_disj (arg10 := arg10))).1 $$ H with ⟨H1, H⟩
  isplitl [H0]; · iexact H0
  isplitl [H1]; · iexact H1
  iexact H

theorem slots_join {c : Dev nD} {arg10 : Memref sig .tc .vmem S2x512x4x128 .f32} (f : Cont F c arg10) (f0 : Cont F c (slot arg10 0)) (f1 : Cont F c (slot arg10 1)) :
    iprop(Pt c (slot arg10 0) fullShare f0 ∗ Pt c (slot arg10 1) fullShare f1
      ∗ (arg10.view.loc (c : Thread nD τ) ↦[(arg10.view.set \ (slot arg10 0).view.set) \ (slot arg10 1).view.set]{fullShare} f))
      ⊢ iprop(∃ f' : Cont F c arg10, Pt c arg10 fullShare f' : sProp 𝕄) := by
  have h0 : (slot arg10 0).view.set ⊆ arg10.view.set := (slot_set 0).le.trans (View.set_slice_subset _ _)
  iintro ⟨H0, H1, H⟩
  iexists _
  iapply (pointsTo_join_subset h0)
  isplitl [H0]; · iexact H0
  iapply (pointsTo_join_subset (slot_disj (arg10 := arg10)))
  isplitl [H1]; · iexact H1
  iexact H

/-! ## What the program computes -/

/-- One result's column blocks, from the arrays the region finds: the codes of `c`, its scales, and a
    result's codes and token scales. -/
def WACC (cc : S1920x512.Idx → Elt F .fp8e4m3) (cs : S3x4x640.Idx → Elt F .f32) (tok : S30720x128.Idx → Elt F .fp8e5m2) (ts : S15x16x128.Idx → Elt F .f32) :
    Fin 4 → FVec F S512x512 .f32 := ACC tok ts (CT cc cs)

/-- The blocks the body finds staged. -/
abbrev cc0 (c : Dev nD) : S1920x512.Idx → Elt F .fp8e4m3 := rd (c := c) (Memref.whole main_v0) (V m c main_v0)

def A0 (c : Dev nD) (t : Fin cfg0.N) : Fin 4 → FVec F S512x512 .f32 := WACC (cc0 m c) (iblk m c 0 t) (iblk m c 1 t) (iblk m c 2 t)
def A1 (c : Dev nD) (t : Fin cfg0.N) : Fin 4 → FVec F S512x512 .f32 := WACC (cc0 m c) (iblk m c 0 t) (iblk m c 3 t) (iblk m c 4 t)

/-- The unscoped buffers at the end. -/
def G (c : Dev nD) (b : Ref sig .tc) : Buf (Elt F) ((c : Thread nD τ).loc b) :=
  Function.update (Function.update (V m c) main_v6_0 (DW (A0 m c t0_0))) main_v6_1 (DW (A1 m c t0_0)) b

theorem G_0 (c : Dev nD) : G m c main_v6_0 = DW (A0 m c t0_0) := by
  unfold G
  rw [Function.update_of_ne (show main_v6_0 ≠ main_v6_1 by decide), Function.update_self]
theorem G_1 (c : Dev nD) : G m c main_v6_1 = DW (A1 m c t0_0) := by
  unfold G
  rw [Function.update_self]

/-- What the body hands on: at the start the results as the region finds them, at the end finished. -/
def Inv (c : Dev nD) (G : (b : Ref sig .tc) → Buf (Elt F) ((c : Thread nD τ).loc b)) : sProp 𝕄 :=
  iprop(((∃ f : Cont F c (Memref.whole cc0_scratch0), Pt c (Memref.whole cc0_scratch0) fullShare f)
      ∗ (∃ f : Cont F c (Memref.whole cc0_scratch1), Pt c (Memref.whole cc0_scratch1) fullShare f)
      ∗ (∃ f : Cont F c (Memref.whole cc0_scratch2), Pt c (Memref.whole cc0_scratch2) fullShare f))
    ∗ (∃ r, prngReg c r)
    ∗ (semVal ((c : Thread nD τ), SemLoc.dma (semC cc0_scratch3)) 0 ∗ semVal ((c : Thread nD τ), SemLoc.dma (semI cc0_scratch4 0)) 0
          ∗ semVal ((c : Thread nD τ), SemLoc.dma (semI cc0_scratch4 1)) 0)
    ∗ Pt c (Memref.whole main_v0) fullShare (V m c main_v0)
    ∗ (Pt c (Memref.whole main_v6_0) fullShare (G main_v6_0) ∗ Pt c (Memref.whole main_v6_1) fullShare (G main_v6_1)))

theorem inv_eq (c : Dev nD) (G : (c : Dev nD) → (b : Ref sig .tc) → Buf (Elt F) ((c : Thread nD τ).loc b)) :
    Pipeline.ΦDRG osem0 spec0 H0 R0 (V m) G c = Inv m c (G c) := by
  rw [Pipeline.ΦDRG_eq, scopedRest0_eq, ownSems00_eq, hbmPts0_eq, routed0_eq]
  unfold Inv
  simp only [Pt_whole]

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := Inv m c (if t.1 = 0 then V m c else G m c)
  q _ := fullShare
  owed _ := 0

theorem A_eq (c : Dev nD) (w : Fin cfg0.W) : (dats m 0 c).A w = V m c (Pipeline.arrRef spec0 w) := by
  dsimp only [dats]

section
variable (c : Dev nD) (t : Fin cfg0.N)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
end

/-! An input's staging buffer holds its block when the body starts. -/

section
variable {m} {c : Dev nD} (t : Fin cfg0.N)
theorem before0 (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
end

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [body_eq]
  simp only [before0, before1, before2, before3, before4, after0, after1, after2, after3, after4]
  rw [show (dats m 0 c).Φ (Fin.castSucc t0_0) = Inv m c (V m c) from rfl, show (dats m 0 c).Φ (Fin.succ t0_0) = Inv m c (G m c) from rfl]
  unfold Inv
  rw [G_0, G_1]
  unfold Dat.owesAt Pipeline.owesWithin
  rw [show (dats m 0 c).owed (Fin.castSucc t0_0) = 0 from rfl, show (dats m 0 c).owed (Fin.succ t0_0) = 0 from rfl]
  unfold owns
  iintro ⟨⟨⟨⟨%f8, H8⟩, ⟨%f9, H9⟩, ⟨%f10, H10⟩⟩, Hg, ⟨HC, Hs0, Hs1⟩, H0, H6, H7⟩, ⟨%W, -, HW⟩, ⟨%d1, %f1, %e1, H1⟩, ⟨%d2, %f2, %e2, H2⟩, ⟨%d3, %f3, %e3, H3⟩, ⟨%d4, %f4, %e4, H4⟩, ⟨%d5, %f5, %e5, H5⟩⟩
  icases (slots_split f10) $$ H10 with ⟨Ha, Hb, Hr⟩
  have eA : ACC (rd (c := c) (st0_1 t0_0) f2) (rd (c := c) (st0_2 t0_0) f3) (CT (cc0 m c) (rd (c := c) (st0_0 t0_0) f1)) = A0 m c t0_0 := by
    rw [show rd (c := c) (st0_1 t0_0) f2 = _ from e2, show rd (c := c) (st0_2 t0_0) f3 = _ from e3, show rd (c := c) (st0_0 t0_0) f1 = _ from e1]; rfl
  have eB : ACC (rd (c := c) (st0_3 t0_0) f4) (rd (c := c) (st0_4 t0_0) f5) (CT (cc0 m c) (rd (c := c) (st0_0 t0_0) f1)) = A1 m c t0_0 := by
    rw [show rd (c := c) (st0_3 t0_0) f4 = _ from e4, show rd (c := c) (st0_4 t0_0) f5 = _ from e5, show rd (c := c) (st0_0 t0_0) f1 = _ from e1]; rfl
  iapply (body_wp (arg0 := Memref.whole main_v0) (arg1 := st0_0 t0_0) (arg2 := st0_1 t0_0) (arg3 := st0_2 t0_0) (arg4 := st0_3 t0_0) (arg5 := st0_4 t0_0)
    (arg6 := Memref.whole main_v6_0) (arg7 := Memref.whole main_v6_1) (arg8 := Memref.whole cc0_scratch0) (arg9 := Memref.whole cc0_scratch1)
    (arg10 := Memref.whole cc0_scratch2) (arg11 := cc0_scratch3) (arg12 := cc0_scratch4) (f0 := V m c main_v0) (f1 := f1) (f2 := f2) (f3 := f3) (f4 := f4) (f5 := f5) (f8 := f8) (f9 := f9)
    (q1 := fullShare) (q2 := fullShare) (q3 := fullShare) (q4 := fullShare) (q5 := fullShare))
  rw [eA, eB]
  isplitl [H0]; · iexact H0
  isplitl [H1]; · iexact H1
  isplitl [H2 H3 H4 H5 H9]
  · unfold Ops
    isplitl [H2]; · iexact H2
    isplitl [H3]; · iexact H3
    isplitl [H4]; · iexact H4
    isplitl [H5]; · iexact H5
    iexact H9
  isplitl [H8]; · iexact H8
  isplitl [HC]; · iexact HC
  isplitl [H6 Ha Hs0]
  · unfold Idle
    iexists _
    iexists _
    isplitl [H6]; · iexact H6
    isplitl [Ha]; · iexact Ha
    isplitl [Hs0]; · iexact Hs0
    ipureintro
    exact fun _ h => absurd h (Nat.not_lt_zero _)
  isplitl [H7 Hb Hs1]
  · unfold Idle
    iexists _
    iexists _
    isplitl [H7]; · iexact H7
    isplitl [Hb]; · iexact Hb
    isplitl [Hs1]; · iexact Hs1
    ipureintro
    exact fun _ h => absurd h (Nat.not_lt_zero _)
  isplitl [HW]; · iexact HW
  unfold Ops Idle
  iintro %W' %f8' %f9' H0 H1 ⟨H2, H3, H4, H5, H9⟩ H8 HC ⟨%fo, %fa, H6, Ha, Hs0, %ho⟩ ⟨%fp, %fb, H7, Hb, Hs1, %hp⟩ HW
  have eo : fo = DW (A0 m c t0_0) := funext fun y => ho y (y 1).2
  have ep : fp = DW (A1 m c t0_0) := funext fun y => hp y (y 1).2
  rw [eo, ep]
  isplitl [H8 H9 Ha Hb Hr Hg HC Hs0 Hs1 H0 H6 H7]
  · isplitl [H8 H9 Ha Hb Hr]
    · isplitl [H8]; · iexists _; iexact H8
      isplitl [H9]; · iexists _; iexact H9
      iapply (slots_join f10 fa fb)
      isplitl [Ha]; · iexact Ha
      isplitl [Hb]; · iexact Hb
      iexact Hr
    isplitl [Hg]; · iexact Hg
    isplitl [HC Hs0 Hs1]
    · isplitl [HC]; · iexact HC
      isplitl [Hs0]; · iexact Hs0
      iexact Hs1
    isplitl [H0]; · iexact H0
    isplitl [H6]; · iexact H6
    iexact H7
  isplitl [HW]
  · iexists W'; isplitr; · ipureintro; exact fun _ _ => Or.inl trivial
    iexact HW
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists f5; isplitr; · ipureintro; exact e5
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m) (hA := A_eq m) (G := G m)
    (hin := fun c => (inv_eq m c (V m)).le) (hout := fun c => (inv_eq m c (G m)).ge) (hQ' := fun _ h => h)

/-- What every run ends in: the arguments as launched, both results, no semaphore counted. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v6_0) = DW (A0 m c t0_0)
      ∧ r.2.mem ((c.tc : Thread nD τ).loc main_v6_1) = DW (A1 m c t0_0))
      ∧ r.2.sem = fun _ => 0) :=
  (θ_run defs _ _).mono (fun _ h => ⟨fun c =>
    have a (b : Ref sig .tc) (hb : b ∈ Pipeline.restRefs sig spec0 \ R0) := (h.1.1 c).2 b hb
    ⟨⟨(a main_arg0 (by decide)).trans (V_main_arg0 m c), (a main_arg1 (by decide)).trans (V_main_arg1 m c),
      (a main_arg2 (by decide)).trans (V_main_arg2 m c), (a main_arg3 (by decide)).trans (V_main_arg3 m c),
      (a main_arg4 (by decide)).trans (V_main_arg4 m c), (a main_arg5 (by decide)).trans (V_main_arg5 m c)⟩,
      (h.1.2 c main_v6_0 (by decide)).trans (G_0 m c), (h.1.2 c main_v6_1 (by decide)).trans (G_1 m c)⟩, h.2⟩) (run_main m ρ)

end Cert.Kernel.Hand

end
-- ==== Proof.KernelIdeal.Body.lean ====
/- The kernel's body, written again as its loops. The printed body is one straight line of 8525
   statements; here the same operations stand once each, over the loop indices the source has: the 15
   row groups and 4 lane groups of the widened and transposed `c`, the 15 token groups of an
   accumulated product, the 4 column blocks and 2 results of the outer loop. `body_eq` says that the
   printed body is this program. -/
module

public import proofs.«01_k».proof.Proof.Gen.KernelIdeal
public import Idealize.ShloMosaic.Lib.Tactic

@[expose] public section

noncomputable section

namespace Cert.KernelIdeal.Hand

open Idealize.ShloMosaic Idealize.ShloMosaic.TcCoe Idealize.SL.Sem
open Cert.KernelIdeal Cert.KernelIdeal.Gen

variable {F : FTy → Type} [FloatOps F]

/-! ## The rectangles the loops read and write -/

theorem inbCc : ∀ (g : Fin 15) (rb : Fin 4), ∀ a, (![128 * g.1, 128 * rb.1] : Fin 2 → Nat) a + S128x128.size a ≤ S1920x512.size a := by decide
theorem inbCs : ∀ (g : Fin 15) (rb : Fin 4), ∀ a, (![g.1 / 5, rb.1, g.1 % 5 * 128] : Fin 3 → Nat) a + S1x1x128.size a ≤ S3x4x640.size a := by decide
theorem inbCt : ∀ (g : Fin 15) (rb : Fin 4), ∀ a, (![128 * rb.1, 128 * g.1] : Fin 2 → Nat) a + S128x128.size a ≤ S512x1920.size a := by decide
theorem packedCt : ∀ (g : Fin 15) (rb : Fin 4), (Rect.unit (s := S512x1920) ![128 * rb.1, 128 * g.1] S128x128.size (inbCt g rb)).PackedRows (EltTy.packing .bf16) := by decide
theorem inbTok : ∀ (g : Fin 15), ∀ a, (![2048 * g.1, 0] : Fin 2 → Nat) a + S2048x128.size a ≤ S30720x128.size a := by decide
theorem inbTs : ∀ (g : Fin 15) (j k : Fin 4), ∀ a, (![g.1, 4 * j.1 + k.1, 0] : Fin 3 → Nat) a + S1x1x128.size a ≤ S15x16x128.size a := by decide
theorem slicesJ : ∀ (j : Fin 4), S128x4x4x128.Slices ![0, j.1, 0, 0] S128x1x4x128 := by decide
theorem slicesK : ∀ (k : Fin 4), S128x4x128.Slices ![0, k.1, 0] S128x1x128 := by decide
theorem inbPair : ∀ (p : Fin 7), ∀ a, (![0, 256 * p.1] : Fin 2 → Nat) a + S512x256.size a ≤ S512x1920.size a := by decide
theorem inbSlot : ∀ (i : Fin 2), ∀ a, (![i.1, 0, 0, 0] : Fin 4 → Nat) a + S1x512x4x128.size a ≤ S2x512x4x128.size a := by decide
theorem leadingSlot : ∀ (i : Fin 2), (Rect.unit (s := S2x512x4x128) ![i.1, 0, 0, 0] S1x512x4x128.size (inbSlot i)).LeadingBlock := by decide
theorem inbStride : ∀ (k : Fin 4), ∀ a, S512x128.size a = 0 ∨ (![k.1, 0] : Fin 2 → Nat) a + (![4, 1] : Fin 2 → Nat) a * (S512x128.size a - 1) < S2048x128.size a := by decide
theorem slicesAcc : ∀ (k : Fin 4), S512x512.Slices ![0, 128 * k.1] S512x128 := by decide
theorem inbSem : ∀ (i : Fin 2), ∀ a, (![i.1] : Fin 1 → Nat) a + S1.size a ≤ S2.size a := by decide
theorem inbOut : ∀ (j : Fin 4), ∀ a, (![0, j.1, 0, 0] : Fin 4 → Nat) a + S512x1x4x128.size a ≤ S512x4x4x128.size a := by decide

abbrev rCc (g : Fin 15) (rb : Fin 4) : Rect S1920x512 := Rect.unit (s := S1920x512) ![128 * g.1, 128 * rb.1] S128x128.size (inbCc g rb)
abbrev rCs (g : Fin 15) (rb : Fin 4) : Rect S3x4x640 := Rect.unit (s := S3x4x640) ![g.1 / 5, rb.1, g.1 % 5 * 128] S1x1x128.size (inbCs g rb)
abbrev rCt (g : Fin 15) (rb : Fin 4) : Rect S512x1920 := Rect.unit (s := S512x1920) ![128 * rb.1, 128 * g.1] S128x128.size (inbCt g rb)
abbrev rTok (g : Fin 15) : Rect S30720x128 := Rect.unit (s := S30720x128) ![2048 * g.1, 0] S2048x128.size (inbTok g)
abbrev rTs (g : Fin 15) (j k : Fin 4) : Rect S15x16x128 := Rect.unit (s := S15x16x128) ![g.1, 4 * j.1 + k.1, 0] S1x1x128.size (inbTs g j k)
abbrev rPair (p : Fin 7) : Rect S512x1920 := Rect.unit (s := S512x1920) ![0, 256 * p.1] S512x256.size (inbPair p)
abbrev rLast : Rect S512x1920 := Rect.unit (s := S512x1920) ![0, 1792] S512x128.size inb_S512x1920_S512x128_0_1792
abbrev lStride (k : Fin 4) : LoadRect S2048x128 := ⟨![k.1, 0], S512x128.size, ![4, 1], inbStride k⟩
abbrev rStride (k : Fin 4) : Rect S2048x128 := ⟨lStride k, spos_4_1⟩

/-! ## What is computed between the memory operations -/

/-- One 128×128 tile of `c`, widened and turned, times its row of scales. -/
def ctPay (v : Vec F S128x128 .fp8e4m3) (s : Vec F S1x1x128 .f32) : FVec F S128x128 .bf16 :=
  shapeCast S128x128 (mulf (transpose S128x128 [1, 0] (extf .bf16 v bitsLt_fp8e4m3_bf16 : FVec F S128x128 .bf16) transposes_S128x128_p1_0_S128x128)
    (broadcastTo S128x128 (truncf .bf16 (shapeCast S1x128 s shapeCasts_S1x1x128_S1x128 : FVec F S1x128 .f32) bitsLt_bf16_f32 : FVec F S1x128 .bf16) broadcasts_S1x128_S128x128)) shapeCasts_S128x128_S128x128

/-- Column block `j` of the widths of one token group. -/
def codesJ (j : Fin 4) (v : Vec F S2048x128 .fp8e5m2) : FVec F S128x4x128 .fp8e5m2 :=
  shapeCast S128x4x128 (extractStridedSlice S128x1x4x128 ![0, j.1, 0, 0]
    (shapeCast S128x4x4x128 (shapeCast S2048x128 v shapeCasts_S2048x128_S2048x128 : FVec F S2048x128 .fp8e5m2) shapeCasts_S2048x128_S128x4x4x128 : FVec F S128x4x4x128 .fp8e5m2) (slicesJ j) : FVec F S128x1x4x128 .fp8e5m2)
    shapeCasts_S128x1x4x128_S128x4x128

/-- One head's 128 columns of it, widened, times the head's row of scales. -/
def headPay (k : Fin 4) (w : FVec F S128x4x128 .fp8e5m2) (s : Vec F S1x1x128 .f32) : FVec F S128x128 .bf16 :=
  mulf (extf .bf16 (shapeCast S128x128 (extractStridedSlice S128x1x128 ![0, k.1, 0] w (slicesK k) : FVec F S128x1x128 .fp8e5m2) shapeCasts_S128x1x128_S128x128 : FVec F S128x128 .fp8e5m2) bitsLt_fp8e5m2_bf16)
    (broadcastTo S128x128 (truncf .bf16 (shapeCast S1x128 s shapeCasts_S1x1x128_S1x128 : FVec F S1x128 .f32) bitsLt_bf16_f32 : FVec F S1x128 .bf16) broadcasts_S1x128_S128x128)

/-- The four heads side by side: one token group of the right factor. -/
def rhsPay (j : Fin 4) (v : Vec F S2048x128 .fp8e5m2) (s0 s1 s2 s3 : Vec F S1x1x128 .f32) : FVec F S128x512 .bf16 :=
  concatenate S128x512 1 [⟨S128x128, headPay 0 (codesJ j v) s0⟩, ⟨S128x128, headPay 1 (codesJ j v) s1⟩, ⟨S128x128, headPay 2 (codesJ j v) s2⟩, ⟨S128x128, headPay 3 (codesJ j v) s3⟩]
    concatenates_S128x128_S128x128_S128x128_S128x128_S128x512_d1

/-- The product over two token groups. -/
def pairDot (l : Vec F S512x256 .bf16) (a b : FVec F S128x512 .bf16) : FVec F S512x512 .f32 :=
  matmul dot_S512x256_S256x512_S512x512_1_0_0_1_n_n none l
    (concatenate S256x512 0 [⟨S128x512, a⟩, ⟨S128x512, b⟩] concatenates_S128x512_S128x512_S256x512_d0 : FVec F S256x512 .bf16)
    (constant S512x512 .f32 0x00000000#32)

/-- The product over the last token group. -/
def lastDot (l : Vec F S512x128 .bf16) (a : FVec F S128x512 .bf16) : FVec F S512x512 .f32 :=
  matmul dot_S512x128_S128x512_S512x512_1_0_0_1_n_n none l a (constant S512x512 .f32 0x00000000#32)

/-- One head's 128 columns of a finished block. -/
def stPay (k : Fin 4) (acc : FVec F S512x512 .f32) : FVec F S512x128 .f32 :=
  shapeCast S512x128 (extractStridedSlice S512x128 ![0, 128 * k.1] acc (slicesAcc k) : FVec F S512x128 .f32) shapeCasts_S512x128_S512x128

/-! ## The program -/

/-- The kernel's programs. -/
abbrev P (F : FTy → Type) [FloatOps F] (α : Type) : Type _ := Prog (TpuEff nD τ sig (Elt F) Λ₀ .tc) α

/-- The pairs of loop indices of the first loop, in order: 4 lane groups for each of 15 row groups. -/
def gOf (n : ℕ) : Fin 15 := ⟨n / 4 % 15, Nat.mod_lt _ (by decide)⟩
def rbOf (n : ℕ) : Fin 4 := ⟨n % 4, Nat.mod_lt _ (by decide)⟩

section
variable (arg1 : Memref sig .tc .vmem S3x4x640 .f32) (arg8 : Memref sig .tc .vmem S1920x512 .fp8e4m3)
  (arg9 : Memref sig .tc .vmem S512x1920 .bf16) (harg9 : arg9.IsWhole)

/-- One tile: read it and its scales, store it. -/
def ctStep (g : Fin 15) (rb : Fin 4) (k : P F PUnit) : P F PUnit :=
  .op (.load arg8 (rCc g rb).toLoadRect (View.loadsAt_vmem h_S128x128)) fun v =>
  .op (.load arg1 (rCs g rb).toLoadRect (View.loadsAt_vmem h_S1x1x128)) fun s =>
  .op (.load arg9 (rCt g rb).toLoadRect (View.loadsAt_vmem h_S128x128)) fun _ =>
  .op (.store arg9 (rCt g rb) (ctPay v s) Finset.univ (View.stores_vmem h_S128x128 (harg9.storeExact_slice rfl _ (packedCt g rb)) (fun _ => rfl)) (.inl rfl)) fun _ => k

/-- `m` tiles from tile `n` on. -/
def ctLoop : (m n : ℕ) → P F PUnit → P F PUnit
  | 0, _, k => k
  | m + 1, n, k => ctStep arg1 arg8 arg9 harg9 (gOf n) (rbOf n) (ctLoop m (n + 1) k)
end

section
variable (tok : Memref sig .tc .vmem S30720x128 .fp8e5m2) (ts : Memref sig .tc .vmem S15x16x128 .f32)
  (arg9 : Memref sig .tc .vmem S512x1920 .bf16)

/-- One token group of the right factor. -/
def rhs (j : Fin 4) (g : Fin 15) (k : FVec F S128x512 .bf16 → P F PUnit) : P F PUnit :=
  .op (.load tok (rTok g).toLoadRect (View.loadsAt_vmem h_S2048x128)) fun v =>
  .op (.load ts (rTs g j 0).toLoadRect (View.loadsAt_vmem h_S1x1x128)) fun s0 =>
  .op (.load ts (rTs g j 1).toLoadRect (View.loadsAt_vmem h_S1x1x128)) fun s1 =>
  .op (.load ts (rTs g j 2).toLoadRect (View.loadsAt_vmem h_S1x1x128)) fun s2 =>
  .op (.load ts (rTs g j 3).toLoadRect (View.loadsAt_vmem h_S1x1x128)) fun s3 =>
  k (rhsPay j v s0 s1 s2 s3)

/-- The two token groups of pair `p`. -/
def g0 (p : Fin 7) : Fin 15 := ⟨2 * p.1, by omega⟩
def g1 (p : Fin 7) : Fin 15 := ⟨2 * p.1 + 1, by omega⟩
def pOf (n : ℕ) : Fin 7 := ⟨n % 7, Nat.mod_lt _ (by decide)⟩

/-- The product over pair `p`. -/
def pair (j : Fin 4) (p : Fin 7) (k : FVec F S512x512 .f32 → P F PUnit) : P F PUnit :=
  rhs tok ts j (g0 p) fun a => rhs tok ts j (g1 p) fun b =>
  .op (.load arg9 (rPair p).toLoadRect (View.loadsAt_vmem h_S512x256)) fun l => k (pairDot l a b)

/-- `m` pairs from pair `n` on, added to what is there. -/
def pairs (j : Fin 4) : (m n : ℕ) → FVec F S512x512 .f32 → (FVec F S512x512 .f32 → P F PUnit) → P F PUnit
  | 0, _, acc, k => k acc
  | m + 1, n, acc, k => pair tok ts arg9 j (pOf n) fun d => pairs j m (n + 1) (addf acc d) k

/-- The whole sum for column block `j`. -/
def acc (j : Fin 4) (k : FVec F S512x512 .f32 → P F PUnit) : P F PUnit :=
  pair tok ts arg9 j 0 fun d => pairs tok ts arg9 j 6 1 d fun a =>
  rhs tok ts j 14 fun b =>
  .op (.load arg9 rLast.toLoadRect (View.loadsAt_vmem h_S512x128)) fun l => k (addf a (lastDot l b))
end

section
variable (arg10 : Memref sig .tc .vmem S2x512x4x128 .f32) (harg10 : arg10.IsWhole) (out : Memref sig .tc .hbm S512x4x4x128 .f32)
  (arg12 : DmaSems sig S2)

/-- Slot `i` of the staging buffer. -/
abbrev slot (i : Fin 2) : Memref sig .tc .vmem S512x4x128 .f32 :=
  (arg10.slice (Rect.unit (s := S2x512x4x128) ![i.1, 0, 0, 0] S1x512x4x128.size (inbSlot i)) (fun _ => rfl)).squeeze S512x4x128 squeezes_S1x512x4x128_S512x4x128

/-- It, read as 2048 rows. -/
abbrev slotRows (i : Fin 2) : Memref sig .tc .vmem S2048x128 .f32 :=
  (slot arg10 i).reshape S2048x128 reshapes_S512x4x128_S2048x128.1 reshapes_S512x4x128_S2048x128.2 ((View.contiguous_reshape _ _).mpr (harg10.contiguous.slice _ (leadingSlot i)))

/-- Column block `j` of a result. -/
abbrev outJ (j : Fin 4) : Memref sig .tc .hbm S512x4x128 .f32 :=
  (out.slice (Rect.unit (s := S512x4x4x128) ![0, j.1, 0, 0] S512x1x4x128.size (inbOut j)) (fun _ => rfl)).squeeze S512x4x128 squeezes_S512x1x4x128_S512x4x128

/-- Slot `i`'s semaphore. -/
abbrev semI (i : Fin 2) : DmaSem sig := ((arg12.slice (Rect.unit (s := S2) ![i.1] S1.size (inbSem i))).squeeze S_ squeezes_S1_S_).sem

/-- The wait for slot `i`'s copy into column block `j`. -/
def waitOut (i : Fin 2) (j : Fin 4) (k : P F PUnit) : P F PUnit :=
  .op (.waitDma2 (semI arg12 i) (slot arg10 i) (outJ out j) ((View.wordExact_bits rfl).reshape _ _) ((View.wordExact_bits rfl).reshape _ _)) fun _ => k

/-- One head's columns into slot `i`, every fourth row. -/
def put (i : Fin 2) (h : Fin 4) (a : FVec F S512x512 .f32) (k : P F PUnit) : P F PUnit :=
  .op (.load (slotRows arg10 harg10 i) (lStride h) (View.loadsAt_vmem h_S512x128)) fun _ =>
  .op (.store (slotRows arg10 harg10 i) (rStride h) (stPay h a) Finset.univ (View.stores_vmem_bits_univ h_S512x128 rfl) (.inl rfl)) fun _ => k

/-- The four heads into slot `i`, and slot `i` sent to column block `j`. -/
def flush (i : Fin 2) (j : Fin 4) (a : FVec F S512x512 .f32) (k : P F PUnit) : P F PUnit :=
  put arg10 harg10 i 0 a <| put arg10 harg10 i 1 a <| put arg10 harg10 i 2 a <| put arg10 harg10 i 3 a <|
  .op (.enqueueDma (slot arg10 i) (.here (outJ out j)) (.dma (semI arg12 i)) ((View.wordExact_bits rfl).reshape _ _) ((View.wordExact_bits rfl).reshape _ _) ⟨Or.inl rfl, trivial⟩) fun _ => k
end

section
variable (arg0 : Memref sig .tc .hbm S1920x512 .fp8e4m3) (harg0 : arg0.IsWhole) (arg1 : Memref sig .tc .vmem S3x4x640 .f32)
  (arg2 : Memref sig .tc .vmem S30720x128 .fp8e5m2) (arg3 : Memref sig .tc .vmem S15x16x128 .f32)
  (arg4 : Memref sig .tc .vmem S30720x128 .fp8e5m2) (arg5 : Memref sig .tc .vmem S15x16x128 .f32)
  (arg6 arg7 : Memref sig .tc .hbm S512x4x4x128 .f32)
  (arg8 : Memref sig .tc .vmem S1920x512 .fp8e4m3) (harg8 : arg8.IsWhole) (arg9 : Memref sig .tc .vmem S512x1920 .bf16) (harg9 : arg9.IsWhole)
  (arg10 : Memref sig .tc .vmem S2x512x4x128 .f32) (harg10 : arg10.IsWhole) (arg11 : DmaSems sig S1) (arg12 : DmaSems sig S2)

/-- Column blocks after the first: each waits for the slot's last copy. -/
def laterJ (j : Fin 4) (k : P F PUnit) : P F PUnit :=
  acc arg2 arg3 arg9 j fun a => waitOut arg10 arg6 arg12 0 j <| flush arg10 harg10 arg6 arg12 0 j a <|
  acc arg4 arg5 arg9 j fun b => waitOut arg10 arg7 arg12 1 j <| flush arg10 harg10 arg7 arg12 1 j b k

/-- Everything after the tiles. -/
def phase2 : P F PUnit :=
  acc arg2 arg3 arg9 0 fun a => flush arg10 harg10 arg6 arg12 0 0 a <|
  acc arg4 arg5 arg9 0 fun b => flush arg10 harg10 arg7 arg12 1 0 b <|
  laterJ arg2 arg3 arg4 arg5 arg6 arg7 arg9 arg10 harg10 arg12 1 <|
  laterJ arg2 arg3 arg4 arg5 arg6 arg7 arg9 arg10 harg10 arg12 2 <|
  laterJ arg2 arg3 arg4 arg5 arg6 arg7 arg9 arg10 harg10 arg12 3 <|
  waitOut arg10 arg6 arg12 0 0 <| waitOut arg10 arg7 arg12 1 0 <| .ret ⟨⟩

/-- The semaphore of the copy in. -/
abbrev semC : DmaSem sig := ((arg11.slice (Rect.unit (s := S1) ![0] S1.size inb_S1_S1_0)).squeeze S_ squeezes_S1_S_).sem

/-- The body. -/
def body : P F PUnit :=
  .op (.enqueueDma arg0 (.here arg8) (.dma (semC arg11)) harg0.wordExact harg8.wordExact ⟨Or.inl rfl, trivial⟩) fun _ =>
  .op (.waitDma2 (semC arg11) arg0 arg8 harg0.wordExact harg8.wordExact) fun _ =>
  ctLoop arg1 arg8 arg9 harg9 60 0 <|
  phase2 arg2 arg3 arg4 arg5 arg6 arg7 arg9 arg10 harg10 arg12

end

/-- The printed body is this program. -/
theorem body_eq (arg0 : Memref sig .tc .hbm S1920x512 .fp8e4m3) (harg0 : arg0.IsWhole) (arg1 : Memref sig .tc .vmem S3x4x640 .f32) (harg1 : arg1.IsWhole) (arg2 : Memref sig .tc .vmem S30720x128 .fp8e5m2) (harg2 : arg2.IsWhole) (arg3 : Memref sig .tc .vmem S15x16x128 .f32) (harg3 : arg3.IsWhole) (arg4 : Memref sig .tc .vmem S30720x128 .fp8e5m2) (harg4 : arg4.IsWhole) (arg5 : Memref sig .tc .vmem S15x16x128 .f32) (harg5 : arg5.IsWhole) (arg6 : Memref sig .tc .hbm S512x4x4x128 .f32) (harg6 : arg6.IsWhole) (arg7 : Memref sig .tc .hbm S512x4x4x128 .f32) (harg7 : arg7.IsWhole) (arg8 : Memref sig .tc .vmem S1920x512 .fp8e4m3) (harg8 : arg8.IsWhole) (arg9 : Memref sig .tc .vmem S512x1920 .bf16) (harg9 : arg9.IsWhole) (arg10 : Memref sig .tc .vmem S2x512x4x128 .f32) (harg10 : arg10.IsWhole) (arg11 : DmaSems sig S1) (arg12 : DmaSems sig S2) :
    cc0_mla_kv_backward (F := F) arg0 harg0 arg1 harg1 arg2 harg2 arg3 harg3 arg4 harg4 arg5 harg5 arg6 harg6 arg7 harg7 arg8 harg8 arg9 harg9 arg10 harg10 arg11 arg12 =
      body arg0 harg0 arg1 arg2 arg3 arg4 arg5 arg6 arg7 arg8 harg8 arg9 harg9 arg10 harg10 arg11 arg12 := by
  sl_kernel_rfl

end Cert.KernelIdeal.Hand

end
-- ==== Proof.KernelIdeal.Steps.lean ====
/- What each loop of the body does, over one core's separation state: the tiles leave `CT` in the
   turned buffer, an accumulated product is `ACC`, the strided stores leave one column block in a slot
   of the staging buffer, and a copy carries it to its result. -/
module

public import proofs.«01_k».proof.Proof.KernelIdeal.Body
public import Idealize.ShloMosaic.Lib.Pipeline.FrameBody
public import Idealize.ShloMosaic.Lib.Ring
public import Idealize.ShloMosaic.Lib.Transfers
public import Idealize.ShloMosaic.Lib.ValueLayout

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 ix4)
open Cert.KernelIdeal Cert.KernelIdeal.Gen

variable {F : FTy → Type} [FloatOps F]

local notation "𝕄" => MT nD τ sig Unit (Elt F) ℕ (Pipeline.UD sig nD τ) ℕ

/-- Buffer contents under a memref. -/
abbrev Cont (F : FTy → Type) {sp : Space} {s : Shape} {e : EltTy} (c : Dev nD) (m : Memref sig .tc sp s e) : Type :=
  Buf (Elt F) (m.view.loc (c : Thread nD τ))

/-- The elements of a memref, held at `f`. -/
abbrev Pt {sp : Space} {s : Shape} {e : EltTy} (c : Dev nD) (m : Memref sig .tc sp s e) (q : PosShare TreeShare) (f : Cont F c m) : sProp 𝕄 :=
  m.view.loc (c : Thread nD τ) ↦[m.view.set]{q} f

/-- What a memref reads. -/
abbrev rd {sp : Space} {s : Shape} {e : EltTy} {c : Dev nD} (m : Memref sig .tc sp s e) (f : Cont F c m) : s.Idx → Elt F e :=
  m.view.read (Elt F) f

/-- The weakest precondition of a kernel program on core `c`. -/
abbrev WP (c : Dev nD) (p : P F PUnit.{1}) (Q : PUnit.{1} → sProp 𝕄) : sProp 𝕄 :=
  wp frame (wpE (defs₀ (F := F)) Variants.none (c : Thread nD τ) none) Set.univ p Q

variable {c : Dev nD}

/-! ## One memory operation -/

theorem load_step {Q : PUnit.{1} → sProp 𝕄} {s : Shape} {e : EltTy} {m : Memref sig .tc .vmem s e} {r : Rect s} {hl : m.view.LoadsAt r.toLoadRect}
    {k : (r.shape.Idx → Elt F e) → P F PUnit.{1}} {q : PosShare TreeShare} {f : Cont F c m} :
    Pt c m q f ⊢ iprop((Pt c m q f -∗ WP c (k fun x => rd m f (r.emb x)) Q) -∗ WP c (.op (.load m r.toLoadRect hl) k) Q) :=
  wp_load (defs := defs₀ (F := F)) Variants.none (c : Thread nD τ) none (Γ := .empty) Set.univ (Q := Q) (m := m) (r := r.toLoadRect) (hl := hl)
    (k := k) (S := m.view.set) (q := q) (f := f) (View.setOn_subset_set _ _)

theorem store_step {Q : PUnit.{1} → sProp 𝕄} {s : Shape} {e : EltTy} {m : Memref sig .tc .vmem s e} {r : Rect s} {w : r.shape.Idx → Elt F e}
    {ha : (m.access r).Stores Finset.univ} {hx : Finset.univ = Finset.univ ∨ ∀ a, r.stride a = 1} {k : PUnit.{1} → P F PUnit.{1}} {f : Cont F c m} :
    Pt c m fullShare f ⊢ iprop((Pt c m fullShare ((m.access r).write (Elt F) f w Finset.univ) -∗ WP c (k ⟨⟩) Q)
      -∗ WP c (.op (.store m r w Finset.univ ha hx) k) Q) :=
  wp_store (defs := defs₀ (F := F)) Variants.none (c : Thread nD τ) none (Γ := .empty) Set.univ (Q := Q) (m := m) (r := r) (w := w) (Mk := Finset.univ)
    (hx := ha) (hm := hx) (k := k) (S := m.view.set) (f := f) ((View.setOn_subset_set _ _).trans (View.set_slice_subset _ _))

/-! ## The tiles -/

/-- The turned, scaled `c` the tiles make of the codes `cc` and the scales `cs`. -/
def CT (cc : S1920x512.Idx → Elt F .fp8e4m3) (cs : S3x4x640.Idx → Elt F .f32) : S512x1920.Idx → Elt F .bf16 := fun y =>
  ctPay (fun x => cc ((rCc ⟨(y 1).1 / 128, Nat.div_lt_of_lt_mul (y 1).2⟩ ⟨(y 0).1 / 128, Nat.div_lt_of_lt_mul (y 0).2⟩).emb x))
    (fun x => cs ((rCs ⟨(y 1).1 / 128, Nat.div_lt_of_lt_mul (y 1).2⟩ ⟨(y 0).1 / 128, Nat.div_lt_of_lt_mul (y 0).2⟩).emb x))
    (ix2 (⟨(y 0).1 % 128, Nat.mod_lt _ (by decide)⟩ : Fin 128) (⟨(y 1).1 % 128, Nat.mod_lt _ (by decide)⟩ : Fin 128))

theorem CT_emb (cc : S1920x512.Idx → Elt F .fp8e4m3) (cs : S3x4x640.Idx → Elt F .f32) (g : Fin 15) (rb : Fin 4) (x : S128x128.Idx) :
    CT cc cs ((rCt g rb).emb x) = ctPay (fun x => cc ((rCc g rb).emb x)) (fun x => cs ((rCs g rb).emb x)) x := by
  have h0 : (((rCt g rb).emb x) 0).1 = 128 * rb.1 + (x 0).1 := by
    show 128 * rb.1 + 1 * (x 0).1 = _; omega
  have h1 : (((rCt g rb).emb x) 1).1 = 128 * g.1 + (x 1).1 := by
    show 128 * g.1 + 1 * (x 1).1 = _; omega
  have l0 : (x 0).1 < 128 := (x 0).2
  have l1 : (x 1).1 < 128 := (x 1).2
  have hg : (⟨(((rCt g rb).emb x) 1).1 / 128, Nat.div_lt_of_lt_mul (((rCt g rb).emb x) 1).2⟩ : Fin 15) = g := Fin.ext (by show (((rCt g rb).emb x) 1).1 / 128 = g.1; rw [h1]; omega)
  have hr : (⟨(((rCt g rb).emb x) 0).1 / 128, Nat.div_lt_of_lt_mul (((rCt g rb).emb x) 0).2⟩ : Fin 4) = rb := Fin.ext (by show (((rCt g rb).emb x) 0).1 / 128 = rb.1; rw [h0]; omega)
  unfold CT
  rw [hg, hr]
  congr 1
  funext a
  apply Fin.ext
  match a with
  | ⟨0, _⟩ => show (((rCt g rb).emb x) 0).1 % 128 = (x 0).1; rw [h0]; omega
  | ⟨1, _⟩ => show (((rCt g rb).emb x) 1).1 % 128 = (x 1).1; rw [h1]; omega

section
variable {arg1 : Memref sig .tc .vmem S3x4x640 .f32} {arg8 : Memref sig .tc .vmem S1920x512 .fp8e4m3}
  {arg9 : Memref sig .tc .vmem S512x1920 .bf16} {harg9 : arg9.IsWhole}
  {q1 q8 : PosShare TreeShare} {f1 : Cont F c arg1} {f8 : Cont F c arg8}

/-- The first `n` tiles are there. -/
def CtOk (f1 : Cont F c arg1) (f8 : Cont F c arg8) (n : ℕ) (f9 : Cont F c arg9) : Prop :=
  ∀ y : S512x1920.Idx, 4 * ((y 1).1 / 128) + (y 0).1 / 128 < n → rd arg9 f9 y = CT (rd arg8 f8) (rd arg1 f1) y

theorem ctStep_wp {Q : PUnit.{1} → sProp 𝕄} {k : P F PUnit.{1}} {n : ℕ} (hn : n < 60) {f9 : Cont F c arg9} (h : CtOk f1 f8 n f9) :
    iprop(Pt c arg1 q1 f1 ∗ Pt c arg8 q8 f8 ∗ Pt c arg9 fullShare f9
      ∗ (∀ f9', ⌜CtOk f1 f8 (n + 1) f9'⌝ -∗ Pt c arg1 q1 f1 -∗ Pt c arg8 q8 f8 -∗ Pt c arg9 fullShare f9' -∗ WP c k Q))
      ⊢ WP c (ctStep arg1 arg8 arg9 harg9 (gOf n) (rbOf n) k) Q := by
  unfold ctStep
  iintro ⟨H1, H8, H9, Hk⟩
  iapply load_step $$ H8; iintro H8
  iapply load_step $$ H1; iintro H1
  iapply load_step $$ H9; iintro H9
  iapply store_step $$ H9; iintro H9
  suffices hs : CtOk f1 f8 (n + 1) _ by iapply Hk $$ %_ %hs H1 H8 H9
  intro y hy
  by_cases hm : y ∈ (Finset.univ : Finset S128x128.Idx).map (rCt (gOf n) (rbOf n)).emb
  · obtain ⟨x, -, rfl⟩ := Finset.mem_map.mp hm
    rw [CT_emb]
    exact View.read_slice_write_emb _ _ _ (Finset.mem_univ x)
  · rw [← h y ?_]
    · exact View.read_slice_write_of_not_mem _ _ _ _ hm
    · by_contra hlt
      have e : 4 * ((y 1).1 / 128) + (y 0).1 / 128 = n := by omega
      have l0 : (y 0).1 < 512 := (y 0).2
      have l1 : (y 1).1 < 1920 := (y 1).2
      apply hm
      refine Finset.mem_map.mpr ⟨ix2 (⟨(y 0).1 % 128, Nat.mod_lt _ (by decide)⟩ : Fin 128) (⟨(y 1).1 % 128, Nat.mod_lt _ (by decide)⟩ : Fin 128), Finset.mem_univ _, ?_⟩
      funext a
      apply Fin.ext
      match a with
      | ⟨0, _⟩ => show 128 * (n % 4) + 1 * ((y 0).1 % 128) = (y 0).1; omega
      | ⟨1, _⟩ => show 128 * (n / 4 % 15) + 1 * ((y 1).1 % 128) = (y 1).1; omega

theorem ctLoop_wp {Q : PUnit.{1} → sProp 𝕄} {k : P F PUnit.{1}} (m : ℕ) : ∀ (n : ℕ) (hn : n + m ≤ 60) (f9 : Cont F c arg9) (h : CtOk f1 f8 n f9),
    iprop(Pt c arg1 q1 f1 ∗ Pt c arg8 q8 f8 ∗ Pt c arg9 fullShare f9
      ∗ (∀ f9', ⌜CtOk f1 f8 (n + m) f9'⌝ -∗ Pt c arg1 q1 f1 -∗ Pt c arg8 q8 f8 -∗ Pt c arg9 fullShare f9' -∗ WP c k Q))
      ⊢ WP c (ctLoop arg1 arg8 arg9 harg9 m n k) Q := by
  induction m with
  | zero =>
    intro n hn f9 h
    unfold ctLoop
    iintro ⟨H1, H8, H9, Hk⟩
    iapply Hk $$ %_ %h H1 H8 H9
  | succ m ih =>
    intro n hn f9 h
    unfold ctLoop
    iintro ⟨H1, H8, H9, Hk⟩
    iapply (ctStep_wp (by omega) h)
    isplitl [H1]; · iexact H1
    isplitl [H8]; · iexact H8
    isplitl [H9]; · iexact H9
    iintro %f9' %h' H1 H8 H9
    iapply (ih (n + 1) (by omega) f9' h')
    isplitl [H1]; · iexact H1
    isplitl [H8]; · iexact H8
    isplitl [H9]; · iexact H9
    iintro %f %hf H1 H8 H9
    have hf' : CtOk f1 f8 (n + (m + 1)) f := by
      rw [show n + (m + 1) = n + 1 + m by omega]
      exact hf
    iapply Hk $$ %_ %hf' H1 H8 H9
end

/-! ## The accumulated product -/

section
variable (tok : S30720x128.Idx → Elt F .fp8e5m2) (ts : S15x16x128.Idx → Elt F .f32) (ct : S512x1920.Idx → Elt F .bf16)

/-- One token group of the right factor. -/
def RHS (j : Fin 4) (g : Fin 15) : FVec F S128x512 .bf16 :=
  rhsPay j (fun x => tok ((rTok g).emb x)) (fun x => ts ((rTs g j 0).emb x)) (fun x => ts ((rTs g j 1).emb x))
    (fun x => ts ((rTs g j 2).emb x)) (fun x => ts ((rTs g j 3).emb x))

/-- The product over pair `p` of token groups. -/
def PAIR (j : Fin 4) (p : Fin 7) : FVec F S512x512 .f32 :=
  pairDot (fun x => ct ((rPair p).emb x)) (RHS tok ts j (g0 p)) (RHS tok ts j (g1 p))

/-- `m` pairs from pair `n` on, added to what is there. -/
def PAIRS (j : Fin 4) : (m n : ℕ) → FVec F S512x512 .f32 → FVec F S512x512 .f32
  | 0, _, a => a
  | m + 1, n, a => PAIRS j m (n + 1) (addf a (PAIR tok ts ct j (pOf n)))

/-- The whole sum for column block `j`. -/
def ACC (j : Fin 4) : FVec F S512x512 .f32 :=
  addf (PAIRS tok ts ct j 6 1 (PAIR tok ts ct j 0)) (lastDot (fun x => ct (rLast.emb x)) (RHS tok ts j 14))
end

section
variable {tok : Memref sig .tc .vmem S30720x128 .fp8e5m2} {ts : Memref sig .tc .vmem S15x16x128 .f32}
  {arg9 : Memref sig .tc .vmem S512x1920 .bf16} {qt qs : PosShare TreeShare} {ft : Cont F c tok} {fs : Cont F c ts} {f9 : Cont F c arg9}

theorem rhs_wp {Q : PUnit.{1} → sProp 𝕄} {j : Fin 4} {g : Fin 15} {k : FVec F S128x512 .bf16 → P F PUnit.{1}} :
    iprop(Pt c tok qt ft ∗ Pt c ts qs fs
      ∗ (Pt c tok qt ft -∗ Pt c ts qs fs -∗ WP c (k (RHS (rd tok ft) (rd ts fs) j g)) Q))
      ⊢ WP c (rhs tok ts j g k) Q := by
  unfold rhs
  iintro ⟨Ht, Hs, Hk⟩
  iapply load_step $$ Ht; iintro Ht
  iapply load_step $$ Hs; iintro Hs
  iapply load_step $$ Hs; iintro Hs
  iapply load_step $$ Hs; iintro Hs
  iapply load_step $$ Hs; iintro Hs
  iapply Hk $$ Ht Hs

theorem pair_wp {Q : PUnit.{1} → sProp 𝕄} {j : Fin 4} {p : Fin 7} {k : FVec F S512x512 .f32 → P F PUnit.{1}} :
    iprop(Pt c tok qt ft ∗ Pt c ts qs fs ∗ Pt c arg9 fullShare f9
      ∗ (Pt c tok qt ft -∗ Pt c ts qs fs -∗ Pt c arg9 fullShare f9 -∗ WP c (k (PAIR (rd tok ft) (rd ts fs) (rd arg9 f9) j p)) Q))
      ⊢ WP c (pair tok ts arg9 j p k) Q := by
  unfold pair
  iintro ⟨Ht, Hs, H9, Hk⟩
  iapply rhs_wp
  isplitl [Ht]; · iexact Ht
  isplitl [Hs]; · iexact Hs
  iintro Ht Hs
  iapply rhs_wp
  isplitl [Ht]; · iexact Ht
  isplitl [Hs]; · iexact Hs
  iintro Ht Hs
  iapply load_step $$ H9; iintro H9
  iapply Hk $$ Ht Hs H9

theorem pairs_wp {Q : PUnit.{1} → sProp 𝕄} {j : Fin 4} {k : FVec F S512x512 .f32 → P F PUnit.{1}} (m : ℕ) : ∀ (n : ℕ) (a : FVec F S512x512 .f32),
    iprop(Pt c tok qt ft ∗ Pt c ts qs fs ∗ Pt c arg9 fullShare f9
      ∗ (Pt c tok qt ft -∗ Pt c ts qs fs -∗ Pt c arg9 fullShare f9 -∗ WP c (k (PAIRS (rd tok ft) (rd ts fs) (rd arg9 f9) j m n a)) Q))
      ⊢ WP c (pairs tok ts arg9 j m n a k) Q := by
  induction m with
  | zero =>
    intro n a
    unfold pairs PAIRS
    iintro ⟨Ht, Hs, H9, Hk⟩
    iapply Hk $$ Ht Hs H9
  | succ m ih =>
    intro n a
    unfold pairs PAIRS
    iintro ⟨Ht, Hs, H9, Hk⟩
    iapply pair_wp
    isplitl [Ht]; · iexact Ht
    isplitl [Hs]; · iexact Hs
    isplitl [H9]; · iexact H9
    iintro Ht Hs H9
    iapply (ih (n + 1) _)
    isplitl [Ht]; · iexact Ht
    isplitl [Hs]; · iexact Hs
    isplitl [H9]; · iexact H9
    iexact Hk

theorem acc_wp {Q : PUnit.{1} → sProp 𝕄} {j : Fin 4} {k : FVec F S512x512 .f32 → P F PUnit.{1}} :
    iprop(Pt c tok qt ft ∗ Pt c ts qs fs ∗ Pt c arg9 fullShare f9
      ∗ (Pt c tok qt ft -∗ Pt c ts qs fs -∗ Pt c arg9 fullShare f9 -∗ WP c (k (ACC (rd tok ft) (rd ts fs) (rd arg9 f9) j)) Q))
      ⊢ WP c (acc tok ts arg9 j k) Q := by
  unfold acc
  iintro ⟨Ht, Hs, H9, Hk⟩
  iapply pair_wp
  isplitl [Ht]; · iexact Ht
  isplitl [Hs]; · iexact Hs
  isplitl [H9]; · iexact H9
  iintro Ht Hs H9
  iapply (pairs_wp 6 1 _)
  isplitl [Ht]; · iexact Ht
  isplitl [Hs]; · iexact Hs
  isplitl [H9]; · iexact H9
  iintro Ht Hs H9
  iapply rhs_wp
  isplitl [Ht]; · iexact Ht
  isplitl [Hs]; · iexact Hs
  iintro Ht Hs
  iapply load_step $$ H9; iintro H9
  iapply Hk $$ Ht Hs H9
end

end Cert.KernelIdeal.Hand

end
-- ==== Proof.KernelIdeal.Copies.lean ====
/- A finished column block on its way to its result: the strided stores leave it in a slot of the
   staging buffer, the copy carries the slot to the block, and the wait hands both back. -/
module

public import proofs.«01_k».proof.Proof.KernelIdeal.Steps

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Cert.KernelIdeal Cert.KernelIdeal.Gen

variable {F : FTy → Type} [FloatOps F]

local notation "𝕄" => MT nD τ sig Unit (Elt F) ℕ (Pipeline.UD sig nD τ) ℕ

variable {c : Dev nD}

/-- The counters a copy's flight is kept in. -/
abbrev EC : UEmb Counters 𝕄 := countersEmb (U := Pipeline.UD sig nD τ)

theorem stPay_apply (h : Fin 4) (a : FVec F S512x512 .f32) (x : S512x128.Idx) :
    stPay h a x = a (ix2 (⟨(x 0).1, (x 0).2⟩ : Fin 512) (⟨128 * h.1 + (x 1).1, by have : (x 1).1 < 128 := (x 1).2; omega⟩ : Fin 512)) := by
  unfold stPay
  refine (congrArg _ (Shape.reshapeEquiv_self _ x)).trans ?_
  show a _ = a _
  congr 1
  funext b
  apply Fin.ext
  match b with
  | ⟨0, _⟩ => show 0 + (x 0).1 = (x 0).1; omega
  | ⟨1, _⟩ => rfl

section
variable {arg10 : Memref sig .tc .vmem S2x512x4x128 .f32} {harg10 : arg10.IsWhole} {i : Fin 2}

/-- The heads below `n` of block `a` are in the slot. -/
def StOk (n : ℕ) (a : FVec F S512x512 .f32) (f : Cont F c (slot arg10 i)) : Prop :=
  ∀ y : S512x4x128.Idx, (y 1).1 < n → rd (slot arg10 i) f y
    = a (ix2 (⟨(y 0).1, (y 0).2⟩ : Fin 512) (⟨128 * (y 1).1 + (y 2).1, by have h1 : (y 1).1 < 4 := (y 1).2; have h2 : (y 2).1 < 128 := (y 2).2; omega⟩ : Fin 512))

theorem read_reshape {κ : Kind} {sp : Space} {s s' : Shape} {e : EltTy} (v : View sig κ sp s e) (h : s'.numel = s.numel)
    (f : v.ty.Contents (Elt F)) (x : s'.Idx) : (v.reshape s' h).read (Elt F) f x = v.read (Elt F) f (Shape.reshapeEquiv h x) := rfl

/-- The row of the slot that holds row `r`, head `h`. -/
theorem rows_eq {h : S2048x128.numel = S512x4x128.numel} (y : S512x4x128.Idx) (x : S2048x128.Idx)
    (h0 : (x 0).1 = 4 * (y 0).1 + (y 1).1) (h1 : (x 1).1 = (y 2).1) : Shape.reshapeEquiv h x = y := by
  apply Shape.reshapeEquiv_eq_of_rowMajor
  rw [Shape.rowMajor_val_three, Shape.rowMajor_val_two, h0, h1]
  show ((y 0).1 * 4 + (y 1).1) * 128 + (y 2).1 = (4 * (y 0).1 + (y 1).1) * 128 + (y 2).1
  omega

theorem stOk_write {h : Fin 4} {a : FVec F S512x512 .f32} {f : Cont F c (slot arg10 i)} (hf : StOk h.1 a f) :
    StOk (c := c) (arg10 := arg10) (i := i) (h.1 + 1) a (((slotRows arg10 harg10 i).access (rStride h)).write (Elt F) f (stPay h a) Finset.univ) := by
  intro y hy
  have l0 : (y 0).1 < 512 := (y 0).2
  have l1 : (y 1).1 < 4 := (y 1).2
  have l2 : (y 2).1 < 128 := (y 2).2
  have e : Shape.reshapeEquiv reshapes_S512x4x128_S2048x128.1 (ix2 (⟨4 * (y 0).1 + (y 1).1, by omega⟩ : Fin 2048) (⟨(y 2).1, l2⟩ : Fin 128)) = y :=
    rows_eq y _ rfl rfl
  have hrd : ∀ f' : Cont F c (slot arg10 i), rd (slot arg10 i) f' y
      = (slotRows arg10 harg10 i).view.read (Elt F) f' (ix2 (⟨4 * (y 0).1 + (y 1).1, by omega⟩ : Fin 2048) (⟨(y 2).1, l2⟩ : Fin 128)) := fun f' => by
    refine Eq.trans ?_ (read_reshape (slot arg10 i).view reshapes_S512x4x128_S2048x128.1 f' _).symm
    rw [e]
  rw [hrd]
  by_cases hm : (y 1).1 = h.1
  · have ey : (ix2 (⟨4 * (y 0).1 + (y 1).1, by omega⟩ : Fin 2048) (⟨(y 2).1, l2⟩ : Fin 128) : S2048x128.Idx)
        = (rStride h).emb (ix2 (⟨(y 0).1, l0⟩ : Fin 512) (⟨(y 2).1, l2⟩ : Fin 128) : S512x128.Idx) := by
      funext b
      apply Fin.ext
      match b with
      | ⟨0, _⟩ => show 4 * (y 0).1 + (y 1).1 = h.1 + 4 * (y 0).1; omega
      | ⟨1, _⟩ => show (y 2).1 = 0 + 1 * (y 2).1; omega
    rw [ey]
    refine (View.read_slice_write_emb _ _ _ (Finset.mem_univ _)).trans ((stPay_apply _ _ _).trans ?_)
    congr 2
    apply Fin.ext
    show 128 * h.1 + (y 2).1 = 128 * (y 1).1 + (y 2).1
    rw [hm]
  · rw [View.read_slice_write_of_not_mem]
    · rw [← hrd]
      exact hf y (by omega)
    · intro hx
      obtain ⟨x, -, hx⟩ := Finset.mem_map.mp hx
      have h0 := congrArg (fun z : S2048x128.Idx => (z 0).1) hx
      have h0' : h.1 + 4 * (x 0).1 = 4 * (y 0).1 + (y 1).1 := h0
      omega

theorem put_wp {Q : PUnit.{1} → sProp 𝕄} {h : Fin 4} {a : FVec F S512x512 .f32} {k : P F PUnit.{1}} {f : Cont F c (slot arg10 i)} (hf : StOk h.1 a f) :
    iprop(Pt c (slot arg10 i) fullShare f ∗ (∀ f' : Cont F c (slot arg10 i), ⌜StOk (h.1 + 1) a f'⌝ -∗ Pt c (slot arg10 i) fullShare f' -∗ WP c k Q))
      ⊢ WP c (put arg10 harg10 i h a k) Q := by
  have hset : (slotRows arg10 harg10 i).view.set ⊆ (slot arg10 i).view.set := (View.set_reshape _ _).le
  unfold put
  iintro ⟨H, Hk⟩
  iapply (wp_load (defs := defs₀ (F := F)) Variants.none (c : Thread nD τ) none (Γ := .empty) Set.univ (Q := Q) (m := slotRows arg10 harg10 i) (r := lStride h)
    (S := (slot arg10 i).view.set) (q := fullShare) (f := f) ((View.setOn_subset_set _ _).trans hset)) $$ H
  iintro H
  iapply (wp_store (defs := defs₀ (F := F)) Variants.none (c : Thread nD τ) none (Γ := .empty) Set.univ (Q := Q) (m := slotRows arg10 harg10 i) (r := rStride h)
    (w := stPay h a) (Mk := Finset.univ) (S := (slot arg10 i).view.set) (f := f)
    (((View.setOn_subset_set _ _).trans (View.set_slice_subset _ _)).trans hset)) $$ H
  iintro H
  have hs := stOk_write (harg10 := harg10) hf
  iapply Hk $$ %_ %hs H

end

section
variable {arg10 : Memref sig .tc .vmem S2x512x4x128 .f32} {harg10 : arg10.IsWhole} {i : Fin 2}
  {out : Memref sig .tc .hbm S512x4x4x128 .f32} {arg12 : DmaSems sig S2}

/-- The result whose column blocks are `A`. -/
def DW (A : Fin 4 → FVec F S512x512 .f32) : S512x4x4x128.Idx → Elt F .f32 := fun y =>
  A ⟨(y 1).1, (y 1).2⟩ (ix2 (⟨(y 0).1, (y 0).2⟩ : Fin 512)
    (⟨128 * (y 2).1 + (y 3).1, by have h1 : (y 2).1 < 4 := (y 2).2; have h2 : (y 3).1 < 128 := (y 3).2; omega⟩ : Fin 512))

/-- The column blocks below `j` are in the result. -/
def OutOk (A : Fin 4 → FVec F S512x512 .f32) (j : ℕ) (f : Cont F c out) : Prop :=
  ∀ y : S512x4x4x128.Idx, (y 1).1 < j → rd out f y = DW A y

theorem outOk_write {A : Fin 4 → FVec F S512x512 .f32} {j : Fin 4} {fo : Cont F c out} {fs : Cont F c (slot arg10 i)}
    (ho : OutOk A j.1 fo) (hs : StOk 4 (A j) fs) :
    OutOk (c := c) (out := out) A (j.1 + 1) ((outJ out j).view.write (Elt F) fo (rd (slot arg10 i) fs) Finset.univ) := by
  intro y hy
  have l0 : (y 0).1 < 512 := (y 0).2
  have l1 : (y 1).1 < 4 := (y 1).2
  have l2 : (y 2).1 < 4 := (y 2).2
  have l3 : (y 3).1 < 128 := (y 3).2
  by_cases hm : (y 1).1 = j.1
  · have hre : ∀ h : S512x4x128.numel = S512x1x4x128.numel, Shape.reshapeEquiv h (ix3 (⟨(y 0).1, l0⟩ : Fin 512) (⟨(y 2).1, l2⟩ : Fin 4) (⟨(y 3).1, l3⟩ : Fin 128))
        = (ix4 (⟨(y 0).1, l0⟩ : Fin 512) (0 : Fin 1) (⟨(y 2).1, l2⟩ : Fin 4) (⟨(y 3).1, l3⟩ : Fin 128) : S512x1x4x128.Idx) := fun h => by
      apply Shape.reshapeEquiv_eq_of_rowMajor
      rw [Shape.rowMajor_val_three, Shape.rowMajor_val_four]
      show (((y 0).1 * 1 + 0) * 4 + (y 2).1) * 128 + (y 3).1 = ((y 0).1 * 4 + (y 2).1) * 128 + (y 3).1
      omega
    have hy' : y = (Rect.unit (s := S512x4x4x128) ![0, j.1, 0, 0] S512x1x4x128.size (inbOut j)).emb
        (Shape.reshapeEquiv squeezes_S512x1x4x128_S512x4x128.numel_eq (ix3 (⟨(y 0).1, l0⟩ : Fin 512) (⟨(y 2).1, l2⟩ : Fin 4) (⟨(y 3).1, l3⟩ : Fin 128))) := by
      rw [hre]
      funext b
      apply Fin.ext
      match b with
      | ⟨0, _⟩ => show (y 0).1 = 0 + 1 * (y 0).1; omega
      | ⟨1, _⟩ => show (y 1).1 = j.1 + 1 * 0; omega
      | ⟨2, _⟩ => show (y 2).1 = 0 + 1 * (y 2).1; omega
      | ⟨3, _⟩ => show (y 3).1 = 0 + 1 * (y 3).1; omega
    have e1 : rd (c := c) out ((outJ out j).view.write (Elt F) fo (rd (slot arg10 i) fs) Finset.univ) y
        = rd (slot arg10 i) fs (ix3 (⟨(y 0).1, l0⟩ : Fin 512) (⟨(y 2).1, l2⟩ : Fin 4) (⟨(y 3).1, l3⟩ : Fin 128)) := by
      refine (congrArg _ hy').trans ?_
      exact congrFun (View.read_write_univ (v := (outJ out j).view) fo (rd (slot arg10 i) fs)) _
    rw [e1, hs _ l2]
    unfold DW
    rw [show (⟨(y 1).1, (y 1).2⟩ : Fin 4) = j from Fin.ext hm]
  · rw [← ho y (by omega)]
    refine View.read_congr_at (v := out.view) y (View.write_of_not_mem _ _ _ fun hx => ?_)
    rw [show (outJ out j).view.setOn Finset.univ = (out.view.slice (Rect.unit (s := S512x4x4x128) ![0, j.1, 0, 0] S512x1x4x128.size (inbOut j))).set
      from View.set_reshape _ _] at hx
    obtain ⟨x, -, hx⟩ := Finset.mem_map.mp hx
    have h1 : j.1 + 1 * (x 1).1 = (y 1).1 := congrArg (fun z : S512x4x4x128.Idx => (z 1).1) (out.view.emb.injective hx)
    have l : (x 1).1 < 1 := (x 1).2
    omega

theorem outJ_sub (j : Fin 4) : (outJ out j).view.set ⊆ out.view.set :=
  (View.set_reshape _ _).le.trans (View.set_slice_subset _ _)

/-- Slot `i` and its result are here, the column blocks below `j` done. -/
def Idle (c : Dev nD) (arg10 : Memref sig .tc .vmem S2x512x4x128 .f32) (out : Memref sig .tc .hbm S512x4x4x128 .f32) (arg12 : DmaSems sig S2)
    (i : Fin 2) (A : Fin 4 → FVec F S512x512 .f32) (j : ℕ) : sProp 𝕄 :=
  iprop(∃ fo : Cont F c out, ∃ fs : Cont F c (slot arg10 i), Pt c out fullShare fo ∗ Pt c (slot arg10 i) fullShare fs
    ∗ semVal ((c : Thread nD τ), .dma (semI arg12 i)) 0 ∗ ⌜OutOk A j fo⌝)

/-- Slot `i`'s copy is under way, and brings the column blocks below `j`. -/
def Flying (c : Dev nD) (arg10 : Memref sig .tc .vmem S2x512x4x128 .f32) (out : Memref sig .tc .hbm S512x4x4x128 .f32) (arg12 : DmaSems sig S2)
    (i : Fin 2) (A : Fin 4 → FVec F S512x512 .f32) (j : ℕ) : sProp 𝕄 :=
  iprop(∃ fo : Cont F c out, ∃ fs : Cont F c (slot arg10 i),
    Transfers.Flight EC (c : Thread nD τ) (.dma (semI arg12 i)) () (outJ out 0).view.dmaCredit (iprop(Pt c out fullShare fo ∗ Pt c (slot arg10 i) fullShare fs))
    ∗ ⌜OutOk A j fo⌝)

theorem flush_wp {Q : PUnit.{1} → sProp 𝕄} {A : Fin 4 → FVec F S512x512 .f32} {j : Fin 4} {k : P F PUnit.{1}} :
    iprop(Idle c arg10 out arg12 i A j.1 ∗ (Flying c arg10 out arg12 i A (j.1 + 1) -∗ WP c k Q))
      ⊢ WP c (flush arg10 harg10 out arg12 i j (A j) k) Q := by
  unfold flush Idle
  iintro ⟨⟨%fo, %fs, Ho, Hs, Hsem, %ho⟩, Hk⟩
  have h0 : StOk (c := c) (arg10 := arg10) (i := i) 0 (A j) fs := fun _ h => absurd h (Nat.not_lt_zero _)
  iapply (put_wp (h := 0) h0)
  isplitl [Hs]; · iexact Hs
  iintro %f1 %h1 Hs
  iapply (put_wp (h := 1) h1)
  isplitl [Hs]; · iexact Hs
  iintro %f2 %h2 Hs
  iapply (put_wp (h := 2) h2)
  isplitl [Hs]; · iexact Hs
  iintro %f3 %h3 Hs
  iapply (put_wp (h := 3) h3)
  isplitl [Hs]; · iexact Hs
  iintro %f4 %h4 Hs
  iapply (Transfers.wp_dmaLocal (defs := defs₀ (F := F)) (Q := Q) EC Variants.none (c : Thread nD τ) none () (outJ out 0).view.dmaCredit
    (src := slot arg10 i) (dst := outJ out j) (Sd := out.view.set) (fs := f4) (fd := fo)
    rfl (View.dmaCredit_pos _ (by decide)) (outJ_sub j)) $$ [Hs Ho Hsem]
  · isplitl [Hs]; · iexact Hs
    isplitl [Ho]; · iexact Ho
    iexact Hsem
  iintro Hf
  iapply Hk
  unfold Flying
  iexists _
  iexists f4
  isplitl [Hf]; · iexact Hf
  ipureintro
  exact outOk_write ho h4

theorem waitOut_wp {Q : PUnit.{1} → sProp 𝕄} {A : Fin 4 → FVec F S512x512 .f32} {n : ℕ} {j : Fin 4} {k : P F PUnit.{1}} {W : Waits sig Unit} :
    iprop(Flying c arg10 out arg12 i A n ∗ owes (c : Thread nD τ) 0 W
      ∗ (∀ W' : Waits sig Unit, Idle c arg10 out arg12 i A n -∗ owes (c : Thread nD τ) 0 W' -∗ WP c k Q))
      ⊢ WP c (waitOut arg10 out arg12 i j k) Q := by
  unfold waitOut Flying
  iintro ⟨⟨%fo, %fs, Hf, %ho⟩, HW, Hk⟩
  iapply (Transfers.wp_waitLocal (defs := defs₀ (F := F)) (Q := Q) EC Variants.none (c : Thread nD τ) none (srcw := slot arg10 i) (dstw := outJ out j) (hsrc := (View.wordExact_bits rfl).reshape _ _) (hdst := (View.wordExact_bits rfl).reshape _ _) () (N := (outJ out 0).view.dmaCredit) rfl) $$ [Hf HW]
  · isplitl [Hf]; · iexact Hf
    iexact HW
  iintro ⟨⟨Ho, Hs⟩, Hsem, HW⟩
  iapply Hk $$ %_ [Ho Hs Hsem] HW
  unfold Idle
  iexists fo
  iexists fs
  isplitl [Ho]; · iexact Ho
  isplitl [Hs]; · iexact Hs
  isplitl [Hsem]; · iexact Hsem
  ipureintro
  exact ho

end

end Cert.KernelIdeal.Hand

end
-- ==== Proof.KernelIdeal.Run.lean ====
/- The whole body over one core's separation state: both results end at the column blocks `ACC`
   makes of the operands, the operands as they were, every semaphore at zero. -/
module

public import proofs.«01_k».proof.Proof.KernelIdeal.Copies

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Cert.KernelIdeal Cert.KernelIdeal.Gen

variable {F : FTy → Type} [FloatOps F]

local notation "𝕄" => MT nD τ sig Unit (Elt F) ℕ (Pipeline.UD sig nD τ) ℕ

variable {c : Dev nD}

variable {arg0 : Memref sig .tc .hbm S1920x512 .fp8e4m3} {harg0 : arg0.IsWhole} {arg1 : Memref sig .tc .vmem S3x4x640 .f32}
  {arg2 : Memref sig .tc .vmem S30720x128 .fp8e5m2} {arg3 : Memref sig .tc .vmem S15x16x128 .f32}
  {arg4 : Memref sig .tc .vmem S30720x128 .fp8e5m2} {arg5 : Memref sig .tc .vmem S15x16x128 .f32}
  {arg6 arg7 : Memref sig .tc .hbm S512x4x4x128 .f32}
  {arg8 : Memref sig .tc .vmem S1920x512 .fp8e4m3} {harg8 : arg8.IsWhole} {arg9 : Memref sig .tc .vmem S512x1920 .bf16} {harg9 : arg9.IsWhole}
  {arg10 : Memref sig .tc .vmem S2x512x4x128 .f32} {harg10 : arg10.IsWhole} {arg11 : DmaSems sig S1} {arg12 : DmaSems sig S2}
  {q1 q2 q3 q4 q5 : PosShare TreeShare} {f1 : Cont F c arg1} {f2 : Cont F c arg2} {f3 : Cont F c arg3} {f4 : Cont F c arg4} {f5 : Cont F c arg5}
  {f9 : Cont F c arg9}

/-- What the accumulated products read. -/
def Ops (c : Dev nD) (arg2 : Memref sig .tc .vmem S30720x128 .fp8e5m2) (arg3 : Memref sig .tc .vmem S15x16x128 .f32)
    (arg4 : Memref sig .tc .vmem S30720x128 .fp8e5m2) (arg5 : Memref sig .tc .vmem S15x16x128 .f32) (arg9 : Memref sig .tc .vmem S512x1920 .bf16)
    (q2 q3 q4 q5 : PosShare TreeShare) (f2 : Cont F c arg2) (f3 : Cont F c arg3) (f4 : Cont F c arg4) (f5 : Cont F c arg5) (f9 : Cont F c arg9) : sProp 𝕄 :=
  iprop(Pt c arg2 q2 f2 ∗ Pt c arg3 q3 f3 ∗ Pt c arg4 q4 f4 ∗ Pt c arg5 q5 f5 ∗ Pt c arg9 fullShare f9)

theorem accA_wp {Q : PUnit.{1} → sProp 𝕄} {j : Fin 4} {k : FVec F S512x512 .f32 → P F PUnit.{1}} :
    iprop(Ops c arg2 arg3 arg4 arg5 arg9 q2 q3 q4 q5 f2 f3 f4 f5 f9
      ∗ (Ops c arg2 arg3 arg4 arg5 arg9 q2 q3 q4 q5 f2 f3 f4 f5 f9 -∗ WP c (k (ACC (rd arg2 f2) (rd arg3 f3) (rd arg9 f9) j)) Q))
      ⊢ WP c (acc arg2 arg3 arg9 j k) Q := by
  unfold Ops
  iintro ⟨⟨H2, H3, H4, H5, H9⟩, Hk⟩
  iapply acc_wp
  isplitl [H2]; · iexact H2
  isplitl [H3]; · iexact H3
  isplitl [H9]; · iexact H9
  iintro H2 H3 H9
  iapply Hk
  isplitl [H2]; · iexact H2
  isplitl [H3]; · iexact H3
  isplitl [H4]; · iexact H4
  isplitl [H5]; · iexact H5
  iexact H9

theorem accB_wp {Q : PUnit.{1} → sProp 𝕄} {j : Fin 4} {k : FVec F S512x512 .f32 → P F PUnit.{1}} :
    iprop(Ops c arg2 arg3 arg4 arg5 arg9 q2 q3 q4 q5 f2 f3 f4 f5 f9
      ∗ (Ops c arg2 arg3 arg4 arg5 arg9 q2 q3 q4 q5 f2 f3 f4 f5 f9 -∗ WP c (k (ACC (rd arg4 f4) (rd arg5 f5) (rd arg9 f9) j)) Q))
      ⊢ WP c (acc arg4 arg5 arg9 j k) Q := by
  unfold Ops
  iintro ⟨⟨H2, H3, H4, H5, H9⟩, Hk⟩
  iapply acc_wp
  isplitl [H4]; · iexact H4
  isplitl [H5]; · iexact H5
  isplitl [H9]; · iexact H9
  iintro H4 H5 H9
  iapply Hk
  isplitl [H2]; · iexact H2
  isplitl [H3]; · iexact H3
  isplitl [H4]; · iexact H4
  isplitl [H5]; · iexact H5
  iexact H9

theorem laterJ_wp {Q : PUnit.{1} → sProp 𝕄} {j : Fin 4} {k : P F PUnit.{1}} {W : Waits sig Unit} :
    iprop(Ops c arg2 arg3 arg4 arg5 arg9 q2 q3 q4 q5 f2 f3 f4 f5 f9
      ∗ Flying c arg10 arg6 arg12 0 (ACC (rd arg2 f2) (rd arg3 f3) (rd arg9 f9)) j.1
      ∗ Flying c arg10 arg7 arg12 1 (ACC (rd arg4 f4) (rd arg5 f5) (rd arg9 f9)) j.1
      ∗ owes (c : Thread nD τ) 0 W
      ∗ (∀ W' : Waits sig Unit, Ops c arg2 arg3 arg4 arg5 arg9 q2 q3 q4 q5 f2 f3 f4 f5 f9
        -∗ Flying c arg10 arg6 arg12 0 (ACC (rd arg2 f2) (rd arg3 f3) (rd arg9 f9)) (j.1 + 1)
        -∗ Flying c arg10 arg7 arg12 1 (ACC (rd arg4 f4) (rd arg5 f5) (rd arg9 f9)) (j.1 + 1)
        -∗ owes (c : Thread nD τ) 0 W' -∗ WP c k Q))
      ⊢ WP c (laterJ arg2 arg3 arg4 arg5 arg6 arg7 arg9 arg10 harg10 arg12 j k) Q := by
  unfold laterJ
  iintro ⟨HO, HA, HB, HW, Hk⟩
  iapply accA_wp
  isplitl [HO]; · iexact HO
  iintro HO
  iapply waitOut_wp
  isplitl [HA]; · iexact HA
  isplitl [HW]; · iexact HW
  iintro %W1 HA HW
  iapply flush_wp
  isplitl [HA]; · iexact HA
  iintro HA
  iapply accB_wp
  isplitl [HO]; · iexact HO
  iintro HO
  iapply waitOut_wp
  isplitl [HB]; · iexact HB
  isplitl [HW]; · iexact HW
  iintro %W2 HB HW
  iapply flush_wp
  isplitl [HB]; · iexact HB
  iintro HB
  iapply Hk $$ %_ HO HA HB HW

theorem phase2_wp {Q : PUnit.{1} → sProp 𝕄} {W : Waits sig Unit} :
    iprop(Ops c arg2 arg3 arg4 arg5 arg9 q2 q3 q4 q5 f2 f3 f4 f5 f9
      ∗ Idle c arg10 arg6 arg12 0 (ACC (rd arg2 f2) (rd arg3 f3) (rd arg9 f9)) 0
      ∗ Idle c arg10 arg7 arg12 1 (ACC (rd arg4 f4) (rd arg5 f5) (rd arg9 f9)) 0
      ∗ owes (c : Thread nD τ) 0 W
      ∗ (∀ W' : Waits sig Unit, Ops c arg2 arg3 arg4 arg5 arg9 q2 q3 q4 q5 f2 f3 f4 f5 f9
        -∗ Idle c arg10 arg6 arg12 0 (ACC (rd arg2 f2) (rd arg3 f3) (rd arg9 f9)) 4
        -∗ Idle c arg10 arg7 arg12 1 (ACC (rd arg4 f4) (rd arg5 f5) (rd arg9 f9)) 4
        -∗ owes (c : Thread nD τ) 0 W' -∗ Q ⟨⟩))
      ⊢ WP c (phase2 arg2 arg3 arg4 arg5 arg6 arg7 arg9 arg10 harg10 arg12) Q := by
  unfold phase2
  iintro ⟨HO, HA, HB, HW, Hk⟩
  iapply accA_wp
  isplitl [HO]; · iexact HO
  iintro HO
  iapply (flush_wp (j := 0))
  isplitl [HA]; · iexact HA
  iintro HA
  iapply accB_wp
  isplitl [HO]; · iexact HO
  iintro HO
  iapply (flush_wp (j := 0))
  isplitl [HB]; · iexact HB
  iintro HB
  iapply (laterJ_wp (j := 1))
  isplitl [HO]; · iexact HO
  isplitl [HA]; · iexact HA
  isplitl [HB]; · iexact HB
  isplitl [HW]; · iexact HW
  iintro %W1 HO HA HB HW
  iapply (laterJ_wp (j := 2))
  isplitl [HO]; · iexact HO
  isplitl [HA]; · iexact HA
  isplitl [HB]; · iexact HB
  isplitl [HW]; · iexact HW
  iintro %W2 HO HA HB HW
  iapply (laterJ_wp (j := 3))
  isplitl [HO]; · iexact HO
  isplitl [HA]; · iexact HA
  isplitl [HB]; · iexact HB
  isplitl [HW]; · iexact HW
  iintro %W3 HO HA HB HW
  iapply waitOut_wp
  isplitl [HA]; · iexact HA
  isplitl [HW]; · iexact HW
  iintro %W4 HA HW
  iapply waitOut_wp
  isplitl [HB]; · iexact HB
  isplitl [HW]; · iexact HW
  iintro %W5 HB HW
  iapply (le_wp_ret _ _ _ _ Q)
  ispecialize Hk $$ %W5 HO
  iapply Hk $$ [HA] [HB] HW
  · iexact HA
  · iexact HB

theorem body_wp {Q : PUnit.{1} → sProp 𝕄} {W : Waits sig Unit} {f0 : Cont F c arg0} {f8 : Cont F c arg8} {f9 : Cont F c arg9} :
    iprop(Pt c arg0 fullShare f0 ∗ Pt c arg1 q1 f1 ∗ Ops c arg2 arg3 arg4 arg5 arg9 q2 q3 q4 q5 f2 f3 f4 f5 f9
      ∗ Pt c arg8 fullShare f8 ∗ semVal ((c : Thread nD τ), .dma (semC arg11)) 0
      ∗ Idle c arg10 arg6 arg12 0 (ACC (rd arg2 f2) (rd arg3 f3) (CT (rd arg0 f0) (rd arg1 f1))) 0
      ∗ Idle c arg10 arg7 arg12 1 (ACC (rd arg4 f4) (rd arg5 f5) (CT (rd arg0 f0) (rd arg1 f1))) 0
      ∗ owes (c : Thread nD τ) 0 W
      ∗ (∀ W' : Waits sig Unit, ∀ f8' : Cont F c arg8, ∀ f9' : Cont F c arg9,
        Pt c arg0 fullShare f0 -∗ Pt c arg1 q1 f1 -∗ Ops c arg2 arg3 arg4 arg5 arg9 q2 q3 q4 q5 f2 f3 f4 f5 f9'
        -∗ Pt c arg8 fullShare f8' -∗ semVal ((c : Thread nD τ), .dma (semC arg11)) 0
        -∗ Idle c arg10 arg6 arg12 0 (ACC (rd arg2 f2) (rd arg3 f3) (CT (rd arg0 f0) (rd arg1 f1))) 4
        -∗ Idle c arg10 arg7 arg12 1 (ACC (rd arg4 f4) (rd arg5 f5) (CT (rd arg0 f0) (rd arg1 f1))) 4
        -∗ owes (c : Thread nD τ) 0 W' -∗ Q ⟨⟩))
      ⊢ WP c (body arg0 harg0 arg1 arg2 arg3 arg4 arg5 arg6 arg7 arg8 harg8 arg9 harg9 arg10 harg10 arg11 arg12) Q := by
  unfold body
  iintro ⟨H0, H1, HO, H8, HS, HA, HB, HW, Hk⟩
  iapply (Transfers.wp_dmaLocal (defs := defs₀ (F := F)) (Q := Q) EC Variants.none (c : Thread nD τ) none () arg8.view.dmaCredit
    (src := arg0) (dst := arg8) (Sd := arg8.view.set) (fs := f0) (fd := f8)
    rfl (View.dmaCredit_pos _ (by decide)) subset_rfl) $$ [H0 H8 HS]
  · isplitl [H0]; · iexact H0
    isplitl [H8]; · iexact H8
    iexact HS
  iintro Hf
  iapply (Transfers.wp_waitLocal (defs := defs₀ (F := F)) (Q := Q) EC Variants.none (c : Thread nD τ) none (srcw := arg0) (dstw := arg8)
    (hsrc := harg0.wordExact) (hdst := harg8.wordExact) () (N := arg8.view.dmaCredit) rfl) $$ [Hf HW]
  · isplitl [Hf]; · iexact Hf
    iexact HW
  iintro ⟨⟨H8, H0⟩, HS, HW⟩
  have e8 : rd (c := c) arg8 (arg8.view.write (Elt F) f8 (rd arg0 f0) Finset.univ) = rd arg0 f0 := View.read_write_univ _ _
  unfold Ops
  icases HO with ⟨H2, H3, H4, H5, H9⟩
  have h9 : CtOk (c := c) (arg9 := arg9) (arg8 := arg8) f1 (arg8.view.write (Elt F) f8 (rd arg0 f0) Finset.univ) 0 f9 := fun _ h => absurd h (Nat.not_lt_zero _)
  iapply (ctLoop_wp (arg8 := arg8) (harg9 := harg9) 60 0 (by decide) f9 h9)
  isplitl [H1]; · iexact H1
  isplitl [H8]; · iexact H8
  isplitl [H9]; · iexact H9
  iintro %f9' %h9' H1 H8 H9
  have e9 : rd arg9 f9' = CT (rd arg0 f0) (rd arg1 f1) := by
    funext y
    have l0 : (y 0).1 < 512 := (y 0).2
    have l1 : (y 1).1 < 1920 := (y 1).2
    rw [h9' y (by omega), e8]
  rw [← e9]
  iapply phase2_wp
  unfold Ops
  isplitl [H2 H3 H4 H5 H9]
  · isplitl [H2]; · iexact H2
    isplitl [H3]; · iexact H3
    isplitl [H4]; · iexact H4
    isplitl [H5]; · iexact H5
    iexact H9
  isplitl [HA]; · iexact HA
  isplitl [HB]; · iexact HB
  isplitl [HW]; · iexact HW
  iintro %W1 HO HA HB HW
  iapply Hk $$ %_ %_ %_ H0 H1 HO H8 HS HA HB HW

end Cert.KernelIdeal.Hand

end
-- ==== Proof.KernelIdeal.Whole.lean ====
/- The whole program: the host operations, the one launch, its body by `body_wp`. It ends with its
   arguments unchanged, every semaphore at zero, and both results at the column blocks `ACC` makes of
   the arrays the region finds. -/
module

public import proofs.«01_k».proof.Proof.Gen.KernelIdeal.Frame
public import proofs.«01_k».proof.Proof.KernelIdeal.Run
public import Idealize.ShloMosaic.Lib.Pipeline.FrameValue

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch is handed -/

/-- The semaphores of the copy in and of the two slots. -/
abbrev osem0 : Fin 3 → SemLoc sig := fun j => (![SemLoc.dma (semC cc0_scratch3), SemLoc.dma (semI cc0_scratch4 0), SemLoc.dma (semI cc0_scratch4 1)] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semC cc0_scratch3)) 0 ∗ semVal ((c : Thread nD τ), SemLoc.dma (semI cc0_scratch4 0)) 0
          ∗ semVal ((c : Thread nD τ), SemLoc.dma (semI cc0_scratch4 1)) 0) := by
  rw [Pipeline.ownSems0_eq_of_list c osem0 [0, 1, 2] (by decide) (by decide)]; rfl

/-- The operand the body copies in, and the results it copies out. -/
def H0 : Finset (Ref sig .tc) := {main_v0}
def R0 : Finset (Ref sig .tc) := {main_v6_0, main_v6_1}
theorem H0_sub : H0 ⊆ Pipeline.restRefs sig spec0 := by decide
theorem R0_sub : R0 ⊆ Pipeline.restRefs sig spec0 \ H0 := by decide

/-- A whole buffer, as the memref on it. -/
theorem Pt_whole (c : Dev nD) (b : Ref sig .tc) (q : PosShare TreeShare) (f : Buf (Elt F) ((c : Thread nD τ).loc b)) :
    (((c : Thread nD τ).loc b) ↦{q} f : sProp 𝕄) = ((Memref.whole b : Memref sig .tc _ _ _).view.loc (c : Thread nD τ) ↦[(Memref.whole b : Memref sig .tc _ _ _).view.set]{q} f) := by
  rw [show (Memref.whole b : Memref sig .tc _ _ _).view.set = Finset.univ from View.set_whole b]

theorem hbmPts0_eq (c : Dev nD) :
    (bigSep H0 (fun b => ((c : Thread nD τ).loc b) ↦{fullShare} V m c b) : sProp 𝕄) = Pt c (Memref.whole main_v0) fullShare (V m c main_v0) := by
  rw [BI.bigSep_eq_bigSepL_of_eq [main_v0] (by decide) (by decide)]
  exact Pt_whole c main_v0 fullShare _

theorem routed0_eq (c : Dev nD) (G : (b : Ref sig .tc) → Buf (Elt F) ((c : Thread nD τ).loc b)) :
    (Pipeline.routed R0 c G : sProp 𝕄)
      = iprop(Pt c (Memref.whole main_v6_0) fullShare (G main_v6_0) ∗ Pt c (Memref.whole main_v6_1) fullShare (G main_v6_1)) := by
  unfold Pipeline.routed; rw [BI.bigSep_eq_bigSepL_of_eq [main_v6_0, main_v6_1] (by decide) (by decide)]
  simp only [BI.bigSepL_cons_cons, BI.bigSepL_singleton]
  rw [Pt_whole, Pt_whole]
  rfl

/-! ## The two slots of the staging buffer -/

theorem slot_set {arg10 : Memref sig .tc .vmem S2x512x4x128 .f32} (i : Fin 2) :
    (slot arg10 i).view.set = (arg10.view.slice (Rect.unit (s := S2x512x4x128) ![i.1, 0, 0, 0] S1x512x4x128.size (inbSlot i))).set :=
  View.set_reshape _ _

theorem slot_disj {arg10 : Memref sig .tc .vmem S2x512x4x128 .f32} :
    (slot arg10 1).view.set ⊆ arg10.view.set \ (slot arg10 0).view.set := by
  rw [slot_set, slot_set]
  intro x hx
  refine Finset.mem_sdiff.mpr ⟨View.set_slice_subset _ _ hx, fun hx' => ?_⟩
  obtain ⟨a, -, ha⟩ := Finset.mem_map.mp hx
  obtain ⟨b, -, hb⟩ := Finset.mem_map.mp hx'
  have h : 1 + 1 * (a 0).1 = 0 + 1 * (b 0).1 := congrArg (fun z : S2x512x4x128.Idx => (z 0).1) (arg10.view.emb.injective (ha.trans hb.symm))
  have l : (b 0).1 < 1 := (b 0).2
  omega

theorem slots_split {c : Dev nD} {arg10 : Memref sig .tc .vmem S2x512x4x128 .f32} (f : Cont F c arg10) :
    (Pt c arg10 fullShare f : sProp 𝕄) ⊢ iprop(Pt c (slot arg10 0) fullShare f ∗ Pt c (slot arg10 1) fullShare f
      ∗ (arg10.view.loc (c : Thread nD τ) ↦[(arg10.view.set \ (slot arg10 0).view.set) \ (slot arg10 1).view.set]{fullShare} f)) := by
  have h0 : (slot arg10 0).view.set ⊆ arg10.view.set := (slot_set 0).le.trans (View.set_slice_subset _ _)
  iintro H
  icases (pointsTo_split_subset h0).1 $$ H with ⟨H0, H⟩
  icases (pointsTo_split_subset (slot_disj (arg10 := arg10))).1 $$ H with ⟨H1, H⟩
  isplitl [H0]; · iexact H0
  isplitl [H1]; · iexact H1
  iexact H

theorem slots_join {c : Dev nD} {arg10 : Memref sig .tc .vmem S2x512x4x128 .f32} (f : Cont F c arg10) (f0 : Cont F c (slot arg10 0)) (f1 : Cont F c (slot arg10 1)) :
    iprop(Pt c (slot arg10 0) fullShare f0 ∗ Pt c (slot arg10 1) fullShare f1
      ∗ (arg10.view.loc (c : Thread nD τ) ↦[(arg10.view.set \ (slot arg10 0).view.set) \ (slot arg10 1).view.set]{fullShare} f))
      ⊢ iprop(∃ f' : Cont F c arg10, Pt c arg10 fullShare f' : sProp 𝕄) := by
  have h0 : (slot arg10 0).view.set ⊆ arg10.view.set := (slot_set 0).le.trans (View.set_slice_subset _ _)
  iintro ⟨H0, H1, H⟩
  iexists _
  iapply (pointsTo_join_subset h0)
  isplitl [H0]; · iexact H0
  iapply (pointsTo_join_subset (slot_disj (arg10 := arg10)))
  isplitl [H1]; · iexact H1
  iexact H

/-! ## What the program computes -/

/-- One result's column blocks, from the arrays the region finds: the codes of `c`, its scales, and a
    result's codes and token scales. -/
def WACC (cc : S1920x512.Idx → Elt F .fp8e4m3) (cs : S3x4x640.Idx → Elt F .f32) (tok : S30720x128.Idx → Elt F .fp8e5m2) (ts : S15x16x128.Idx → Elt F .f32) :
    Fin 4 → FVec F S512x512 .f32 := ACC tok ts (CT cc cs)

/-- The blocks the body finds staged. -/
abbrev cc0 (c : Dev nD) : S1920x512.Idx → Elt F .fp8e4m3 := rd (c := c) (Memref.whole main_v0) (V m c main_v0)

def A0 (c : Dev nD) (t : Fin cfg0.N) : Fin 4 → FVec F S512x512 .f32 := WACC (cc0 m c) (iblk m c 0 t) (iblk m c 1 t) (iblk m c 2 t)
def A1 (c : Dev nD) (t : Fin cfg0.N) : Fin 4 → FVec F S512x512 .f32 := WACC (cc0 m c) (iblk m c 0 t) (iblk m c 3 t) (iblk m c 4 t)

/-- The unscoped buffers at the end. -/
def G (c : Dev nD) (b : Ref sig .tc) : Buf (Elt F) ((c : Thread nD τ).loc b) :=
  Function.update (Function.update (V m c) main_v6_0 (DW (A0 m c t0_0))) main_v6_1 (DW (A1 m c t0_0)) b

theorem G_0 (c : Dev nD) : G m c main_v6_0 = DW (A0 m c t0_0) := by
  unfold G
  rw [Function.update_of_ne (show main_v6_0 ≠ main_v6_1 by decide), Function.update_self]
theorem G_1 (c : Dev nD) : G m c main_v6_1 = DW (A1 m c t0_0) := by
  unfold G
  rw [Function.update_self]

/-- What the body hands on: at the start the results as the region finds them, at the end finished. -/
def Inv (c : Dev nD) (G : (b : Ref sig .tc) → Buf (Elt F) ((c : Thread nD τ).loc b)) : sProp 𝕄 :=
  iprop(((∃ f : Cont F c (Memref.whole cc0_scratch0), Pt c (Memref.whole cc0_scratch0) fullShare f)
      ∗ (∃ f : Cont F c (Memref.whole cc0_scratch1), Pt c (Memref.whole cc0_scratch1) fullShare f)
      ∗ (∃ f : Cont F c (Memref.whole cc0_scratch2), Pt c (Memref.whole cc0_scratch2) fullShare f))
    ∗ (∃ r, prngReg c r)
    ∗ (semVal ((c : Thread nD τ), SemLoc.dma (semC cc0_scratch3)) 0 ∗ semVal ((c : Thread nD τ), SemLoc.dma (semI cc0_scratch4 0)) 0
          ∗ semVal ((c : Thread nD τ), SemLoc.dma (semI cc0_scratch4 1)) 0)
    ∗ Pt c (Memref.whole main_v0) fullShare (V m c main_v0)
    ∗ (Pt c (Memref.whole main_v6_0) fullShare (G main_v6_0) ∗ Pt c (Memref.whole main_v6_1) fullShare (G main_v6_1)))

theorem inv_eq (c : Dev nD) (G : (c : Dev nD) → (b : Ref sig .tc) → Buf (Elt F) ((c : Thread nD τ).loc b)) :
    Pipeline.ΦDRG osem0 spec0 H0 R0 (V m) G c = Inv m c (G c) := by
  rw [Pipeline.ΦDRG_eq, scopedRest0_eq, ownSems00_eq, hbmPts0_eq, routed0_eq]
  unfold Inv
  simp only [Pt_whole]

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := Inv m c (if t.1 = 0 then V m c else G m c)
  q _ := fullShare
  owed _ := 0

theorem A_eq (c : Dev nD) (w : Fin cfg0.W) : (dats m 0 c).A w = V m c (Pipeline.arrRef spec0 w) := by
  dsimp only [dats]

section
variable (c : Dev nD) (t : Fin cfg0.N)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
end

/-! An input's staging buffer holds its block when the body starts. -/

section
variable {m} {c : Dev nD} (t : Fin cfg0.N)
theorem before0 (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
end

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [body_eq]
  simp only [before0, before1, before2, before3, before4, after0, after1, after2, after3, after4]
  rw [show (dats m 0 c).Φ (Fin.castSucc t0_0) = Inv m c (V m c) from rfl, show (dats m 0 c).Φ (Fin.succ t0_0) = Inv m c (G m c) from rfl]
  unfold Inv
  rw [G_0, G_1]
  unfold Dat.owesAt Pipeline.owesWithin
  rw [show (dats m 0 c).owed (Fin.castSucc t0_0) = 0 from rfl, show (dats m 0 c).owed (Fin.succ t0_0) = 0 from rfl]
  unfold owns
  iintro ⟨⟨⟨⟨%f8, H8⟩, ⟨%f9, H9⟩, ⟨%f10, H10⟩⟩, Hg, ⟨HC, Hs0, Hs1⟩, H0, H6, H7⟩, ⟨%W, -, HW⟩, ⟨%d1, %f1, %e1, H1⟩, ⟨%d2, %f2, %e2, H2⟩, ⟨%d3, %f3, %e3, H3⟩, ⟨%d4, %f4, %e4, H4⟩, ⟨%d5, %f5, %e5, H5⟩⟩
  icases (slots_split f10) $$ H10 with ⟨Ha, Hb, Hr⟩
  have eA : ACC (rd (c := c) (st0_1 t0_0) f2) (rd (c := c) (st0_2 t0_0) f3) (CT (cc0 m c) (rd (c := c) (st0_0 t0_0) f1)) = A0 m c t0_0 := by
    rw [show rd (c := c) (st0_1 t0_0) f2 = _ from e2, show rd (c := c) (st0_2 t0_0) f3 = _ from e3, show rd (c := c) (st0_0 t0_0) f1 = _ from e1]; rfl
  have eB : ACC (rd (c := c) (st0_3 t0_0) f4) (rd (c := c) (st0_4 t0_0) f5) (CT (cc0 m c) (rd (c := c) (st0_0 t0_0) f1)) = A1 m c t0_0 := by
    rw [show rd (c := c) (st0_3 t0_0) f4 = _ from e4, show rd (c := c) (st0_4 t0_0) f5 = _ from e5, show rd (c := c) (st0_0 t0_0) f1 = _ from e1]; rfl
  iapply (body_wp (arg0 := Memref.whole main_v0) (arg1 := st0_0 t0_0) (arg2 := st0_1 t0_0) (arg3 := st0_2 t0_0) (arg4 := st0_3 t0_0) (arg5 := st0_4 t0_0)
    (arg6 := Memref.whole main_v6_0) (arg7 := Memref.whole main_v6_1) (arg8 := Memref.whole cc0_scratch0) (arg9 := Memref.whole cc0_scratch1)
    (arg10 := Memref.whole cc0_scratch2) (arg11 := cc0_scratch3) (arg12 := cc0_scratch4) (f0 := V m c main_v0) (f1 := f1) (f2 := f2) (f3 := f3) (f4 := f4) (f5 := f5) (f8 := f8) (f9 := f9)
    (q1 := fullShare) (q2 := fullShare) (q3 := fullShare) (q4 := fullShare) (q5 := fullShare))
  rw [eA, eB]
  isplitl [H0]; · iexact H0
  isplitl [H1]; · iexact H1
  isplitl [H2 H3 H4 H5 H9]
  · unfold Ops
    isplitl [H2]; · iexact H2
    isplitl [H3]; · iexact H3
    isplitl [H4]; · iexact H4
    isplitl [H5]; · iexact H5
    iexact H9
  isplitl [H8]; · iexact H8
  isplitl [HC]; · iexact HC
  isplitl [H6 Ha Hs0]
  · unfold Idle
    iexists _
    iexists _
    isplitl [H6]; · iexact H6
    isplitl [Ha]; · iexact Ha
    isplitl [Hs0]; · iexact Hs0
    ipureintro
    exact fun _ h => absurd h (Nat.not_lt_zero _)
  isplitl [H7 Hb Hs1]
  · unfold Idle
    iexists _
    iexists _
    isplitl [H7]; · iexact H7
    isplitl [Hb]; · iexact Hb
    isplitl [Hs1]; · iexact Hs1
    ipureintro
    exact fun _ h => absurd h (Nat.not_lt_zero _)
  isplitl [HW]; · iexact HW
  unfold Ops Idle
  iintro %W' %f8' %f9' H0 H1 ⟨H2, H3, H4, H5, H9⟩ H8 HC ⟨%fo, %fa, H6, Ha, Hs0, %ho⟩ ⟨%fp, %fb, H7, Hb, Hs1, %hp⟩ HW
  have eo : fo = DW (A0 m c t0_0) := funext fun y => ho y (y 1).2
  have ep : fp = DW (A1 m c t0_0) := funext fun y => hp y (y 1).2
  rw [eo, ep]
  isplitl [H8 H9 Ha Hb Hr Hg HC Hs0 Hs1 H0 H6 H7]
  · isplitl [H8 H9 Ha Hb Hr]
    · isplitl [H8]; · iexists _; iexact H8
      isplitl [H9]; · iexists _; iexact H9
      iapply (slots_join f10 fa fb)
      isplitl [Ha]; · iexact Ha
      isplitl [Hb]; · iexact Hb
      iexact Hr
    isplitl [Hg]; · iexact Hg
    isplitl [HC Hs0 Hs1]
    · isplitl [HC]; · iexact HC
      isplitl [Hs0]; · iexact Hs0
      iexact Hs1
    isplitl [H0]; · iexact H0
    isplitl [H6]; · iexact H6
    iexact H7
  isplitl [HW]
  · iexists W'; isplitr; · ipureintro; exact fun _ _ => Or.inl trivial
    iexact HW
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists f5; isplitr; · ipureintro; exact e5
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m) (hA := A_eq m) (G := G m)
    (hin := fun c => (inv_eq m c (V m)).le) (hout := fun c => (inv_eq m c (G m)).ge) (hQ' := fun _ h => h)

/-- What every run ends in: the arguments as launched, both results, no semaphore counted. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v6_0) = DW (A0 m c t0_0)
      ∧ r.2.mem ((c.tc : Thread nD τ).loc main_v6_1) = DW (A1 m c t0_0))
      ∧ r.2.sem = fun _ => 0) :=
  (θ_run defs _ _).mono (fun _ h => ⟨fun c =>
    have a (b : Ref sig .tc) (hb : b ∈ Pipeline.restRefs sig spec0 \ R0) := (h.1.1 c).2 b hb
    ⟨⟨(a main_arg0 (by decide)).trans (V_main_arg0 m c), (a main_arg1 (by decide)).trans (V_main_arg1 m c),
      (a main_arg2 (by decide)).trans (V_main_arg2 m c), (a main_arg3 (by decide)).trans (V_main_arg3 m c),
      (a main_arg4 (by decide)).trans (V_main_arg4 m c), (a main_arg5 (by decide)).trans (V_main_arg5 m c)⟩,
      (h.1.2 c main_v6_0 (by decide)).trans (G_0 m c), (h.1.2 c main_v6_1 (by decide)).trans (G_1 m c)⟩, h.2⟩) (run_main m ρ)

end Cert.KernelIdeal.Hand

end
-- ==== Proof.Index.lean ====
/- What the two value proofs share: a reshape read at an index, four tiles side by side read at an
   index, a product contracted over the rows of both factors, and the sum over the 1920 tokens as a
   sum over 15 groups of 128. -/
module

public import Idealize.ShloMosaic.Lib.ValueLayout
public import Idealize.ShloMosaic.Lib.MatmulPlain
public import Idealize.ShloMosaic.Lib.Pipeline.Value

@[expose] public section

noncomputable section

namespace Cert.Num

open Idealize.ShloMosaic Idealize.ShloMosaic.ValueIdx
open scoped BigOperators

/-- A reshape reads the element at the same place in the row-major order. -/
theorem cast_at {α : Type} {s t : Shape} (x : s.Idx → α) (h : s.ShapeCasts t) (j : t.Idx) (i : s.Idx)
    (e : (s.rowMajor i).val = (t.rowMajor j).val) : shapeCast t x h j = x i :=
  congrArg x (Shape.reshapeEquiv_eq_of_rowMajor h e)

/-- Four 128-wide tiles side by side: column `128 k + d` is column `d` of tile `k`. -/
theorem four_at {α : Type} (f : Fin 4 → ((⟨2, ![128, 128]⟩ : Shape).Idx → α))
    (h : Shape.Concatenates [⟨2, ![128, 128]⟩, ⟨2, ![128, 128]⟩, ⟨2, ![128, 128]⟩, ⟨2, ![128, 128]⟩] (⟨2, ![128, 512]⟩ : Shape) 1)
    (l : Fin 128) (k : Fin 4) (d : Fin 128) (n : Fin 512) (hn : n.1 = 128 * k.1 + d.1) :
    concatenate (⟨2, ![128, 512]⟩ : Shape) 1 [⟨_, f 0⟩, ⟨_, f 1⟩, ⟨_, f 2⟩, ⟨_, f 3⟩] h (ix2 l n) = f k (ix2 l d) := by
  have off : ∀ b : Fin 2, b.cast (rfl : (2 : ℕ) = 2) ≠ (1 : Fin 2) → ((ix2 l d : (⟨2, ![128, 128]⟩ : Shape).Idx) b).val = ((ix2 l n : (⟨2, ![128, 512]⟩ : Shape).Idx) (b.cast rfl)).val := by
    intro b hb
    match b with
    | 0 => rfl
    | 1 => exact absurd rfl hb
  match k, hn with
  | 0, hn => exact concatenate_apply_piece (t := (⟨2, ![128, 512]⟩ : Shape)) 1 [⟨_, f 0⟩, ⟨_, f 1⟩, ⟨_, f 2⟩, ⟨_, f 3⟩] h _ 0 (by show _ < 4; omega) _ (f 0) rfl rfl 0 rfl _ off (by show 0 + d.1 = n.1; simp at hn; omega)
  | 1, hn => exact concatenate_apply_piece (t := (⟨2, ![128, 512]⟩ : Shape)) 1 [⟨_, f 0⟩, ⟨_, f 1⟩, ⟨_, f 2⟩, ⟨_, f 3⟩] h _ 1 (by show _ < 4; omega) _ (f 1) rfl rfl 128 rfl _ off (by show 128 + d.1 = n.1; simp at hn; omega)
  | 2, hn => exact concatenate_apply_piece (t := (⟨2, ![128, 512]⟩ : Shape)) 1 [⟨_, f 0⟩, ⟨_, f 1⟩, ⟨_, f 2⟩, ⟨_, f 3⟩] h _ 2 (by show _ < 4; omega) _ (f 2) rfl rfl 256 rfl _ off (by show 256 + d.1 = n.1; simp at hn; omega)
  | 3, hn => exact concatenate_apply_piece (t := (⟨2, ![128, 512]⟩ : Shape)) 1 [⟨_, f 0⟩, ⟨_, f 1⟩, ⟨_, f 2⟩, ⟨_, f 3⟩] h _ 3 (by show _ < 4; omega) _ (f 3) rfl rfl 384 rfl _ off (by show 384 + d.1 = n.1; simp at hn; omega)

/-- Two 128-row blocks one above the other: the upper rows, and the lower. -/
theorem upper_at {α : Type} (x y : (⟨2, ![128, 512]⟩ : Shape).Idx → α)
    (h : Shape.Concatenates [⟨2, ![128, 512]⟩, ⟨2, ![128, 512]⟩] (⟨2, ![256, 512]⟩ : Shape) 0) (l : Fin 128) (n : Fin 512) :
    concatenate (⟨2, ![256, 512]⟩ : Shape) 0 [⟨_, x⟩, ⟨_, y⟩] h (ix2 (⟨l.1, by omega⟩ : Fin 256) n) = x (ix2 l n) :=
  concatenate_pair_apply_left 0 x y h _ rfl _ fun b => by
    match b with
    | 0 => rfl
    | 1 => rfl
theorem lower_at {α : Type} (x y : (⟨2, ![128, 512]⟩ : Shape).Idx → α)
    (h : Shape.Concatenates [⟨2, ![128, 512]⟩, ⟨2, ![128, 512]⟩] (⟨2, ![256, 512]⟩ : Shape) 0) (l : Fin 128) (n : Fin 512) :
    concatenate (⟨2, ![256, 512]⟩ : Shape) 0 [⟨_, x⟩, ⟨_, y⟩] h (ix2 (⟨128 + l.1, by omega⟩ : Fin 256) n) = y (ix2 l n) :=
  concatenate_pair_apply_right 0 x y h _ rfl rfl _ (fun b hb => by
    match b with
    | 0 => exact absurd rfl hb
    | 1 => rfl) (by show l.1 + 128 = 128 + l.1; omega)

/-- The sum over 1920 tokens is the sum over 15 groups of the groups' sums. -/
theorem sum_groups {M : Type} [AddCommMonoid M] (f : Fin 1920 → M) :
    ∑ t, f t = ∑ g : Fin 15, ∑ l : Fin 128, f ⟨128 * g.1 + l.1, by omega⟩ := by
  rw [← Fintype.sum_prod_type' (f := fun (g : Fin 15) (l : Fin 128) => f ⟨128 * g.1 + l.1, by omega⟩)]
  refine (Fintype.sum_equiv (finProdFinEquiv (m := 15) (n := 128)) _ _ fun x => ?_).symm
  refine congrArg f (Fin.ext ?_)
  show 128 * x.1.1 + x.2.1 = x.2.1 + 128 * x.1.1
  omega

/-- A sum over 256 is the sum over its two halves. -/
theorem sum_halves {M : Type} [AddCommMonoid M] (f : Fin 256 → M) :
    ∑ t, f t = (∑ l : Fin 128, f ⟨l.1, by omega⟩) + ∑ l : Fin 128, f ⟨128 + l.1, by omega⟩ :=
  Fin.sum_univ_add (a := 128) (b := 128) f

/-! ## The mathematics -/

section
variable (a0 : (⟨3, ![3, 640, 512]⟩ : Shape).Idx → EReal) (a1 : (⟨3, ![3, 640, 4]⟩ : Shape).Idx → EReal)
  (a2 : (⟨4, ![3, 640, 16, 128]⟩ : Shape).Idx → EReal) (a3 : (⟨4, ![3, 5, 16, 128]⟩ : Shape).Idx → EReal)

/-- Entry `r` of token `t`'s latent: its code times the scale of its group of 128 entries. -/
def lat (r : Fin 512) (t : Fin 1920) : EReal :=
  a0 (ix3 (⟨t.1 / 640, by omega⟩ : Fin 3) (⟨t.1 % 640, by omega⟩ : Fin 640) r)
    * a1 (ix3 (⟨t.1 / 640, by omega⟩ : Fin 3) (⟨t.1 % 640, by omega⟩ : Fin 640) (⟨r.1 / 128, by omega⟩ : Fin 4))

/-- Entry `(h, d)` of token `t`'s cotangent: its code times the scale of its group of 128 tokens. -/
def cot (h : Fin 16) (d : Fin 128) (t : Fin 1920) : EReal :=
  a2 (ix4 (⟨t.1 / 640, by omega⟩ : Fin 3) (⟨t.1 % 640, by omega⟩ : Fin 640) h d)
    * a3 (ix4 (⟨t.1 / 640, by omega⟩ : Fin 3) (⟨t.1 % 640 / 128, by omega⟩ : Fin 5) h d)

/-- Entry `(r, h, d)` of the weight gradient: the sum over the tokens of latent times cotangent. -/
def grad (r : Fin 512) (h : Fin 16) (d : Fin 128) : EReal := ∑ t : Fin 1920, lat a0 a1 r t * cot a2 a3 h d t

/-- The weight gradient as the array, its 16 heads as 4 blocks of 4. -/
def gradArr (y : (⟨4, ![512, 4, 4, 128]⟩ : Shape).Idx) : EReal :=
  grad a0 a1 a2 a3 ⟨(y 0).1, (y 0).2⟩ ⟨4 * (y 1).1 + (y 2).1, by have h1 : (y 1).1 < 4 := (y 1).2; have h2 : (y 2).1 < 4 := (y 2).2; omega⟩ ⟨(y 3).1, (y 3).2⟩
end

end Cert.Num
-- ==== Proof.KernelIdeal.Value.lean ====
/- What the kernel's accumulated blocks are at the exact values: entry `(r, j, k, d)` of a weight
   gradient is the sum over the 1920 tokens of the widened latent times the widened cotangent. -/
module

public import proofs.«01_k».proof.Proof.KernelIdeal.Whole
public import proofs.«01_k».proof.Proof.Index
public import Idealize.ShloMosaic.Lib.StableHlo.RunRead

@[expose] public section

noncomputable section

namespace Cert.KernelIdeal.Hand

open Idealize.ShloMosaic Idealize.ShloMosaic.TcCoe Idealize.ShloMosaic.ValueIdx
open Cert.KernelIdeal Cert.KernelIdeal.Gen Cert.Num
open scoped BigOperators

/-! ## The widened factors at an index -/

/-- A row of 128 scales laid over 128 rows. -/
theorem row_at (s : Vec Ideal S1x1x128 .f32) (a d : Fin 128) :
    (broadcastTo S128x128 (truncf .bf16 (shapeCast S1x128 s shapeCasts_S1x1x128_S1x128 : FVec Ideal S1x128 .f32) bitsLt_bf16_f32 : FVec Ideal S1x128 .bf16) broadcasts_S1x128_S128x128 : FVec Ideal S128x128 .bf16) (ix2 a d)
      = s (ix3 (0 : Fin 1) (0 : Fin 1) d) := by
  refine (congrArg (shapeCast S1x128 s shapeCasts_S1x1x128_S1x128) (?_ : _ = ix2 (0 : Fin 1) d)).trans (cast_at s _ _ _ ?_)
  · refine funext fun b => Fin.ext ?_
    match b with
    | 0 => rfl
    | 1 => rfl
  · rw [Shape.rowMajor_val_two, Shape.rowMajor_val_three]
    show (0 * 1 + 0) * 128 + d.1 = 0 * 128 + d.1
    omega

theorem ctPay_at (v : Vec Ideal S128x128 .fp8e4m3) (s : Vec Ideal S1x1x128 .f32) (a d : Fin 128) :
    ctPay v s (ix2 a d) = (v (ix2 d a) * s (ix3 (0 : Fin 1) (0 : Fin 1) d) : EReal) := by
  unfold ctPay
  refine (cast_at _ _ _ (ix2 a d) rfl).trans ?_
  refine congrArg₂ (fun x y : EReal => x * y) ?_ (row_at s a d)
  exact transpose_ix2_apply _ _ _ _

theorem codesJ_at (j : Fin 4) (v : Vec Ideal S2048x128 .fp8e5m2) (l : Fin 128) (k : Fin 4) (d : Fin 128) :
    codesJ j v (ix3 l k d) = v (ix2 (⟨16 * l.1 + 4 * j.1 + k.1, by omega⟩ : Fin 2048) d) := by
  unfold codesJ
  refine (cast_at _ _ _ (ix4 l (0 : Fin 1) k d) ?_).trans ?_
  · rw [Shape.rowMajor_val_three, Shape.rowMajor_val_four]
    show ((l.1 * 1 + 0) * 4 + k.1) * 128 + d.1 = (l.1 * 4 + k.1) * 128 + d.1
    omega
  refine (cast_at _ _ _ (ix2 (⟨16 * l.1 + 4 * j.1 + k.1, by omega⟩ : Fin 2048) d) ?_).trans (cast_at v _ _ _ rfl)
  rw [Shape.rowMajor_val_two, Shape.rowMajor_val_four]
  show (16 * l.1 + 4 * j.1 + k.1) * 128 + d.1 = (((0 + l.1) * 4 + (j.1 + 0)) * 4 + (0 + k.1)) * 128 + (0 + d.1)
  omega

theorem headPay_at (k : Fin 4) (w : FVec Ideal S128x4x128 .fp8e5m2) (s : Vec Ideal S1x1x128 .f32) (l d : Fin 128) :
    headPay k w s (ix2 l d) = (w (ix3 l k d) * s (ix3 (0 : Fin 1) (0 : Fin 1) d) : EReal) := by
  unfold headPay
  refine congrArg₂ (fun x y : EReal => x * y) ?_ (row_at s l d)
  show shapeCast S128x128 (extractStridedSlice S128x1x128 ![0, k.1, 0] w (slicesK k)) shapeCasts_S128x1x128_S128x128 (ix2 l d) = w (ix3 l k d)
  refine (cast_at _ _ _ (ix3 l (0 : Fin 1) d) ?_).trans ?_
  · rw [Shape.rowMajor_val_two, Shape.rowMajor_val_three]
    show (l.1 * 1 + 0) * 128 + d.1 = l.1 * 128 + d.1
    omega
  refine congrArg w (funext fun a => Fin.ext ?_)
  match a with
  | 0 => show 0 + l.1 = l.1; omega
  | 1 => show k.1 + 0 = k.1; omega
  | 2 => show 0 + d.1 = d.1; omega

/-- The turned latent: latent times scale. -/
theorem CT_at (cc : S1920x512.Idx → EReal) (cs : S3x4x640.Idx → EReal) (r : Fin 512) (t : Fin 1920) :
    CT (F := Ideal) cc cs (ix2 r t) = (cc (ix2 t r) * cs (ix3 (⟨t.1 / 640, by omega⟩ : Fin 3) (⟨r.1 / 128, by omega⟩ : Fin 4) (⟨t.1 % 640, by omega⟩ : Fin 640)) : EReal) := by
  refine (ctPay_at _ _ _ _).trans (congrArg₂ (fun x y : EReal => x * y) (congrArg cc ?_) (congrArg cs ?_))
  · refine funext fun a => Fin.ext ?_
    match a with
    | 0 => show 128 * (t.1 / 128) + 1 * (t.1 % 128) = t.1; omega
    | 1 => show 128 * (r.1 / 128) + 1 * (r.1 % 128) = r.1; omega
  · refine funext fun a => Fin.ext ?_
    match a with
    | 0 => show t.1 / 128 / 5 + 1 * 0 = t.1 / 640; omega
    | 1 => show r.1 / 128 + 1 * 0 = r.1 / 128; omega
    | 2 => show t.1 / 128 % 5 * 128 + 1 * (t.1 % 128) = t.1 % 640; omega

/-- One token's row of the right factor: code times scale. -/
def tokAt (tok : S30720x128.Idx → EReal) (ts : S15x16x128.Idx → EReal) (h : Fin 16) (d : Fin 128) (t : Fin 1920) : EReal :=
  tok (ix2 (⟨16 * t.1 + h.1, by omega⟩ : Fin 30720) d) * ts (ix3 (⟨t.1 / 128, by omega⟩ : Fin 15) h d)

theorem RHS_at (tok : S30720x128.Idx → EReal) (ts : S15x16x128.Idx → EReal) (j k : Fin 4) (g : Fin 15) (l d : Fin 128)
    (n : Fin 512) (hn : n.1 = 128 * k.1 + d.1) :
    RHS (F := Ideal) tok ts j g (ix2 l n) = tokAt tok ts ⟨4 * j.1 + k.1, by omega⟩ d ⟨128 * g.1 + l.1, by omega⟩ := by
  refine (four_at (fun k => headPay (F := Ideal) k (codesJ j fun x => tok ((rTok g).emb x)) fun x => ts ((rTs g j k).emb x)) concatenates_S128x128_S128x128_S128x128_S128x128_S128x512_d1 l k d n hn).trans ?_
  refine (headPay_at _ _ _ _ _).trans (congrArg₂ (fun x y : EReal => x * y) ((codesJ_at _ _ _ _ _).trans (congrArg tok ?_)) (congrArg ts ?_))
  · refine funext fun a => Fin.ext ?_
    match a with
    | 0 => show 2048 * g.1 + 1 * (16 * l.1 + 4 * j.1 + k.1) = 16 * (128 * g.1 + l.1) + (4 * j.1 + k.1); omega
    | 1 => show 0 + 1 * d.1 = d.1; omega
  · refine funext fun a => Fin.ext ?_
    match a with
    | 0 => show g.1 + 1 * 0 = (128 * g.1 + l.1) / 128; omega
    | 1 => show 4 * j.1 + k.1 + 1 * 0 = 4 * j.1 + k.1; omega
    | 2 => show 0 + 1 * d.1 = d.1; omega

/-! ## The products -/

section
variable (tok : S30720x128.Idx → EReal) (ts : S15x16x128.Idx → EReal) (ct : S512x1920.Idx → EReal)

/-- Token group `g`'s part of an entry. -/
def part (r : Fin 512) (h : Fin 16) (d : Fin 128) (g : Fin 15) : EReal :=
  ∑ l : Fin 128, ct (ix2 r (⟨128 * g.1 + l.1, by omega⟩ : Fin 1920)) * tokAt tok ts h d ⟨128 * g.1 + l.1, by omega⟩

variable (j k : Fin 4) (r : Fin 512) (d : Fin 128) (n : Fin 512) (hn : n.1 = 128 * k.1 + d.1)

theorem zero_at (i : S512x512.Idx) : (constant S512x512 .f32 0x00000000#32 : FVec Ideal S512x512 .f32) i = (0 : EReal) := Ideal.ofBits_zero_f32

include hn in
theorem PAIR_at (p : Fin 7) : PAIR (F := Ideal) tok ts ct j p (ix2 r n)
    = part tok ts ct r ⟨4 * j.1 + k.1, by omega⟩ d (g0 p) + part tok ts ct r ⟨4 * j.1 + k.1, by omega⟩ d (g1 p) := by
  unfold PAIR pairDot
  refine (Ideal.matmul_plain_apply (M := 512) (K := 256) (N := 512) none _ _ _ r n).trans ?_
  rw [show (constant S512x512 .f32 0x00000000#32 : FVec Ideal S512x512 .f32) (ix2 r n) = (0 : EReal) from zero_at _, zero_add, sum_halves]
  refine congrArg₂ (fun x y : EReal => x + y) (Finset.sum_congr rfl fun l _ => ?_) (Finset.sum_congr rfl fun l _ => ?_)
  · refine congrArg₂ (fun x y : EReal => x * y) (congrArg ct ?_) ((upper_at _ _ _ l n).trans (RHS_at tok ts j k (g0 p) l d n hn))
    · refine funext fun a => Fin.ext ?_
      match a with
      | 0 => show 0 + 1 * r.1 = r.1; omega
      | 1 => show 256 * p.1 + 1 * l.1 = 128 * (2 * p.1) + l.1; omega
  · refine congrArg₂ (fun x y : EReal => x * y) (congrArg ct ?_) ((lower_at _ _ _ l n).trans (RHS_at tok ts j k (g1 p) l d n hn))
    · refine funext fun a => Fin.ext ?_
      match a with
      | 0 => show 0 + 1 * r.1 = r.1; omega
      | 1 => show 256 * p.1 + 1 * (128 + l.1) = 128 * (2 * p.1 + 1) + l.1; omega

include hn in
theorem lastDot_at : lastDot (F := Ideal) (fun x => ct (rLast.emb x)) (RHS (F := Ideal) tok ts j 14) (ix2 r n)
    = part tok ts ct r ⟨4 * j.1 + k.1, by omega⟩ d 14 := by
  unfold lastDot
  refine (Ideal.matmul_plain_apply (M := 512) (K := 128) (N := 512) none _ _ _ r n).trans ?_
  rw [show (constant S512x512 .f32 0x00000000#32 : FVec Ideal S512x512 .f32) (ix2 r n) = (0 : EReal) from zero_at _, zero_add]
  refine Finset.sum_congr rfl fun l _ => congrArg₂ (fun x y : EReal => x * y) (congrArg ct ?_) (RHS_at tok ts j k 14 l d n hn)
  refine funext fun a => Fin.ext ?_
  match a with
  | 0 => show 0 + 1 * r.1 = r.1; omega
  | 1 => show 1792 + 1 * l.1 = 128 * 14 + l.1; omega

include hn in
theorem ACC_at : ACC (F := Ideal) tok ts ct j (ix2 r n)
    = ∑ t : Fin 1920, ct (ix2 r t) * tokAt tok ts ⟨4 * j.1 + k.1, by omega⟩ d t := by
  have e : ∀ (m s : ℕ) (a : FVec Ideal S512x512 .f32), PAIRS (F := Ideal) tok ts ct j (m + 1) s a = PAIRS (F := Ideal) tok ts ct j m (s + 1) (addf a (PAIR (F := Ideal) tok ts ct j (pOf s))) := fun _ _ _ => rfl
  have A : ∀ (a b : FVec Ideal S512x512 .f32) (i : S512x512.Idx), addf a b i = (a i + b i : EReal) := fun _ _ _ => rfl
  rw [sum_groups]
  unfold ACC
  rw [e, e, e, e, e, e]
  show addf (addf (addf (addf (addf (addf (addf (PAIR (F := Ideal) tok ts ct j 0) (PAIR (F := Ideal) tok ts ct j (pOf 1))) (PAIR (F := Ideal) tok ts ct j (pOf 2))) (PAIR (F := Ideal) tok ts ct j (pOf 3))) (PAIR (F := Ideal) tok ts ct j (pOf 4))) (PAIR (F := Ideal) tok ts ct j (pOf 5))) (PAIR (F := Ideal) tok ts ct j (pOf 6))) _ (ix2 r n) = _
  rw [A, A, A, A, A, A, A, lastDot_at tok ts ct j k r d n hn]
  simp only [PAIR_at tok ts ct j k r d n hn]
  show _ = ∑ g : Fin 15, part tok ts ct r ⟨4 * j.1 + k.1, by omega⟩ d g
  generalize part tok ts ct r ⟨4 * j.1 + k.1, by omega⟩ d = q
  show ((((((q 0 + q 1 + (q 2 + q 3)) + (q 4 + q 5)) + (q 6 + q 7)) + (q 8 + q 9)) + (q 10 + q 11)) + (q 12 + q 13)) + q 14 = _
  simp only [Fin.sum_univ_succ, Finset.univ_eq_empty, Finset.sum_empty, add_zero, ← add_assoc]
  rfl
end

/-! ## From the arguments -/

section
variable (m : (ℓ : Loc nD τ sig) → Buf (Elt Ideal) ℓ) (c : Dev nD)

/-- What the host operations before the call leave in the arrays it stages. -/
theorem V_v0 : V m c main_v0 = shapeCast S1920x512 (m ((c : Thread nD τ).loc main_arg0)) shapeCasts_S3x640x512_S1920x512 :=
  (StableHlo.after_last_write (ops := hostOps0) (i := 0) [main_v1, main_v2, main_v3, main_v4, main_v5] rfl rfl (by decide) _).trans rfl
theorem V_v1 : V m c main_v1 = transpose S3x4x640 [0, 2, 1] (m ((c : Thread nD τ).loc main_arg1)) transposes_S3x640x4_S3x4x640_0_2_1 :=
  (StableHlo.after_last_write (ops := hostOps0) (i := 1) [main_v2, main_v3, main_v4, main_v5] rfl rfl (by decide) _).trans rfl
theorem V_v2 : V m c main_v2 = shapeCast S30720x128 (m ((c : Thread nD τ).loc main_arg2)) shapeCasts_S3x640x16x128_S30720x128 :=
  (StableHlo.after_last_write (ops := hostOps0) (i := 2) [main_v3, main_v4, main_v5] rfl rfl (by decide) _).trans rfl
theorem V_v3 : V m c main_v3 = shapeCast S15x16x128 (m ((c : Thread nD τ).loc main_arg3)) shapeCasts_S3x5x16x128_S15x16x128 :=
  (StableHlo.after_last_write (ops := hostOps0) (i := 3) [main_v4, main_v5] rfl rfl (by decide) _).trans rfl
theorem V_v4 : V m c main_v4 = shapeCast S30720x128 (m ((c : Thread nD τ).loc main_arg4)) shapeCasts_S3x640x16x128_S30720x128 :=
  (StableHlo.after_last_write (ops := hostOps0) (i := 4) [main_v5] rfl rfl (by decide) _).trans rfl
theorem V_v5 : V m c main_v5 = shapeCast S15x16x128 (m ((c : Thread nD τ).loc main_arg5)) shapeCasts_S3x5x16x128_S15x16x128 :=
  (StableHlo.after_last_write (ops := hostOps0) (i := 5) [] rfl rfl (by decide) _).trans rfl

/-- Every staged block is its whole array. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)
theorem iblk0 (t : Fin cfg0.N) : iblk m c 0 t = V m c main_v1 := by
  obtain ⟨e0, e1, e2⟩ := idx_zero0 t
  refine funext fun j => congrArg (V m c main_v1) (funext fun a => Fin.ext ?_)
  match a with
  | ⟨0, _⟩ => show win0_0.index t (0 : Fin 3) * 3 + 1 * (j 0).val = (j 0).val; omega
  | ⟨1, _⟩ => show win0_0.index t (1 : Fin 3) * 4 + 1 * (j 1).val = (j 1).val; omega
  | ⟨2, _⟩ => show win0_0.index t (2 : Fin 3) * 640 + 1 * (j 2).val = (j 2).val; omega
theorem idx_zero1 : ∀ t : Fin cfg0.N, win0_1.index t (0 : Fin 2) = 0 ∧ win0_1.index t (1 : Fin 2) = 0 :=
  (by decide +kernel : ∀ t : Fin grid0.N, _)
theorem iblk1 (t : Fin cfg0.N) : iblk m c 1 t = V m c main_v2 := by
  obtain ⟨e0, e1⟩ := idx_zero1 t
  refine funext fun j => congrArg (V m c main_v2) (funext fun a => Fin.ext ?_)
  match a with
  | ⟨0, _⟩ => show win0_1.index t (0 : Fin 2) * 30720 + 1 * (j 0).val = (j 0).val; omega
  | ⟨1, _⟩ => show win0_1.index t (1 : Fin 2) * 128 + 1 * (j 1).val = (j 1).val; omega
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)
theorem iblk2 (t : Fin cfg0.N) : iblk m c 2 t = V m c main_v3 := by
  obtain ⟨e0, e1, e2⟩ := idx_zero2 t
  refine funext fun j => congrArg (V m c main_v3) (funext fun a => Fin.ext ?_)
  match a with
  | ⟨0, _⟩ => show win0_2.index t (0 : Fin 3) * 15 + 1 * (j 0).val = (j 0).val; omega
  | ⟨1, _⟩ => show win0_2.index t (1 : Fin 3) * 16 + 1 * (j 1).val = (j 1).val; omega
  | ⟨2, _⟩ => show win0_2.index t (2 : Fin 3) * 128 + 1 * (j 2).val = (j 2).val; omega
theorem idx_zero3 : ∀ t : Fin cfg0.N, win0_3.index t (0 : Fin 2) = 0 ∧ win0_3.index t (1 : Fin 2) = 0 :=
  (by decide +kernel : ∀ t : Fin grid0.N, _)
theorem iblk3 (t : Fin cfg0.N) : iblk m c 3 t = V m c main_v4 := by
  obtain ⟨e0, e1⟩ := idx_zero3 t
  refine funext fun j => congrArg (V m c main_v4) (funext fun a => Fin.ext ?_)
  match a with
  | ⟨0, _⟩ => show win0_3.index t (0 : Fin 2) * 30720 + 1 * (j 0).val = (j 0).val; omega
  | ⟨1, _⟩ => show win0_3.index t (1 : Fin 2) * 128 + 1 * (j 1).val = (j 1).val; omega
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)
theorem iblk4 (t : Fin cfg0.N) : iblk m c 4 t = V m c main_v5 := by
  obtain ⟨e0, e1, e2⟩ := idx_zero4 t
  refine funext fun j => congrArg (V m c main_v5) (funext fun a => Fin.ext ?_)
  match a with
  | ⟨0, _⟩ => show win0_4.index t (0 : Fin 3) * 15 + 1 * (j 0).val = (j 0).val; omega
  | ⟨1, _⟩ => show win0_4.index t (1 : Fin 3) * 16 + 1 * (j 1).val = (j 1).val; omega
  | ⟨2, _⟩ => show win0_4.index t (2 : Fin 3) * 128 + 1 * (j 2).val = (j 2).val; omega

/-- The latents at the staged arrays are the latents at the arguments. -/
theorem CT_lat (cc : S1920x512.Idx → EReal) (cs : S3x4x640.Idx → EReal) (a0 : S3x640x512.Idx → EReal) (a1 : S3x640x4.Idx → EReal)
    (ec : cc = shapeCast S1920x512 a0 shapeCasts_S3x640x512_S1920x512) (es : cs = transpose S3x4x640 [0, 2, 1] a1 transposes_S3x640x4_S3x4x640_0_2_1)
    (r : Fin 512) (t : Fin 1920) : CT (F := Ideal) cc cs (ix2 r t) = lat a0 a1 r t := by
  subst ec es
  refine (CT_at _ _ r t).trans (congrArg₂ (fun x y : EReal => x * y) (cast_at a0 _ _ _ ?_) (congrArg a1 ?_))
  · rw [Shape.rowMajor_val_two, Shape.rowMajor_val_three]
    show (t.1 / 640 * 640 + t.1 % 640) * 512 + r.1 = t.1 * 512 + r.1
    omega
  · refine funext fun a => Fin.ext ?_
    match a with
    | 0 => rfl
    | 1 => rfl
    | 2 => rfl

/-- The cotangents likewise. -/
theorem tokAt_cot (tok : S30720x128.Idx → EReal) (ts : S15x16x128.Idx → EReal) (a2 : S3x640x16x128.Idx → EReal) (a3 : S3x5x16x128.Idx → EReal)
    (et : tok = shapeCast S30720x128 a2 shapeCasts_S3x640x16x128_S30720x128) (es : ts = shapeCast S15x16x128 a3 shapeCasts_S3x5x16x128_S15x16x128)
    (h : Fin 16) (d : Fin 128) (t : Fin 1920) : tokAt tok ts h d t = cot a2 a3 h d t := by
  subst et es
  refine congrArg₂ (fun x y : EReal => x * y) (cast_at a2 _ _ _ ?_) (cast_at a3 _ _ _ ?_)
  · rw [Shape.rowMajor_val_two, Shape.rowMajor_val_four]
    show ((t.1 / 640 * 640 + t.1 % 640) * 16 + h.1) * 128 + d.1 = (16 * t.1 + h.1) * 128 + d.1
    omega
  · rw [Shape.rowMajor_val_three, Shape.rowMajor_val_four]
    show ((t.1 / 640 * 5 + t.1 % 640 / 128) * 16 + h.1) * 128 + d.1 = (t.1 / 128 * 16 + h.1) * 128 + d.1
    omega

/-- A result, from the arrays staged, is the weight gradient of the arguments. -/
theorem DW_grad (cc : S1920x512.Idx → EReal) (cs : S3x4x640.Idx → EReal) (tok : S30720x128.Idx → EReal) (ts : S15x16x128.Idx → EReal)
    (a0 : S3x640x512.Idx → EReal) (a1 : S3x640x4.Idx → EReal) (a2 : S3x640x16x128.Idx → EReal) (a3 : S3x5x16x128.Idx → EReal)
    (ec : cc = shapeCast S1920x512 a0 shapeCasts_S3x640x512_S1920x512) (es : cs = transpose S3x4x640 [0, 2, 1] a1 transposes_S3x640x4_S3x4x640_0_2_1)
    (et : tok = shapeCast S30720x128 a2 shapeCasts_S3x640x16x128_S30720x128) (eu : ts = shapeCast S15x16x128 a3 shapeCasts_S3x5x16x128_S15x16x128) :
    DW (F := Ideal) (WACC (F := Ideal) cc cs tok ts) = gradArr a0 a1 a2 a3 := by
  funext y
  refine (ACC_at tok ts (CT (F := Ideal) cc cs) ⟨(y 1).1, (y 1).2⟩ ⟨(y 2).1, (y 2).2⟩ _ ⟨(y 3).1, (y 3).2⟩ _ rfl).trans ?_
  exact Finset.sum_congr rfl fun t _ => congrArg₂ (fun x y : EReal => x * y) (CT_lat cc cs a0 a1 ec es _ t) (tokAt_cot tok ts a2 a3 et eu _ _ t)

/-- The two results, as the weight gradients of the arguments. -/
theorem value0 : DW (A0 m c t0_0) = gradArr (m ((c : Thread nD τ).loc main_arg0)) (m ((c : Thread nD τ).loc main_arg1)) (m ((c : Thread nD τ).loc main_arg2)) (m ((c : Thread nD τ).loc main_arg3)) :=
  DW_grad _ _ _ _ _ _ _ _ (V_v0 m c) ((iblk0 m c _).trans (V_v1 m c)) ((iblk1 m c _).trans (V_v2 m c)) ((iblk2 m c _).trans (V_v3 m c))
theorem value1 : DW (A1 m c t0_0) = gradArr (m ((c : Thread nD τ).loc main_arg0)) (m ((c : Thread nD τ).loc main_arg1)) (m ((c : Thread nD τ).loc main_arg4)) (m ((c : Thread nD τ).loc main_arg5)) :=
  DW_grad _ _ _ _ _ _ _ _ (V_v0 m c) ((iblk0 m c _).trans (V_v1 m c)) ((iblk3 m c _).trans (V_v4 m c)) ((iblk4 m c _).trans (V_v5 m c))
end

end Cert.KernelIdeal.Hand
-- ==== Proof.RefValue.lean ====
/- What the reference's two results are at the exact values: the same weight gradients. -/
module

public import proofs.«01_k».proof.Proof.Gen.ReferenceIdeal.Value
public import proofs.«01_k».proof.Proof.Index

@[expose] public section

noncomputable section

namespace Cert.ReferenceIdeal.Hand

open Idealize.ShloMosaic Idealize.ShloMosaic.TcCoe Idealize.ShloMosaic.ValueIdx
open Cert.ReferenceIdeal Cert.ReferenceIdeal.Gen Cert.Num
open scoped BigOperators

/-- The widened latents. -/
theorem lat_at (a0 : S3x640x512.Idx → EReal) (a1 : S3x640x4.Idx → EReal) (t : Fin 1920) (r : Fin 512) :
    k0_pay2 (F := Ideal) a0 a1 (ix2 t r) = lat a0 a1 r t := by
  show (shapeCast S1920x512 (mulf (shapeCast S1920x4x128 (shapeCast S1920x512 a0 shapeCasts_S3x640x512_S1920x512 : FVec Ideal S1920x512 .bf16) shapeCasts_S1920x512_S1920x4x128 : FVec Ideal S1920x4x128 .bf16)
    (broadcastTo S1920x4x128 (shapeCast S1920x4x1 (shapeCast S1920x4 a1 shapeCasts_S3x640x4_S1920x4 : FVec Ideal S1920x4 .bf16) shapeCasts_S1920x4_S1920x4x1 : FVec Ideal S1920x4x1 .bf16) broadcasts_S1920x4x1_S1920x4x128)) shapeCasts_S1920x4x128_S1920x512 : FVec Ideal S1920x512 .bf16) (ix2 t r) = lat a0 a1 r t
  refine (cast_at (α := EReal) _ shapeCasts_S1920x4x128_S1920x512 _ (ix3 t (⟨r.1 / 128, by omega⟩ : Fin 4) (⟨r.1 % 128, by omega⟩ : Fin 128)) ?_).trans ?_
  · rw [Shape.rowMajor_val_two, Shape.rowMajor_val_three]
    show (t.1 * 4 + r.1 / 128) * 128 + r.1 % 128 = t.1 * 512 + r.1
    omega
  refine congrArg₂ (fun x y : EReal => x * y) ((cast_at (α := EReal) _ shapeCasts_S1920x512_S1920x4x128 _ (ix2 t r) ?_).trans (cast_at a0 _ _ _ ?_))
    ((congrArg _ (?_ : _ = ix3 t (⟨r.1 / 128, by omega⟩ : Fin 4) (0 : Fin 1))).trans ((cast_at (α := EReal) _ shapeCasts_S1920x4_S1920x4x1 _ (ix2 t (⟨r.1 / 128, by omega⟩ : Fin 4)) ?_).trans (cast_at a1 _ _ _ ?_)))
  · rw [Shape.rowMajor_val_two, Shape.rowMajor_val_three]
    show t.1 * 512 + r.1 = (t.1 * 4 + r.1 / 128) * 128 + r.1 % 128
    omega
  · rw [Shape.rowMajor_val_two, Shape.rowMajor_val_three]
    show (t.1 / 640 * 640 + t.1 % 640) * 512 + r.1 = t.1 * 512 + r.1
    omega
  · refine funext fun a => Fin.ext ?_
    match a with
    | 0 => rfl
    | 1 => rfl
    | 2 => rfl
  · rw [Shape.rowMajor_val_two, Shape.rowMajor_val_three]
    show t.1 * 4 + r.1 / 128 = (t.1 * 4 + r.1 / 128) * 1 + 0
    omega
  · rw [Shape.rowMajor_val_two, Shape.rowMajor_val_three]
    show (t.1 / 640 * 640 + t.1 % 640) * 4 + r.1 / 128 = t.1 * 4 + r.1 / 128
    omega

/-- The widened cotangents, from codes and scales. -/
theorem cot_at (a2 : S3x640x16x128.Idx → EReal) (a3 : S3x5x16x128.Idx → EReal) (t : Fin 1920) (h : Fin 16) (d : Fin 128) (n : Fin 2048)
    (hn : n.1 = 128 * h.1 + d.1) :
    k0_pay3 (F := Ideal) a2 a3 (ix2 t n) = cot a2 a3 h d t := by
  show (shapeCast S1920x2048 (mulf (shapeCast S15x128x16x128 (shapeCast S1920x16x128 a2 shapeCasts_S3x640x16x128_S1920x16x128 : FVec Ideal S1920x16x128 .bf16) shapeCasts_S1920x16x128_S15x128x16x128 : FVec Ideal S15x128x16x128 .bf16)
    (broadcastTo S15x128x16x128 (shapeCast S15x1x16x128 (shapeCast S15x16x128 a3 shapeCasts_S3x5x16x128_S15x16x128 : FVec Ideal S15x16x128 .bf16) shapeCasts_S15x16x128_S15x1x16x128 : FVec Ideal S15x1x16x128 .bf16) broadcasts_S15x1x16x128_S15x128x16x128)) shapeCasts_S15x128x16x128_S1920x2048 : FVec Ideal S1920x2048 .bf16) (ix2 t n) = cot a2 a3 h d t
  refine (cast_at (α := EReal) _ shapeCasts_S15x128x16x128_S1920x2048 _ (ix4 (⟨t.1 / 128, by omega⟩ : Fin 15) (⟨t.1 % 128, by omega⟩ : Fin 128) h d) ?_).trans ?_
  · rw [Shape.rowMajor_val_two, Shape.rowMajor_val_four]
    show ((t.1 / 128 * 128 + t.1 % 128) * 16 + h.1) * 128 + d.1 = t.1 * 2048 + n.1
    omega
  refine congrArg₂ (fun x y : EReal => x * y) ((cast_at (α := EReal) _ shapeCasts_S1920x16x128_S15x128x16x128 _ (ix3 t h d) ?_).trans (cast_at a2 _ _ _ ?_))
    ((congrArg _ (?_ : _ = ix4 (⟨t.1 / 128, by omega⟩ : Fin 15) (0 : Fin 1) h d)).trans ((cast_at (α := EReal) _ shapeCasts_S15x16x128_S15x1x16x128 _ (ix3 (⟨t.1 / 128, by omega⟩ : Fin 15) h d) ?_).trans (cast_at a3 _ _ _ ?_)))
  · rw [Shape.rowMajor_val_three, Shape.rowMajor_val_four]
    show (t.1 * 16 + h.1) * 128 + d.1 = ((t.1 / 128 * 128 + t.1 % 128) * 16 + h.1) * 128 + d.1
    omega
  · rw [Shape.rowMajor_val_three, Shape.rowMajor_val_four]
    show ((t.1 / 640 * 640 + t.1 % 640) * 16 + h.1) * 128 + d.1 = (t.1 * 16 + h.1) * 128 + d.1
    omega
  · refine funext fun a => Fin.ext ?_
    match a with
    | 0 => rfl
    | 1 => rfl
    | 2 => rfl
    | 3 => rfl
  · rw [Shape.rowMajor_val_three, Shape.rowMajor_val_four]
    show (t.1 / 128 * 16 + h.1) * 128 + d.1 = ((t.1 / 128 * 1 + 0) * 16 + h.1) * 128 + d.1
    omega
  · rw [Shape.rowMajor_val_three, Shape.rowMajor_val_four]
    show ((t.1 / 640 * 5 + t.1 % 640 / 128) * 16 + h.1) * 128 + d.1 = (t.1 / 128 * 16 + h.1) * 128 + d.1
    omega

/-- The product over the tokens, the rows of both factors. -/
theorem dot_at (x : FVec Ideal S1920x512 .bf16) (w : FVec Ideal S1920x2048 .bf16) (r : Fin 512) (n : Fin 2048) :
    (matmul dot_S1920x512_S1920x2048_S512x2048_0_0_1_1_n_n none x w (constant S512x2048 .f32 0x00000000#32) : FVec Ideal S512x2048 .f32) (ix2 r n)
      = (∑ t : Fin 1920, x (ix2 t r) * w (ix2 t n) : EReal) := by
  refine (Ideal.matmul_constant_zero_apply dot_S1920x512_S1920x2048_S512x2048_0_0_1_1_n_n none x w (ix2 r n)).trans ?_
  rw [← Equiv.sum_comp (contrEquiv1 dot_S1920x512_S1920x2048_S512x2048_0_0_1_1_n_n 1920 rfl rfl).symm]
  refine Finset.sum_congr rfl fun t _ => ?_
  have ht := contrEquiv1_symm_val dot_S1920x512_S1920x2048_S512x2048_0_0_1_1_n_n 1920 rfl rfl t
  refine congrArg₂ (fun x y : EReal => x * y) (congrArg x ?_) (congrArg w ?_)
  · refine funext fun a => Fin.ext ?_
    match a with
    | ⟨0, _⟩ => exact ht
    | ⟨1, _⟩ => rfl
  · refine funext fun a => Fin.ext ?_
    match a with
    | ⟨0, _⟩ => exact ht
    | ⟨1, _⟩ => rfl

/-- A result is the weight gradient. -/
theorem result_eq (a0 : S3x640x512.Idx → EReal) (a1 : S3x640x4.Idx → EReal) (a2 : S3x640x16x128.Idx → EReal) (a3 : S3x5x16x128.Idx → EReal) :
    (shapeCast S512x4x4x128 (matmul dot_S1920x512_S1920x2048_S512x2048_0_0_1_1_n_n none (k0_pay2 (F := Ideal) a0 a1) (k0_pay3 (F := Ideal) a2 a3) (constant S512x2048 .f32 0x00000000#32) : FVec Ideal S512x2048 .f32) shapeCasts_S512x2048_S512x4x4x128 : FVec Ideal S512x4x4x128 .f32)
      = gradArr a0 a1 a2 a3 := by
  funext y
  have h1 : (y 1).1 < 4 := (y 1).2
  have h2 : (y 2).1 < 4 := (y 2).2
  have h3 : (y 3).1 < 128 := (y 3).2
  refine (cast_at _ _ _ (ix2 (⟨(y 0).1, (y 0).2⟩ : Fin 512) (⟨128 * (4 * (y 1).1 + (y 2).1) + (y 3).1, by omega⟩ : Fin 2048)) ?_).trans ((dot_at _ _ _ _).trans ?_)
  · rw [Shape.rowMajor_val_two, Shape.rowMajor_val_four]
    show (y 0).1 * 2048 + (128 * (4 * (y 1).1 + (y 2).1) + (y 3).1) = (((y 0).1 * 4 + (y 1).1) * 4 + (y 2).1) * 128 + (y 3).1
    omega
  exact Finset.sum_congr rfl fun t _ => congrArg₂ (fun x y : EReal => x * y) (lat_at a0 a1 t _) (cot_at a2 a3 t _ _ _ rfl)

theorem value6 (a0 : S3x640x512.Idx → EReal) (a1 : S3x640x4.Idx → EReal) (a2 : S3x640x16x128.Idx → EReal) (a3 : S3x5x16x128.Idx → EReal)
    (a4 : S3x640x16x128.Idx → EReal) (a5 : S3x5x16x128.Idx → EReal) :
    Value.G6 (F := Ideal) a0 a1 a2 a3 a4 a5 = gradArr a0 a1 a2 a3 := result_eq a0 a1 a2 a3
theorem value7 (a0 : S3x640x512.Idx → EReal) (a1 : S3x640x4.Idx → EReal) (a2 : S3x640x16x128.Idx → EReal) (a3 : S3x5x16x128.Idx → EReal)
    (a4 : S3x640x16x128.Idx → EReal) (a5 : S3x5x16x128.Idx → EReal) :
    Value.G7 (F := Ideal) a0 a1 a2 a3 a4 a5 = gradArr a0 a1 a4 a5 := result_eq a0 a1 a4 a5

end Cert.ReferenceIdeal.Hand
-- ==== Proof.KernelDc.Cut.lean ====
/- The printed body around its one loop. The loop is opaque to unfolding, so the printed text is named
   here on either side of it, window by window as it is printed: the loop's region, the rest of the window
   the loop stands in, the rest of the enclosing window, and the rest of the body. `Body` shows
   each equal to a part of the program written over its own indices. -/
module

public import proofs.«01_k».proof.Proof.Gen.KernelDc
public import Idealize.ShloMosaic.Lib.Tactic

@[expose] public section

noncomputable section

namespace Cert.KernelDc.Hand

open Idealize.ShloMosaic Idealize.ShloMosaic.TcCoe Idealize.SL.Sem
open Cert.KernelDc Cert.KernelDc.Gen

variable {F : FTy → Type} [FloatOps F]

/-- The kernel's programs. -/
abbrev P (F : FTy → Type) [FloatOps F] (α : Type) : Type _ := Prog (TpuEff nD τ sig (Elt F) Λ₀ .tc) α

/-- One trip of the loop, as printed. -/
def printedLoop (arg0 : Memref sig .tc .vmem S30720x128 .fp8e5m2) (harg0 : arg0.IsWhole) (arg1 : Memref sig .tc .vmem S3x16x640 .f32) (harg1 : arg1.IsWhole) (arg2 : Memref sig .tc .vmem S30720x128 .fp8e5m2) (harg2 : arg2.IsWhole) (arg3 : Memref sig .tc .vmem S3x16x640 .f32) (harg3 : arg3.IsWhole) (arg4 : Memref sig .tc .hbm S8192x128 .fp8e4m3) (harg4 : arg4.IsWhole) (arg5 : Memref sig .tc .smem S4x16 .f32) (harg5 : arg5.IsWhole) (arg6 : Memref sig .tc .hbm S8192x128 .fp8e4m3) (harg6 : arg6.IsWhole) (arg7 : Memref sig .tc .smem S4x16 .f32) (harg7 : arg7.IsWhole) (arg8 : Memref sig .tc .hbm S1920x512 .bf16) (harg8 : arg8.IsWhole) (arg9 : Memref sig .tc .vmem S8192x128 .fp8e4m3) (harg9 : arg9.IsWhole) (arg10 : Memref sig .tc .vmem S8192x128 .fp8e4m3) (harg10 : arg10.IsWhole) (arg11 : Memref sig .tc .vmem S2x8x512x256 .bf16) (harg11 : arg11.IsWhole) (arg12 : Memref sig .tc .vmem S1920x512 .bf16) (harg12 : arg12.IsWhole) (arg13 : Memref sig .tc .vmem S4608x128 .bf16) (harg13 : arg13.IsWhole) (arg14 : Memref sig .tc .vmem S4608x128 .bf16) (harg14 : arg14.IsWhole) (arg15 : Memref sig .tc .vmem S4608x128 .bf16) (harg15 : arg15.IsWhole) (arg16 : Memref sig .tc .vmem S4608x128 .bf16) (harg16 : arg16.IsWhole) (arg17 : DmaSems sig S2) (arg18 : DmaSems sig S5) (k0_t1 : Fin k0_t1_loop.trips) :
    P F PUnit.{1} := do
  let c0_i32_2045 : BitVec 32 := 0#32
  let c1_i32_2046 : BitVec 32 := 1#32
  let ⟨v9998, v10236, v11619, v11653, v12577⟩ : Σ' (v9998 : BitVec 32) (v10236 : BitVec 32) (v11619 : BitVec 32) (v11653 : FVec F S16x128 .bf16), FVec F S16x128 .bf16 ← k0_part267 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 c0_i32_2045 c1_i32_2046 k0_t1
  let ⟨v14381, v14415, v15174, v15177, v15180⟩ : Σ' (v14381 : BitVec 32) (v14415 : FVec F S16x128 .bf16) (v15174 : FVec F S16x128 .bf16) (v15177 : FVec F S16x128 .bf16), Vec F S32x128 .fp8e5m2 ← k0_part268 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 k0_t1 v10236 v11619 v11653 v12577
  let ⟨v15998, v17381, v17415, v17754, v17757, v17760⟩ : Σ' (v15998 : BitVec 32) (v17381 : BitVec 32) (v17415 : FVec F S16x128 .bf16) (v17754 : FVec F S16x128 .bf16) (v17757 : FVec F S16x128 .bf16), Vec F S32x128 .fp8e5m2 ← k0_part269 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 k0_t1 v9998 v14381 v14415 v15174 v15177 v15180
  let ⟨v20143, v20177, v20363⟩ : Σ' (v20143 : BitVec 32) (v20177 : FVec F S16x128 .bf16), FVec F S16x128 .bf16 ← k0_part270 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 k0_t1 v15998 v17381 v17415 v17754 v17757 v17760
  let ⟨v21506, v21517⟩ : Σ' (v21506 : FVec F S16x128 .bf16), FVec F S16x128 .bf16 ← k0_part271 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 k0_t1 v20143 v20177 v20363
  have v21518 : FVec F S16x128 .bf16 := mulf v21517 v21506
  let c4590_6502 : Index := 4590#32
  let c0_6503 : Index := 0#32
  let v21519 : Vec F S16x128 .bf16 ← Prog.lift (.load arg14 (Rect.unit (s := S4608x128) ![4590, 0] S16x128.size inb_S4608x128_S16x128_4590_0).toLoadRect (View.loadsAt_vmem h_S16x128))
  have v21520 : FVec F S16x128 .bf16 := shapeCast S16x128 v21519 shapeCasts_S16x128_S16x128
  have v21521 : FVec F S16x128 .bf16 := shapeCast S16x128 v21518 shapeCasts_S16x128_S16x128
  Prog.lift (.store arg14 (Rect.unit (s := S4608x128) ![4590, 0] S16x128.size inb_S4608x128_S16x128_4590_0) v21521 Finset.univ (View.stores_vmem h_S16x128 (harg14.storeExact_slice rfl _ packedbf16_S4608x128_S16x128_4590_0) (fun _ => rfl)) (.inl rfl))
  pure ⟨⟩

/-- The rest of the window the loop stands in, as printed. -/
def printedTail1 (arg0 : Memref sig .tc .vmem S30720x128 .fp8e5m2) (harg0 : arg0.IsWhole) (arg1 : Memref sig .tc .vmem S3x16x640 .f32) (harg1 : arg1.IsWhole) (arg2 : Memref sig .tc .vmem S30720x128 .fp8e5m2) (harg2 : arg2.IsWhole) (arg3 : Memref sig .tc .vmem S3x16x640 .f32) (harg3 : arg3.IsWhole) (arg4 : Memref sig .tc .hbm S8192x128 .fp8e4m3) (harg4 : arg4.IsWhole) (arg5 : Memref sig .tc .smem S4x16 .f32) (harg5 : arg5.IsWhole) (arg6 : Memref sig .tc .hbm S8192x128 .fp8e4m3) (harg6 : arg6.IsWhole) (arg7 : Memref sig .tc .smem S4x16 .f32) (harg7 : arg7.IsWhole) (arg8 : Memref sig .tc .hbm S1920x512 .bf16) (harg8 : arg8.IsWhole) (arg9 : Memref sig .tc .vmem S8192x128 .fp8e4m3) (harg9 : arg9.IsWhole) (arg10 : Memref sig .tc .vmem S8192x128 .fp8e4m3) (harg10 : arg10.IsWhole) (arg11 : Memref sig .tc .vmem S2x8x512x256 .bf16) (harg11 : arg11.IsWhole) (arg12 : Memref sig .tc .vmem S1920x512 .bf16) (harg12 : arg12.IsWhole) (arg13 : Memref sig .tc .vmem S4608x128 .bf16) (harg13 : arg13.IsWhole) (arg14 : Memref sig .tc .vmem S4608x128 .bf16) (harg14 : arg14.IsWhole) (arg15 : Memref sig .tc .vmem S4608x128 .bf16) (harg15 : arg15.IsWhole) (arg16 : Memref sig .tc .vmem S4608x128 .bf16) (harg16 : arg16.IsWhole) (arg17 : DmaSems sig S2) (arg18 : DmaSems sig S5) :
    P F (Σ' (v6817 : BitVec 32) (v6842 : FVec F S512x256 .f32), FVec F S256x1x2x128 .bf16) := do
  let c3_i32_2047 : BitVec 32 := 3#32
  let c1536_i32_2048 : BitVec 32 := 1536#32
  let v6817 : BitVec 32 := c1536_i32_2048
  let c0_2049 : Index := 0#32
  let c0_2050 : Index := 0#32
  let v6818 : Vec F S4608x128 .bf16 ← Prog.lift (.load arg13 (Rect.unit (s := S4608x128) ![0, 0] S4608x128.size inb_S4608x128_S4608x128_0_0).toLoadRect (View.loadsAt_vmem h_S4608x128))
  have v6819 : FVec F S256x9x2x128 .bf16 := shapeCast S256x9x2x128 v6818 shapeCasts_S4608x128_S256x9x2x128
  have v6820 : FVec F S256x1x2x128 .bf16 := extractStridedSlice S256x1x2x128 ![0, 0, 0, 0] v6819 slices_S256x9x2x128_o0_0_0_0_S256x1x2x128
  have v6821 : FVec F S256x2x128 .bf16 := shapeCast S256x2x128 v6820 shapeCasts_S256x1x2x128_S256x2x128
  have v6822 : FVec F S256x1x128 .bf16 := extractStridedSlice S256x1x128 ![0, 0, 0] v6821 slices_S256x2x128_o0_0_0_S256x1x128
  have v6823 : FVec F S256x128 .bf16 := shapeCast S256x128 v6822 shapeCasts_S256x1x128_S256x128
  have v6824 : FVec F S256x1x128 .bf16 := extractStridedSlice S256x1x128 ![0, 1, 0] v6821 slices_S256x2x128_o0_1_0_S256x1x128
  have v6825 : FVec F S256x128 .bf16 := shapeCast S256x128 v6824 shapeCasts_S256x1x128_S256x128
  have v6826 : FVec F S256x256 .bf16 := concatenate S256x256 1 [⟨S256x128, v6823⟩, ⟨S256x128, v6825⟩] concatenates_S256x128_S256x128_S256x256_d1
  let c0_2051 : Index := 0#32
  let c0_2052 : Index := 0#32
  let c0_2053 : Index := 0#32
  let c0_2054 : Index := 0#32
  let v6827 : Vec F S1x1x512x256 .bf16 ← Prog.lift (.load arg11 (Rect.unit (s := S2x8x512x256) ![0, 0, 0, 0] S1x1x512x256.size inb_S2x8x512x256_S1x1x512x256_0_0_0_0).toLoadRect (View.loadsAt_vmem h_S1x1x512x256))
  have v6828 : FVec F S512x256 .bf16 := shapeCast S512x256 v6827 shapeCasts_S1x1x512x256_S512x256
  have cst : FVec F S512x256 .f32 := constant S512x256 .f32 0x00000000#32
  have v6829 : FVec F S512x256 .f32 := matmul dot_S512x256_S256x256_S512x256_1_1_0_0_n_n none v6828 v6826 cst
  let c0_2055 : Index := 0#32
  let c0_2056 : Index := 0#32
  let v6830 : Vec F S4608x128 .bf16 ← Prog.lift (.load arg13 (Rect.unit (s := S4608x128) ![0, 0] S4608x128.size inb_S4608x128_S4608x128_0_0).toLoadRect (View.loadsAt_vmem h_S4608x128))
  have v6831 : FVec F S256x9x2x128 .bf16 := shapeCast S256x9x2x128 v6830 shapeCasts_S4608x128_S256x9x2x128
  have v6832 : FVec F S256x1x2x128 .bf16 := extractStridedSlice S256x1x2x128 ![0, 1, 0, 0] v6831 slices_S256x9x2x128_o0_1_0_0_S256x1x2x128
  have v6833 : FVec F S256x2x128 .bf16 := shapeCast S256x2x128 v6832 shapeCasts_S256x1x2x128_S256x2x128
  have v6834 : FVec F S256x1x128 .bf16 := extractStridedSlice S256x1x128 ![0, 0, 0] v6833 slices_S256x2x128_o0_0_0_S256x1x128
  have v6835 : FVec F S256x128 .bf16 := shapeCast S256x128 v6834 shapeCasts_S256x1x128_S256x128
  have v6836 : FVec F S256x1x128 .bf16 := extractStridedSlice S256x1x128 ![0, 1, 0] v6833 slices_S256x2x128_o0_1_0_S256x1x128
  have v6837 : FVec F S256x128 .bf16 := shapeCast S256x128 v6836 shapeCasts_S256x1x128_S256x128
  have v6838 : FVec F S256x256 .bf16 := concatenate S256x256 1 [⟨S256x128, v6835⟩, ⟨S256x128, v6837⟩] concatenates_S256x128_S256x128_S256x256_d1
  let c0_2057 : Index := 0#32
  let c1_2058 : Index := 1#32
  let c0_2059 : Index := 0#32
  let c0_2060 : Index := 0#32
  let v6839 : Vec F S1x1x512x256 .bf16 ← Prog.lift (.load arg11 (Rect.unit (s := S2x8x512x256) ![0, 1, 0, 0] S1x1x512x256.size inb_S2x8x512x256_S1x1x512x256_0_1_0_0).toLoadRect (View.loadsAt_vmem h_S1x1x512x256))
  have v6840 : FVec F S512x256 .bf16 := shapeCast S512x256 v6839 shapeCasts_S1x1x512x256_S512x256
  have cst_2061 : FVec F S512x256 .f32 := constant S512x256 .f32 0x00000000#32
  have v6841 : FVec F S512x256 .f32 := matmul dot_S512x256_S256x256_S512x256_1_1_0_0_n_n none v6840 v6838 cst_2061
  have v6842 : FVec F S512x256 .f32 := addf v6829 v6841
  let c0_2062 : Index := 0#32
  let c0_2063 : Index := 0#32
  let v6843 : Vec F S4608x128 .bf16 ← Prog.lift (.load arg13 (Rect.unit (s := S4608x128) ![0, 0] S4608x128.size inb_S4608x128_S4608x128_0_0).toLoadRect (View.loadsAt_vmem h_S4608x128))
  have v6844 : FVec F S256x9x2x128 .bf16 := shapeCast S256x9x2x128 v6843 shapeCasts_S4608x128_S256x9x2x128
  have v6845 : FVec F S256x1x2x128 .bf16 := extractStridedSlice S256x1x2x128 ![0, 2, 0, 0] v6844 slices_S256x9x2x128_o0_2_0_0_S256x1x2x128
  pure ⟨v6817, v6842, v6845⟩

/-- The rest of the enclosing window, as printed. -/
def printedTail2 (arg0 : Memref sig .tc .vmem S30720x128 .fp8e5m2) (harg0 : arg0.IsWhole) (arg1 : Memref sig .tc .vmem S3x16x640 .f32) (harg1 : arg1.IsWhole) (arg2 : Memref sig .tc .vmem S30720x128 .fp8e5m2) (harg2 : arg2.IsWhole) (arg3 : Memref sig .tc .vmem S3x16x640 .f32) (harg3 : arg3.IsWhole) (arg4 : Memref sig .tc .hbm S8192x128 .fp8e4m3) (harg4 : arg4.IsWhole) (arg5 : Memref sig .tc .smem S4x16 .f32) (harg5 : arg5.IsWhole) (arg6 : Memref sig .tc .hbm S8192x128 .fp8e4m3) (harg6 : arg6.IsWhole) (arg7 : Memref sig .tc .smem S4x16 .f32) (harg7 : arg7.IsWhole) (arg8 : Memref sig .tc .hbm S1920x512 .bf16) (harg8 : arg8.IsWhole) (arg9 : Memref sig .tc .vmem S8192x128 .fp8e4m3) (harg9 : arg9.IsWhole) (arg10 : Memref sig .tc .vmem S8192x128 .fp8e4m3) (harg10 : arg10.IsWhole) (arg11 : Memref sig .tc .vmem S2x8x512x256 .bf16) (harg11 : arg11.IsWhole) (arg12 : Memref sig .tc .vmem S1920x512 .bf16) (harg12 : arg12.IsWhole) (arg13 : Memref sig .tc .vmem S4608x128 .bf16) (harg13 : arg13.IsWhole) (arg14 : Memref sig .tc .vmem S4608x128 .bf16) (harg14 : arg14.IsWhole) (arg15 : Memref sig .tc .vmem S4608x128 .bf16) (harg15 : arg15.IsWhole) (arg16 : Memref sig .tc .vmem S4608x128 .bf16) (harg16 : arg16.IsWhole) (arg17 : DmaSems sig S2) (arg18 : DmaSems sig S5) (r : Σ' (v6817 : BitVec 32) (v6842 : FVec F S512x256 .f32), FVec F S256x1x2x128 .bf16) :
    P F (Σ' (v7053 : BitVec 32) (v7058 : FVec F S16x128 .bf16), FVec F S16x128 .bf16) := do
  let ⟨v6817, v6842, v6845⟩ := r
  let ⟨v6881, v6884⟩ : Σ' (v6881 : FVec F S512x256 .f32), FVec F S256x1x2x128 .bf16 ← k0_part437 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v6842 v6845
  let ⟨v6920, v6923⟩ : Σ' (v6920 : FVec F S512x256 .f32), FVec F S256x1x2x128 .bf16 ← k0_part438 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v6881 v6884
  let ⟨v6959, v6962⟩ : Σ' (v6959 : FVec F S512x256 .f32), FVec F S256x1x2x128 .bf16 ← k0_part439 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v6920 v6923
  let ⟨v6998, v7001⟩ : Σ' (v6998 : FVec F S512x256 .f32), FVec F S256x1x2x128 .bf16 ← k0_part440 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v6959 v6962
  let ⟨v7024, v7041⟩ : Σ' (v7024 : FVec F S512x256 .f32), FVec F S256x128 .bf16 ← k0_part441 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v6817 v6998 v7001
  let ⟨v7053, v7058, v7082, v7085⟩ : Σ' (v7053 : BitVec 32) (v7058 : FVec F S16x128 .bf16) (v7082 : FVec F S16x128 .bf16), FVec F S16x128 .bf16 ← k0_part442 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v6817 v7024 v7041
  let ⟨v7124, v7127, v7131⟩ : Σ' (v7124 : FVec F S16x128 .bf16) (v7127 : FVec F S16x128 .bf16), FVec F S32x128 .fp8e5m2 ← k0_part443 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7082 v7085
  let ⟨v7166, v7169, v7174, v7175⟩ : Σ' (v7166 : FVec F S16x128 .bf16) (v7169 : FVec F S16x128 .bf16) (v7174 : FVec F S32x128 .bf16), FVec F S16x128 .bf16 ← k0_part444 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7124 v7127 v7131
  let ⟨v7211, v7216, v7218⟩ : Σ' (v7211 : FVec F S16x128 .bf16) (v7216 : FVec F S32x128 .bf16), FVec F S16x128 .bf16 ← k0_part445 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7166 v7169 v7174 v7175
  let ⟨v7253, v7258, v7260, v7261⟩ : Σ' (v7253 : FVec F S16x128 .bf16) (v7258 : FVec F S32x128 .bf16) (v7260 : FVec F S16x128 .bf16), Vec F S16x128 .bf16 ← k0_part446 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7211 v7216 v7218
  let ⟨v7295, v7300, v7305⟩ : Σ' (v7295 : FVec F S16x128 .bf16) (v7300 : FVec F S32x128 .bf16), FVec F S16x128 .bf16 ← k0_part447 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7253 v7258 v7260 v7261
  let ⟨v7337, v7348⟩ : Σ' (v7337 : FVec F S16x128 .bf16), FVec F S16x128 .bf16 ← k0_part448 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7295 v7300 v7305
  let v7391 : FVec F S16x128 .bf16 ← k0_part449 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7337 v7348
  let ⟨v7433, v7434⟩ : Σ' (v7433 : FVec F S16x128 .bf16), Vec F S16x128 .bf16 ← k0_part450 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7391
  let v7478 : FVec F S16x128 .bf16 ← k0_part451 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7433 v7434
  pure ⟨v7053, v7058, v7478⟩

/-- The rest of the body, as printed. -/
def printedTail3 (arg0 : Memref sig .tc .vmem S30720x128 .fp8e5m2) (harg0 : arg0.IsWhole) (arg1 : Memref sig .tc .vmem S3x16x640 .f32) (harg1 : arg1.IsWhole) (arg2 : Memref sig .tc .vmem S30720x128 .fp8e5m2) (harg2 : arg2.IsWhole) (arg3 : Memref sig .tc .vmem S3x16x640 .f32) (harg3 : arg3.IsWhole) (arg4 : Memref sig .tc .hbm S8192x128 .fp8e4m3) (harg4 : arg4.IsWhole) (arg5 : Memref sig .tc .smem S4x16 .f32) (harg5 : arg5.IsWhole) (arg6 : Memref sig .tc .hbm S8192x128 .fp8e4m3) (harg6 : arg6.IsWhole) (arg7 : Memref sig .tc .smem S4x16 .f32) (harg7 : arg7.IsWhole) (arg8 : Memref sig .tc .hbm S1920x512 .bf16) (harg8 : arg8.IsWhole) (arg9 : Memref sig .tc .vmem S8192x128 .fp8e4m3) (harg9 : arg9.IsWhole) (arg10 : Memref sig .tc .vmem S8192x128 .fp8e4m3) (harg10 : arg10.IsWhole) (arg11 : Memref sig .tc .vmem S2x8x512x256 .bf16) (harg11 : arg11.IsWhole) (arg12 : Memref sig .tc .vmem S1920x512 .bf16) (harg12 : arg12.IsWhole) (arg13 : Memref sig .tc .vmem S4608x128 .bf16) (harg13 : arg13.IsWhole) (arg14 : Memref sig .tc .vmem S4608x128 .bf16) (harg14 : arg14.IsWhole) (arg15 : Memref sig .tc .vmem S4608x128 .bf16) (harg15 : arg15.IsWhole) (arg16 : Memref sig .tc .vmem S4608x128 .bf16) (harg16 : arg16.IsWhole) (arg17 : DmaSems sig S2) (arg18 : DmaSems sig S5) (r : Σ' (v7053 : BitVec 32) (v7058 : FVec F S16x128 .bf16), FVec F S16x128 .bf16) :
    P F PUnit.{1} := do
  let ⟨v7053, v7058, v7478⟩ := r
  let ⟨v9753, v9960⟩ : Σ' (v9753 : BitVec 32), FVec F S512x128 .f32 ← k0_part513 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7478
  have v9975 : FVec F S128x128 .f32 := extractStridedSlice S128x128 ![256, 0] v9960 slices_S512x128_o256_0_S128x128
  have v9976 : FVec F S128x128 .bf16 := truncf .bf16 v9975 bitsLt_bf16_f32
  have v9977 : FVec F S128x128 .bf16 := transpose S128x128 [1, 0] v9976 transposes_S128x128_p1_0_S128x128
  let v9978 : Index := Scalar.indexCast v9753
  let c256_3054 : Index := 256#32
  let v9979 : Vec F S128x128 .bf16 ← Prog.lift (.load arg12 (Rect.unit (s := S1920x512) ![1792, 256] S128x128.size inb_S1920x512_S128x128_1792_256).toLoadRect (View.loadsAt_vmem h_S128x128))
  have v9980 : FVec F S128x128 .bf16 := shapeCast S128x128 v9979 shapeCasts_S128x128_S128x128
  have v9981 : FVec F S128x128 .bf16 := shapeCast S128x128 v9977 shapeCasts_S128x128_S128x128
  Prog.lift (.store arg12 (Rect.unit (s := S1920x512) ![1792, 256] S128x128.size inb_S1920x512_S128x128_1792_256) v9981 Finset.univ (View.stores_vmem h_S128x128 (harg12.storeExact_slice rfl _ packedbf16_S1920x512_S128x128_1792_256) (fun _ => rfl)) (.inl rfl))
  have v9982 : FVec F S128x128 .f32 := extractStridedSlice S128x128 ![384, 0] v9960 slices_S512x128_o384_0_S128x128
  have v9983 : FVec F S128x128 .bf16 := truncf .bf16 v9982 bitsLt_bf16_f32
  have v9984 : FVec F S128x128 .bf16 := transpose S128x128 [1, 0] v9983 transposes_S128x128_p1_0_S128x128
  let v9985 : Index := Scalar.indexCast v9753
  let c384_3055 : Index := 384#32
  let v9986 : Vec F S128x128 .bf16 ← Prog.lift (.load arg12 (Rect.unit (s := S1920x512) ![1792, 384] S128x128.size inb_S1920x512_S128x128_1792_384).toLoadRect (View.loadsAt_vmem h_S128x128))
  have v9987 : FVec F S128x128 .bf16 := shapeCast S128x128 v9986 shapeCasts_S128x128_S128x128
  have v9988 : FVec F S128x128 .bf16 := shapeCast S128x128 v9984 shapeCasts_S128x128_S128x128
  Prog.lift (.store arg12 (Rect.unit (s := S1920x512) ![1792, 384] S128x128.size inb_S1920x512_S128x128_1792_384) v9988 Finset.univ (View.stores_vmem h_S128x128 (harg12.storeExact_slice rfl _ packedbf16_S1920x512_S128x128_1792_384) (fun _ => rfl)) (.inl rfl))
  let c0_i32_3056 : BitVec 32 := 0#32
  let v9989 : BitVec 32 := c0_i32_3056
  let c4_i32 : BitVec 32 := 4#32
  let v9990 : DmaSems sig S1 := arg18.slice (Rect.unit (s := S5) ![4] S1.size inb_S5_S1_4)
  let v9991 : DmaSems sig S_ := v9990.squeeze S_ squeezes_S1_S_
  let c0_i32_3057 : BitVec 32 := 0#32
  let v9992 : Memref sig .tc .hbm S1920x512 .bf16 := arg8.slice (Rect.unit (s := S1920x512) ![0, 0] S1920x512.size inb_S1920x512_S1920x512_0_0) (fun _ => rfl)
  let c0_i32_3058 : BitVec 32 := 0#32
  let v9993 : Memref sig .tc .vmem S1920x512 .bf16 := arg12.slice (Rect.unit (s := S1920x512) ![0, 0] S1920x512.size inb_S1920x512_S1920x512_0_0) (fun _ => rfl)
  Prog.lift (.enqueueDma v9993 (.here v9992) (.dma v9991.sem) (harg12.wordExact_slice rfl _ wordsbf16_S1920x512_S1920x512_0_0) (harg8.wordExact_slice rfl _ wordsbf16_S1920x512_S1920x512_0_0) ⟨Or.inl rfl, trivial⟩)
  let c4_i32_3059 : BitVec 32 := 4#32
  let v9994 : DmaSems sig S1 := arg18.slice (Rect.unit (s := S5) ![4] S1.size inb_S5_S1_4)
  let v9995 : DmaSems sig S_ := v9994.squeeze S_ squeezes_S1_S_
  let c0_i32_3060 : BitVec 32 := 0#32
  let v9996 : Memref sig .tc .hbm S1920x512 .bf16 := arg8.slice (Rect.unit (s := S1920x512) ![0, 0] S1920x512.size inb_S1920x512_S1920x512_0_0) (fun _ => rfl)
  let c0_i32_3061 : BitVec 32 := 0#32
  let v9997 : Memref sig .tc .vmem S1920x512 .bf16 := arg12.slice (Rect.unit (s := S1920x512) ![0, 0] S1920x512.size inb_S1920x512_S1920x512_0_0) (fun _ => rfl)
  Prog.lift (.waitDma2 v9995.sem v9997 v9996 (harg12.wordExact_slice rfl _ wordsbf16_S1920x512_S1920x512_0_0) (harg8.wordExact_slice rfl _ wordsbf16_S1920x512_S1920x512_0_0))
  pure ⟨⟩

end Cert.KernelDc.Hand

end
-- ==== Proof.KernelDc.Body.lean ====
/- The body of the program for `dc`, written again as its loops. The printed body is some thirty thousand
   straight statements around one loop of three trips; here the same operations stand once each, over the
   loop indices the source has: the 128 weight tiles of each weight, the 64 token pairs of a widened
   group, the 16 products of a unit of `dc`. `body_eq` says that the printed body is this program. -/
module

public import proofs.«01_k».proof.Proof.KernelDc.Cut

@[expose] public section

noncomputable section

namespace Cert.KernelDc.Hand

open Idealize.ShloMosaic Idealize.ShloMosaic.TcCoe Idealize.SL.Sem
open Cert.KernelDc Cert.KernelDc.Gen

variable {F : FTy → Type} [FloatOps F]

/-! ## The rectangles -/

theorem inbWc : ∀ (rb : Fin 4), ∀ a, (![2048 * rb.1, 0] : Fin 2 → Nat) a + S2048x128.size a ≤ S8192x128.size a := by decide
theorem inbWs : ∀ (rb q k : Fin 4), ∀ a, (![rb.1, 4 * q.1 + k.1] : Fin 2 → Nat) a + S1x1.size a ≤ S4x16.size a := by decide
theorem inbWb : ∀ (i : Fin 2) (rb q k : Fin 4), ∀ a, (![i.1, (4 * q.1 + k.1) / 2, 128 * rb.1, 128 * ((4 * q.1 + k.1) % 2)] : Fin 4 → Nat) a + S1x1x128x128.size a ≤ S2x8x512x256.size a := by decide
theorem packedWb : ∀ (i : Fin 2) (rb q k : Fin 4), (Rect.unit (s := S2x8x512x256) ![i.1, (4 * q.1 + k.1) / 2, 128 * rb.1, 128 * ((4 * q.1 + k.1) % 2)] S1x1x128x128.size (inbWb i rb q k)).PackedRows (EltTy.packing .bf16) := by decide +kernel
theorem slicesQ : ∀ (q : Fin 4), S128x4x4x128.Slices ![0, q.1, 0, 0] S128x1x4x128 := by decide
theorem slicesK : ∀ (k : Fin 4), S128x4x128.Slices ![0, k.1, 0] S128x1x128 := by decide
theorem inbCode : ∀ (g : Fin 15) (p : Fin 64), ∀ a, (![2048 * g.1 + 32 * p.1, 0] : Fin 2 → Nat) a + S32x128.size a ≤ S30720x128.size a := by decide +kernel
theorem inbScale : ∀ (g : Fin 15), ∀ a, (![g.1 / 5, 0, g.1 % 5 * 128] : Fin 3 → Nat) a + S1x16x128.size a ≤ S3x16x640.size a := by decide
theorem inbNat : ∀ (h : Fin 2) (p : Fin 64) (i : Fin 2), ∀ a, (![2304 * h.1 + (36 * p.1 + 18 * i.1), 0] : Fin 2 → Nat) a + S16x128.size a ≤ S4608x128.size a := by decide +kernel
theorem packedNat : ∀ (h : Fin 2) (p : Fin 64) (i : Fin 2), (Rect.unit (s := S4608x128) ![2304 * h.1 + (36 * p.1 + 18 * i.1), 0] S16x128.size (inbNat h p i)).PackedRows (EltTy.packing .bf16) := by decide +kernel
theorem slicesCol : ∀ (p : Fin 64) (i : Fin 2), S16x128.Slices ![0, 2 * p.1 + i.1] S16x1 := by decide +kernel
theorem slicesHalf : ∀ (i : Fin 2), S32x128.Slices ![16 * i.1, 0] S16x128 := by decide
theorem inbTile : ∀ (i : Fin 2) (j : Fin 8), ∀ a, (![i.1, j.1, 0, 0] : Fin 4 → Nat) a + S1x1x512x256.size a ≤ S2x8x512x256.size a := by decide
theorem slicesJ : ∀ (j : Fin 8), S256x9x2x128.Slices ![0, j.1, 0, 0] S256x1x2x128 := by decide
theorem slicesJ' : ∀ (j : Fin 8), S128x9x2x128.Slices ![0, j.1, 0, 0] S128x1x2x128 := by decide
theorem slicesAcc : ∀ (rb : Fin 4), S512x256.Slices ![128 * rb.1, 0] S128x256 := by decide
theorem slicesAcc' : ∀ (rb : Fin 4), S512x128.Slices ![128 * rb.1, 0] S128x128 := by decide
theorem inbDc6 : ∀ (rb : Fin 4), ∀ a, (![1536, 128 * rb.1] : Fin 2 → Nat) a + S256x128.size a ≤ S1920x512.size a := by decide
theorem packedDc6 : ∀ (rb : Fin 4), (Rect.unit (s := S1920x512) ![1536, 128 * rb.1] S256x128.size (inbDc6 rb)).PackedRows (EltTy.packing .bf16) := by decide
theorem inbDc7 : ∀ (rb : Fin 4), ∀ a, (![1792, 128 * rb.1] : Fin 2 → Nat) a + S128x128.size a ≤ S1920x512.size a := by decide
theorem packedDc7 : ∀ (rb : Fin 4), (Rect.unit (s := S1920x512) ![1792, 128 * rb.1] S128x128.size (inbDc7 rb)).PackedRows (EltTy.packing .bf16) := by decide

abbrev rWc (rb : Fin 4) : Rect S8192x128 := Rect.unit (s := S8192x128) ![2048 * rb.1, 0] S2048x128.size (inbWc rb)
abbrev rWs (rb q k : Fin 4) : Rect S4x16 := Rect.unit (s := S4x16) ![rb.1, 4 * q.1 + k.1] S1x1.size (inbWs rb q k)
abbrev rWb (i : Fin 2) (rb q k : Fin 4) : Rect S2x8x512x256 := Rect.unit (s := S2x8x512x256) ![i.1, (4 * q.1 + k.1) / 2, 128 * rb.1, 128 * ((4 * q.1 + k.1) % 2)] S1x1x128x128.size (inbWb i rb q k)
abbrev rNat (h : Fin 2) (p : Fin 64) (i : Fin 2) : Rect S4608x128 := Rect.unit (s := S4608x128) ![2304 * h.1 + (36 * p.1 + 18 * i.1), 0] S16x128.size (inbNat h p i)
abbrev rAll : Rect S4608x128 := Rect.unit (s := S4608x128) ![0, 0] S4608x128.size inb_S4608x128_S4608x128_0_0
abbrev rHalf : Rect S4608x128 := Rect.unit (s := S4608x128) ![0, 0] S2304x128.size inb_S4608x128_S2304x128_0_0
abbrev rTile (i : Fin 2) (j : Fin 8) : Rect S2x8x512x256 := Rect.unit (s := S2x8x512x256) ![i.1, j.1, 0, 0] S1x1x512x256.size (inbTile i j)

/-! ## What is computed between the memory operations -/

/-- Four heads of 128 rows of a weight's codes. -/
def codesQ (q : Fin 4) (v : Vec F S2048x128 .fp8e4m3) : FVec F S128x4x128 .fp8e4m3 :=
  shapeCast S128x4x128 (extractStridedSlice S128x1x4x128 ![0, q.1, 0, 0] (shapeCast S128x4x4x128 v shapeCasts_S2048x128_S128x4x4x128 : FVec F S128x4x4x128 .fp8e4m3) (slicesQ q) : FVec F S128x1x4x128 .fp8e4m3) shapeCasts_S128x1x4x128_S128x4x128

/-- One head of them, widened, times its scale. -/
def wPay (k : Fin 4) (w : FVec F S128x4x128 .fp8e4m3) (s : Elt F .f32) : FVec F S1x1x128x128 .bf16 :=
  shapeCast S1x1x128x128 (mulf (extf .bf16 (shapeCast S128x128 (extractStridedSlice S128x1x128 ![0, k.1, 0] w (slicesK k) : FVec F S128x1x128 .fp8e4m3) shapeCasts_S128x1x128_S128x128 : FVec F S128x128 .fp8e4m3) bitsLt_fp8e4m3_bf16 : FVec F S128x128 .bf16)
    (truncf .bf16 (broadcast S128x128 s : FVec F S128x128 .f32) bitsLt_bf16_f32 : FVec F S128x128 .bf16) : FVec F S128x128 .bf16) shapeCasts_S128x128_S1x1x128x128

/-- The sixteen heads of token `2p + i` of a group, widened, each times its scale. -/
def widePay (p : Fin 64) (i : Fin 2) (s : Vec F S1x16x128 .f32) (v : Vec F S32x128 .fp8e5m2) : FVec F S16x128 .bf16 :=
  shapeCast S16x128 (mulf (extractStridedSlice S16x128 ![16 * i.1, 0] (extf .bf16 (shapeCast S32x128 v shapeCasts_S32x128_S32x128 : FVec F S32x128 .fp8e5m2) bitsLt_fp8e5m2_bf16 : FVec F S32x128 .bf16) (slicesHalf i) : FVec F S16x128 .bf16)
    (broadcastTo S16x128 (shapeCast S16x1 (extractStridedSlice S16x1 ![0, 2 * p.1 + i.1] (truncf .bf16 (shapeCast S16x128 s shapeCasts_S1x16x128_S16x128 : FVec F S16x128 .f32) bitsLt_bf16_f32 : FVec F S16x128 .bf16) (slicesCol p i) : FVec F S16x1 .bf16) shapeCasts_S16x1_S16x1 : FVec F S16x1 .bf16) broadcasts_S16x1_S16x128 : FVec F S16x128 .bf16) : FVec F S16x128 .bf16)
    shapeCasts_S16x128_S16x128

/-- The pair `j` of heads of 256 tokens. -/
def pair2 (j : Fin 8) (v : Vec F S4608x128 .bf16) : FVec F S256x2x128 .bf16 :=
  shapeCast S256x2x128 (extractStridedSlice S256x1x2x128 ![0, j.1, 0, 0] (shapeCast S256x9x2x128 v shapeCasts_S4608x128_S256x9x2x128 : FVec F S256x9x2x128 .bf16) (slicesJ j) : FVec F S256x1x2x128 .bf16) shapeCasts_S256x1x2x128_S256x2x128

/-- The two heads of a pair side by side. -/
def sides (w : FVec F S256x2x128 .bf16) : FVec F S256x256 .bf16 :=
  concatenate S256x256 1 [⟨S256x128, (shapeCast S256x128 (extractStridedSlice S256x1x128 ![0, 0, 0] w slices_S256x2x128_o0_0_0_S256x1x128 : FVec F S256x1x128 .bf16) shapeCasts_S256x1x128_S256x128 : FVec F S256x128 .bf16)⟩,
    ⟨S256x128, (shapeCast S256x128 (extractStridedSlice S256x1x128 ![0, 1, 0] w slices_S256x2x128_o0_1_0_S256x1x128 : FVec F S256x1x128 .bf16) shapeCasts_S256x1x128_S256x128 : FVec F S256x128 .bf16)⟩] concatenates_S256x128_S256x128_S256x256_d1

/-- One product of a unit of 256 tokens. -/
def prod (j : Fin 8) (v : Vec F S4608x128 .bf16) (l : Vec F S1x1x512x256 .bf16) : FVec F S512x256 .f32 :=
  matmul dot_S512x256_S256x256_S512x256_1_1_0_0_n_n none (shapeCast S512x256 l shapeCasts_S1x1x512x256_S512x256 : FVec F S512x256 .bf16) (sides (pair2 j v)) (constant S512x256 .f32 0x00000000#32)

/-- 128 columns of a finished unit, turned. -/
def dcPay (rb : Fin 4) (a : FVec F S512x256 .f32) : FVec F S256x128 .bf16 :=
  shapeCast S256x128 (transpose S256x128 [1, 0] (truncf .bf16 (extractStridedSlice S128x256 ![128 * rb.1, 0] a (slicesAcc rb) : FVec F S128x256 .f32) bitsLt_bf16_f32 : FVec F S128x256 .bf16) transposes_S128x256_p1_0_S256x128 : FVec F S256x128 .bf16) shapeCasts_S256x128_S256x128

/-- The same for the last unit, of 128 tokens. -/
def pair2' (j : Fin 8) (v : Vec F S2304x128 .bf16) : FVec F S128x2x128 .bf16 :=
  shapeCast S128x2x128 (extractStridedSlice S128x1x2x128 ![0, j.1, 0, 0] (shapeCast S128x9x2x128 v shapeCasts_S2304x128_S128x9x2x128 : FVec F S128x9x2x128 .bf16) (slicesJ' j) : FVec F S128x1x2x128 .bf16) shapeCasts_S128x1x2x128_S128x2x128
def sides' (w : FVec F S128x2x128 .bf16) : FVec F S128x256 .bf16 :=
  concatenate S128x256 1 [⟨S128x128, (shapeCast S128x128 (extractStridedSlice S128x1x128 ![0, 0, 0] w slices_S128x2x128_o0_0_0_S128x1x128 : FVec F S128x1x128 .bf16) shapeCasts_S128x1x128_S128x128 : FVec F S128x128 .bf16)⟩,
    ⟨S128x128, (shapeCast S128x128 (extractStridedSlice S128x1x128 ![0, 1, 0] w slices_S128x2x128_o0_1_0_S128x1x128 : FVec F S128x1x128 .bf16) shapeCasts_S128x1x128_S128x128 : FVec F S128x128 .bf16)⟩] concatenates_S128x128_S128x128_S128x256_d1
def prod' (j : Fin 8) (v : Vec F S2304x128 .bf16) (l : Vec F S1x1x512x256 .bf16) : FVec F S512x128 .f32 :=
  matmul dot_S512x256_S128x256_S512x128_1_1_0_0_n_n none (shapeCast S512x256 l shapeCasts_S1x1x512x256_S512x256 : FVec F S512x256 .bf16) (sides' (pair2' j v)) (constant S512x128 .f32 0x00000000#32)
def dcPay' (rb : Fin 4) (a : FVec F S512x128 .f32) : FVec F S128x128 .bf16 :=
  shapeCast S128x128 (transpose S128x128 [1, 0] (truncf .bf16 (extractStridedSlice S128x128 ![128 * rb.1, 0] a (slicesAcc' rb) : FVec F S128x128 .f32) bitsLt_bf16_f32 : FVec F S128x128 .bf16) transposes_S128x128_p1_0_S128x128 : FVec F S128x128 .bf16) shapeCasts_S128x128_S128x128

/-! ## The program -/

section
variable (cod : Memref sig .tc .vmem S8192x128 .fp8e4m3) (scal : Memref sig .tc .smem S4x16 .f32) (arg11 : Memref sig .tc .vmem S2x8x512x256 .bf16) (harg11 : arg11.IsWhole)

/-- One tile of a weight: its scale read, the tile stored. -/
def wStep (i : Fin 2) (q rb k : Fin 4) (w : FVec F S128x4x128 .fp8e4m3) (kk : P F PUnit.{1}) : P F PUnit.{1} :=
  smemLoadElt scal (rWs rb q k) (View.loads_smem_one rfl numel1_S1x1) (Shape.Idx.first (numel1_S1x1.symm ▸ Nat.one_pos)) fun s =>
  .op (.load arg11 (rWb i rb q k).toLoadRect (View.loadsAt_vmem h_S1x1x128x128)) fun _ =>
  .op (.store arg11 (rWb i rb q k) (wPay k w s) Finset.univ (View.stores_vmem h_S1x1x128x128 (harg11.storeExact_slice rfl _ (packedWb i rb q k)) (fun _ => rfl)) (.inl rfl)) fun _ => kk

/-- The four tiles of one block of codes. -/
def wBlock (i : Fin 2) (q rb : Fin 4) (kk : P F PUnit.{1}) : P F PUnit.{1} :=
  .op (.load cod (rWc rb).toLoadRect (View.loadsAt_vmem h_S2048x128)) fun v =>
  wStep scal arg11 harg11 i q rb 0 (codesQ q v) <| wStep scal arg11 harg11 i q rb 1 (codesQ q v) <| wStep scal arg11 harg11 i q rb 2 (codesQ q v) <| wStep scal arg11 harg11 i q rb 3 (codesQ q v) kk

def lo4 (n : ℕ) : Fin 4 := ⟨n % 4, Nat.mod_lt _ (by decide)⟩
def hi4 (n : ℕ) : Fin 4 := ⟨n / 4 % 4, Nat.mod_lt _ (by decide)⟩

/-- `m` blocks from block `n` on. -/
def wLoop (i : Fin 2) : (m n : ℕ) → P F PUnit.{1} → P F PUnit.{1}
  | 0, _, kk => kk
  | m + 1, n, kk => wBlock cod scal arg11 harg11 i (hi4 n) (lo4 n) (wLoop i m (n + 1) kk)
end

/-- The offsets a widened group reads its codes at. -/
abbrev CodeOff : Type := Fin 64 → Fin 2 → ℕ
abbrev CodeInb (co : CodeOff) : Prop := ∀ p, ∀ a, co p a + S32x128.size a ≤ S30720x128.size a
abbrev ScaleInb (so : Fin 3 → ℕ) : Prop := ∀ a, so a + S1x16x128.size a ≤ S3x16x640.size a

def pOf (n : ℕ) : Fin 64 := ⟨n % 64, Nat.mod_lt _ (by decide)⟩

section
variable (codes : Memref sig .tc .vmem S30720x128 .fp8e5m2) (sc : Memref sig .tc .vmem S3x16x640 .f32) (nat : Memref sig .tc .vmem S4608x128 .bf16) (hnat : nat.IsWhole)
  (h : Fin 2) (so : Fin 3 → ℕ) (hso : ScaleInb so) (co : CodeOff) (hco : CodeInb co)

/-- One token's rows stored. -/
def wideSt (p : Fin 64) (i : Fin 2) (s : Vec F S1x16x128 .f32) (v : Vec F S32x128 .fp8e5m2) (kk : P F PUnit.{1}) : P F PUnit.{1} :=
  .op (.load nat (rNat h p i).toLoadRect (View.loadsAt_vmem h_S16x128)) fun _ =>
  .op (.store nat (rNat h p i) (widePay p i s v) Finset.univ (View.stores_vmem h_S16x128 (hnat.storeExact_slice rfl _ (packedNat h p i)) (fun _ => rfl)) (.inl rfl)) fun _ => kk

/-- Two tokens: their codes read, both stored. -/
def wideStep (p : Fin 64) (s : Vec F S1x16x128 .f32) (kk : P F PUnit.{1}) : P F PUnit.{1} :=
  .op (.load codes (Rect.unit (s := S30720x128) (co p) S32x128.size (hco p)).toLoadRect (View.loadsAt_vmem h_S32x128)) fun v =>
  wideSt nat hnat h p 0 s v <| wideSt nat hnat h p 1 s v kk

/-- `m` pairs of tokens from pair `n` on. -/
def wideLoop (s : Vec F S1x16x128 .f32) : (m n : ℕ) → P F PUnit.{1} → P F PUnit.{1}
  | 0, _, kk => kk
  | m + 1, n, kk => wideStep codes nat hnat h co hco (pOf n) s (wideLoop s m (n + 1) kk)

/-- One group of 128 tokens into half `h` of the buffer. -/
def wide (kk : P F PUnit.{1}) : P F PUnit.{1} :=
  .op (.load sc (Rect.unit (s := S3x16x640) so S1x16x128.size hso).toLoadRect (View.loadsAt_vmem h_S1x16x128)) fun s =>
  wideLoop codes nat hnat h co hco s 64 0 kk
end

section
variable (nat : Memref sig .tc .vmem S4608x128 .bf16) (arg11 : Memref sig .tc .vmem S2x8x512x256 .bf16)

def jOf (n : ℕ) : Fin 8 := ⟨n % 8, Nat.mod_lt _ (by decide)⟩

/-- One product. -/
def term (i : Fin 2) (j : Fin 8) (kk : FVec F S512x256 .f32 → P F PUnit.{1}) : P F PUnit.{1} :=
  .op (.load nat rAll.toLoadRect (View.loadsAt_vmem h_S4608x128)) fun v =>
  .op (.load arg11 (rTile i j).toLoadRect (View.loadsAt_vmem h_S1x1x512x256)) fun l => kk (prod j v l)

/-- `m` products from product `n` on, added to what is there. -/
def terms (i : Fin 2) : (m n : ℕ) → FVec F S512x256 .f32 → (FVec F S512x256 .f32 → P F PUnit.{1}) → P F PUnit.{1}
  | 0, _, a, kk => kk a
  | m + 1, n, a, kk => term nat arg11 i (jOf n) fun d => terms i m (n + 1) (addf a d) kk

/-- The same for the last unit. -/
def term' (i : Fin 2) (j : Fin 8) (kk : FVec F S512x128 .f32 → P F PUnit.{1}) : P F PUnit.{1} :=
  .op (.load nat rHalf.toLoadRect (View.loadsAt_vmem h_S2304x128)) fun v =>
  .op (.load arg11 (rTile i j).toLoadRect (View.loadsAt_vmem h_S1x1x512x256)) fun l => kk (prod' j v l)
def terms' (i : Fin 2) : (m n : ℕ) → FVec F S512x128 .f32 → (FVec F S512x128 .f32 → P F PUnit.{1}) → P F PUnit.{1}
  | 0, _, a, kk => kk a
  | m + 1, n, a, kk => term' nat arg11 i (jOf n) fun d => terms' i m (n + 1) (addf a d) kk
end

/-- The offsets a unit stores its column blocks at. -/
abbrev DcOff : Type := Fin 4 → Fin 2 → ℕ
abbrev DcInb (oo : DcOff) : Prop := ∀ rb, ∀ a, oo rb a + S256x128.size a ≤ S1920x512.size a

section
variable (natk natv : Memref sig .tc .vmem S4608x128 .bf16) (arg11 : Memref sig .tc .vmem S2x8x512x256 .bf16) (arg12 : Memref sig .tc .vmem S1920x512 .bf16) (harg12 : arg12.IsWhole)

/-- One column block stored. -/
def dcPut (oo : DcOff) (hoo : DcInb oo) (hpk : ∀ rb, (Rect.unit (s := S1920x512) (oo rb) S256x128.size (hoo rb)).PackedRows (EltTy.packing .bf16)) (rb : Fin 4) (a : FVec F S512x256 .f32) (kk : P F PUnit.{1}) : P F PUnit.{1} :=
  .op (.load arg12 (Rect.unit (s := S1920x512) (oo rb) S256x128.size (hoo rb)).toLoadRect (View.loadsAt_vmem h_S256x128)) fun _ =>
  .op (.store arg12 (Rect.unit (s := S1920x512) (oo rb) S256x128.size (hoo rb)) (dcPay rb a) Finset.univ (View.stores_vmem h_S256x128 (harg12.storeExact_slice rfl _ (hpk rb)) (fun _ => rfl)) (.inl rfl)) fun _ => kk

/-- One unit of `dc`: 256 tokens. -/
def unit (oo : DcOff) (hoo : DcInb oo) (hpk : ∀ rb, (Rect.unit (s := S1920x512) (oo rb) S256x128.size (hoo rb)).PackedRows (EltTy.packing .bf16)) (kk : P F PUnit.{1}) : P F PUnit.{1} :=
  term natk arg11 0 0 fun d => terms natk arg11 0 7 1 d fun a => terms natv arg11 1 8 0 a fun b =>
  dcPut arg12 harg12 oo hoo hpk 0 b <| dcPut arg12 harg12 oo hoo hpk 1 b <| dcPut arg12 harg12 oo hoo hpk 2 b <| dcPut arg12 harg12 oo hoo hpk 3 b kk

/-- The last unit's column block. -/
def dcPut' (rb : Fin 4) (a : FVec F S512x128 .f32) (kk : P F PUnit.{1}) : P F PUnit.{1} :=
  .op (.load arg12 (Rect.unit (s := S1920x512) ![1792, 128 * rb.1] S128x128.size (inbDc7 rb)).toLoadRect (View.loadsAt_vmem h_S128x128)) fun _ =>
  .op (.store arg12 (Rect.unit (s := S1920x512) ![1792, 128 * rb.1] S128x128.size (inbDc7 rb)) (dcPay' rb a) Finset.univ (View.stores_vmem h_S128x128 (harg12.storeExact_slice rfl _ (packedDc7 rb)) (fun _ => rfl)) (.inl rfl)) fun _ => kk

/-- The last unit: 128 tokens. -/
def unit' (kk : P F PUnit.{1}) : P F PUnit.{1} :=
  term' natk arg11 0 0 fun d => terms' natk arg11 0 7 1 d fun a => terms' natv arg11 1 8 0 a fun b =>
  dcPut' arg12 harg12 0 b <| dcPut' arg12 harg12 1 b <| dcPut' arg12 harg12 2 b <| dcPut' arg12 harg12 3 b kk
end

/-- The offsets of the loop's trips, as the kernel computes them. -/
abbrev oo1 (t : Fin k0_t1_loop.trips) : DcOff := ![k0_off2 t, k0_off3 t, k0_off4 t, k0_off5 t]
abbrev oo2 (t : Fin k0_t1_loop.trips) : DcOff := ![k0_off10 t, k0_off11 t, k0_off12 t, k0_off13 t]
theorem oo1_inb (t : Fin k0_t1_loop.trips) : DcInb (oo1 t) := fun | 0 => k0_off2_inb t | 1 => k0_off3_inb t | 2 => k0_off4_inb t | 3 => k0_off5_inb t
theorem oo2_inb (t : Fin k0_t1_loop.trips) : DcInb (oo2 t) := fun | 0 => k0_off10_inb t | 1 => k0_off11_inb t | 2 => k0_off12_inb t | 3 => k0_off13_inb t
theorem oo1_packed (t : Fin k0_t1_loop.trips) : ∀ rb, (Rect.unit (s := S1920x512) (oo1 t rb) S256x128.size (oo1_inb t rb)).PackedRows (EltTy.packing .bf16) :=
  fun | 0 => k0_off2_packedbf16 t | 1 => k0_off3_packedbf16 t | 2 => k0_off4_packedbf16 t | 3 => k0_off5_packedbf16 t
theorem oo2_packed (t : Fin k0_t1_loop.trips) : ∀ rb, (Rect.unit (s := S1920x512) (oo2 t rb) S256x128.size (oo2_inb t rb)).PackedRows (EltTy.packing .bf16) :=
  fun | 0 => k0_off10_packedbf16 t | 1 => k0_off11_packedbf16 t | 2 => k0_off12_packedbf16 t | 3 => k0_off13_packedbf16 t
abbrev oo6 : DcOff := fun rb => ![1536, 128 * rb.1]
abbrev so6 (t : Fin k0_t1_loop.trips) (r : Fin 2) : Fin 3 → ℕ := k0_off6 t (BitVec.ofNat 32 (1 + r.1))
abbrev so8 (t : Fin k0_t1_loop.trips) (r : Fin 2) : Fin 3 → ℕ := k0_off8 t (BitVec.ofNat 32 (1 + r.1))
abbrev co7 (t : Fin k0_t1_loop.trips) (r : Fin 2) : CodeOff := fun p => k0_off7 t (BitVec.ofNat 32 (1 + r.1)) (BitVec.ofNat 32 (32 * p.1))
abbrev co9 (t : Fin k0_t1_loop.trips) (r : Fin 2) : CodeOff := fun p => k0_off9 t (BitVec.ofNat 32 (1 + r.1)) (BitVec.ofNat 32 (32 * p.1))
abbrev soG (g : Fin 15) : Fin 3 → ℕ := ![g.1 / 5, 0, g.1 % 5 * 128]
abbrev coG (g : Fin 15) : CodeOff := fun p => ![2048 * g.1 + 32 * p.1, 0]

section
variable (arg0 : Memref sig .tc .vmem S30720x128 .fp8e5m2) (harg0 : arg0.IsWhole) (arg1 : Memref sig .tc .vmem S3x16x640 .f32) (harg1 : arg1.IsWhole) (arg2 : Memref sig .tc .vmem S30720x128 .fp8e5m2) (harg2 : arg2.IsWhole) (arg3 : Memref sig .tc .vmem S3x16x640 .f32) (harg3 : arg3.IsWhole) (arg4 : Memref sig .tc .hbm S8192x128 .fp8e4m3) (harg4 : arg4.IsWhole) (arg5 : Memref sig .tc .smem S4x16 .f32) (harg5 : arg5.IsWhole) (arg6 : Memref sig .tc .hbm S8192x128 .fp8e4m3) (harg6 : arg6.IsWhole) (arg7 : Memref sig .tc .smem S4x16 .f32) (harg7 : arg7.IsWhole) (arg8 : Memref sig .tc .hbm S1920x512 .bf16) (harg8 : arg8.IsWhole) (arg9 : Memref sig .tc .vmem S8192x128 .fp8e4m3) (harg9 : arg9.IsWhole) (arg10 : Memref sig .tc .vmem S8192x128 .fp8e4m3) (harg10 : arg10.IsWhole) (arg11 : Memref sig .tc .vmem S2x8x512x256 .bf16) (harg11 : arg11.IsWhole) (arg12 : Memref sig .tc .vmem S1920x512 .bf16) (harg12 : arg12.IsWhole) (arg13 : Memref sig .tc .vmem S4608x128 .bf16) (harg13 : arg13.IsWhole) (arg14 : Memref sig .tc .vmem S4608x128 .bf16) (harg14 : arg14.IsWhole) (arg15 : Memref sig .tc .vmem S4608x128 .bf16) (harg15 : arg15.IsWhole) (arg16 : Memref sig .tc .vmem S4608x128 .bf16) (harg16 : arg16.IsWhole) (arg17 : DmaSems sig S2) (arg18 : DmaSems sig S5)

/-- A group of both tensors, its offsets given. -/
def wide2 (natk natv : Memref sig .tc .vmem S4608x128 .bf16) (hk : natk.IsWhole) (hv : natv.IsWhole) (h : Fin 2) (so : Fin 3 → ℕ) (hso : ScaleInb so) (co : CodeOff) (hco : CodeInb co) (kk : P F PUnit.{1}) : P F PUnit.{1} :=
  wide arg0 arg1 natk hk h so hso co hco <| wide arg2 arg3 natv hv h so hso co hco kk

/-- One trip of the loop. -/
def trip (t : Fin k0_t1_loop.trips) (kk : P F PUnit.{1}) : P F PUnit.{1} :=
  unit arg13 arg14 arg11 arg12 harg12 (oo1 t) (oo1_inb t) (oo1_packed t) <|
  wide2 arg0 arg1 arg2 arg3 arg15 arg16 harg15 harg16 0 (so6 t 0) (k0_off6_inb t 0) (co7 t 0) (k0_off7_inb t 0) <|
  wide2 arg0 arg1 arg2 arg3 arg15 arg16 harg15 harg16 1 (so8 t 0) (k0_off8_inb t 0) (co9 t 0) (k0_off9_inb t 0) <|
  unit arg15 arg16 arg11 arg12 harg12 (oo2 t) (oo2_inb t) (oo2_packed t) <|
  wide2 arg0 arg1 arg2 arg3 arg13 arg14 harg13 harg14 0 (so6 t 1) (k0_off6_inb t 1) (co7 t 1) (k0_off7_inb t 1) <|
  wide2 arg0 arg1 arg2 arg3 arg13 arg14 harg13 harg14 1 (so8 t 1) (k0_off8_inb t 1) (co9 t 1) (k0_off9_inb t 1) kk

/-- The semaphores of the three copies. -/
abbrev semW (i : Fin 2) (hi : ∀ a, (![i.1] : Fin 1 → Nat) a + S1.size a ≤ S2.size a) : DmaSem sig := ((arg17.slice (Rect.unit (s := S2) ![i.1] S1.size hi)).squeeze S_ squeezes_S1_S_).sem
abbrev semO : DmaSem sig := ((arg18.slice (Rect.unit (s := S5) ![4] S1.size inb_S5_S1_4)).squeeze S_ squeezes_S1_S_).sem
abbrev outAll : Memref sig .tc .hbm S1920x512 .bf16 := arg8.slice (Rect.unit (s := S1920x512) ![0, 0] S1920x512.size inb_S1920x512_S1920x512_0_0) (fun _ => rfl)
abbrev stAll : Memref sig .tc .vmem S1920x512 .bf16 := arg12.slice (Rect.unit (s := S1920x512) ![0, 0] S1920x512.size inb_S1920x512_S1920x512_0_0) (fun _ => rfl)

/-- The copy out and its wait. -/
def sendOut : P F PUnit.{1} :=
  .op (.enqueueDma (stAll arg12) (.here (outAll arg8)) (.dma (semO arg18)) (harg12.wordExact_slice rfl _ wordsbf16_S1920x512_S1920x512_0_0) (harg8.wordExact_slice rfl _ wordsbf16_S1920x512_S1920x512_0_0) ⟨Or.inl rfl, trivial⟩) fun _ =>
  .op (.waitDma2 (semO arg18) (stAll arg12) (outAll arg8) (harg12.wordExact_slice rfl _ wordsbf16_S1920x512_S1920x512_0_0) (harg8.wordExact_slice rfl _ wordsbf16_S1920x512_S1920x512_0_0)) fun _ => .ret ⟨⟩

/-- What follows the loop. -/
def post : P F PUnit.{1} :=
  unit arg13 arg14 arg11 arg12 harg12 oo6 inbDc6 packedDc6 <|
  wide2 arg0 arg1 arg2 arg3 arg15 arg16 harg15 harg16 0 (soG 14) (inbScale 14) (coG 14) (inbCode 14) <|
  unit' arg15 arg16 arg11 arg12 harg12 <|
  sendOut arg8 harg8 arg12 harg12 arg18

/-- What goes before it. -/
def pre (kk : P F PUnit.{1}) : P F PUnit.{1} :=
  .op (.enqueueDma arg4 (.here arg9) (.dma (semW arg17 0 inb_S2_S1_0)) harg4.wordExact harg9.wordExact ⟨Or.inl rfl, trivial⟩) fun _ =>
  .op (.enqueueDma arg6 (.here arg10) (.dma (semW arg17 1 inb_S2_S1_1)) harg6.wordExact harg10.wordExact ⟨Or.inl rfl, trivial⟩) fun _ =>
  .op (.waitDma2 (semW arg17 0 inb_S2_S1_0) arg4 arg9 harg4.wordExact harg9.wordExact) fun _ =>
  wLoop arg9 arg5 arg11 harg11 0 16 0 <|
  .op (.waitDma2 (semW arg17 1 inb_S2_S1_1) arg6 arg10 harg6.wordExact harg10.wordExact) fun _ =>
  wLoop arg10 arg7 arg11 harg11 1 16 0 <|
  wide2 arg0 arg1 arg2 arg3 arg13 arg14 harg13 harg14 0 (soG 0) (inbScale 0) (coG 0) (inbCode 0) <|
  wide2 arg0 arg1 arg2 arg3 arg13 arg14 harg13 harg14 1 (soG 1) (inbScale 1) (coG 1) (inbCode 1) kk

/-- The body. -/
def body : P F PUnit.{1} :=
  pre arg0 arg1 arg2 arg3 arg4 harg4 arg5 arg6 harg6 arg7 arg9 harg9 arg10 harg10 arg11 harg11 arg13 harg13 arg14 harg14 arg17 <|
  Scf.Loop.for k0_t1_loop k0_t1_ok PUnit.unit.{1} (fun t _ => trip arg0 arg1 arg2 arg3 arg11 arg12 harg12 arg13 harg13 arg14 harg14 arg15 harg15 arg16 harg16 t (.ret ⟨⟩)) >>= fun _ =>
  post arg0 arg1 arg2 arg3 arg8 harg8 arg11 arg12 harg12 arg13 arg14 arg15 harg15 arg16 harg16 arg18

/-- The printed trip is the trip. -/
theorem trip_eq (t : Fin k0_t1_loop.trips) :
    printedLoop (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 t = trip arg0 arg1 arg2 arg3 arg11 arg12 harg12 arg13 harg13 arg14 harg14 arg15 harg15 arg16 harg16 t (.ret ⟨⟩) := by
  sl_kernel_rfl

/-- What is printed after the loop is what follows it. -/
theorem post_eq :
    ((printedTail1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 >>= printedTail2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) >>= printedTail3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) = post arg0 arg1 arg2 arg3 arg8 harg8 arg11 arg12 harg12 arg13 arg14 arg15 harg15 arg16 harg16 arg18 := by
  sl_kernel_rfl

/-- The printed body up to the loop. -/
theorem pre_eq :
    cc0_mla_kv_backward (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 =
      pre arg0 arg1 arg2 arg3 arg4 harg4 arg5 arg6 harg6 arg7 arg9 harg9 arg10 harg10 arg11 harg11 arg13 harg13 arg14 harg14 arg17
        (((Scf.Loop.for k0_t1_loop k0_t1_ok PUnit.unit.{1} (fun t _ => printedLoop arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 t) >>= fun _ => printedTail1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) >>= printedTail2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) >>= printedTail3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) := by
  sl_kernel_rfl

/-- The printed body is this program. -/
theorem body_eq :
    cc0_mla_kv_backward (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 =
      body arg0 arg1 arg2 arg3 arg4 harg4 arg5 arg6 harg6 arg7 arg8 harg8 arg9 harg9 arg10 harg10 arg11 harg11 arg12 harg12 arg13 harg13 arg14 harg14 arg15 harg15 arg16 harg16 arg17 arg18 := by
  rw [pre_eq, Prog.bind_assoc, Prog.bind_assoc]
  unfold body
  have hl : (fun (t : Fin k0_t1_loop.trips) (_ : PUnit.{1}) => printedLoop (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 t)
      = fun t _ => trip arg0 arg1 arg2 arg3 arg11 arg12 harg12 arg13 harg13 arg14 harg14 arg15 harg15 arg16 harg16 t (.ret ⟨⟩) := by
    funext t _
    exact trip_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 t
  rw [hl]
  refine congrArg (pre arg0 arg1 arg2 arg3 arg4 harg4 arg5 arg6 harg6 arg7 arg9 harg9 arg10 harg10 arg11 harg11 arg13 harg13 arg14 harg14 arg17) ?_
  refine congrArg (_ >>= ·) ?_
  funext _
  exact (Prog.bind_assoc _ _ _).symm.trans (post_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18)
end

end Cert.KernelDc.Hand

end
-- ==== Proof.KernelDc.Tiles.lean ====
/- The weight tiles over one core's separation state: the 64 tiles of each weight leave `WB`, its codes
   widened times the scale of their head and 128 rows. -/
module

public import proofs.«01_k».proof.Proof.KernelDc.Body
public import proofs.«01_k».proof.Proof.Index
public import Idealize.ShloMosaic.Lib.Pipeline.FrameBody
public import Idealize.ShloMosaic.Lib.Ring
public import Idealize.ShloMosaic.Lib.Transfers
public import Idealize.ShloMosaic.Lib.ValueLayout

@[expose] public section

noncomputable section

namespace Cert.KernelDc.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 ix4)
open Cert.KernelDc Cert.KernelDc.Gen

variable {F : FTy → Type} [FloatOps F]

local notation "𝕄" => MT nD τ sig Unit (Elt F) ℕ (Pipeline.UD sig nD τ) ℕ

/-- Buffer contents under a memref. -/
abbrev Cont (F : FTy → Type) {sp : Space} {s : Shape} {e : EltTy} (c : Dev nD) (m : Memref sig .tc sp s e) : Type :=
  Buf (Elt F) (m.view.loc (c : Thread nD τ))

/-- The elements of a memref, held at `f`. -/
abbrev Pt {sp : Space} {s : Shape} {e : EltTy} (c : Dev nD) (m : Memref sig .tc sp s e) (q : PosShare TreeShare) (f : Cont F c m) : sProp 𝕄 :=
  m.view.loc (c : Thread nD τ) ↦[m.view.set]{q} f

/-- What a memref reads. -/
abbrev rd {sp : Space} {s : Shape} {e : EltTy} {c : Dev nD} (m : Memref sig .tc sp s e) (f : Cont F c m) : s.Idx → Elt F e :=
  m.view.read (Elt F) f

/-- The weakest precondition of a kernel program on core `c`. -/
abbrev WP (c : Dev nD) (p : P F PUnit.{1}) (Q : PUnit.{1} → sProp 𝕄) : sProp 𝕄 :=
  wp frame (wpE (defs₀ (F := F)) Variants.none (c : Thread nD τ) none) Set.univ p Q

variable {c : Dev nD}

/-! ## One memory operation -/

theorem load_step {Q : PUnit.{1} → sProp 𝕄} {s : Shape} {e : EltTy} {m : Memref sig .tc .vmem s e} {r : Rect s} {hl : m.view.LoadsAt r.toLoadRect}
    {k : (r.shape.Idx → Elt F e) → P F PUnit.{1}} {q : PosShare TreeShare} {f : Cont F c m} :
    Pt c m q f ⊢ iprop((Pt c m q f -∗ WP c (k fun x => rd m f (r.emb x)) Q) -∗ WP c (.op (.load m r.toLoadRect hl) k) Q) :=
  wp_load (defs := defs₀ (F := F)) Variants.none (c : Thread nD τ) none (Γ := .empty) Set.univ (Q := Q) (m := m) (r := r.toLoadRect) (hl := hl)
    (k := k) (S := m.view.set) (q := q) (f := f) (View.setOn_subset_set _ _)

theorem store_step {Q : PUnit.{1} → sProp 𝕄} {s : Shape} {e : EltTy} {m : Memref sig .tc .vmem s e} {r : Rect s} {w : r.shape.Idx → Elt F e}
    {ha : (m.access r).Stores Finset.univ} {hx : Finset.univ = Finset.univ ∨ ∀ a, r.stride a = 1} {k : PUnit.{1} → P F PUnit.{1}} {f : Cont F c m} :
    Pt c m fullShare f ⊢ iprop((Pt c m fullShare ((m.access r).write (Elt F) f w Finset.univ) -∗ WP c (k ⟨⟩) Q)
      -∗ WP c (.op (.store m r w Finset.univ ha hx) k) Q) :=
  wp_store (defs := defs₀ (F := F)) Variants.none (c : Thread nD τ) none (Γ := .empty) Set.univ (Q := Q) (m := m) (r := r) (w := w) (Mk := Finset.univ)
    (hx := ha) (hm := hx) (k := k) (S := m.view.set) (f := f) ((View.setOn_subset_set _ _).trans (View.set_slice_subset _ _))

theorem smem_step {Q : PUnit.{1} → sProp 𝕄} {s : Shape} {e : EltTy} {m : Memref sig .tc .smem s e} {r : Rect s} {hw : (m.access r).Loads} {x : r.shape.Idx}
    {k : Elt F e → P F PUnit.{1}} {q : PosShare TreeShare} {f : Cont F c m} :
    Pt c m q f ⊢ iprop((Pt c m q f -∗ WP c (k (rd m f (r.emb x))) Q) -∗ WP c (smemLoadElt m r hw x k) Q) :=
  wp_smemLoadElt (defs := defs₀ (F := F)) Variants.none (c : Thread nD τ) none (Γ := .empty) Set.univ (Q := Q) (m := m) (r := r) (hw := hw) (x := x)
    (k := k) (S := m.view.set) (q := q) (f := f) (View.set_slice_subset _ _)

/-! ## The weight tiles -/

/-- One tile: head `4q + k` of rows `128 rb …`, from the weight's codes and scales. -/
def WT (cd : S8192x128.Idx → Elt F .fp8e4m3) (sc : S4x16.Idx → Elt F .f32) (q rb k : Fin 4) : FVec F S1x1x128x128 .bf16 :=
  wPay k (codesQ q fun x => cd ((rWc rb).emb x)) (sc ((rWs rb q k).emb (Shape.Idx.first (numel1_S1x1.symm ▸ Nat.one_pos))))

theorem hd_lt (y : S2x8x512x256.Idx) : 2 * (y 1).1 + (y 3).1 / 128 < 16 := by
  have h1 : (y 1).1 < 8 := (y 1).2
  have h3 : (y 3).1 < 256 := (y 3).2
  omega

/-- All tiles. -/
def WB (C : Fin 2 → S8192x128.Idx → Elt F .fp8e4m3) (S : Fin 2 → S4x16.Idx → Elt F .f32) : S2x8x512x256.Idx → Elt F .bf16 := fun y =>
  WT (C ⟨(y 0).1, (y 0).2⟩) (S ⟨(y 0).1, (y 0).2⟩) ⟨(2 * (y 1).1 + (y 3).1 / 128) / 4, Nat.div_lt_of_lt_mul (hd_lt y)⟩ ⟨(y 2).1 / 128, Nat.div_lt_of_lt_mul (y 2).2⟩
    ⟨(2 * (y 1).1 + (y 3).1 / 128) % 4, Nat.mod_lt _ (by decide)⟩
    (ix4 (0 : Fin 1) (0 : Fin 1) (⟨(y 2).1 % 128, Nat.mod_lt _ (by decide)⟩ : Fin 128) (⟨(y 3).1 % 128, Nat.mod_lt _ (by decide)⟩ : Fin 128))

theorem WB_emb (C : Fin 2 → S8192x128.Idx → Elt F .fp8e4m3) (S : Fin 2 → S4x16.Idx → Elt F .f32) (i : Fin 2) (rb q k : Fin 4) (x : S1x1x128x128.Idx) :
    WB C S ((rWb i rb q k).emb x) = WT (C i) (S i) q rb k x := by
  have l0 : (x 0).1 < 1 := (x 0).2
  have l1 : (x 1).1 < 1 := (x 1).2
  have l2 : (x 2).1 < 128 := (x 2).2
  have l3 : (x 3).1 < 128 := (x 3).2
  have e0 : (((rWb i rb q k).emb x) 0).1 = i.1 := by show i.1 + 1 * (x 0).1 = _; omega
  have e1 : (((rWb i rb q k).emb x) 1).1 = (4 * q.1 + k.1) / 2 := by show (4 * q.1 + k.1) / 2 + 1 * (x 1).1 = _; omega
  have e2 : (((rWb i rb q k).emb x) 2).1 = 128 * rb.1 + (x 2).1 := by show 128 * rb.1 + 1 * (x 2).1 = _; omega
  have e3 : (((rWb i rb q k).emb x) 3).1 = 128 * ((4 * q.1 + k.1) % 2) + (x 3).1 := by show 128 * ((4 * q.1 + k.1) % 2) + 1 * (x 3).1 = _; omega
  have eh : 2 * (((rWb i rb q k).emb x) 1).1 + (((rWb i rb q k).emb x) 3).1 / 128 = 4 * q.1 + k.1 := by rw [e1, e3]; omega
  have hi : (⟨(((rWb i rb q k).emb x) 0).1, (((rWb i rb q k).emb x) 0).2⟩ : Fin 2) = i := Fin.ext e0
  have hq : (⟨(2 * (((rWb i rb q k).emb x) 1).1 + (((rWb i rb q k).emb x) 3).1 / 128) / 4, Nat.div_lt_of_lt_mul (hd_lt _)⟩ : Fin 4) = q := Fin.ext (by show _ / 4 = _; rw [eh]; omega)
  have hk : (⟨(2 * (((rWb i rb q k).emb x) 1).1 + (((rWb i rb q k).emb x) 3).1 / 128) % 4, Nat.mod_lt _ (by decide)⟩ : Fin 4) = k := Fin.ext (by show _ % 4 = _; rw [eh]; omega)
  have hr : (⟨(((rWb i rb q k).emb x) 2).1 / 128, Nat.div_lt_of_lt_mul (((rWb i rb q k).emb x) 2).2⟩ : Fin 4) = rb := Fin.ext (by show (((rWb i rb q k).emb x) 2).1 / 128 = _; rw [e2]; omega)
  unfold WB
  rw [hi, hq, hk, hr]
  congr 1
  funext a
  apply Fin.ext
  match a with
  | ⟨0, _⟩ => show 0 = (x 0).1; omega
  | ⟨1, _⟩ => show 0 = (x 1).1; omega
  | ⟨2, _⟩ => show (((rWb i rb q k).emb x) 2).1 % 128 = (x 2).1; rw [e2]; omega
  | ⟨3, _⟩ => show (((rWb i rb q k).emb x) 3).1 % 128 = (x 3).1; rw [e3]; omega

section
variable {cod : Memref sig .tc .vmem S8192x128 .fp8e4m3} {scal : Memref sig .tc .smem S4x16 .f32} {arg11 : Memref sig .tc .vmem S2x8x512x256 .bf16} {harg11 : arg11.IsWhole}
  {qc qs : PosShare TreeShare} {fc : Cont F c cod} {fs : Cont F c scal}
  {C : Fin 2 → S8192x128.Idx → Elt F .fp8e4m3} {S : Fin 2 → S4x16.Idx → Elt F .f32}

/-- The first `n` tiles are there. -/
def WbOk (C : Fin 2 → S8192x128.Idx → Elt F .fp8e4m3) (S : Fin 2 → S4x16.Idx → Elt F .f32) (n : ℕ) (f : Cont F c arg11) : Prop :=
  ∀ y : S2x8x512x256.Idx, 64 * (y 0).1 + 16 * ((2 * (y 1).1 + (y 3).1 / 128) / 4) + 4 * ((y 2).1 / 128) + (2 * (y 1).1 + (y 3).1 / 128) % 4 < n → rd arg11 f y = WB C S y

theorem wStep_wp {Q : PUnit.{1} → sProp 𝕄} {kk : P F PUnit.{1}} {n : ℕ} {i : Fin 2} {q rb k : Fin 4} (hn : n = 64 * i.1 + 16 * q.1 + 4 * rb.1 + k.1)
    {w : FVec F S128x4x128 .fp8e4m3} (hw : w = codesQ q fun x => C i ((rWc rb).emb x)) (hs : rd scal fs = S i) {f : Cont F c arg11} (h : WbOk C S n f) :
    iprop(Pt c scal qs fs ∗ Pt c arg11 fullShare f
      ∗ (∀ f', ⌜WbOk C S (n + 1) f'⌝ -∗ Pt c scal qs fs -∗ Pt c arg11 fullShare f' -∗ WP c kk Q))
      ⊢ WP c (wStep scal arg11 harg11 i q rb k w kk) Q := by
  unfold wStep
  iintro ⟨HS, H, Hk⟩
  iapply smem_step $$ HS; iintro HS
  iapply load_step $$ H; iintro H
  iapply store_step $$ H; iintro H
  suffices hs : WbOk C S (n + 1) _ by iapply Hk $$ %_ %hs HS H
  intro y hy
  by_cases hm : y ∈ (Finset.univ : Finset S1x1x128x128.Idx).map (rWb i rb q k).emb
  · obtain ⟨x, -, rfl⟩ := Finset.mem_map.mp hm
    rw [WB_emb]
    refine (View.read_slice_write_emb _ _ _ (Finset.mem_univ x)).trans ?_
    rw [hw, hs]
    rfl
  · rw [← h y ?_]
    · exact View.read_slice_write_of_not_mem _ _ _ _ hm
    · by_contra hlt
      have l0 : (y 0).1 < 2 := (y 0).2
      have l1 : (y 1).1 < 8 := (y 1).2
      have l2 : (y 2).1 < 512 := (y 2).2
      have l3 : (y 3).1 < 256 := (y 3).2
      have e : 64 * (y 0).1 + 16 * ((2 * (y 1).1 + (y 3).1 / 128) / 4) + 4 * ((y 2).1 / 128) + (2 * (y 1).1 + (y 3).1 / 128) % 4 = 64 * i.1 + 16 * q.1 + 4 * rb.1 + k.1 := by omega
      apply hm
      refine Finset.mem_map.mpr ⟨ix4 (0 : Fin 1) (0 : Fin 1) (⟨(y 2).1 % 128, Nat.mod_lt _ (by decide)⟩ : Fin 128) (⟨(y 3).1 % 128, Nat.mod_lt _ (by decide)⟩ : Fin 128), Finset.mem_univ _, ?_⟩
      funext a
      apply Fin.ext
      match a with
      | ⟨0, _⟩ => show i.1 + 1 * 0 = (y 0).1; omega
      | ⟨1, _⟩ => show (4 * q.1 + k.1) / 2 + 1 * 0 = (y 1).1; omega
      | ⟨2, _⟩ => show 128 * rb.1 + 1 * ((y 2).1 % 128) = (y 2).1; omega
      | ⟨3, _⟩ => show 128 * ((4 * q.1 + k.1) % 2) + 1 * ((y 3).1 % 128) = (y 3).1; omega

theorem wBlock_wp {Q : PUnit.{1} → sProp 𝕄} {kk : P F PUnit.{1}} {n : ℕ} {i : Fin 2} {q rb : Fin 4} (hn : n = 64 * i.1 + 16 * q.1 + 4 * rb.1)
    (hc : rd cod fc = C i) (hs : rd scal fs = S i) {f : Cont F c arg11} (h : WbOk C S n f) :
    iprop(Pt c cod qc fc ∗ Pt c scal qs fs ∗ Pt c arg11 fullShare f
      ∗ (∀ f', ⌜WbOk C S (n + 4) f'⌝ -∗ Pt c cod qc fc -∗ Pt c scal qs fs -∗ Pt c arg11 fullShare f' -∗ WP c kk Q))
      ⊢ WP c (wBlock cod scal arg11 harg11 i q rb kk) Q := by
  unfold wBlock
  iintro ⟨HC, HS, H, Hk⟩
  iapply load_step $$ HC; iintro HC
  have hw : codesQ q (fun x => rd cod fc ((rWc rb).emb x)) = codesQ q fun x => C i ((rWc rb).emb x) := by rw [hc]
  iapply (wStep_wp (k := 0) (by rw [hn]; rfl) hw hs h)
  isplitl [HS]; · iexact HS
  isplitl [H]; · iexact H
  iintro %f1 %h1 HS H
  iapply (wStep_wp (k := 1) (by rw [hn]; rfl) hw hs h1)
  isplitl [HS]; · iexact HS
  isplitl [H]; · iexact H
  iintro %f2 %h2 HS H
  iapply (wStep_wp (k := 2) (by rw [hn]; rfl) hw hs h2)
  isplitl [HS]; · iexact HS
  isplitl [H]; · iexact H
  iintro %f3 %h3 HS H
  iapply (wStep_wp (k := 3) (by rw [hn]; rfl) hw hs h3)
  isplitl [HS]; · iexact HS
  isplitl [H]; · iexact H
  iintro %f4 %h4 HS H
  iapply Hk $$ %_ %h4 HC HS H

theorem wLoop_wp {Q : PUnit.{1} → sProp 𝕄} {kk : P F PUnit.{1}} {i : Fin 2} (hc : rd cod fc = C i) (hs : rd scal fs = S i) (m : ℕ) :
    ∀ (n : ℕ) (hn : n + m ≤ 16) (f : Cont F c arg11) (h : WbOk C S (64 * i.1 + 4 * n) f),
    iprop(Pt c cod qc fc ∗ Pt c scal qs fs ∗ Pt c arg11 fullShare f
      ∗ (∀ f', ⌜WbOk C S (64 * i.1 + 4 * (n + m)) f'⌝ -∗ Pt c cod qc fc -∗ Pt c scal qs fs -∗ Pt c arg11 fullShare f' -∗ WP c kk Q))
      ⊢ WP c (wLoop cod scal arg11 harg11 i m n kk) Q := by
  induction m with
  | zero =>
    intro n hn f h
    unfold wLoop
    iintro ⟨HC, HS, H, Hk⟩
    iapply Hk $$ %_ %h HC HS H
  | succ m ih =>
    intro n hn f h
    unfold wLoop
    iintro ⟨HC, HS, H, Hk⟩
    iapply (wBlock_wp (by show _ = 64 * i.1 + 16 * (n / 4 % 4) + 4 * (n % 4); omega) hc hs h)
    isplitl [HC]; · iexact HC
    isplitl [HS]; · iexact HS
    isplitl [H]; · iexact H
    iintro %f' %h' HC HS H
    iapply (ih (n + 1) (by omega) f' h')
    isplitl [HC]; · iexact HC
    isplitl [HS]; · iexact HS
    isplitl [H]; · iexact H
    iintro %f2 %h2 HC HS H
    have h3 : WbOk C S (64 * i.1 + 4 * (n + (m + 1))) f2 := by
      rw [show n + (m + 1) = n + 1 + m by omega]
      exact h2
    iapply Hk $$ %_ %h3 HC HS H
end

end Cert.KernelDc.Hand

end
-- ==== Proof.KernelDc.Wide.lean ====
/- The widened groups over one core's separation state: the 64 token pairs of a group leave, in its half
   of a buffer, the sixteen heads of every token times their scales, eighteen rows a token. -/
module

public import proofs.«01_k».proof.Proof.KernelDc.Tiles

@[expose] public section

noncomputable section

namespace Cert.KernelDc.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 ix4)
open Cert.KernelDc Cert.KernelDc.Gen

variable {F : FTy → Type} [FloatOps F]

local notation "𝕄" => MT nD τ sig Unit (Elt F) ℕ (Pipeline.UD sig nD τ) ℕ

variable {c : Dev nD}

abbrev rSc (g : Fin 15) : Rect S3x16x640 := Rect.unit (s := S3x16x640) (soG g) S1x16x128.size (inbScale g)
abbrev rCode (g : Fin 15) (p : Fin 64) : Rect S30720x128 := Rect.unit (s := S30720x128) (coG g p) S32x128.size (inbCode g p)

/-- The sixteen rows of token `t` of group `g`. -/
def WR (cd : S30720x128.Idx → Elt F .fp8e5m2) (sc : S3x16x640.Idx → Elt F .f32) (g : Fin 15) (t : ℕ) : FVec F S16x128 .bf16 :=
  widePay (pOf (t / 2)) ⟨t % 2, Nat.mod_lt _ (by decide)⟩ (fun z => sc ((rSc g).emb z)) (fun z => cd ((rCode g (pOf (t / 2))).emb z))

theorem WR_eq (cd : S30720x128.Idx → Elt F .fp8e5m2) (sc : S3x16x640.Idx → Elt F .f32) (g : Fin 15) (p : Fin 64) (i : Fin 2) (t : ℕ) (ht : t = 2 * p.1 + i.1) :
    WR cd sc g t = widePay p i (fun z => sc ((rSc g).emb z)) (fun z => cd ((rCode g p).emb z)) := by
  have hp : pOf (t / 2) = p := Fin.ext (by show t / 2 % 64 = p.1; omega)
  have hi : (⟨t % 2, Nat.mod_lt _ (by decide)⟩ : Fin 2) = i := Fin.ext (by show t % 2 = i.1; omega)
  unfold WR
  rw [hp, hi]

def gOf (n : ℕ) : Fin 15 := ⟨n % 15, Nat.mod_lt _ (by decide)⟩

/-- Row `x` of token `t` of a buffer. -/
abbrev natIx (t : ℕ) (ht : t < 256) (x : S16x128.Idx) : S4608x128.Idx :=
  ix2 (⟨18 * t + (x 0).1, by have h : (x 0).1 < 16 := (x 0).2; omega⟩ : Fin 4608) (⟨(x 1).1, (x 1).2⟩ : Fin 128)

section
variable {codes : Memref sig .tc .vmem S30720x128 .fp8e5m2} {sc : Memref sig .tc .vmem S3x16x640 .f32} {nat : Memref sig .tc .vmem S4608x128 .bf16} {hnat : nat.IsWhole}
  {qc qs : PosShare TreeShare} {fc : Cont F c codes} {fs : Cont F c sc}

/-- The first `n` tokens of unit `u` are there. -/
def NatOk (cd : S30720x128.Idx → Elt F .fp8e5m2) (sc : S3x16x640.Idx → Elt F .f32) (u n : ℕ) (f : Cont F c nat) : Prop :=
  ∀ (t : ℕ) (ht : t < 256) (x : S16x128.Idx), t < n → rd nat f (natIx t ht x) = WR cd sc (gOf (2 * u + t / 128)) (t % 128) x

theorem wideSt_wp {Q : PUnit.{1} → sProp 𝕄} {kk : P F PUnit.{1}} {cd : S30720x128.Idx → Elt F .fp8e5m2} {sd : S3x16x640.Idx → Elt F .f32} {u n : ℕ} {h : Fin 2} {p : Fin 64} {i : Fin 2} (hn : n = 128 * h.1 + 2 * p.1 + i.1)
    {s : Vec F S1x16x128 .f32} {v : Vec F S32x128 .fp8e5m2} (hs : s = fun z => sd ((rSc (gOf (2 * u + h.1))).emb z)) (hv : v = fun z => cd ((rCode (gOf (2 * u + h.1)) p).emb z))
    {f : Cont F c nat} (hf : NatOk cd sd u n f) :
    iprop(Pt c nat fullShare f ∗ (∀ f', ⌜NatOk cd sd u (n + 1) f'⌝ -∗ Pt c nat fullShare f' -∗ WP c kk Q))
      ⊢ WP c (wideSt nat hnat h p i s v kk) Q := by
  unfold wideSt
  iintro ⟨H, Hk⟩
  iapply load_step $$ H; iintro H
  iapply store_step $$ H; iintro H
  suffices hs : NatOk cd sd u (n + 1) _ by iapply Hk $$ %_ %hs H
  intro t ht x hlt
  have l0 : (x 0).1 < 16 := (x 0).2
  by_cases e : t = n
  · have ey : natIx t ht x = (rNat h p i).emb x := by
      funext a
      apply Fin.ext
      match a with
      | ⟨0, _⟩ => show 18 * t + (x 0).1 = 2304 * h.1 + (36 * p.1 + 18 * i.1) + 1 * (x 0).1; omega
      | ⟨1, _⟩ => show (x 1).1 = 0 + 1 * (x 1).1; omega
    rw [ey]
    refine (View.read_slice_write_emb _ _ _ (Finset.mem_univ x)).trans ?_
    rw [WR_eq cd sd _ p i (t % 128) (by omega), show t / 128 = h.1 by omega, hs, hv]
    rfl
  · rw [← hf t ht x (by omega)]
    refine View.read_slice_write_of_not_mem _ _ _ _ fun hx => ?_
    obtain ⟨z, -, hz⟩ := Finset.mem_map.mp hx
    have h0 : 2304 * h.1 + (36 * p.1 + 18 * i.1) + 1 * (z 0).1 = 18 * t + (x 0).1 := congrArg (fun z : S4608x128.Idx => (z 0).1) hz
    have lz : (z 0).1 < 16 := (z 0).2
    omega

theorem wideLoop_wp {Q : PUnit.{1} → sProp 𝕄} {kk : P F PUnit.{1}} {u : ℕ} {h : Fin 2} {hco : CodeInb (coG (gOf (2 * u + h.1)))}
    {s : Vec F S1x16x128 .f32} (hs : s = fun z => rd sc fs ((rSc (gOf (2 * u + h.1))).emb z)) (m : ℕ) :
    ∀ (n : ℕ) (hn : n + m ≤ 64) (f : Cont F c nat) (hf : NatOk (rd codes fc) (rd sc fs) u (128 * h.1 + 2 * n) f),
    iprop(Pt c codes qc fc ∗ Pt c nat fullShare f
      ∗ (∀ f', ⌜NatOk (rd codes fc) (rd sc fs) u (128 * h.1 + 2 * (n + m)) f'⌝ -∗ Pt c codes qc fc -∗ Pt c nat fullShare f' -∗ WP c kk Q))
      ⊢ WP c (wideLoop codes nat hnat h (coG (gOf (2 * u + h.1))) hco s m n kk) Q := by
  induction m with
  | zero =>
    intro n hn f hf
    unfold wideLoop
    iintro ⟨HC, H, Hk⟩
    iapply Hk $$ %_ %hf HC H
  | succ m ih =>
    intro n hn f hf
    unfold wideLoop wideStep
    iintro ⟨HC, H, Hk⟩
    iapply load_step $$ HC; iintro HC
    iapply (wideSt_wp (i := 0) (by show _ = 128 * h.1 + 2 * (n % 64) + 0; omega) hs rfl hf)
    isplitl [H]; · iexact H
    iintro %f1 %h1 H
    iapply (wideSt_wp (i := 1) (by show _ = 128 * h.1 + 2 * (n % 64) + 1; omega) hs rfl h1)
    isplitl [H]; · iexact H
    iintro %f2 %h2 H
    iapply (ih (n + 1) (by omega) f2 h2)
    isplitl [HC]; · iexact HC
    isplitl [H]; · iexact H
    iintro %f3 %h3 HC H
    have h4 : NatOk (rd codes fc) (rd sc fs) u (128 * h.1 + 2 * (n + (m + 1))) f3 := by
      rw [show n + (m + 1) = n + 1 + m by omega]
      exact h3
    iapply Hk $$ %_ %h4 HC H

theorem wide_wp {Q : PUnit.{1} → sProp 𝕄} {kk : P F PUnit.{1}} {u : ℕ} {h : Fin 2} {so : Fin 3 → ℕ} {hso : ScaleInb so} {co : CodeOff} {hco : CodeInb co}
    (eso : so = soG (gOf (2 * u + h.1))) (eco : co = coG (gOf (2 * u + h.1))) {f : Cont F c nat} (hf : NatOk (rd codes fc) (rd sc fs) u (128 * h.1) f) :
    iprop(Pt c codes qc fc ∗ Pt c sc qs fs ∗ Pt c nat fullShare f
      ∗ (∀ f', ⌜NatOk (rd codes fc) (rd sc fs) u (128 * h.1 + 128) f'⌝ -∗ Pt c codes qc fc -∗ Pt c sc qs fs -∗ Pt c nat fullShare f' -∗ WP c kk Q))
      ⊢ WP c (wide codes sc nat hnat h so hso co hco kk) Q := by
  subst eso eco
  unfold wide
  iintro ⟨HC, HS, H, Hk⟩
  iapply load_step $$ HS; iintro HS
  iapply (wideLoop_wp rfl 64 0 (by decide) f hf)
  isplitl [HC]; · iexact HC
  isplitl [H]; · iexact H
  iintro %f1 %h1 HC H
  iapply Hk $$ %_ %h1 HC HS H
end

/-! ## Both tensors -/

section
variable {arg0 : Memref sig .tc .vmem S30720x128 .fp8e5m2} {arg1 : Memref sig .tc .vmem S3x16x640 .f32} {arg2 : Memref sig .tc .vmem S30720x128 .fp8e5m2} {arg3 : Memref sig .tc .vmem S3x16x640 .f32}
  {natk natv : Memref sig .tc .vmem S4608x128 .bf16} {hk : natk.IsWhole} {hv : natv.IsWhole}
  {q0 q1 q2 q3 : PosShare TreeShare} {f0 : Cont F c arg0} {f1 : Cont F c arg1} {f2 : Cont F c arg2} {f3 : Cont F c arg3}

/-- The codes and scales of both tensors. -/
def Ins (c : Dev nD) (arg0 : Memref sig .tc .vmem S30720x128 .fp8e5m2) (arg1 : Memref sig .tc .vmem S3x16x640 .f32) (arg2 : Memref sig .tc .vmem S30720x128 .fp8e5m2) (arg3 : Memref sig .tc .vmem S3x16x640 .f32)
    (q0 q1 q2 q3 : PosShare TreeShare) (f0 : Cont F c arg0) (f1 : Cont F c arg1) (f2 : Cont F c arg2) (f3 : Cont F c arg3) : sProp 𝕄 :=
  iprop(Pt c arg0 q0 f0 ∗ Pt c arg1 q1 f1 ∗ Pt c arg2 q2 f2 ∗ Pt c arg3 q3 f3)

/-- The first `n` tokens of unit `u` of both tensors are there. -/
def Nats (c : Dev nD) (natk natv : Memref sig .tc .vmem S4608x128 .bf16) (kc : S30720x128.Idx → Elt F .fp8e5m2) (ks : S3x16x640.Idx → Elt F .f32)
    (vc : S30720x128.Idx → Elt F .fp8e5m2) (vs : S3x16x640.Idx → Elt F .f32) (u n : ℕ) : sProp 𝕄 :=
  iprop((∃ fk : Cont F c natk, ⌜NatOk kc ks u n fk⌝ ∗ Pt c natk fullShare fk) ∗ (∃ fv : Cont F c natv, ⌜NatOk vc vs u n fv⌝ ∗ Pt c natv fullShare fv))

/-- With no token asked for, any contents do. -/
theorem Nats_zero {kc : S30720x128.Idx → Elt F .fp8e5m2} {ks : S3x16x640.Idx → Elt F .f32}
    {vc : S30720x128.Idx → Elt F .fp8e5m2} {vs : S3x16x640.Idx → Elt F .f32} {u : ℕ} {fk : Cont F c natk} {fv : Cont F c natv} :
    iprop(Pt c natk fullShare fk ∗ Pt c natv fullShare fv) ⊢ Nats c natk natv kc ks vc vs u 0 := by
  unfold Nats
  iintro ⟨H1, H2⟩
  isplitl [H1]
  · iexists fk
    isplitr; · ipureintro; exact fun _ _ _ h => absurd h (Nat.not_lt_zero _)
    iexact H1
  · iexists fv
    isplitr; · ipureintro; exact fun _ _ _ h => absurd h (Nat.not_lt_zero _)
    iexact H2

theorem Nats_any {kc : S30720x128.Idx → Elt F .fp8e5m2} {ks : S3x16x640.Idx → Elt F .f32}
    {vc : S30720x128.Idx → Elt F .fp8e5m2} {vs : S3x16x640.Idx → Elt F .f32} {u u' n : ℕ} :
    Nats c natk natv kc ks vc vs u n ⊢ Nats c natk natv kc ks vc vs u' 0 := by
  unfold Nats
  iintro ⟨⟨%fk, -, H1⟩, ⟨%fv, -, H2⟩⟩
  isplitl [H1]
  · iexists fk
    isplitr; · ipureintro; exact fun _ _ _ h => absurd h (Nat.not_lt_zero _)
    iexact H1
  · iexists fv
    isplitr; · ipureintro; exact fun _ _ _ h => absurd h (Nat.not_lt_zero _)
    iexact H2

theorem wide2_wp {Q : PUnit.{1} → sProp 𝕄} {kk : P F PUnit.{1}} {u n : ℕ} {h : Fin 2} {so : Fin 3 → ℕ} {hso : ScaleInb so} {co : CodeOff} {hco : CodeInb co}
    (eso : so = soG (gOf (2 * u + h.1))) (eco : co = coG (gOf (2 * u + h.1))) (hn : n = 128 * h.1) :
    iprop(Ins c arg0 arg1 arg2 arg3 q0 q1 q2 q3 f0 f1 f2 f3 ∗ Nats c natk natv (rd arg0 f0) (rd arg1 f1) (rd arg2 f2) (rd arg3 f3) u n
      ∗ (Ins c arg0 arg1 arg2 arg3 q0 q1 q2 q3 f0 f1 f2 f3 -∗ Nats c natk natv (rd arg0 f0) (rd arg1 f1) (rd arg2 f2) (rd arg3 f3) u (n + 128) -∗ WP c kk Q))
      ⊢ WP c (wide2 arg0 arg1 arg2 arg3 natk natv hk hv h so hso co hco kk) Q := by
  subst hn
  unfold wide2 Ins Nats
  iintro ⟨⟨H0, H1, H2, H3⟩, ⟨⟨%fk, %hk', HK⟩, ⟨%fv, %hv', HV⟩⟩, Hk⟩
  iapply (wide_wp eso eco hk')
  isplitl [H0]; · iexact H0
  isplitl [H1]; · iexact H1
  isplitl [HK]; · iexact HK
  iintro %gk %ek H0 H1 HK
  iapply (wide_wp eso eco hv')
  isplitl [H2]; · iexact H2
  isplitl [H3]; · iexact H3
  isplitl [HV]; · iexact HV
  iintro %gv %ev H2 H3 HV
  iapply Hk $$ [H0 H1 H2 H3] [HK HV]
  · isplitl [H0]; · iexact H0
    isplitl [H1]; · iexact H1
    isplitl [H2]; · iexact H2
    iexact H3
  · isplitl [HK]
    · iexists gk
      isplitr; · ipureintro; exact ek
      iexact HK
    · iexists gv
      isplitr; · ipureintro; exact ev
      iexact HV
end

end Cert.KernelDc.Hand

end
-- ==== Proof.KernelDc.Units.lean ====
/- A unit of `dc` over one core's separation state: the sixteen products of the widened tokens with the
   weight tiles, summed, turned and stored as four column blocks. -/
module

public import proofs.«01_k».proof.Proof.KernelDc.Wide

@[expose] public section

noncomputable section

namespace Cert.KernelDc.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 ix4)
open Cert.KernelDc Cert.KernelDc.Gen Cert.Num

variable {F : FTy → Type} [FloatOps F]

local notation "𝕄" => MT nD τ sig Unit (Elt F) ℕ (Pipeline.UD sig nD τ) ℕ

variable {c : Dev nD}

/-! ## The right factor of a product, at an index -/

theorem sides_at (w : FVec F S256x2x128 .bf16) (t : Fin 256) (s : Fin 2) (d : Fin 128) (n : Fin 256) (hn : n.1 = 128 * s.1 + d.1) :
    sides w (ix2 t n) = w (ix3 t s d) := by
  unfold sides
  match s, hn with
  | 0, hn =>
    refine (concatenate_pair_apply_left (s₁ := S256x128) (s₂ := S256x128) (t := S256x256) 1 _ _ concatenates_S256x128_S256x128_S256x256_d1 (ix2 t n) rfl (ix2 t d) fun b => ?_).trans ?_
    · match b with
      | 0 => rfl
      | 1 => show d.1 = n.1; simp at hn; omega
    refine (cast_at _ _ _ (ix3 t (0 : Fin 1) d) ?_).trans (congrArg w (funext fun a => Fin.ext ?_))
    · rw [Shape.rowMajor_val_two, Shape.rowMajor_val_three]
      show (t.1 * 1 + 0) * 128 + d.1 = t.1 * 128 + d.1
      omega
    match a with
    | 0 => show 0 + t.1 = t.1; omega
    | 1 => rfl
    | 2 => show 0 + d.1 = d.1; omega
  | 1, hn =>
    refine (concatenate_pair_apply_right (s₁ := S256x128) (s₂ := S256x128) (t := S256x256) 1 _ _ concatenates_S256x128_S256x128_S256x256_d1 (ix2 t n) rfl rfl (ix2 t d) (fun b hb => ?_) ?_).trans ?_
    · match b with
      | 0 => rfl
      | 1 => exact absurd rfl hb
    · show d.1 + 128 = n.1; simp at hn; omega
    refine (cast_at _ _ _ (ix3 t (0 : Fin 1) d) ?_).trans (congrArg w (funext fun a => Fin.ext ?_))
    · rw [Shape.rowMajor_val_two, Shape.rowMajor_val_three]
      show (t.1 * 1 + 0) * 128 + d.1 = t.1 * 128 + d.1
      omega
    match a with
    | 0 => show 0 + t.1 = t.1; omega
    | 1 => rfl
    | 2 => show 0 + d.1 = d.1; omega

theorem pair2_at (j : Fin 8) (v : Vec F S4608x128 .bf16) (t : Fin 256) (s : Fin 2) (d : Fin 128) :
    pair2 j v (ix3 t s d) = v (ix2 (⟨18 * t.1 + (2 * j.1 + s.1), by omega⟩ : Fin 4608) d) := by
  unfold pair2
  refine (cast_at _ _ _ (ix4 t (0 : Fin 1) s d) ?_).trans ((cast_at v _ _ (ix2 (⟨18 * t.1 + (2 * j.1 + s.1), by omega⟩ : Fin 4608) d) ?_))
  · rw [Shape.rowMajor_val_three, Shape.rowMajor_val_four]
    show ((t.1 * 1 + 0) * 2 + s.1) * 128 + d.1 = (t.1 * 2 + s.1) * 128 + d.1
    omega
  · rw [Shape.rowMajor_val_two, Shape.rowMajor_val_four]
    show (18 * t.1 + (2 * j.1 + s.1)) * 128 + d.1 = (((0 + t.1) * 9 + (j.1 + 0)) * 2 + (0 + s.1)) * 128 + (0 + d.1)
    omega

theorem sides'_at (w : FVec F S128x2x128 .bf16) (t : Fin 128) (s : Fin 2) (d : Fin 128) (n : Fin 256) (hn : n.1 = 128 * s.1 + d.1) :
    sides' w (ix2 t n) = w (ix3 t s d) := by
  unfold sides'
  match s, hn with
  | 0, hn =>
    refine (concatenate_pair_apply_left (s₁ := S128x128) (s₂ := S128x128) (t := S128x256) 1 _ _ concatenates_S128x128_S128x128_S128x256_d1 (ix2 t n) rfl (ix2 t d) fun b => ?_).trans ?_
    · match b with
      | 0 => rfl
      | 1 => show d.1 = n.1; simp at hn; omega
    refine (cast_at _ _ _ (ix3 t (0 : Fin 1) d) ?_).trans (congrArg w (funext fun a => Fin.ext ?_))
    · rw [Shape.rowMajor_val_two, Shape.rowMajor_val_three]
      show (t.1 * 1 + 0) * 128 + d.1 = t.1 * 128 + d.1
      omega
    match a with
    | 0 => show 0 + t.1 = t.1; omega
    | 1 => rfl
    | 2 => show 0 + d.1 = d.1; omega
  | 1, hn =>
    refine (concatenate_pair_apply_right (s₁ := S128x128) (s₂ := S128x128) (t := S128x256) 1 _ _ concatenates_S128x128_S128x128_S128x256_d1 (ix2 t n) rfl rfl (ix2 t d) (fun b hb => ?_) ?_).trans ?_
    · match b with
      | 0 => rfl
      | 1 => exact absurd rfl hb
    · show d.1 + 128 = n.1; simp at hn; omega
    refine (cast_at _ _ _ (ix3 t (0 : Fin 1) d) ?_).trans (congrArg w (funext fun a => Fin.ext ?_))
    · rw [Shape.rowMajor_val_two, Shape.rowMajor_val_three]
      show (t.1 * 1 + 0) * 128 + d.1 = t.1 * 128 + d.1
      omega
    match a with
    | 0 => show 0 + t.1 = t.1; omega
    | 1 => rfl
    | 2 => show 0 + d.1 = d.1; omega

theorem pair2'_at (j : Fin 8) (v : Vec F S2304x128 .bf16) (t : Fin 128) (s : Fin 2) (d : Fin 128) :
    pair2' j v (ix3 t s d) = v (ix2 (⟨18 * t.1 + (2 * j.1 + s.1), by omega⟩ : Fin 2304) d) := by
  unfold pair2'
  refine (cast_at _ _ _ (ix4 t (0 : Fin 1) s d) ?_).trans ((cast_at v _ _ (ix2 (⟨18 * t.1 + (2 * j.1 + s.1), by omega⟩ : Fin 2304) d) ?_))
  · rw [Shape.rowMajor_val_three, Shape.rowMajor_val_four]
    show ((t.1 * 1 + 0) * 2 + s.1) * 128 + d.1 = (t.1 * 2 + s.1) * 128 + d.1
    omega
  · rw [Shape.rowMajor_val_two, Shape.rowMajor_val_four]
    show (18 * t.1 + (2 * j.1 + s.1)) * 128 + d.1 = (((0 + t.1) * 9 + (j.1 + 0)) * 2 + (0 + s.1)) * 128 + (0 + d.1)
    omega

/-! ## What a unit computes -/

section
variable (cd : S30720x128.Idx → Elt F .fp8e5m2) (sc : S3x16x640.Idx → Elt F .f32)

/-- The pair `j` of heads of unit `u`'s 256 tokens. -/
def SD (u : ℕ) (j : Fin 8) : FVec F S256x256 .bf16 := fun x =>
  WR cd sc (gOf (2 * u + (x 0).1 / 128)) ((x 0).1 % 128)
    (ix2 (⟨2 * j.1 + (x 1).1 / 128, by have h : (x 1).1 < 256 := (x 1).2; omega⟩ : Fin 16) (⟨(x 1).1 % 128, Nat.mod_lt _ (by decide)⟩ : Fin 128))
/-- The same for the 128 tokens of the last unit. -/
def SD' (j : Fin 8) : FVec F S128x256 .bf16 := fun x =>
  WR cd sc (gOf 14) (x 0).1
    (ix2 (⟨2 * j.1 + (x 1).1 / 128, by have h : (x 1).1 < 256 := (x 1).2; omega⟩ : Fin 16) (⟨(x 1).1 % 128, Nat.mod_lt _ (by decide)⟩ : Fin 128))

variable {cd sc}

theorem sides_nat {nat : Memref sig .tc .vmem S4608x128 .bf16} {f : Cont F c nat} {u : ℕ} (h : NatOk cd sc u 256 f) (j : Fin 8) :
    sides (pair2 j fun x => rd nat f (rAll.emb x)) = SD cd sc u j := by
  funext x
  have l0 : (x 0).1 < 256 := (x 0).2
  have l1 : (x 1).1 < 256 := (x 1).2
  have ex : x = ix2 (⟨(x 0).1, l0⟩ : Fin 256) (⟨(x 1).1, l1⟩ : Fin 256) := by
    funext a
    match a with
    | 0 => rfl
    | 1 => rfl
  refine (congrArg _ ex).trans ((sides_at _ _ (⟨(x 1).1 / 128, by omega⟩ : Fin 2) (⟨(x 1).1 % 128, by omega⟩ : Fin 128) _ (by show (x 1).1 = 128 * ((x 1).1 / 128) + (x 1).1 % 128; omega)).trans
    ((pair2_at _ _ _ _ _).trans (Eq.trans (congrArg (rd nat f) ?_) (h (x 0).1 l0 (ix2 (⟨2 * j.1 + (x 1).1 / 128, by omega⟩ : Fin 16) (⟨(x 1).1 % 128, by omega⟩ : Fin 128)) l0))))
  funext a
  apply Fin.ext
  match a with
  | ⟨0, _⟩ => show 0 + 1 * (18 * (x 0).1 + (2 * j.1 + (x 1).1 / 128)) = 18 * (x 0).1 + (2 * j.1 + (x 1).1 / 128); omega
  | ⟨1, _⟩ => show 0 + 1 * ((x 1).1 % 128) = (x 1).1 % 128; omega

theorem sides'_nat {nat : Memref sig .tc .vmem S4608x128 .bf16} {f : Cont F c nat} (h : NatOk cd sc 7 128 f) (j : Fin 8) :
    sides' (pair2' j fun x => rd nat f (rHalf.emb x)) = SD' cd sc j := by
  funext x
  have l0 : (x 0).1 < 128 := (x 0).2
  have l1 : (x 1).1 < 256 := (x 1).2
  have ex : x = ix2 (⟨(x 0).1, l0⟩ : Fin 128) (⟨(x 1).1, l1⟩ : Fin 256) := by
    funext a
    match a with
    | 0 => rfl
    | 1 => rfl
  refine (congrArg _ ex).trans ((sides'_at _ _ (⟨(x 1).1 / 128, by omega⟩ : Fin 2) (⟨(x 1).1 % 128, by omega⟩ : Fin 128) _ (by show (x 1).1 = 128 * ((x 1).1 / 128) + (x 1).1 % 128; omega)).trans
    ((pair2'_at _ _ _ _ _).trans (Eq.trans (congrArg (rd nat f) ?_) ((h (x 0).1 (by omega) (ix2 (⟨2 * j.1 + (x 1).1 / 128, by omega⟩ : Fin 16) (⟨(x 1).1 % 128, by omega⟩ : Fin 128)) l0).trans ?_))))
  · funext a
    apply Fin.ext
    match a with
    | ⟨0, _⟩ => show 0 + 1 * (18 * (x 0).1 + (2 * j.1 + (x 1).1 / 128)) = 18 * (x 0).1 + (2 * j.1 + (x 1).1 / 128); omega
    | ⟨1, _⟩ => show 0 + 1 * ((x 1).1 % 128) = (x 1).1 % 128; omega
  · rw [show 2 * 7 + (x 0).1 / 128 = 14 by omega, show (x 0).1 % 128 = (x 0).1 by omega]
    rfl
end

/-- A product of the tile `l` with the factor `s`. -/
def PR (s : FVec F S256x256 .bf16) (l : Vec F S1x1x512x256 .bf16) : FVec F S512x256 .f32 :=
  matmul dot_S512x256_S256x256_S512x256_1_1_0_0_n_n none (shapeCast S512x256 l shapeCasts_S1x1x512x256_S512x256 : FVec F S512x256 .bf16) s (constant S512x256 .f32 0x00000000#32)
def PR' (s : FVec F S128x256 .bf16) (l : Vec F S1x1x512x256 .bf16) : FVec F S512x128 .f32 :=
  matmul dot_S512x256_S128x256_S512x128_1_1_0_0_n_n none (shapeCast S512x256 l shapeCasts_S1x1x512x256_S512x256 : FVec F S512x256 .bf16) s (constant S512x128 .f32 0x00000000#32)

theorem prod_eq (j : Fin 8) (v : Vec F S4608x128 .bf16) (l : Vec F S1x1x512x256 .bf16) : prod j v l = PR (sides (pair2 j v)) l := rfl
theorem prod'_eq (j : Fin 8) (v : Vec F S2304x128 .bf16) (l : Vec F S1x1x512x256 .bf16) : prod' j v l = PR' (sides' (pair2' j v)) l := rfl

section
variable (s : Fin 8 → FVec F S256x256 .bf16) (wb : S2x8x512x256.Idx → Elt F .bf16)

/-- `m` products from product `n` on, added to what is there. -/
def TM (i : Fin 2) : (m n : ℕ) → FVec F S512x256 .f32 → FVec F S512x256 .f32
  | 0, _, a => a
  | m + 1, n, a => TM i m (n + 1) (addf a (PR (s (jOf n)) fun x => wb ((rTile i (jOf n)).emb x)))
end
section
variable (s : Fin 8 → FVec F S128x256 .bf16) (wb : S2x8x512x256.Idx → Elt F .bf16)
def TM' (i : Fin 2) : (m n : ℕ) → FVec F S512x128 .f32 → FVec F S512x128 .f32
  | 0, _, a => a
  | m + 1, n, a => TM' i m (n + 1) (addf a (PR' (s (jOf n)) fun x => wb ((rTile i (jOf n)).emb x)))
end

section
variable (kc : S30720x128.Idx → Elt F .fp8e5m2) (ks : S3x16x640.Idx → Elt F .f32) (vc : S30720x128.Idx → Elt F .fp8e5m2) (vs : S3x16x640.Idx → Elt F .f32)
  (wb : S2x8x512x256.Idx → Elt F .bf16)

/-- The sum of a unit. -/
def UA (u : ℕ) : FVec F S512x256 .f32 :=
  TM (SD vc vs u) wb 1 8 0 (TM (SD kc ks u) wb 0 7 1 (PR (SD kc ks u 0) fun x => wb ((rTile 0 0).emb x)))
def UA' : FVec F S512x128 .f32 :=
  TM' (SD' vc vs) wb 1 8 0 (TM' (SD' kc ks) wb 0 7 1 (PR' (SD' kc ks 0) fun x => wb ((rTile 0 0).emb x)))

/-- The result. -/
def DC : S1920x512.Idx → Elt F .bf16 := fun y =>
  if h : (y 0).1 < 1792 then
    dcPay ⟨(y 1).1 / 128, Nat.div_lt_of_lt_mul (y 1).2⟩ (UA kc ks vc vs wb ((y 0).1 / 256))
      (ix2 (⟨(y 0).1 % 256, Nat.mod_lt _ (by decide)⟩ : Fin 256) (⟨(y 1).1 % 128, Nat.mod_lt _ (by decide)⟩ : Fin 128))
  else
    dcPay' ⟨(y 1).1 / 128, Nat.div_lt_of_lt_mul (y 1).2⟩ (UA' kc ks vc vs wb)
      (ix2 (⟨(y 0).1 - 1792, by have h : (y 0).1 < 1920 := (y 0).2; omega⟩ : Fin 128) (⟨(y 1).1 % 128, Nat.mod_lt _ (by decide)⟩ : Fin 128))
end

/-! ## The steps -/

section
variable {nat : Memref sig .tc .vmem S4608x128 .bf16} {arg11 : Memref sig .tc .vmem S2x8x512x256 .bf16} {f : Cont F c nat} {f11 : Cont F c arg11}
  {cd : S30720x128.Idx → Elt F .fp8e5m2} {sc : S3x16x640.Idx → Elt F .f32} {u : ℕ}

theorem term_wp {Q : PUnit.{1} → sProp 𝕄} {i : Fin 2} {j : Fin 8} {kk : FVec F S512x256 .f32 → P F PUnit.{1}} (h : NatOk cd sc u 256 f) :
    iprop(Pt c nat fullShare f ∗ Pt c arg11 fullShare f11
      ∗ (Pt c nat fullShare f -∗ Pt c arg11 fullShare f11 -∗ WP c (kk (PR (SD cd sc u j) fun x => rd arg11 f11 ((rTile i j).emb x))) Q))
      ⊢ WP c (term nat arg11 i j kk) Q := by
  rw [← sides_nat h j]
  unfold term
  iintro ⟨H, H11, Hk⟩
  iapply load_step $$ H; iintro H
  iapply load_step $$ H11; iintro H11
  iapply Hk $$ H H11

theorem terms_wp {Q : PUnit.{1} → sProp 𝕄} {i : Fin 2} {kk : FVec F S512x256 .f32 → P F PUnit.{1}} (h : NatOk cd sc u 256 f) (m : ℕ) :
    ∀ (n : ℕ) (a : FVec F S512x256 .f32),
    iprop(Pt c nat fullShare f ∗ Pt c arg11 fullShare f11
      ∗ (Pt c nat fullShare f -∗ Pt c arg11 fullShare f11 -∗ WP c (kk (TM (SD cd sc u) (rd arg11 f11) i m n a)) Q))
      ⊢ WP c (terms nat arg11 i m n a kk) Q := by
  induction m with
  | zero =>
    intro n a
    unfold terms TM
    iintro ⟨H, H11, Hk⟩
    iapply Hk $$ H H11
  | succ m ih =>
    intro n a
    unfold terms TM
    iintro ⟨H, H11, Hk⟩
    iapply (term_wp h)
    isplitl [H]; · iexact H
    isplitl [H11]; · iexact H11
    iintro H H11
    iapply (ih (n + 1) _)
    isplitl [H]; · iexact H
    isplitl [H11]; · iexact H11
    iexact Hk

theorem term'_wp {Q : PUnit.{1} → sProp 𝕄} {i : Fin 2} {j : Fin 8} {kk : FVec F S512x128 .f32 → P F PUnit.{1}} (h : NatOk cd sc 7 128 f) :
    iprop(Pt c nat fullShare f ∗ Pt c arg11 fullShare f11
      ∗ (Pt c nat fullShare f -∗ Pt c arg11 fullShare f11 -∗ WP c (kk (PR' (SD' cd sc j) fun x => rd arg11 f11 ((rTile i j).emb x))) Q))
      ⊢ WP c (term' nat arg11 i j kk) Q := by
  rw [← sides'_nat h j]
  unfold term'
  iintro ⟨H, H11, Hk⟩
  iapply load_step $$ H; iintro H
  iapply load_step $$ H11; iintro H11
  iapply Hk $$ H H11

theorem terms'_wp {Q : PUnit.{1} → sProp 𝕄} {i : Fin 2} {kk : FVec F S512x128 .f32 → P F PUnit.{1}} (h : NatOk cd sc 7 128 f) (m : ℕ) :
    ∀ (n : ℕ) (a : FVec F S512x128 .f32),
    iprop(Pt c nat fullShare f ∗ Pt c arg11 fullShare f11
      ∗ (Pt c nat fullShare f -∗ Pt c arg11 fullShare f11 -∗ WP c (kk (TM' (SD' cd sc) (rd arg11 f11) i m n a)) Q))
      ⊢ WP c (terms' nat arg11 i m n a kk) Q := by
  induction m with
  | zero =>
    intro n a
    unfold terms' TM'
    iintro ⟨H, H11, Hk⟩
    iapply Hk $$ H H11
  | succ m ih =>
    intro n a
    unfold terms' TM'
    iintro ⟨H, H11, Hk⟩
    iapply (term'_wp h)
    isplitl [H]; · iexact H
    isplitl [H11]; · iexact H11
    iintro H H11
    iapply (ih (n + 1) _)
    isplitl [H]; · iexact H
    isplitl [H11]; · iexact H11
    iexact Hk
end

section
variable {arg12 : Memref sig .tc .vmem S1920x512 .bf16} {harg12 : arg12.IsWhole}

/-- The first `n` column blocks of units are those of `A`. -/
def DcOk (A : S1920x512.Idx → Elt F .bf16) (n : ℕ) (f : Cont F c arg12) : Prop :=
  ∀ y : S1920x512.Idx, 4 * ((y 0).1 / 256) + (y 1).1 / 128 < n → rd arg12 f y = A y

/-- Where unit `u`'s column blocks go. -/
abbrev ooU (u : ℕ) : DcOff := fun rb => ![256 * u, 128 * rb.1]

theorem dcPut_wp {Q : PUnit.{1} → sProp 𝕄} {kk : P F PUnit.{1}} {A : S1920x512.Idx → Elt F .bf16} {u n : ℕ} {rb : Fin 4} (hn : n = 4 * u + rb.1) (hu : u < 7)
    {hoo : DcInb (ooU u)} {hpk : ∀ rb, (Rect.unit (s := S1920x512) (ooU u rb) S256x128.size (hoo rb)).PackedRows (EltTy.packing .bf16)}
    {a : FVec F S512x256 .f32} (ha : ∀ x : S256x128.Idx, A ((Rect.unit (s := S1920x512) (ooU u rb) S256x128.size (hoo rb)).emb x) = dcPay rb a x)
    {f : Cont F c arg12} (h : DcOk A n f) :
    iprop(Pt c arg12 fullShare f ∗ (∀ f', ⌜DcOk A (n + 1) f'⌝ -∗ Pt c arg12 fullShare f' -∗ WP c kk Q))
      ⊢ WP c (dcPut arg12 harg12 (ooU u) hoo hpk rb a kk) Q := by
  unfold dcPut
  iintro ⟨H, Hk⟩
  iapply load_step $$ H; iintro H
  iapply store_step $$ H; iintro H
  suffices hs : DcOk A (n + 1) _ by iapply Hk $$ %_ %hs H
  intro y hy
  by_cases hm : y ∈ (Finset.univ : Finset S256x128.Idx).map (Rect.unit (s := S1920x512) (ooU u rb) S256x128.size (hoo rb)).emb
  · obtain ⟨x, -, rfl⟩ := Finset.mem_map.mp hm
    rw [ha]
    exact View.read_slice_write_emb _ _ _ (Finset.mem_univ x)
  · rw [← h y ?_]
    · exact View.read_slice_write_of_not_mem _ _ _ _ hm
    · by_contra hlt
      have l0 : (y 0).1 < 1920 := (y 0).2
      have l1 : (y 1).1 < 512 := (y 1).2
      have e : 4 * ((y 0).1 / 256) + (y 1).1 / 128 = 4 * u + rb.1 := by omega
      apply hm
      refine Finset.mem_map.mpr ⟨ix2 (⟨(y 0).1 % 256, Nat.mod_lt _ (by decide)⟩ : Fin 256) (⟨(y 1).1 % 128, Nat.mod_lt _ (by decide)⟩ : Fin 128), Finset.mem_univ _, ?_⟩
      funext a
      apply Fin.ext
      match a with
      | ⟨0, _⟩ => show 256 * u + 1 * ((y 0).1 % 256) = (y 0).1; omega
      | ⟨1, _⟩ => show 128 * rb.1 + 1 * ((y 1).1 % 128) = (y 1).1; omega

theorem dcPut'_wp {Q : PUnit.{1} → sProp 𝕄} {kk : P F PUnit.{1}} {A : S1920x512.Idx → Elt F .bf16} {n : ℕ} {rb : Fin 4} (hn : n = 28 + rb.1)
    {a : FVec F S512x128 .f32} (ha : ∀ x : S128x128.Idx, A ((Rect.unit (s := S1920x512) ![1792, 128 * rb.1] S128x128.size (inbDc7 rb)).emb x) = dcPay' rb a x)
    {f : Cont F c arg12} (h : DcOk A n f) :
    iprop(Pt c arg12 fullShare f ∗ (∀ f', ⌜DcOk A (n + 1) f'⌝ -∗ Pt c arg12 fullShare f' -∗ WP c kk Q))
      ⊢ WP c (dcPut' arg12 harg12 rb a kk) Q := by
  unfold dcPut'
  iintro ⟨H, Hk⟩
  iapply load_step $$ H; iintro H
  iapply store_step $$ H; iintro H
  suffices hs : DcOk A (n + 1) _ by iapply Hk $$ %_ %hs H
  intro y hy
  by_cases hm : y ∈ (Finset.univ : Finset S128x128.Idx).map (Rect.unit (s := S1920x512) ![1792, 128 * rb.1] S128x128.size (inbDc7 rb)).emb
  · obtain ⟨x, -, rfl⟩ := Finset.mem_map.mp hm
    rw [ha]
    exact View.read_slice_write_emb _ _ _ (Finset.mem_univ x)
  · rw [← h y ?_]
    · exact View.read_slice_write_of_not_mem _ _ _ _ hm
    · by_contra hlt
      have l0 : (y 0).1 < 1920 := (y 0).2
      have l1 : (y 1).1 < 512 := (y 1).2
      have e : 4 * ((y 0).1 / 256) + (y 1).1 / 128 = 28 + rb.1 := by omega
      apply hm
      refine Finset.mem_map.mpr ⟨ix2 (⟨(y 0).1 % 256 % 128, Nat.mod_lt _ (by decide)⟩ : Fin 128) (⟨(y 1).1 % 128, Nat.mod_lt _ (by decide)⟩ : Fin 128), Finset.mem_univ _, ?_⟩
      funext a
      apply Fin.ext
      match a with
      | ⟨0, _⟩ => show 1792 + 1 * ((y 0).1 % 256 % 128) = (y 0).1; omega
      | ⟨1, _⟩ => show 128 * rb.1 + 1 * ((y 1).1 % 128) = (y 1).1; omega
end

section
variable {natk natv : Memref sig .tc .vmem S4608x128 .bf16} {arg11 : Memref sig .tc .vmem S2x8x512x256 .bf16} {arg12 : Memref sig .tc .vmem S1920x512 .bf16} {harg12 : arg12.IsWhole}
  {kc : S30720x128.Idx → Elt F .fp8e5m2} {ks : S3x16x640.Idx → Elt F .f32} {vc : S30720x128.Idx → Elt F .fp8e5m2} {vs : S3x16x640.Idx → Elt F .f32} {f11 : Cont F c arg11}

theorem DC_emb {wb : S2x8x512x256.Idx → Elt F .bf16} {u : ℕ} (hu : u < 7) (hoo : DcInb (ooU u)) (rb : Fin 4) (x : S256x128.Idx) :
    DC kc ks vc vs wb ((Rect.unit (s := S1920x512) (ooU u rb) S256x128.size (hoo rb)).emb x) = dcPay rb (UA kc ks vc vs wb u) x := by
  have l0 : (x 0).1 < 256 := (x 0).2
  have l1 : (x 1).1 < 128 := (x 1).2
  generalize hy : (Rect.unit (s := S1920x512) (ooU u rb) S256x128.size (hoo rb)).emb x = y
  have h0 : (y 0).1 = 256 * u + (x 0).1 := by rw [← hy]; show 256 * u + 1 * (x 0).1 = _; omega
  have h1 : (y 1).1 = 128 * rb.1 + (x 1).1 := by rw [← hy]; show 128 * rb.1 + 1 * (x 1).1 = _; omega
  have hr : (⟨(y 1).1 / 128, Nat.div_lt_of_lt_mul (y 1).2⟩ : Fin 4) = rb := Fin.ext (by show (y 1).1 / 128 = rb.1; omega)
  unfold DC
  rw [dif_pos (by omega), hr, show (y 0).1 / 256 = u by omega]
  congr 1
  funext a
  apply Fin.ext
  match a with
  | ⟨0, _⟩ => show (y 0).1 % 256 = (x 0).1; omega
  | ⟨1, _⟩ => show (y 1).1 % 128 = (x 1).1; omega

theorem DC_emb' {wb : S2x8x512x256.Idx → Elt F .bf16} (rb : Fin 4) (x : S128x128.Idx) :
    DC kc ks vc vs wb ((Rect.unit (s := S1920x512) ![1792, 128 * rb.1] S128x128.size (inbDc7 rb)).emb x) = dcPay' rb (UA' kc ks vc vs wb) x := by
  have l0 : (x 0).1 < 128 := (x 0).2
  have l1 : (x 1).1 < 128 := (x 1).2
  generalize hy : (Rect.unit (s := S1920x512) ![1792, 128 * rb.1] S128x128.size (inbDc7 rb)).emb x = y
  have h0 : (y 0).1 = 1792 + (x 0).1 := by rw [← hy]; show 1792 + 1 * (x 0).1 = _; omega
  have h1 : (y 1).1 = 128 * rb.1 + (x 1).1 := by rw [← hy]; show 128 * rb.1 + 1 * (x 1).1 = _; omega
  have hr : (⟨(y 1).1 / 128, Nat.div_lt_of_lt_mul (y 1).2⟩ : Fin 4) = rb := Fin.ext (by show (y 1).1 / 128 = rb.1; omega)
  unfold DC
  rw [dif_neg (by omega), hr]
  congr 1
  funext a
  apply Fin.ext
  match a with
  | ⟨0, _⟩ => show (y 0).1 - 1792 = (x 0).1; omega
  | ⟨1, _⟩ => show (y 1).1 % 128 = (x 1).1; omega

/-- The result so far. -/
def Out (c : Dev nD) (arg12 : Memref sig .tc .vmem S1920x512 .bf16) (A : S1920x512.Idx → Elt F .bf16) (n : ℕ) : sProp 𝕄 :=
  iprop(∃ f : Cont F c arg12, ⌜DcOk A n f⌝ ∗ Pt c arg12 fullShare f)

theorem unit_wp {Q : PUnit.{1} → sProp 𝕄} {kk : P F PUnit.{1}} {u : ℕ} (hu : u < 7) {oo : DcOff} (eo : oo = ooU u) {hoo : DcInb oo}
    {hpk : ∀ rb, (Rect.unit (s := S1920x512) (oo rb) S256x128.size (hoo rb)).PackedRows (EltTy.packing .bf16)} :
    iprop(Nats c natk natv kc ks vc vs u 256 ∗ Pt c arg11 fullShare f11 ∗ Out c arg12 (DC kc ks vc vs (rd arg11 f11)) (4 * u)
      ∗ (Nats c natk natv kc ks vc vs u 256 -∗ Pt c arg11 fullShare f11 -∗ Out c arg12 (DC kc ks vc vs (rd arg11 f11)) (4 * u + 4) -∗ WP c kk Q))
      ⊢ WP c (unit natk natv arg11 arg12 harg12 oo hoo hpk kk) Q := by
  subst eo
  unfold unit Nats Out
  iintro ⟨⟨⟨%fk, %ek, HK⟩, ⟨%fv, %ev, HV⟩⟩, H11, ⟨%f, %h0, H⟩, Hk⟩
  iapply (term_wp ek)
  isplitl [HK]; · iexact HK
  isplitl [H11]; · iexact H11
  iintro HK H11
  iapply (terms_wp ek 7 1 _)
  isplitl [HK]; · iexact HK
  isplitl [H11]; · iexact H11
  iintro HK H11
  iapply (terms_wp ev 8 0 _)
  isplitl [HV]; · iexact HV
  isplitl [H11]; · iexact H11
  iintro HV H11
  iapply (dcPut_wp (rb := 0) rfl hu (fun x => DC_emb hu hoo 0 x) h0)
  isplitl [H]; · iexact H
  iintro %f1 %h1 H
  iapply (dcPut_wp (rb := 1) rfl hu (fun x => DC_emb hu hoo 1 x) h1)
  isplitl [H]; · iexact H
  iintro %f2 %h2 H
  iapply (dcPut_wp (rb := 2) rfl hu (fun x => DC_emb hu hoo 2 x) h2)
  isplitl [H]; · iexact H
  iintro %f3 %h3 H
  iapply (dcPut_wp (rb := 3) rfl hu (fun x => DC_emb hu hoo 3 x) h3)
  isplitl [H]; · iexact H
  iintro %f4 %h4 H
  iapply Hk $$ [HK HV] H11 [H]
  · isplitl [HK]
    · iexists fk
      isplitr; · ipureintro; exact ek
      iexact HK
    · iexists fv
      isplitr; · ipureintro; exact ev
      iexact HV
  · iexists f4
    isplitr; · ipureintro; exact h4
    iexact H

theorem unit'_wp {Q : PUnit.{1} → sProp 𝕄} {kk : P F PUnit.{1}} :
    iprop(Nats c natk natv kc ks vc vs 7 128 ∗ Pt c arg11 fullShare f11 ∗ Out c arg12 (DC kc ks vc vs (rd arg11 f11)) 28
      ∗ (Nats c natk natv kc ks vc vs 7 128 -∗ Pt c arg11 fullShare f11 -∗ Out c arg12 (DC kc ks vc vs (rd arg11 f11)) 32 -∗ WP c kk Q))
      ⊢ WP c (unit' natk natv arg11 arg12 harg12 kk) Q := by
  unfold unit' Nats Out
  iintro ⟨⟨⟨%fk, %ek, HK⟩, ⟨%fv, %ev, HV⟩⟩, H11, ⟨%f, %h0, H⟩, Hk⟩
  iapply (term'_wp ek)
  isplitl [HK]; · iexact HK
  isplitl [H11]; · iexact H11
  iintro HK H11
  iapply (terms'_wp ek 7 1 _)
  isplitl [HK]; · iexact HK
  isplitl [H11]; · iexact H11
  iintro HK H11
  iapply (terms'_wp ev 8 0 _)
  isplitl [HV]; · iexact HV
  isplitl [H11]; · iexact H11
  iintro HV H11
  iapply (dcPut'_wp (rb := 0) rfl (fun x => DC_emb' 0 x) h0)
  isplitl [H]; · iexact H
  iintro %f1 %h1 H
  iapply (dcPut'_wp (rb := 1) rfl (fun x => DC_emb' 1 x) h1)
  isplitl [H]; · iexact H
  iintro %f2 %h2 H
  iapply (dcPut'_wp (rb := 2) rfl (fun x => DC_emb' 2 x) h2)
  isplitl [H]; · iexact H
  iintro %f3 %h3 H
  iapply (dcPut'_wp (rb := 3) rfl (fun x => DC_emb' 3 x) h3)
  isplitl [H]; · iexact H
  iintro %f4 %h4 H
  iapply Hk $$ [HK HV] H11 [H]
  · isplitl [HK]
    · iexists fk
      isplitr; · ipureintro; exact ek
      iexact HK
    · iexists fv
      isplitr; · ipureintro; exact ev
      iexact HV
  · iexists f4
    isplitr; · ipureintro; exact h4
    iexact H
end

end Cert.KernelDc.Hand

end
-- ==== Proof.KernelDc.Run.lean ====
/- The whole body over one core's separation state: the result ends at `DC` of the operands and the
   weight tiles, the operands as they were, every semaphore at zero. -/
module

public import proofs.«01_k».proof.Proof.KernelDc.Units

@[expose] public section

noncomputable section

namespace Cert.KernelDc.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Cert.KernelDc Cert.KernelDc.Gen

variable {F : FTy → Type} [FloatOps F]

local notation "𝕄" => MT nD τ sig Unit (Elt F) ℕ (Pipeline.UD sig nD τ) ℕ

variable {c : Dev nD}

/-- The counters a copy's flight is kept in. -/
abbrev EC : UEmb Counters 𝕄 := countersEmb (U := Pipeline.UD sig nD τ)

/-! ## The offsets of the loop's trips -/

theorem trip_lt (t : Fin k0_t1_loop.trips) : t.1 < 3 := lt_of_lt_of_eq t.2 (by decide)
theorem oo1_eq (t : Fin k0_t1_loop.trips) : oo1 t = ooU (2 * t.1) := by
  funext rb
  have e : 256 * (2 * t.1) = 512 * t.1 := by omega
  match rb with
  | 0 => show k0_off2 t = ![256 * (2 * t.1), 0]; rw [e, k0_off2_eq]
  | 1 => show k0_off3 t = ![256 * (2 * t.1), 128]; rw [e, k0_off3_eq]
  | 2 => show k0_off4 t = ![256 * (2 * t.1), 256]; rw [e, k0_off4_eq]
  | 3 => show k0_off5 t = ![256 * (2 * t.1), 384]; rw [e, k0_off5_eq]
theorem oo2_eq (t : Fin k0_t1_loop.trips) : oo2 t = ooU (2 * t.1 + 1) := by
  funext rb
  have e : 256 * (2 * t.1 + 1) = 512 * t.1 + 256 := by omega
  match rb with
  | 0 => show k0_off10 t = ![256 * (2 * t.1 + 1), 0]; rw [e, k0_off10_eq]
  | 1 => show k0_off11 t = ![256 * (2 * t.1 + 1), 128]; rw [e, k0_off11_eq]
  | 2 => show k0_off12 t = ![256 * (2 * t.1 + 1), 256]; rw [e, k0_off12_eq]
  | 3 => show k0_off13 t = ![256 * (2 * t.1 + 1), 384]; rw [e, k0_off13_eq]
theorem so6_eq : ∀ (t : Fin k0_t1_loop.trips) (r : Fin 2), so6 t r = soG (gOf (2 * (2 * t.1 + 1 + r.1) + 0)) := by decide +kernel
theorem so8_eq : ∀ (t : Fin k0_t1_loop.trips) (r : Fin 2), so8 t r = soG (gOf (2 * (2 * t.1 + 1 + r.1) + 1)) := by decide +kernel
theorem co7_eq (t : Fin k0_t1_loop.trips) (r : Fin 2) : co7 t r = coG (gOf (2 * (2 * t.1 + 1 + r.1) + 0)) := by
  funext p
  have ht := trip_lt t
  refine (k0_off7_eq t r p).trans ?_
  show _ = ![2048 * ((2 * (2 * t.1 + 1 + r.1) + 0) % 15) + 32 * p.1, 0]
  rw [show 8192 * t.1 + 4096 * r.1 + 32 * p.1 + 4096 = 2048 * ((2 * (2 * t.1 + 1 + r.1) + 0) % 15) + 32 * p.1 by omega]
theorem co9_eq (t : Fin k0_t1_loop.trips) (r : Fin 2) : co9 t r = coG (gOf (2 * (2 * t.1 + 1 + r.1) + 1)) := by
  funext p
  have ht := trip_lt t
  refine (k0_off9_eq t r p).trans ?_
  show _ = ![2048 * ((2 * (2 * t.1 + 1 + r.1) + 1) % 15) + 32 * p.1, 0]
  rw [show 8192 * t.1 + 4096 * r.1 + 32 * p.1 + 6144 = 2048 * ((2 * (2 * t.1 + 1 + r.1) + 1) % 15) + 32 * p.1 by omega]

variable {arg0 : Memref sig .tc .vmem S30720x128 .fp8e5m2} {arg1 : Memref sig .tc .vmem S3x16x640 .f32} {arg2 : Memref sig .tc .vmem S30720x128 .fp8e5m2} {arg3 : Memref sig .tc .vmem S3x16x640 .f32}
  {arg4 : Memref sig .tc .hbm S8192x128 .fp8e4m3} {harg4 : arg4.IsWhole} {arg5 : Memref sig .tc .smem S4x16 .f32} {arg6 : Memref sig .tc .hbm S8192x128 .fp8e4m3} {harg6 : arg6.IsWhole} {arg7 : Memref sig .tc .smem S4x16 .f32}
  {arg8 : Memref sig .tc .hbm S1920x512 .bf16} {harg8 : arg8.IsWhole} {arg9 : Memref sig .tc .vmem S8192x128 .fp8e4m3} {harg9 : arg9.IsWhole} {arg10 : Memref sig .tc .vmem S8192x128 .fp8e4m3} {harg10 : arg10.IsWhole}
  {arg11 : Memref sig .tc .vmem S2x8x512x256 .bf16} {harg11 : arg11.IsWhole} {arg12 : Memref sig .tc .vmem S1920x512 .bf16} {harg12 : arg12.IsWhole}
  {arg13 : Memref sig .tc .vmem S4608x128 .bf16} {harg13 : arg13.IsWhole} {arg14 : Memref sig .tc .vmem S4608x128 .bf16} {harg14 : arg14.IsWhole} {arg15 : Memref sig .tc .vmem S4608x128 .bf16} {harg15 : arg15.IsWhole} {arg16 : Memref sig .tc .vmem S4608x128 .bf16} {harg16 : arg16.IsWhole}
  {arg17 : DmaSems sig S2} {arg18 : DmaSems sig S5}
  {q0 q1 q2 q3 q5 q7 : PosShare TreeShare} {f0 : Cont F c arg0} {f1 : Cont F c arg1} {f2 : Cont F c arg2} {f3 : Cont F c arg3}
  {f4 : Cont F c arg4} {f5 : Cont F c arg5} {f6 : Cont F c arg6} {f7 : Cont F c arg7} {f8 : Cont F c arg8} {f11 : Cont F c arg11}

/-- Two groups make a unit. -/
theorem widen_wp {Q : PUnit.{1} → sProp 𝕄} {kk : P F PUnit.{1}} {natk natv : Memref sig .tc .vmem S4608x128 .bf16} {hk : natk.IsWhole} {hv : natv.IsWhole} {u u' n : ℕ}
    {so so' : Fin 3 → ℕ} {hso : ScaleInb so} {hso' : ScaleInb so'} {co co' : CodeOff} {hco : CodeInb co} {hco' : CodeInb co'}
    (eso : so = soG (gOf (2 * u + 0))) (eco : co = coG (gOf (2 * u + 0))) (eso' : so' = soG (gOf (2 * u + 1))) (eco' : co' = coG (gOf (2 * u + 1))) :
    iprop(Ins c arg0 arg1 arg2 arg3 q0 q1 q2 q3 f0 f1 f2 f3 ∗ Nats c natk natv (rd arg0 f0) (rd arg1 f1) (rd arg2 f2) (rd arg3 f3) u' n
      ∗ (Ins c arg0 arg1 arg2 arg3 q0 q1 q2 q3 f0 f1 f2 f3 -∗ Nats c natk natv (rd arg0 f0) (rd arg1 f1) (rd arg2 f2) (rd arg3 f3) u 256 -∗ WP c kk Q))
      ⊢ WP c (wide2 arg0 arg1 arg2 arg3 natk natv hk hv 0 so hso co hco <| wide2 arg0 arg1 arg2 arg3 natk natv hk hv 1 so' hso' co' hco' kk) Q := by
  iintro ⟨HI, HN, Hk⟩
  iapply (wide2_wp (u := u) (n := 0) (h := 0) eso eco rfl)
  isplitl [HI]; · iexact HI
  isplitl [HN]; · iapply Nats_any; iexact HN
  iintro HI HN
  iapply (wide2_wp (u := u) (n := 128) (h := 1) eso' eco' rfl)
  isplitl [HI]; · iexact HI
  isplitl [HN]; · iexact HN
  iexact Hk

/-- The state between two trips. -/
def St (c : Dev nD) (arg0 : Memref sig .tc .vmem S30720x128 .fp8e5m2) (arg1 : Memref sig .tc .vmem S3x16x640 .f32) (arg2 : Memref sig .tc .vmem S30720x128 .fp8e5m2) (arg3 : Memref sig .tc .vmem S3x16x640 .f32)
    (arg11 : Memref sig .tc .vmem S2x8x512x256 .bf16) (arg12 : Memref sig .tc .vmem S1920x512 .bf16) (arg13 arg14 arg15 arg16 : Memref sig .tc .vmem S4608x128 .bf16)
    (q0 q1 q2 q3 : PosShare TreeShare) (f0 : Cont F c arg0) (f1 : Cont F c arg1) (f2 : Cont F c arg2) (f3 : Cont F c arg3) (f11 : Cont F c arg11) (t : ℕ) : sProp 𝕄 :=
  iprop(Ins c arg0 arg1 arg2 arg3 q0 q1 q2 q3 f0 f1 f2 f3 ∗ Pt c arg11 fullShare f11
    ∗ Out c arg12 (DC (rd arg0 f0) (rd arg1 f1) (rd arg2 f2) (rd arg3 f3) (rd arg11 f11)) (4 * (2 * t))
    ∗ Nats c arg13 arg14 (rd arg0 f0) (rd arg1 f1) (rd arg2 f2) (rd arg3 f3) (2 * t) 256
    ∗ Nats c arg15 arg16 (rd arg0 f0) (rd arg1 f1) (rd arg2 f2) (rd arg3 f3) 0 0)

theorem trip_wp {Q : PUnit.{1} → sProp 𝕄} {kk : P F PUnit.{1}} (t : Fin k0_t1_loop.trips) :
    iprop(St c arg0 arg1 arg2 arg3 arg11 arg12 arg13 arg14 arg15 arg16 q0 q1 q2 q3 f0 f1 f2 f3 f11 t.1
      ∗ (St c arg0 arg1 arg2 arg3 arg11 arg12 arg13 arg14 arg15 arg16 q0 q1 q2 q3 f0 f1 f2 f3 f11 (t.1 + 1) -∗ WP c kk Q))
      ⊢ WP c (trip arg0 arg1 arg2 arg3 arg11 arg12 harg12 arg13 harg13 arg14 harg14 arg15 harg15 arg16 harg16 t kk) Q := by
  have ht := trip_lt t
  unfold trip St
  rw [show 4 * (2 * (t.1 + 1)) = 4 * (2 * t.1 + 1) + 4 by omega, show 2 * (t.1 + 1) = 2 * t.1 + 2 by omega]
  iintro ⟨⟨HI, H11, H12, HA, HB⟩, Hk⟩
  iapply (unit_wp (u := 2 * t.1) (by omega) (oo1_eq t))
  isplitl [HA]; · iexact HA
  isplitl [H11]; · iexact H11
  isplitl [H12]; · iexact H12
  iintro HA H11 H12
  iapply (widen_wp (u := 2 * t.1 + 1) (so6_eq t 0) (co7_eq t 0) (so8_eq t 0) (co9_eq t 0))
  isplitl [HI]; · iexact HI
  isplitl [HB]; · iexact HB
  iintro HI HB
  iapply (unit_wp (u := 2 * t.1 + 1) (by omega) (oo2_eq t))
  isplitl [HB]; · iexact HB
  isplitl [H11]; · iexact H11
  isplitl [H12]; · iexact H12
  iintro HB H11 H12
  iapply (widen_wp (u := 2 * t.1 + 2) (so6_eq t 1) (co7_eq t 1) (so8_eq t 1) (co9_eq t 1))
  isplitl [HI]; · iexact HI
  isplitl [HA]; · iexact HA
  iintro HI HA
  iapply Hk
  isplitl [HI]; · iexact HI
  isplitl [H11]; · iexact H11
  isplitl [H12]; · iexact H12
  isplitl [HA]; · iexact HA
  iapply Nats_any; iexact HB

/-! ## The copy out -/

theorem all_emb (y : S1920x512.Idx) : (Rect.unit (s := S1920x512) ![0, 0] S1920x512.size inb_S1920x512_S1920x512_0_0).emb y = y := by
  funext a
  apply Fin.ext
  match a with
  | ⟨0, _⟩ => show 0 + 1 * (y 0).1 = (y 0).1; omega
  | ⟨1, _⟩ => show 0 + 1 * (y 1).1 = (y 1).1; omega

theorem stAll_set : (stAll arg12).view.set = arg12.view.set := by
  refine le_antisymm (View.set_slice_subset _ _) fun x hx => ?_
  obtain ⟨y, -, rfl⟩ := Finset.mem_map.mp hx
  refine Finset.mem_map.mpr ⟨y, Finset.mem_univ _, ?_⟩
  exact congrArg arg12.view.emb (all_emb y)

theorem outAll_sub : (outAll arg8).view.set ⊆ arg8.view.set := View.set_slice_subset _ _

/-- A scratch buffer at some contents. -/
def Any {s : Shape} {e : EltTy} (c : Dev nD) (m : Memref sig .tc .vmem s e) : sProp 𝕄 := iprop(∃ f : Cont F c m, Pt c m fullShare f)

theorem Any_open {s : Shape} {e : EltTy} {m : Memref sig .tc .vmem s e} : Any (F := F) c m ⊢ iprop(∃ f : Cont F c m, Pt c m fullShare f) := .rfl
theorem Any_close {s : Shape} {e : EltTy} {m : Memref sig .tc .vmem s e} : iprop(∃ f : Cont F c m, Pt c m fullShare f) ⊢ Any (F := F) c m := .rfl

theorem sendOut_wp {Q : PUnit.{1} → sProp 𝕄} {W : Waits sig Unit} {A : S1920x512.Idx → Elt F .bf16} :
    iprop(Out c arg12 A 32 ∗ Pt c arg8 fullShare f8 ∗ semVal ((c : Thread nD τ), .dma (semO arg18)) 0 ∗ owes (c : Thread nD τ) 0 W
      ∗ (∀ W' : Waits sig Unit, Any c arg12 -∗ (∃ f8' : Cont F c arg8, ⌜rd arg8 f8' = A⌝ ∗ Pt c arg8 fullShare f8')
        -∗ semVal ((c : Thread nD τ), .dma (semO arg18)) 0 -∗ owes (c : Thread nD τ) 0 W' -∗ Q ⟨⟩))
      ⊢ WP c (sendOut arg8 harg8 arg12 harg12 arg18) Q := by
  unfold sendOut Out Any
  iintro ⟨⟨%f, %hf, H⟩, H8, HS, HW, Hk⟩
  have hv : rd (c := c) arg8 ((outAll arg8).view.write (Elt F) f8 (rd (c := c) (stAll arg12) f) Finset.univ) = A := by
    funext y
    have l0 : (y 0).1 < 1920 := (y 0).2
    have l1 : (y 1).1 < 512 := (y 1).2
    refine Eq.trans (congrArg _ (all_emb y).symm) ((congrFun (View.read_write_univ (v := (outAll arg8).view) f8 (rd (c := c) (stAll arg12) f)) y).trans ?_)
    exact (congrArg (rd arg12 f) (all_emb y)).trans (hf y (by omega))
  iapply (Transfers.wp_dmaLocal (defs := defs₀ (F := F)) (Q := Q) EC Variants.none (c : Thread nD τ) none () (outAll arg8).view.dmaCredit
    (src := stAll arg12) (dst := outAll arg8) (Sd := arg8.view.set) (fs := f) (fd := f8)
    rfl (View.dmaCredit_pos _ (by decide)) outAll_sub) $$ [H H8 HS]
  · isplitl [H]; · rw [stAll_set]; iexact H
    isplitl [H8]; · iexact H8
    iexact HS
  iintro Hf
  iapply (Transfers.wp_waitLocal (defs := defs₀ (F := F)) (Q := Q) EC Variants.none (c : Thread nD τ) none (srcw := stAll arg12) (dstw := outAll arg8)
    (hsrc := harg12.wordExact_slice rfl _ wordsbf16_S1920x512_S1920x512_0_0) (hdst := harg8.wordExact_slice rfl _ wordsbf16_S1920x512_S1920x512_0_0) () (N := (outAll arg8).view.dmaCredit) rfl) $$ [Hf HW]
  · isplitl [Hf]; · iexact Hf
    iexact HW
  iintro ⟨⟨H8, H⟩, HS, HW⟩
  iapply (le_wp_ret _ _ _ _ Q)
  iapply Hk $$ %_ [H] [H8] HS HW
  · iexists f
    rw [stAll_set]
    iexact H
  · iexists _
    isplitr; · ipureintro; exact hv
    iexact H8

theorem Nats_split {natk natv : Memref sig .tc .vmem S4608x128 .bf16} {kc : S30720x128.Idx → Elt F .fp8e5m2} {ks : S3x16x640.Idx → Elt F .f32}
    {vc : S30720x128.Idx → Elt F .fp8e5m2} {vs : S3x16x640.Idx → Elt F .f32} {u n : ℕ} :
    Nats c natk natv kc ks vc vs u n ⊢ iprop(Any c natk ∗ Any c natv) := by
  unfold Nats Any
  iintro ⟨⟨%fk, -, H1⟩, ⟨%fv, -, H2⟩⟩
  isplitl [H1]
  · iexists fk; iexact H1
  · iexists fv; iexact H2

theorem Nats_join {natk natv : Memref sig .tc .vmem S4608x128 .bf16} {kc : S30720x128.Idx → Elt F .fp8e5m2} {ks : S3x16x640.Idx → Elt F .f32}
    {vc : S30720x128.Idx → Elt F .fp8e5m2} {vs : S3x16x640.Idx → Elt F .f32} {u : ℕ} :
    iprop(Any c natk ∗ Any c natv) ⊢ Nats c natk natv kc ks vc vs u 0 := by
  unfold Any
  iintro ⟨⟨%fk, H1⟩, ⟨%fv, H2⟩⟩
  iapply Nats_zero
  isplitl [H1]; · iexact H1
  iexact H2

/-- The three trips. -/
theorem loop_wp {Q : PUnit.{1} → sProp 𝕄} {kk : PUnit.{1} → P F PUnit.{1}} :
    iprop(St c arg0 arg1 arg2 arg3 arg11 arg12 arg13 arg14 arg15 arg16 q0 q1 q2 q3 f0 f1 f2 f3 f11 0
      ∗ (St c arg0 arg1 arg2 arg3 arg11 arg12 arg13 arg14 arg15 arg16 q0 q1 q2 q3 f0 f1 f2 f3 f11 3 -∗ WP c (kk ⟨⟩) Q))
      ⊢ WP c (Scf.Loop.for k0_t1_loop k0_t1_ok PUnit.unit.{1} (fun t _ => trip arg0 arg1 arg2 arg3 arg11 arg12 harg12 arg13 harg13 arg14 harg14 arg15 harg15 arg16 harg16 t (.ret ⟨⟩)) >>= kk) Q := by
  iintro ⟨H, Hk⟩
  iapply (Scf.wp_for_bind _ _ _ _ _ _ k0_t1_ok _ _ (fun t _ => St c arg0 arg1 arg2 arg3 arg11 arg12 arg13 arg14 arg15 arg16 q0 q1 q2 q3 f0 f1 f2 f3 f11 t) (fun t _ => ?_)) $$ [H]
  · refine .trans ?_ (trip_wp (q0 := q0) (q1 := q1) (q2 := q2) (q3 := q3) (f0 := f0) (f1 := f1) (f2 := f2) (f3 := f3) (f11 := f11) t)
    iintro H
    isplitl [H]; · iexact H
    iintro H
    iapply (le_wp_ret _ _ _ _ _)
    iexact H
  · iexact H
  iintro %_ H
  iapply Hk
  iexact H

/-! ## After the loop -/

theorem post_wp {Q : PUnit.{1} → sProp 𝕄} {W : Waits sig Unit} :
    iprop(St c arg0 arg1 arg2 arg3 arg11 arg12 arg13 arg14 arg15 arg16 q0 q1 q2 q3 f0 f1 f2 f3 f11 3
      ∗ Pt c arg8 fullShare f8 ∗ semVal ((c : Thread nD τ), .dma (semO arg18)) 0 ∗ owes (c : Thread nD τ) 0 W
      ∗ (∀ W' : Waits sig Unit, Ins c arg0 arg1 arg2 arg3 q0 q1 q2 q3 f0 f1 f2 f3 -∗ Any c arg11 -∗ Any c arg12 -∗ (Any c arg13 ∗ Any c arg14) -∗ (Any c arg15 ∗ Any c arg16)
        -∗ (∃ f8' : Cont F c arg8, ⌜rd arg8 f8' = DC (rd arg0 f0) (rd arg1 f1) (rd arg2 f2) (rd arg3 f3) (rd arg11 f11)⌝ ∗ Pt c arg8 fullShare f8')
        -∗ semVal ((c : Thread nD τ), .dma (semO arg18)) 0 -∗ owes (c : Thread nD τ) 0 W' -∗ Q ⟨⟩))
      ⊢ WP c (post arg0 arg1 arg2 arg3 arg8 harg8 arg11 arg12 harg12 arg13 arg14 arg15 harg15 arg16 harg16 arg18) Q := by
  unfold post St
  iintro ⟨⟨HI, H11, H12, HA, HB⟩, H8, HS, HW, Hk⟩
  iapply (unit_wp (u := 6) (by decide) (oo := oo6) rfl)
  isplitl [HA]; · iexact HA
  isplitl [H11]; · iexact H11
  isplitl [H12]; · iexact H12
  iintro HA H11 H12
  iapply (wide2_wp (u := 7) (n := 0) (h := 0) rfl rfl rfl)
  isplitl [HI]; · iexact HI
  isplitl [HB]; · iapply Nats_any; iexact HB
  iintro HI HB
  iapply unit'_wp
  isplitl [HB]; · iexact HB
  isplitl [H11]; · iexact H11
  isplitl [H12]; · iexact H12
  iintro HB H11 H12
  iapply sendOut_wp
  isplitl [H12]; · iexact H12
  isplitl [H8]; · iexact H8
  isplitl [HS]; · iexact HS
  isplitl [HW]; · iexact HW
  iintro %W' H12 H8 HS HW
  iapply Hk $$ %_ HI [H11] H12 [HA] [HB] H8 HS HW
  · unfold Any; iexists f11; iexact H11
  · iapply Nats_split; iexact HA
  · iapply Nats_split; iexact HB

/-! ## The whole body -/

/-- The two weights' codes and their scales, by weight. -/
abbrev CC (a b : S8192x128.Idx → Elt F .fp8e4m3) : Fin 2 → S8192x128.Idx → Elt F .fp8e4m3 := ![a, b]
abbrev SS (a b : S4x16.Idx → Elt F .f32) : Fin 2 → S4x16.Idx → Elt F .f32 := ![a, b]

abbrev semW0 (arg17 : DmaSems sig S2) : DmaSem sig := semW arg17 0 inb_S2_S1_0
abbrev semW1 (arg17 : DmaSems sig S2) : DmaSem sig := semW arg17 1 inb_S2_S1_1

theorem body_wp {Q : PUnit.{1} → sProp 𝕄} {W : Waits sig Unit} :
    iprop(Ins c arg0 arg1 arg2 arg3 q0 q1 q2 q3 f0 f1 f2 f3
      ∗ Pt c arg4 fullShare f4 ∗ Pt c arg5 q5 f5 ∗ Pt c arg6 fullShare f6 ∗ Pt c arg7 q7 f7 ∗ Pt c arg8 fullShare f8
      ∗ Any c arg9 ∗ Any c arg10 ∗ Any c arg11 ∗ Any c arg12 ∗ (Any c arg13 ∗ Any c arg14) ∗ (Any c arg15 ∗ Any c arg16)
      ∗ semVal ((c : Thread nD τ), .dma (semW0 arg17)) 0 ∗ semVal ((c : Thread nD τ), .dma (semW1 arg17)) 0 ∗ semVal ((c : Thread nD τ), .dma (semO arg18)) 0
      ∗ owes (c : Thread nD τ) 0 W
      ∗ (∀ W' : Waits sig Unit, Ins c arg0 arg1 arg2 arg3 q0 q1 q2 q3 f0 f1 f2 f3
        -∗ Pt c arg4 fullShare f4 -∗ Pt c arg5 q5 f5 -∗ Pt c arg6 fullShare f6 -∗ Pt c arg7 q7 f7
        -∗ (∃ f8' : Cont F c arg8, ⌜rd arg8 f8' = DC (rd arg0 f0) (rd arg1 f1) (rd arg2 f2) (rd arg3 f3) (WB (CC (rd arg4 f4) (rd arg6 f6)) (SS (rd arg5 f5) (rd arg7 f7)))⌝ ∗ Pt c arg8 fullShare f8')
        -∗ Any c arg9 -∗ Any c arg10 -∗ Any c arg11 -∗ Any c arg12 -∗ (Any c arg13 ∗ Any c arg14) -∗ (Any c arg15 ∗ Any c arg16)
        -∗ semVal ((c : Thread nD τ), .dma (semW0 arg17)) 0 -∗ semVal ((c : Thread nD τ), .dma (semW1 arg17)) 0 -∗ semVal ((c : Thread nD τ), .dma (semO arg18)) 0
        -∗ owes (c : Thread nD τ) 0 W' -∗ Q ⟨⟩))
      ⊢ WP c (body arg0 arg1 arg2 arg3 arg4 harg4 arg5 arg6 harg6 arg7 arg8 harg8 arg9 harg9 arg10 harg10 arg11 harg11 arg12 harg12 arg13 harg13 arg14 harg14 arg15 harg15 arg16 harg16 arg17 arg18) Q := by
  unfold body pre
  iintro ⟨HI, H4, H5, H6, H7, H8, H9, H10, H11, H12, HA, HB, HS0, HS1, HS4, HW, Hk⟩
  icases Any_open $$ H9 with ⟨%f9, H9⟩
  icases Any_open $$ H10 with ⟨%f10, H10⟩
  icases Any_open $$ H11 with ⟨%f11, H11⟩
  icases Any_open $$ H12 with ⟨%f12, H12⟩
  iapply (Transfers.wp_dmaLocal (defs := defs₀ (F := F)) (Q := Q) EC Variants.none (c : Thread nD τ) none () arg9.view.dmaCredit
    (src := arg4) (dst := arg9) (Sd := arg9.view.set) (fs := f4) (fd := f9)
    rfl (View.dmaCredit_pos _ (by decide)) subset_rfl) $$ [H4 H9 HS0]
  · isplitl [H4]; · iexact H4
    isplitl [H9]; · iexact H9
    iexact HS0
  iintro Hf0
  iapply (Transfers.wp_dmaLocal (defs := defs₀ (F := F)) (Q := Q) EC Variants.none (c : Thread nD τ) none () arg10.view.dmaCredit
    (src := arg6) (dst := arg10) (Sd := arg10.view.set) (fs := f6) (fd := f10)
    rfl (View.dmaCredit_pos _ (by decide)) subset_rfl) $$ [H6 H10 HS1]
  · isplitl [H6]; · iexact H6
    isplitl [H10]; · iexact H10
    iexact HS1
  iintro Hf1
  iapply (Transfers.wp_waitLocal (defs := defs₀ (F := F)) (Q := Q) EC Variants.none (c : Thread nD τ) none (srcw := arg4) (dstw := arg9)
    (hsrc := harg4.wordExact) (hdst := harg9.wordExact) () (N := arg9.view.dmaCredit) rfl) $$ [Hf0 HW]
  · isplitl [Hf0]; · iexact Hf0
    iexact HW
  iintro ⟨⟨H9, H4⟩, HS0, HW⟩
  have e9 : rd (c := c) arg9 (arg9.view.write (Elt F) f9 (rd arg4 f4) Finset.univ) = CC (rd arg4 f4) (rd arg6 f6) 0 := View.read_write_univ _ _
  have h11 : WbOk (c := c) (arg11 := arg11) (CC (rd arg4 f4) (rd arg6 f6)) (SS (rd arg5 f5) (rd arg7 f7)) (64 * (0 : Fin 2).1 + 4 * 0) f11 := fun _ h => absurd h (Nat.not_lt_zero _)
  iapply (wLoop_wp (i := 0) (S := SS (rd arg5 f5) (rd arg7 f7)) e9 rfl 16 0 (by decide) f11 h11)
  isplitl [H9]; · iexact H9
  isplitl [H5]; · iexact H5
  isplitl [H11]; · iexact H11
  iintro %g11 %h11' H9 H5 H11
  iapply (Transfers.wp_waitLocal (defs := defs₀ (F := F)) (Q := Q) EC Variants.none (c : Thread nD τ) none (srcw := arg6) (dstw := arg10)
    (hsrc := harg6.wordExact) (hdst := harg10.wordExact) () (N := arg10.view.dmaCredit) rfl) $$ [Hf1 HW]
  · isplitl [Hf1]; · iexact Hf1
    iexact HW
  iintro ⟨⟨H10, H6⟩, HS1, HW⟩
  have e10 : rd (c := c) arg10 (arg10.view.write (Elt F) f10 (rd arg6 f6) Finset.univ) = CC (rd arg4 f4) (rd arg6 f6) 1 := View.read_write_univ _ _
  iapply (wLoop_wp (i := 1) (S := SS (rd arg5 f5) (rd arg7 f7)) e10 rfl 16 0 (by decide) g11 h11')
  isplitl [H10]; · iexact H10
  isplitl [H7]; · iexact H7
  isplitl [H11]; · iexact H11
  iintro %k11 %hk11 H10 H7 H11
  have e11 : rd arg11 k11 = WB (CC (rd arg4 f4) (rd arg6 f6)) (SS (rd arg5 f5) (rd arg7 f7)) := by
    funext y
    have l0 : (y 0).1 < 2 := (y 0).2
    have l1 : (y 1).1 < 8 := (y 1).2
    have l2 : (y 2).1 < 512 := (y 2).2
    have l3 : (y 3).1 < 256 := (y 3).2
    exact hk11 y (by show _ < 64 * 1 + 4 * (0 + 16); omega)
  rw [← e11]
  iapply (widen_wp (u := 0) (u' := 0) (n := 0) rfl rfl rfl rfl)
  isplitl [HI]; · iexact HI
  isplitl [HA]; · iapply Nats_join; iexact HA
  iintro HI HA
  iapply (loop_wp (f11 := k11))
  isplitl [HI H11 H12 HA HB]
  · unfold St
    isplitl [HI]; · iexact HI
    isplitl [H11]; · iexact H11
    isplitl [H12]
    · unfold Out
      iexists f12
      isplitr; · ipureintro; exact fun _ h => absurd h (Nat.not_lt_zero _)
      iexact H12
    isplitl [HA]; · iexact HA
    iapply Nats_join; iexact HB
  iintro HSt
  iapply post_wp
  isplitl [HSt]; · iexact HSt
  isplitl [H8]; · iexact H8
  isplitl [HS4]; · iexact HS4
  isplitl [HW]; · iexact HW
  iintro %W' HI H11 H12 HA HB H8 HS4 HW
  iapply Hk $$ %_ HI H4 H5 H6 H7 H8 [H9] [H10] H11 H12 HA HB HS0 HS1 HS4 HW
  · unfold Any; iexists _; iexact H9
  · unfold Any; iexists _; iexact H10

end Cert.KernelDc.Hand

end
-- ==== Proof.KernelDc.Whole.lean ====
/- The whole program: the host operations, the one launch, its body by `body_wp`. It ends with its
   arguments unchanged, every semaphore at zero, and the result at `DC` of the arrays the region
   finds. -/
module

public import proofs.«01_k».proof.Proof.Gen.KernelDc.Frame
public import proofs.«01_k».proof.Proof.KernelDc.Run
public import Idealize.ShloMosaic.Lib.Pipeline.FrameValue

@[expose] public section

noncomputable section

namespace Cert.KernelDc.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelDc Cert.KernelDc.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch is handed -/

/-- The copy-out semaphores no copy of this slice uses. -/
abbrev semQ (arg18 : DmaSems sig S5) (i : Fin 4) : DmaSem sig :=
  ((arg18.slice (Rect.unit (s := S5) ![i.1] S1.size (fun a => by have := i.2; match a with | ⟨0, _⟩ => show i.1 + 1 ≤ 5; omega))).squeeze S_ squeezes_S1_S_).sem

/-- The semaphores of the two copies in and of the copies out. -/
abbrev osem0 : Fin 7 → SemLoc sig := fun j => (![SemLoc.dma (semW0 cc0_scratch8), SemLoc.dma (semW1 cc0_scratch8), SemLoc.dma (semQ cc0_scratch9 0), SemLoc.dma (semQ cc0_scratch9 1), SemLoc.dma (semQ cc0_scratch9 2), SemLoc.dma (semQ cc0_scratch9 3), SemLoc.dma (semO cc0_scratch9)] : Fin 7 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semW0 cc0_scratch8)) 0
        ∗ semVal ((c : Thread nD τ), SemLoc.dma (semW1 cc0_scratch8)) 0
        ∗ semVal ((c : Thread nD τ), SemLoc.dma (semQ cc0_scratch9 0)) 0
        ∗ semVal ((c : Thread nD τ), SemLoc.dma (semQ cc0_scratch9 1)) 0
        ∗ semVal ((c : Thread nD τ), SemLoc.dma (semQ cc0_scratch9 2)) 0
        ∗ semVal ((c : Thread nD τ), SemLoc.dma (semQ cc0_scratch9 3)) 0
        ∗ semVal ((c : Thread nD τ), SemLoc.dma (semO cc0_scratch9)) 0) := by
  rw [Pipeline.ownSems0_eq_of_list c osem0 [0, 1, 2, 3, 4, 5, 6] (by decide) (by decide)]; rfl

/-- The operands the body copies in, and the result it copies out. -/
def H0 : Finset (Ref sig .tc) := {main_v4, main_v5}
def R0 : Finset (Ref sig .tc) := {main_v6}
theorem H0_sub : H0 ⊆ Pipeline.restRefs sig spec0 := by decide
theorem R0_sub : R0 ⊆ Pipeline.restRefs sig spec0 \ H0 := by decide

/-- A whole buffer, as the memref on it. -/
theorem Pt_whole (c : Dev nD) (b : Ref sig .tc) (q : PosShare TreeShare) (f : Buf (Elt F) ((c : Thread nD τ).loc b)) :
    (((c : Thread nD τ).loc b) ↦{q} f : sProp 𝕄) = ((Memref.whole b : Memref sig .tc _ _ _).view.loc (c : Thread nD τ) ↦[(Memref.whole b : Memref sig .tc _ _ _).view.set]{q} f) := by
  rw [show (Memref.whole b : Memref sig .tc _ _ _).view.set = Finset.univ from View.set_whole b]

theorem hbmPts0_eq (c : Dev nD) :
    (bigSep H0 (fun b => ((c : Thread nD τ).loc b) ↦{fullShare} V m c b) : sProp 𝕄)
      = iprop(Pt c (Memref.whole main_v4) fullShare (V m c main_v4) ∗ Pt c (Memref.whole main_v5) fullShare (V m c main_v5)) := by
  rw [BI.bigSep_eq_bigSepL_of_eq [main_v4, main_v5] (by decide) (by decide)]
  simp only [BI.bigSepL_cons_cons, BI.bigSepL_singleton]
  rw [Pt_whole, Pt_whole]
  rfl

theorem routed0_eq (c : Dev nD) (G : (b : Ref sig .tc) → Buf (Elt F) ((c : Thread nD τ).loc b)) :
    (Pipeline.routed R0 c G : sProp 𝕄) = Pt c (Memref.whole main_v6) fullShare (G main_v6) := by
  unfold Pipeline.routed; rw [BI.bigSep_eq_bigSepL_of_eq [main_v6] (by decide) (by decide)]
  exact Pt_whole c main_v6 fullShare _

/-! ## What the program computes -/

/-- The weights' codes, as the body copies them in, and their scales, as it finds them staged. -/
abbrev wcodes (c : Dev nD) : Fin 2 → S8192x128.Idx → Elt F .fp8e4m3 :=
  CC (rd (c := c) (Memref.whole main_v4) (V m c main_v4)) (rd (c := c) (Memref.whole main_v5) (V m c main_v5))
abbrev wscales (c : Dev nD) (t : Fin cfg0.N) : Fin 2 → S4x16.Idx → Elt F .f32 := SS (iblk m c 4 t) (iblk m c 5 t)

/-- The result. -/
def RES (c : Dev nD) (t : Fin cfg0.N) : S1920x512.Idx → Elt F .bf16 :=
  DC (iblk m c 0 t) (iblk m c 1 t) (iblk m c 2 t) (iblk m c 3 t) (WB (wcodes m c) (wscales m c t))

/-- The unscoped buffers at the end. -/
def G (c : Dev nD) (b : Ref sig .tc) : Buf (Elt F) ((c : Thread nD τ).loc b) :=
  Function.update (V m c) main_v6 (RES m c t0_0) b

theorem G_0 (c : Dev nD) : G m c main_v6 = RES m c t0_0 := by
  unfold G
  rw [Function.update_self]

/-- What the body hands on: at the start the result as the region finds it, at the end finished. -/
def Inv (c : Dev nD) (G : (b : Ref sig .tc) → Buf (Elt F) ((c : Thread nD τ).loc b)) : sProp 𝕄 :=
  iprop((Any c (Memref.whole cc0_scratch0)
      ∗ Any c (Memref.whole cc0_scratch1)
      ∗ Any c (Memref.whole cc0_scratch2)
      ∗ Any c (Memref.whole cc0_scratch3)
      ∗ Any c (Memref.whole cc0_scratch4)
      ∗ Any c (Memref.whole cc0_scratch5)
      ∗ Any c (Memref.whole cc0_scratch6)
      ∗ Any c (Memref.whole cc0_scratch7))
    ∗ (∃ r, prngReg c r)
    ∗ (semVal ((c : Thread nD τ), SemLoc.dma (semW0 cc0_scratch8)) 0
        ∗ semVal ((c : Thread nD τ), SemLoc.dma (semW1 cc0_scratch8)) 0
        ∗ semVal ((c : Thread nD τ), SemLoc.dma (semQ cc0_scratch9 0)) 0
        ∗ semVal ((c : Thread nD τ), SemLoc.dma (semQ cc0_scratch9 1)) 0
        ∗ semVal ((c : Thread nD τ), SemLoc.dma (semQ cc0_scratch9 2)) 0
        ∗ semVal ((c : Thread nD τ), SemLoc.dma (semQ cc0_scratch9 3)) 0
        ∗ semVal ((c : Thread nD τ), SemLoc.dma (semO cc0_scratch9)) 0)
    ∗ (Pt c (Memref.whole main_v4) fullShare (V m c main_v4) ∗ Pt c (Memref.whole main_v5) fullShare (V m c main_v5))
    ∗ Pt c (Memref.whole main_v6) fullShare (G main_v6))

theorem inv_eq (c : Dev nD) (G : (c : Dev nD) → (b : Ref sig .tc) → Buf (Elt F) ((c : Thread nD τ).loc b)) :
    Pipeline.ΦDRG osem0 spec0 H0 R0 (V m) G c = Inv m c (G c) := by
  rw [Pipeline.ΦDRG_eq, scopedRest0_eq, ownSems00_eq, hbmPts0_eq, routed0_eq]
  unfold Inv Any
  simp only [Pt_whole]

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := Inv m c (if t.1 = 0 then V m c else G m c)
  q _ := fullShare
  owed _ := 0

theorem A_eq (c : Dev nD) (w : Fin cfg0.W) : (dats m 0 c).A w = V m c (Pipeline.arrRef spec0 w) := by
  dsimp only [dats]

section
variable (c : Dev nD) (t : Fin cfg0.N)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
end

/-! An input's staging buffer holds its block when the body starts. -/

section
variable {m} {c : Dev nD} (t : Fin cfg0.N)
theorem before0 (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
end

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [body_eq]
  simp only [before0, before1, before2, before3, before4, before5, after0, after1, after2, after3, after4, after5]
  rw [show (dats m 0 c).Φ (Fin.castSucc t0_0) = Inv m c (V m c) from rfl, show (dats m 0 c).Φ (Fin.succ t0_0) = Inv m c (G m c) from rfl]
  unfold Inv
  rw [G_0]
  unfold Dat.owesAt Pipeline.owesWithin
  rw [show (dats m 0 c).owed (Fin.castSucc t0_0) = 0 from rfl, show (dats m 0 c).owed (Fin.succ t0_0) = 0 from rfl]
  unfold owns
  iintro ⟨⟨⟨H9, H10, H11, H12, H13, H14, H15, H16⟩, Hg, ⟨HS0, HS1, HQ0, HQ1, HQ2, HQ3, HS4⟩, ⟨H4, H6⟩, H8⟩, ⟨%W, -, HW⟩, ⟨%d0, %f0, %e0, H0⟩, ⟨%d1, %f1, %e1, H1⟩, ⟨%d2, %f2, %e2, H2⟩, ⟨%d3, %f3, %e3, H3⟩, ⟨%d5, %f5, %e5, H5⟩, ⟨%d7, %f7, %e7, H7⟩⟩
  have eA : DC (rd (c := c) (st0_0 t0_0) f0) (rd (c := c) (st0_1 t0_0) f1) (rd (c := c) (st0_2 t0_0) f2) (rd (c := c) (st0_3 t0_0) f3)
      (WB (CC (rd (c := c) (Memref.whole main_v4) (V m c main_v4)) (rd (c := c) (Memref.whole main_v5) (V m c main_v5))) (SS (rd (c := c) (st0_4 t0_0) f5) (rd (c := c) (st0_5 t0_0) f7)))
      = RES m c t0_0 := by
    rw [show rd (c := c) (st0_0 t0_0) f0 = _ from e0, show rd (c := c) (st0_1 t0_0) f1 = _ from e1, show rd (c := c) (st0_2 t0_0) f2 = _ from e2,
      show rd (c := c) (st0_3 t0_0) f3 = _ from e3, show rd (c := c) (st0_4 t0_0) f5 = _ from e5, show rd (c := c) (st0_5 t0_0) f7 = _ from e7]; rfl
  iapply (body_wp (arg0 := st0_0 t0_0) (arg1 := st0_1 t0_0) (arg2 := st0_2 t0_0) (arg3 := st0_3 t0_0) (arg4 := Memref.whole main_v4) (arg5 := st0_4 t0_0) (arg6 := Memref.whole main_v5) (arg7 := st0_5 t0_0)
    (arg8 := Memref.whole main_v6) (arg9 := Memref.whole cc0_scratch0) (arg10 := Memref.whole cc0_scratch1) (arg11 := Memref.whole cc0_scratch2) (arg12 := Memref.whole cc0_scratch3)
    (arg13 := Memref.whole cc0_scratch4) (arg14 := Memref.whole cc0_scratch5) (arg15 := Memref.whole cc0_scratch6) (arg16 := Memref.whole cc0_scratch7) (arg17 := cc0_scratch8) (arg18 := cc0_scratch9)
    (f0 := f0) (f1 := f1) (f2 := f2) (f3 := f3) (f4 := V m c main_v4) (f5 := f5) (f6 := V m c main_v5) (f7 := f7)
    (q0 := fullShare) (q1 := fullShare) (q2 := fullShare) (q3 := fullShare) (q5 := fullShare) (q7 := fullShare))
  rw [eA]
  unfold Ins
  isplitl [H0 H1 H2 H3]
  · isplitl [H0]; · iexact H0
    isplitl [H1]; · iexact H1
    isplitl [H2]; · iexact H2
    iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13 H14]
  · isplitl [H13]; · iexact H13
    iexact H14
  isplitl [H15 H16]
  · isplitl [H15]; · iexact H15
    iexact H16
  isplitl [HS0]; · iexact HS0
  isplitl [HS1]; · iexact HS1
  isplitl [HS4]; · iexact HS4
  isplitl [HW]; · iexact HW
  iintro %W' ⟨H0, H1, H2, H3⟩ H4 H5 H6 H7 ⟨%fo, %ho, H8⟩ H9 H10 H11 H12 ⟨H13, H14⟩ ⟨H15, H16⟩ HS0 HS1 HS4 HW
  have eo : fo = RES m c t0_0 := ho
  rw [eo]
  isplitl [H4 H6 H8 H9 H10 H11 H12 H13 H14 H15 H16 Hg HS0 HS1 HQ0 HQ1 HQ2 HQ3 HS4]
  · isplitl [H9 H10 H11 H12 H13 H14 H15 H16]
    · isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    isplitl [Hg]; · iexact Hg
    isplitl [HS0 HS1 HQ0 HQ1 HQ2 HQ3 HS4]
    · isplitl [HS0]; · iexact HS0
      isplitl [HS1]; · iexact HS1
      isplitl [HQ0]; · iexact HQ0
      isplitl [HQ1]; · iexact HQ1
      isplitl [HQ2]; · iexact HQ2
      isplitl [HQ3]; · iexact HQ3
      iexact HS4
    isplitl [H4 H6]
    · isplitl [H4]; · iexact H4
      iexact H6
    iexact H8
  isplitl [HW]
  · iexists W'; isplitr; · ipureintro; exact fun _ _ => Or.inl trivial
    iexact HW
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H5]
  · iexists f5; isplitr; · ipureintro; exact e5
    iexact H5
  iexists f7; isplitr; · ipureintro; exact e7
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m) (hA := A_eq m) (G := G m)
    (hin := fun c => (inv_eq m c (V m)).le) (hout := fun c => (inv_eq m c (G m)).ge) (hQ' := fun _ h => h)

/-- What every run ends in: the arguments as launched, the result, no semaphore counted. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v6) = RES m c t0_0)
      ∧ r.2.sem = fun _ => 0) :=
  (θ_run defs _ _).mono (fun _ h => ⟨fun c =>
    have a (b : Ref sig .tc) (hb : b ∈ Pipeline.restRefs sig spec0 \ R0) := (h.1.1 c).2 b hb
    ⟨⟨(a main_arg0 (by decide)).trans (V_main_arg0 m c),
      (a main_arg1 (by decide)).trans (V_main_arg1 m c),
      (a main_arg2 (by decide)).trans (V_main_arg2 m c),
      (a main_arg3 (by decide)).trans (V_main_arg3 m c),
      (a main_arg4 (by decide)).trans (V_main_arg4 m c),
      ((h.1.1 c).1 4).trans (((dats m 0 c).arrAt_in 4 rfl _).trans ((A_eq m c 4).trans (V_main_arg5 m c))),
      (a main_arg6 (by decide)).trans (V_main_arg6 m c),
      ((h.1.1 c).1 5).trans (((dats m 0 c).arrAt_in 5 rfl _).trans ((A_eq m c 5).trans (V_main_arg7 m c)))⟩,
      (h.1.2 c main_v6 (by decide)).trans (G_0 m c)⟩, h.2⟩) (run_main m ρ)

end Cert.KernelDc.Hand

end
-- ==== Proof.KernelDcIdeal.Cut.lean ====
/- The printed body around its one loop. The loop is opaque to unfolding, so the printed text is named
   here on either side of it, window by window as it is printed: the loop's region, the rest of the window
   the loop stands in, the rest of the enclosing window, and the rest of the body. `Body` shows
   each equal to a part of the program written over its own indices. -/
module

public import proofs.«01_k».proof.Proof.Gen.KernelDcIdeal
public import Idealize.ShloMosaic.Lib.Tactic

@[expose] public section

noncomputable section

namespace Cert.KernelDcIdeal.Hand

open Idealize.ShloMosaic Idealize.ShloMosaic.TcCoe Idealize.SL.Sem
open Cert.KernelDcIdeal Cert.KernelDcIdeal.Gen

variable {F : FTy → Type} [FloatOps F]

/-- The kernel's programs. -/
abbrev P (F : FTy → Type) [FloatOps F] (α : Type) : Type _ := Prog (TpuEff nD τ sig (Elt F) Λ₀ .tc) α

/-- One trip of the loop, as printed. -/
def printedLoop (arg0 : Memref sig .tc .vmem S30720x128 .fp8e5m2) (harg0 : arg0.IsWhole) (arg1 : Memref sig .tc .vmem S3x16x640 .f32) (harg1 : arg1.IsWhole) (arg2 : Memref sig .tc .vmem S30720x128 .fp8e5m2) (harg2 : arg2.IsWhole) (arg3 : Memref sig .tc .vmem S3x16x640 .f32) (harg3 : arg3.IsWhole) (arg4 : Memref sig .tc .hbm S8192x128 .fp8e4m3) (harg4 : arg4.IsWhole) (arg5 : Memref sig .tc .smem S4x16 .f32) (harg5 : arg5.IsWhole) (arg6 : Memref sig .tc .hbm S8192x128 .fp8e4m3) (harg6 : arg6.IsWhole) (arg7 : Memref sig .tc .smem S4x16 .f32) (harg7 : arg7.IsWhole) (arg8 : Memref sig .tc .hbm S1920x512 .bf16) (harg8 : arg8.IsWhole) (arg9 : Memref sig .tc .vmem S8192x128 .fp8e4m3) (harg9 : arg9.IsWhole) (arg10 : Memref sig .tc .vmem S8192x128 .fp8e4m3) (harg10 : arg10.IsWhole) (arg11 : Memref sig .tc .vmem S2x8x512x256 .bf16) (harg11 : arg11.IsWhole) (arg12 : Memref sig .tc .vmem S1920x512 .bf16) (harg12 : arg12.IsWhole) (arg13 : Memref sig .tc .vmem S4608x128 .bf16) (harg13 : arg13.IsWhole) (arg14 : Memref sig .tc .vmem S4608x128 .bf16) (harg14 : arg14.IsWhole) (arg15 : Memref sig .tc .vmem S4608x128 .bf16) (harg15 : arg15.IsWhole) (arg16 : Memref sig .tc .vmem S4608x128 .bf16) (harg16 : arg16.IsWhole) (arg17 : DmaSems sig S2) (arg18 : DmaSems sig S5) (k0_t1 : Fin k0_t1_loop.trips) :
    P F PUnit.{1} := do
  let c0_i32_2045 : BitVec 32 := 0#32
  let c1_i32_2046 : BitVec 32 := 1#32
  let ⟨v9998, v10236, v11619, v11653, v12577⟩ : Σ' (v9998 : BitVec 32) (v10236 : BitVec 32) (v11619 : BitVec 32) (v11653 : FVec F S16x128 .bf16), FVec F S16x128 .bf16 ← k0_part267 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 c0_i32_2045 c1_i32_2046 k0_t1
  let ⟨v14381, v14415, v15174, v15177, v15180⟩ : Σ' (v14381 : BitVec 32) (v14415 : FVec F S16x128 .bf16) (v15174 : FVec F S16x128 .bf16) (v15177 : FVec F S16x128 .bf16), Vec F S32x128 .fp8e5m2 ← k0_part268 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 k0_t1 v10236 v11619 v11653 v12577
  let ⟨v15998, v17381, v17415, v17754, v17757, v17760⟩ : Σ' (v15998 : BitVec 32) (v17381 : BitVec 32) (v17415 : FVec F S16x128 .bf16) (v17754 : FVec F S16x128 .bf16) (v17757 : FVec F S16x128 .bf16), Vec F S32x128 .fp8e5m2 ← k0_part269 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 k0_t1 v9998 v14381 v14415 v15174 v15177 v15180
  let ⟨v20143, v20177, v20363⟩ : Σ' (v20143 : BitVec 32) (v20177 : FVec F S16x128 .bf16), FVec F S16x128 .bf16 ← k0_part270 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 k0_t1 v15998 v17381 v17415 v17754 v17757 v17760
  let ⟨v21506, v21517⟩ : Σ' (v21506 : FVec F S16x128 .bf16), FVec F S16x128 .bf16 ← k0_part271 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 k0_t1 v20143 v20177 v20363
  have v21518 : FVec F S16x128 .bf16 := mulf v21517 v21506
  let c4590_6502 : Index := 4590#32
  let c0_6503 : Index := 0#32
  let v21519 : Vec F S16x128 .bf16 ← Prog.lift (.load arg14 (Rect.unit (s := S4608x128) ![4590, 0] S16x128.size inb_S4608x128_S16x128_4590_0).toLoadRect (View.loadsAt_vmem h_S16x128))
  have v21520 : FVec F S16x128 .bf16 := shapeCast S16x128 v21519 shapeCasts_S16x128_S16x128
  have v21521 : FVec F S16x128 .bf16 := shapeCast S16x128 v21518 shapeCasts_S16x128_S16x128
  Prog.lift (.store arg14 (Rect.unit (s := S4608x128) ![4590, 0] S16x128.size inb_S4608x128_S16x128_4590_0) v21521 Finset.univ (View.stores_vmem h_S16x128 (harg14.storeExact_slice rfl _ packedbf16_S4608x128_S16x128_4590_0) (fun _ => rfl)) (.inl rfl))
  pure ⟨⟩

/-- The rest of the window the loop stands in, as printed. -/
def printedTail1 (arg0 : Memref sig .tc .vmem S30720x128 .fp8e5m2) (harg0 : arg0.IsWhole) (arg1 : Memref sig .tc .vmem S3x16x640 .f32) (harg1 : arg1.IsWhole) (arg2 : Memref sig .tc .vmem S30720x128 .fp8e5m2) (harg2 : arg2.IsWhole) (arg3 : Memref sig .tc .vmem S3x16x640 .f32) (harg3 : arg3.IsWhole) (arg4 : Memref sig .tc .hbm S8192x128 .fp8e4m3) (harg4 : arg4.IsWhole) (arg5 : Memref sig .tc .smem S4x16 .f32) (harg5 : arg5.IsWhole) (arg6 : Memref sig .tc .hbm S8192x128 .fp8e4m3) (harg6 : arg6.IsWhole) (arg7 : Memref sig .tc .smem S4x16 .f32) (harg7 : arg7.IsWhole) (arg8 : Memref sig .tc .hbm S1920x512 .bf16) (harg8 : arg8.IsWhole) (arg9 : Memref sig .tc .vmem S8192x128 .fp8e4m3) (harg9 : arg9.IsWhole) (arg10 : Memref sig .tc .vmem S8192x128 .fp8e4m3) (harg10 : arg10.IsWhole) (arg11 : Memref sig .tc .vmem S2x8x512x256 .bf16) (harg11 : arg11.IsWhole) (arg12 : Memref sig .tc .vmem S1920x512 .bf16) (harg12 : arg12.IsWhole) (arg13 : Memref sig .tc .vmem S4608x128 .bf16) (harg13 : arg13.IsWhole) (arg14 : Memref sig .tc .vmem S4608x128 .bf16) (harg14 : arg14.IsWhole) (arg15 : Memref sig .tc .vmem S4608x128 .bf16) (harg15 : arg15.IsWhole) (arg16 : Memref sig .tc .vmem S4608x128 .bf16) (harg16 : arg16.IsWhole) (arg17 : DmaSems sig S2) (arg18 : DmaSems sig S5) :
    P F (Σ' (v6817 : BitVec 32) (v6842 : FVec F S512x256 .f32), FVec F S256x1x2x128 .bf16) := do
  let c3_i32_2047 : BitVec 32 := 3#32
  let c1536_i32_2048 : BitVec 32 := 1536#32
  let v6817 : BitVec 32 := c1536_i32_2048
  let c0_2049 : Index := 0#32
  let c0_2050 : Index := 0#32
  let v6818 : Vec F S4608x128 .bf16 ← Prog.lift (.load arg13 (Rect.unit (s := S4608x128) ![0, 0] S4608x128.size inb_S4608x128_S4608x128_0_0).toLoadRect (View.loadsAt_vmem h_S4608x128))
  have v6819 : FVec F S256x9x2x128 .bf16 := shapeCast S256x9x2x128 v6818 shapeCasts_S4608x128_S256x9x2x128
  have v6820 : FVec F S256x1x2x128 .bf16 := extractStridedSlice S256x1x2x128 ![0, 0, 0, 0] v6819 slices_S256x9x2x128_o0_0_0_0_S256x1x2x128
  have v6821 : FVec F S256x2x128 .bf16 := shapeCast S256x2x128 v6820 shapeCasts_S256x1x2x128_S256x2x128
  have v6822 : FVec F S256x1x128 .bf16 := extractStridedSlice S256x1x128 ![0, 0, 0] v6821 slices_S256x2x128_o0_0_0_S256x1x128
  have v6823 : FVec F S256x128 .bf16 := shapeCast S256x128 v6822 shapeCasts_S256x1x128_S256x128
  have v6824 : FVec F S256x1x128 .bf16 := extractStridedSlice S256x1x128 ![0, 1, 0] v6821 slices_S256x2x128_o0_1_0_S256x1x128
  have v6825 : FVec F S256x128 .bf16 := shapeCast S256x128 v6824 shapeCasts_S256x1x128_S256x128
  have v6826 : FVec F S256x256 .bf16 := concatenate S256x256 1 [⟨S256x128, v6823⟩, ⟨S256x128, v6825⟩] concatenates_S256x128_S256x128_S256x256_d1
  let c0_2051 : Index := 0#32
  let c0_2052 : Index := 0#32
  let c0_2053 : Index := 0#32
  let c0_2054 : Index := 0#32
  let v6827 : Vec F S1x1x512x256 .bf16 ← Prog.lift (.load arg11 (Rect.unit (s := S2x8x512x256) ![0, 0, 0, 0] S1x1x512x256.size inb_S2x8x512x256_S1x1x512x256_0_0_0_0).toLoadRect (View.loadsAt_vmem h_S1x1x512x256))
  have v6828 : FVec F S512x256 .bf16 := shapeCast S512x256 v6827 shapeCasts_S1x1x512x256_S512x256
  have cst : FVec F S512x256 .f32 := constant S512x256 .f32 0x00000000#32
  have v6829 : FVec F S512x256 .f32 := matmul dot_S512x256_S256x256_S512x256_1_1_0_0_n_n none v6828 v6826 cst
  let c0_2055 : Index := 0#32
  let c0_2056 : Index := 0#32
  let v6830 : Vec F S4608x128 .bf16 ← Prog.lift (.load arg13 (Rect.unit (s := S4608x128) ![0, 0] S4608x128.size inb_S4608x128_S4608x128_0_0).toLoadRect (View.loadsAt_vmem h_S4608x128))
  have v6831 : FVec F S256x9x2x128 .bf16 := shapeCast S256x9x2x128 v6830 shapeCasts_S4608x128_S256x9x2x128
  have v6832 : FVec F S256x1x2x128 .bf16 := extractStridedSlice S256x1x2x128 ![0, 1, 0, 0] v6831 slices_S256x9x2x128_o0_1_0_0_S256x1x2x128
  have v6833 : FVec F S256x2x128 .bf16 := shapeCast S256x2x128 v6832 shapeCasts_S256x1x2x128_S256x2x128
  have v6834 : FVec F S256x1x128 .bf16 := extractStridedSlice S256x1x128 ![0, 0, 0] v6833 slices_S256x2x128_o0_0_0_S256x1x128
  have v6835 : FVec F S256x128 .bf16 := shapeCast S256x128 v6834 shapeCasts_S256x1x128_S256x128
  have v6836 : FVec F S256x1x128 .bf16 := extractStridedSlice S256x1x128 ![0, 1, 0] v6833 slices_S256x2x128_o0_1_0_S256x1x128
  have v6837 : FVec F S256x128 .bf16 := shapeCast S256x128 v6836 shapeCasts_S256x1x128_S256x128
  have v6838 : FVec F S256x256 .bf16 := concatenate S256x256 1 [⟨S256x128, v6835⟩, ⟨S256x128, v6837⟩] concatenates_S256x128_S256x128_S256x256_d1
  let c0_2057 : Index := 0#32
  let c1_2058 : Index := 1#32
  let c0_2059 : Index := 0#32
  let c0_2060 : Index := 0#32
  let v6839 : Vec F S1x1x512x256 .bf16 ← Prog.lift (.load arg11 (Rect.unit (s := S2x8x512x256) ![0, 1, 0, 0] S1x1x512x256.size inb_S2x8x512x256_S1x1x512x256_0_1_0_0).toLoadRect (View.loadsAt_vmem h_S1x1x512x256))
  have v6840 : FVec F S512x256 .bf16 := shapeCast S512x256 v6839 shapeCasts_S1x1x512x256_S512x256
  have cst_2061 : FVec F S512x256 .f32 := constant S512x256 .f32 0x00000000#32
  have v6841 : FVec F S512x256 .f32 := matmul dot_S512x256_S256x256_S512x256_1_1_0_0_n_n none v6840 v6838 cst_2061
  have v6842 : FVec F S512x256 .f32 := addf v6829 v6841
  let c0_2062 : Index := 0#32
  let c0_2063 : Index := 0#32
  let v6843 : Vec F S4608x128 .bf16 ← Prog.lift (.load arg13 (Rect.unit (s := S4608x128) ![0, 0] S4608x128.size inb_S4608x128_S4608x128_0_0).toLoadRect (View.loadsAt_vmem h_S4608x128))
  have v6844 : FVec F S256x9x2x128 .bf16 := shapeCast S256x9x2x128 v6843 shapeCasts_S4608x128_S256x9x2x128
  have v6845 : FVec F S256x1x2x128 .bf16 := extractStridedSlice S256x1x2x128 ![0, 2, 0, 0] v6844 slices_S256x9x2x128_o0_2_0_0_S256x1x2x128
  pure ⟨v6817, v6842, v6845⟩

/-- The rest of the enclosing window, as printed. -/
def printedTail2 (arg0 : Memref sig .tc .vmem S30720x128 .fp8e5m2) (harg0 : arg0.IsWhole) (arg1 : Memref sig .tc .vmem S3x16x640 .f32) (harg1 : arg1.IsWhole) (arg2 : Memref sig .tc .vmem S30720x128 .fp8e5m2) (harg2 : arg2.IsWhole) (arg3 : Memref sig .tc .vmem S3x16x640 .f32) (harg3 : arg3.IsWhole) (arg4 : Memref sig .tc .hbm S8192x128 .fp8e4m3) (harg4 : arg4.IsWhole) (arg5 : Memref sig .tc .smem S4x16 .f32) (harg5 : arg5.IsWhole) (arg6 : Memref sig .tc .hbm S8192x128 .fp8e4m3) (harg6 : arg6.IsWhole) (arg7 : Memref sig .tc .smem S4x16 .f32) (harg7 : arg7.IsWhole) (arg8 : Memref sig .tc .hbm S1920x512 .bf16) (harg8 : arg8.IsWhole) (arg9 : Memref sig .tc .vmem S8192x128 .fp8e4m3) (harg9 : arg9.IsWhole) (arg10 : Memref sig .tc .vmem S8192x128 .fp8e4m3) (harg10 : arg10.IsWhole) (arg11 : Memref sig .tc .vmem S2x8x512x256 .bf16) (harg11 : arg11.IsWhole) (arg12 : Memref sig .tc .vmem S1920x512 .bf16) (harg12 : arg12.IsWhole) (arg13 : Memref sig .tc .vmem S4608x128 .bf16) (harg13 : arg13.IsWhole) (arg14 : Memref sig .tc .vmem S4608x128 .bf16) (harg14 : arg14.IsWhole) (arg15 : Memref sig .tc .vmem S4608x128 .bf16) (harg15 : arg15.IsWhole) (arg16 : Memref sig .tc .vmem S4608x128 .bf16) (harg16 : arg16.IsWhole) (arg17 : DmaSems sig S2) (arg18 : DmaSems sig S5) (r : Σ' (v6817 : BitVec 32) (v6842 : FVec F S512x256 .f32), FVec F S256x1x2x128 .bf16) :
    P F (Σ' (v7053 : BitVec 32) (v7058 : FVec F S16x128 .bf16), FVec F S16x128 .bf16) := do
  let ⟨v6817, v6842, v6845⟩ := r
  let ⟨v6881, v6884⟩ : Σ' (v6881 : FVec F S512x256 .f32), FVec F S256x1x2x128 .bf16 ← k0_part437 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v6842 v6845
  let ⟨v6920, v6923⟩ : Σ' (v6920 : FVec F S512x256 .f32), FVec F S256x1x2x128 .bf16 ← k0_part438 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v6881 v6884
  let ⟨v6959, v6962⟩ : Σ' (v6959 : FVec F S512x256 .f32), FVec F S256x1x2x128 .bf16 ← k0_part439 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v6920 v6923
  let ⟨v6998, v7001⟩ : Σ' (v6998 : FVec F S512x256 .f32), FVec F S256x1x2x128 .bf16 ← k0_part440 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v6959 v6962
  let ⟨v7024, v7041⟩ : Σ' (v7024 : FVec F S512x256 .f32), FVec F S256x128 .bf16 ← k0_part441 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v6817 v6998 v7001
  let ⟨v7053, v7058, v7082, v7085⟩ : Σ' (v7053 : BitVec 32) (v7058 : FVec F S16x128 .bf16) (v7082 : FVec F S16x128 .bf16), FVec F S16x128 .bf16 ← k0_part442 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v6817 v7024 v7041
  let ⟨v7124, v7127, v7131⟩ : Σ' (v7124 : FVec F S16x128 .bf16) (v7127 : FVec F S16x128 .bf16), FVec F S32x128 .fp8e5m2 ← k0_part443 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7082 v7085
  let ⟨v7166, v7169, v7174, v7175⟩ : Σ' (v7166 : FVec F S16x128 .bf16) (v7169 : FVec F S16x128 .bf16) (v7174 : FVec F S32x128 .bf16), FVec F S16x128 .bf16 ← k0_part444 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7124 v7127 v7131
  let ⟨v7211, v7216, v7218⟩ : Σ' (v7211 : FVec F S16x128 .bf16) (v7216 : FVec F S32x128 .bf16), FVec F S16x128 .bf16 ← k0_part445 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7166 v7169 v7174 v7175
  let ⟨v7253, v7258, v7260, v7261⟩ : Σ' (v7253 : FVec F S16x128 .bf16) (v7258 : FVec F S32x128 .bf16) (v7260 : FVec F S16x128 .bf16), Vec F S16x128 .bf16 ← k0_part446 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7211 v7216 v7218
  let ⟨v7295, v7300, v7305⟩ : Σ' (v7295 : FVec F S16x128 .bf16) (v7300 : FVec F S32x128 .bf16), FVec F S16x128 .bf16 ← k0_part447 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7253 v7258 v7260 v7261
  let ⟨v7337, v7348⟩ : Σ' (v7337 : FVec F S16x128 .bf16), FVec F S16x128 .bf16 ← k0_part448 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7295 v7300 v7305
  let v7391 : FVec F S16x128 .bf16 ← k0_part449 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7337 v7348
  let ⟨v7433, v7434⟩ : Σ' (v7433 : FVec F S16x128 .bf16), Vec F S16x128 .bf16 ← k0_part450 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7391
  let v7478 : FVec F S16x128 .bf16 ← k0_part451 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7433 v7434
  pure ⟨v7053, v7058, v7478⟩

/-- The rest of the body, as printed. -/
def printedTail3 (arg0 : Memref sig .tc .vmem S30720x128 .fp8e5m2) (harg0 : arg0.IsWhole) (arg1 : Memref sig .tc .vmem S3x16x640 .f32) (harg1 : arg1.IsWhole) (arg2 : Memref sig .tc .vmem S30720x128 .fp8e5m2) (harg2 : arg2.IsWhole) (arg3 : Memref sig .tc .vmem S3x16x640 .f32) (harg3 : arg3.IsWhole) (arg4 : Memref sig .tc .hbm S8192x128 .fp8e4m3) (harg4 : arg4.IsWhole) (arg5 : Memref sig .tc .smem S4x16 .f32) (harg5 : arg5.IsWhole) (arg6 : Memref sig .tc .hbm S8192x128 .fp8e4m3) (harg6 : arg6.IsWhole) (arg7 : Memref sig .tc .smem S4x16 .f32) (harg7 : arg7.IsWhole) (arg8 : Memref sig .tc .hbm S1920x512 .bf16) (harg8 : arg8.IsWhole) (arg9 : Memref sig .tc .vmem S8192x128 .fp8e4m3) (harg9 : arg9.IsWhole) (arg10 : Memref sig .tc .vmem S8192x128 .fp8e4m3) (harg10 : arg10.IsWhole) (arg11 : Memref sig .tc .vmem S2x8x512x256 .bf16) (harg11 : arg11.IsWhole) (arg12 : Memref sig .tc .vmem S1920x512 .bf16) (harg12 : arg12.IsWhole) (arg13 : Memref sig .tc .vmem S4608x128 .bf16) (harg13 : arg13.IsWhole) (arg14 : Memref sig .tc .vmem S4608x128 .bf16) (harg14 : arg14.IsWhole) (arg15 : Memref sig .tc .vmem S4608x128 .bf16) (harg15 : arg15.IsWhole) (arg16 : Memref sig .tc .vmem S4608x128 .bf16) (harg16 : arg16.IsWhole) (arg17 : DmaSems sig S2) (arg18 : DmaSems sig S5) (r : Σ' (v7053 : BitVec 32) (v7058 : FVec F S16x128 .bf16), FVec F S16x128 .bf16) :
    P F PUnit.{1} := do
  let ⟨v7053, v7058, v7478⟩ := r
  let ⟨v9753, v9960⟩ : Σ' (v9753 : BitVec 32), FVec F S512x128 .f32 ← k0_part513 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v7053 v7058 v7478
  have v9975 : FVec F S128x128 .f32 := extractStridedSlice S128x128 ![256, 0] v9960 slices_S512x128_o256_0_S128x128
  have v9976 : FVec F S128x128 .bf16 := truncf .bf16 v9975 bitsLt_bf16_f32
  have v9977 : FVec F S128x128 .bf16 := transpose S128x128 [1, 0] v9976 transposes_S128x128_p1_0_S128x128
  let v9978 : Index := Scalar.indexCast v9753
  let c256_3054 : Index := 256#32
  let v9979 : Vec F S128x128 .bf16 ← Prog.lift (.load arg12 (Rect.unit (s := S1920x512) ![1792, 256] S128x128.size inb_S1920x512_S128x128_1792_256).toLoadRect (View.loadsAt_vmem h_S128x128))
  have v9980 : FVec F S128x128 .bf16 := shapeCast S128x128 v9979 shapeCasts_S128x128_S128x128
  have v9981 : FVec F S128x128 .bf16 := shapeCast S128x128 v9977 shapeCasts_S128x128_S128x128
  Prog.lift (.store arg12 (Rect.unit (s := S1920x512) ![1792, 256] S128x128.size inb_S1920x512_S128x128_1792_256) v9981 Finset.univ (View.stores_vmem h_S128x128 (harg12.storeExact_slice rfl _ packedbf16_S1920x512_S128x128_1792_256) (fun _ => rfl)) (.inl rfl))
  have v9982 : FVec F S128x128 .f32 := extractStridedSlice S128x128 ![384, 0] v9960 slices_S512x128_o384_0_S128x128
  have v9983 : FVec F S128x128 .bf16 := truncf .bf16 v9982 bitsLt_bf16_f32
  have v9984 : FVec F S128x128 .bf16 := transpose S128x128 [1, 0] v9983 transposes_S128x128_p1_0_S128x128
  let v9985 : Index := Scalar.indexCast v9753
  let c384_3055 : Index := 384#32
  let v9986 : Vec F S128x128 .bf16 ← Prog.lift (.load arg12 (Rect.unit (s := S1920x512) ![1792, 384] S128x128.size inb_S1920x512_S128x128_1792_384).toLoadRect (View.loadsAt_vmem h_S128x128))
  have v9987 : FVec F S128x128 .bf16 := shapeCast S128x128 v9986 shapeCasts_S128x128_S128x128
  have v9988 : FVec F S128x128 .bf16 := shapeCast S128x128 v9984 shapeCasts_S128x128_S128x128
  Prog.lift (.store arg12 (Rect.unit (s := S1920x512) ![1792, 384] S128x128.size inb_S1920x512_S128x128_1792_384) v9988 Finset.univ (View.stores_vmem h_S128x128 (harg12.storeExact_slice rfl _ packedbf16_S1920x512_S128x128_1792_384) (fun _ => rfl)) (.inl rfl))
  let c0_i32_3056 : BitVec 32 := 0#32
  let v9989 : BitVec 32 := c0_i32_3056
  let c4_i32 : BitVec 32 := 4#32
  let v9990 : DmaSems sig S1 := arg18.slice (Rect.unit (s := S5) ![4] S1.size inb_S5_S1_4)
  let v9991 : DmaSems sig S_ := v9990.squeeze S_ squeezes_S1_S_
  let c0_i32_3057 : BitVec 32 := 0#32
  let v9992 : Memref sig .tc .hbm S1920x512 .bf16 := arg8.slice (Rect.unit (s := S1920x512) ![0, 0] S1920x512.size inb_S1920x512_S1920x512_0_0) (fun _ => rfl)
  let c0_i32_3058 : BitVec 32 := 0#32
  let v9993 : Memref sig .tc .vmem S1920x512 .bf16 := arg12.slice (Rect.unit (s := S1920x512) ![0, 0] S1920x512.size inb_S1920x512_S1920x512_0_0) (fun _ => rfl)
  Prog.lift (.enqueueDma v9993 (.here v9992) (.dma v9991.sem) (harg12.wordExact_slice rfl _ wordsbf16_S1920x512_S1920x512_0_0) (harg8.wordExact_slice rfl _ wordsbf16_S1920x512_S1920x512_0_0) ⟨Or.inl rfl, trivial⟩)
  let c4_i32_3059 : BitVec 32 := 4#32
  let v9994 : DmaSems sig S1 := arg18.slice (Rect.unit (s := S5) ![4] S1.size inb_S5_S1_4)
  let v9995 : DmaSems sig S_ := v9994.squeeze S_ squeezes_S1_S_
  let c0_i32_3060 : BitVec 32 := 0#32
  let v9996 : Memref sig .tc .hbm S1920x512 .bf16 := arg8.slice (Rect.unit (s := S1920x512) ![0, 0] S1920x512.size inb_S1920x512_S1920x512_0_0) (fun _ => rfl)
  let c0_i32_3061 : BitVec 32 := 0#32
  let v9997 : Memref sig .tc .vmem S1920x512 .bf16 := arg12.slice (Rect.unit (s := S1920x512) ![0, 0] S1920x512.size inb_S1920x512_S1920x512_0_0) (fun _ => rfl)
  Prog.lift (.waitDma2 v9995.sem v9997 v9996 (harg12.wordExact_slice rfl _ wordsbf16_S1920x512_S1920x512_0_0) (harg8.wordExact_slice rfl _ wordsbf16_S1920x512_S1920x512_0_0))
  pure ⟨⟩

end Cert.KernelDcIdeal.Hand

end
-- ==== Proof.KernelDcIdeal.Body.lean ====
/- The body of the program for `dc`, written again as its loops. The printed body is some thirty thousand
   straight statements around one loop of three trips; here the same operations stand once each, over the
   loop indices the source has: the 128 weight tiles of each weight, the 64 token pairs of a widened
   group, the 16 products of a unit of `dc`. `body_eq` says that the printed body is this program. -/
module

public import proofs.«01_k».proof.Proof.KernelDcIdeal.Cut

@[expose] public section

noncomputable section

namespace Cert.KernelDcIdeal.Hand

open Idealize.ShloMosaic Idealize.ShloMosaic.TcCoe Idealize.SL.Sem
open Cert.KernelDcIdeal Cert.KernelDcIdeal.Gen

variable {F : FTy → Type} [FloatOps F]

/-! ## The rectangles -/

theorem inbWc : ∀ (rb : Fin 4), ∀ a, (![2048 * rb.1, 0] : Fin 2 → Nat) a + S2048x128.size a ≤ S8192x128.size a := by decide
theorem inbWs : ∀ (rb q k : Fin 4), ∀ a, (![rb.1, 4 * q.1 + k.1] : Fin 2 → Nat) a + S1x1.size a ≤ S4x16.size a := by decide
theorem inbWb : ∀ (i : Fin 2) (rb q k : Fin 4), ∀ a, (![i.1, (4 * q.1 + k.1) / 2, 128 * rb.1, 128 * ((4 * q.1 + k.1) % 2)] : Fin 4 → Nat) a + S1x1x128x128.size a ≤ S2x8x512x256.size a := by decide
theorem packedWb : ∀ (i : Fin 2) (rb q k : Fin 4), (Rect.unit (s := S2x8x512x256) ![i.1, (4 * q.1 + k.1) / 2, 128 * rb.1, 128 * ((4 * q.1 + k.1) % 2)] S1x1x128x128.size (inbWb i rb q k)).PackedRows (EltTy.packing .bf16) := by decide +kernel
theorem slicesQ : ∀ (q : Fin 4), S128x4x4x128.Slices ![0, q.1, 0, 0] S128x1x4x128 := by decide
theorem slicesK : ∀ (k : Fin 4), S128x4x128.Slices ![0, k.1, 0] S128x1x128 := by decide
theorem inbCode : ∀ (g : Fin 15) (p : Fin 64), ∀ a, (![2048 * g.1 + 32 * p.1, 0] : Fin 2 → Nat) a + S32x128.size a ≤ S30720x128.size a := by decide +kernel
theorem inbScale : ∀ (g : Fin 15), ∀ a, (![g.1 / 5, 0, g.1 % 5 * 128] : Fin 3 → Nat) a + S1x16x128.size a ≤ S3x16x640.size a := by decide
theorem inbNat : ∀ (h : Fin 2) (p : Fin 64) (i : Fin 2), ∀ a, (![2304 * h.1 + (36 * p.1 + 18 * i.1), 0] : Fin 2 → Nat) a + S16x128.size a ≤ S4608x128.size a := by decide +kernel
theorem packedNat : ∀ (h : Fin 2) (p : Fin 64) (i : Fin 2), (Rect.unit (s := S4608x128) ![2304 * h.1 + (36 * p.1 + 18 * i.1), 0] S16x128.size (inbNat h p i)).PackedRows (EltTy.packing .bf16) := by decide +kernel
theorem slicesCol : ∀ (p : Fin 64) (i : Fin 2), S16x128.Slices ![0, 2 * p.1 + i.1] S16x1 := by decide +kernel
theorem slicesHalf : ∀ (i : Fin 2), S32x128.Slices ![16 * i.1, 0] S16x128 := by decide
theorem inbTile : ∀ (i : Fin 2) (j : Fin 8), ∀ a, (![i.1, j.1, 0, 0] : Fin 4 → Nat) a + S1x1x512x256.size a ≤ S2x8x512x256.size a := by decide
theorem slicesJ : ∀ (j : Fin 8), S256x9x2x128.Slices ![0, j.1, 0, 0] S256x1x2x128 := by decide
theorem slicesJ' : ∀ (j : Fin 8), S128x9x2x128.Slices ![0, j.1, 0, 0] S128x1x2x128 := by decide
theorem slicesAcc : ∀ (rb : Fin 4), S512x256.Slices ![128 * rb.1, 0] S128x256 := by decide
theorem slicesAcc' : ∀ (rb : Fin 4), S512x128.Slices ![128 * rb.1, 0] S128x128 := by decide
theorem inbDc6 : ∀ (rb : Fin 4), ∀ a, (![1536, 128 * rb.1] : Fin 2 → Nat) a + S256x128.size a ≤ S1920x512.size a := by decide
theorem packedDc6 : ∀ (rb : Fin 4), (Rect.unit (s := S1920x512) ![1536, 128 * rb.1] S256x128.size (inbDc6 rb)).PackedRows (EltTy.packing .bf16) := by decide
theorem inbDc7 : ∀ (rb : Fin 4), ∀ a, (![1792, 128 * rb.1] : Fin 2 → Nat) a + S128x128.size a ≤ S1920x512.size a := by decide
theorem packedDc7 : ∀ (rb : Fin 4), (Rect.unit (s := S1920x512) ![1792, 128 * rb.1] S128x128.size (inbDc7 rb)).PackedRows (EltTy.packing .bf16) := by decide

abbrev rWc (rb : Fin 4) : Rect S8192x128 := Rect.unit (s := S8192x128) ![2048 * rb.1, 0] S2048x128.size (inbWc rb)
abbrev rWs (rb q k : Fin 4) : Rect S4x16 := Rect.unit (s := S4x16) ![rb.1, 4 * q.1 + k.1] S1x1.size (inbWs rb q k)
abbrev rWb (i : Fin 2) (rb q k : Fin 4) : Rect S2x8x512x256 := Rect.unit (s := S2x8x512x256) ![i.1, (4 * q.1 + k.1) / 2, 128 * rb.1, 128 * ((4 * q.1 + k.1) % 2)] S1x1x128x128.size (inbWb i rb q k)
abbrev rNat (h : Fin 2) (p : Fin 64) (i : Fin 2) : Rect S4608x128 := Rect.unit (s := S4608x128) ![2304 * h.1 + (36 * p.1 + 18 * i.1), 0] S16x128.size (inbNat h p i)
abbrev rAll : Rect S4608x128 := Rect.unit (s := S4608x128) ![0, 0] S4608x128.size inb_S4608x128_S4608x128_0_0
abbrev rHalf : Rect S4608x128 := Rect.unit (s := S4608x128) ![0, 0] S2304x128.size inb_S4608x128_S2304x128_0_0
abbrev rTile (i : Fin 2) (j : Fin 8) : Rect S2x8x512x256 := Rect.unit (s := S2x8x512x256) ![i.1, j.1, 0, 0] S1x1x512x256.size (inbTile i j)

/-! ## What is computed between the memory operations -/

/-- Four heads of 128 rows of a weight's codes. -/
def codesQ (q : Fin 4) (v : Vec F S2048x128 .fp8e4m3) : FVec F S128x4x128 .fp8e4m3 :=
  shapeCast S128x4x128 (extractStridedSlice S128x1x4x128 ![0, q.1, 0, 0] (shapeCast S128x4x4x128 v shapeCasts_S2048x128_S128x4x4x128 : FVec F S128x4x4x128 .fp8e4m3) (slicesQ q) : FVec F S128x1x4x128 .fp8e4m3) shapeCasts_S128x1x4x128_S128x4x128

/-- One head of them, widened, times its scale. -/
def wPay (k : Fin 4) (w : FVec F S128x4x128 .fp8e4m3) (s : Elt F .f32) : FVec F S1x1x128x128 .bf16 :=
  shapeCast S1x1x128x128 (mulf (extf .bf16 (shapeCast S128x128 (extractStridedSlice S128x1x128 ![0, k.1, 0] w (slicesK k) : FVec F S128x1x128 .fp8e4m3) shapeCasts_S128x1x128_S128x128 : FVec F S128x128 .fp8e4m3) bitsLt_fp8e4m3_bf16 : FVec F S128x128 .bf16)
    (truncf .bf16 (broadcast S128x128 s : FVec F S128x128 .f32) bitsLt_bf16_f32 : FVec F S128x128 .bf16) : FVec F S128x128 .bf16) shapeCasts_S128x128_S1x1x128x128

/-- The sixteen heads of token `2p + i` of a group, widened, each times its scale. -/
def widePay (p : Fin 64) (i : Fin 2) (s : Vec F S1x16x128 .f32) (v : Vec F S32x128 .fp8e5m2) : FVec F S16x128 .bf16 :=
  shapeCast S16x128 (mulf (extractStridedSlice S16x128 ![16 * i.1, 0] (extf .bf16 (shapeCast S32x128 v shapeCasts_S32x128_S32x128 : FVec F S32x128 .fp8e5m2) bitsLt_fp8e5m2_bf16 : FVec F S32x128 .bf16) (slicesHalf i) : FVec F S16x128 .bf16)
    (broadcastTo S16x128 (shapeCast S16x1 (extractStridedSlice S16x1 ![0, 2 * p.1 + i.1] (truncf .bf16 (shapeCast S16x128 s shapeCasts_S1x16x128_S16x128 : FVec F S16x128 .f32) bitsLt_bf16_f32 : FVec F S16x128 .bf16) (slicesCol p i) : FVec F S16x1 .bf16) shapeCasts_S16x1_S16x1 : FVec F S16x1 .bf16) broadcasts_S16x1_S16x128 : FVec F S16x128 .bf16) : FVec F S16x128 .bf16)
    shapeCasts_S16x128_S16x128

/-- The pair `j` of heads of 256 tokens. -/
def pair2 (j : Fin 8) (v : Vec F S4608x128 .bf16) : FVec F S256x2x128 .bf16 :=
  shapeCast S256x2x128 (extractStridedSlice S256x1x2x128 ![0, j.1, 0, 0] (shapeCast S256x9x2x128 v shapeCasts_S4608x128_S256x9x2x128 : FVec F S256x9x2x128 .bf16) (slicesJ j) : FVec F S256x1x2x128 .bf16) shapeCasts_S256x1x2x128_S256x2x128

/-- The two heads of a pair side by side. -/
def sides (w : FVec F S256x2x128 .bf16) : FVec F S256x256 .bf16 :=
  concatenate S256x256 1 [⟨S256x128, (shapeCast S256x128 (extractStridedSlice S256x1x128 ![0, 0, 0] w slices_S256x2x128_o0_0_0_S256x1x128 : FVec F S256x1x128 .bf16) shapeCasts_S256x1x128_S256x128 : FVec F S256x128 .bf16)⟩,
    ⟨S256x128, (shapeCast S256x128 (extractStridedSlice S256x1x128 ![0, 1, 0] w slices_S256x2x128_o0_1_0_S256x1x128 : FVec F S256x1x128 .bf16) shapeCasts_S256x1x128_S256x128 : FVec F S256x128 .bf16)⟩] concatenates_S256x128_S256x128_S256x256_d1

/-- One product of a unit of 256 tokens. -/
def prod (j : Fin 8) (v : Vec F S4608x128 .bf16) (l : Vec F S1x1x512x256 .bf16) : FVec F S512x256 .f32 :=
  matmul dot_S512x256_S256x256_S512x256_1_1_0_0_n_n none (shapeCast S512x256 l shapeCasts_S1x1x512x256_S512x256 : FVec F S512x256 .bf16) (sides (pair2 j v)) (constant S512x256 .f32 0x00000000#32)

/-- 128 columns of a finished unit, turned. -/
def dcPay (rb : Fin 4) (a : FVec F S512x256 .f32) : FVec F S256x128 .bf16 :=
  shapeCast S256x128 (transpose S256x128 [1, 0] (truncf .bf16 (extractStridedSlice S128x256 ![128 * rb.1, 0] a (slicesAcc rb) : FVec F S128x256 .f32) bitsLt_bf16_f32 : FVec F S128x256 .bf16) transposes_S128x256_p1_0_S256x128 : FVec F S256x128 .bf16) shapeCasts_S256x128_S256x128

/-- The same for the last unit, of 128 tokens. -/
def pair2' (j : Fin 8) (v : Vec F S2304x128 .bf16) : FVec F S128x2x128 .bf16 :=
  shapeCast S128x2x128 (extractStridedSlice S128x1x2x128 ![0, j.1, 0, 0] (shapeCast S128x9x2x128 v shapeCasts_S2304x128_S128x9x2x128 : FVec F S128x9x2x128 .bf16) (slicesJ' j) : FVec F S128x1x2x128 .bf16) shapeCasts_S128x1x2x128_S128x2x128
def sides' (w : FVec F S128x2x128 .bf16) : FVec F S128x256 .bf16 :=
  concatenate S128x256 1 [⟨S128x128, (shapeCast S128x128 (extractStridedSlice S128x1x128 ![0, 0, 0] w slices_S128x2x128_o0_0_0_S128x1x128 : FVec F S128x1x128 .bf16) shapeCasts_S128x1x128_S128x128 : FVec F S128x128 .bf16)⟩,
    ⟨S128x128, (shapeCast S128x128 (extractStridedSlice S128x1x128 ![0, 1, 0] w slices_S128x2x128_o0_1_0_S128x1x128 : FVec F S128x1x128 .bf16) shapeCasts_S128x1x128_S128x128 : FVec F S128x128 .bf16)⟩] concatenates_S128x128_S128x128_S128x256_d1
def prod' (j : Fin 8) (v : Vec F S2304x128 .bf16) (l : Vec F S1x1x512x256 .bf16) : FVec F S512x128 .f32 :=
  matmul dot_S512x256_S128x256_S512x128_1_1_0_0_n_n none (shapeCast S512x256 l shapeCasts_S1x1x512x256_S512x256 : FVec F S512x256 .bf16) (sides' (pair2' j v)) (constant S512x128 .f32 0x00000000#32)
def dcPay' (rb : Fin 4) (a : FVec F S512x128 .f32) : FVec F S128x128 .bf16 :=
  shapeCast S128x128 (transpose S128x128 [1, 0] (truncf .bf16 (extractStridedSlice S128x128 ![128 * rb.1, 0] a (slicesAcc' rb) : FVec F S128x128 .f32) bitsLt_bf16_f32 : FVec F S128x128 .bf16) transposes_S128x128_p1_0_S128x128 : FVec F S128x128 .bf16) shapeCasts_S128x128_S128x128

/-! ## The program -/

section
variable (cod : Memref sig .tc .vmem S8192x128 .fp8e4m3) (scal : Memref sig .tc .smem S4x16 .f32) (arg11 : Memref sig .tc .vmem S2x8x512x256 .bf16) (harg11 : arg11.IsWhole)

/-- One tile of a weight: its scale read, the tile stored. -/
def wStep (i : Fin 2) (q rb k : Fin 4) (w : FVec F S128x4x128 .fp8e4m3) (kk : P F PUnit.{1}) : P F PUnit.{1} :=
  smemLoadElt scal (rWs rb q k) (View.loads_smem_one rfl numel1_S1x1) (Shape.Idx.first (numel1_S1x1.symm ▸ Nat.one_pos)) fun s =>
  .op (.load arg11 (rWb i rb q k).toLoadRect (View.loadsAt_vmem h_S1x1x128x128)) fun _ =>
  .op (.store arg11 (rWb i rb q k) (wPay k w s) Finset.univ (View.stores_vmem h_S1x1x128x128 (harg11.storeExact_slice rfl _ (packedWb i rb q k)) (fun _ => rfl)) (.inl rfl)) fun _ => kk

/-- The four tiles of one block of codes. -/
def wBlock (i : Fin 2) (q rb : Fin 4) (kk : P F PUnit.{1}) : P F PUnit.{1} :=
  .op (.load cod (rWc rb).toLoadRect (View.loadsAt_vmem h_S2048x128)) fun v =>
  wStep scal arg11 harg11 i q rb 0 (codesQ q v) <| wStep scal arg11 harg11 i q rb 1 (codesQ q v) <| wStep scal arg11 harg11 i q rb 2 (codesQ q v) <| wStep scal arg11 harg11 i q rb 3 (codesQ q v) kk

def lo4 (n : ℕ) : Fin 4 := ⟨n % 4, Nat.mod_lt _ (by decide)⟩
def hi4 (n : ℕ) : Fin 4 := ⟨n / 4 % 4, Nat.mod_lt _ (by decide)⟩

/-- `m` blocks from block `n` on. -/
def wLoop (i : Fin 2) : (m n : ℕ) → P F PUnit.{1} → P F PUnit.{1}
  | 0, _, kk => kk
  | m + 1, n, kk => wBlock cod scal arg11 harg11 i (hi4 n) (lo4 n) (wLoop i m (n + 1) kk)
end

/-- The offsets a widened group reads its codes at. -/
abbrev CodeOff : Type := Fin 64 → Fin 2 → ℕ
abbrev CodeInb (co : CodeOff) : Prop := ∀ p, ∀ a, co p a + S32x128.size a ≤ S30720x128.size a
abbrev ScaleInb (so : Fin 3 → ℕ) : Prop := ∀ a, so a + S1x16x128.size a ≤ S3x16x640.size a

def pOf (n : ℕ) : Fin 64 := ⟨n % 64, Nat.mod_lt _ (by decide)⟩

section
variable (codes : Memref sig .tc .vmem S30720x128 .fp8e5m2) (sc : Memref sig .tc .vmem S3x16x640 .f32) (nat : Memref sig .tc .vmem S4608x128 .bf16) (hnat : nat.IsWhole)
  (h : Fin 2) (so : Fin 3 → ℕ) (hso : ScaleInb so) (co : CodeOff) (hco : CodeInb co)

/-- One token's rows stored. -/
def wideSt (p : Fin 64) (i : Fin 2) (s : Vec F S1x16x128 .f32) (v : Vec F S32x128 .fp8e5m2) (kk : P F PUnit.{1}) : P F PUnit.{1} :=
  .op (.load nat (rNat h p i).toLoadRect (View.loadsAt_vmem h_S16x128)) fun _ =>
  .op (.store nat (rNat h p i) (widePay p i s v) Finset.univ (View.stores_vmem h_S16x128 (hnat.storeExact_slice rfl _ (packedNat h p i)) (fun _ => rfl)) (.inl rfl)) fun _ => kk

/-- Two tokens: their codes read, both stored. -/
def wideStep (p : Fin 64) (s : Vec F S1x16x128 .f32) (kk : P F PUnit.{1}) : P F PUnit.{1} :=
  .op (.load codes (Rect.unit (s := S30720x128) (co p) S32x128.size (hco p)).toLoadRect (View.loadsAt_vmem h_S32x128)) fun v =>
  wideSt nat hnat h p 0 s v <| wideSt nat hnat h p 1 s v kk

/-- `m` pairs of tokens from pair `n` on. -/
def wideLoop (s : Vec F S1x16x128 .f32) : (m n : ℕ) → P F PUnit.{1} → P F PUnit.{1}
  | 0, _, kk => kk
  | m + 1, n, kk => wideStep codes nat hnat h co hco (pOf n) s (wideLoop s m (n + 1) kk)

/-- One group of 128 tokens into half `h` of the buffer. -/
def wide (kk : P F PUnit.{1}) : P F PUnit.{1} :=
  .op (.load sc (Rect.unit (s := S3x16x640) so S1x16x128.size hso).toLoadRect (View.loadsAt_vmem h_S1x16x128)) fun s =>
  wideLoop codes nat hnat h co hco s 64 0 kk
end

section
variable (nat : Memref sig .tc .vmem S4608x128 .bf16) (arg11 : Memref sig .tc .vmem S2x8x512x256 .bf16)

def jOf (n : ℕ) : Fin 8 := ⟨n % 8, Nat.mod_lt _ (by decide)⟩

/-- One product. -/
def term (i : Fin 2) (j : Fin 8) (kk : FVec F S512x256 .f32 → P F PUnit.{1}) : P F PUnit.{1} :=
  .op (.load nat rAll.toLoadRect (View.loadsAt_vmem h_S4608x128)) fun v =>
  .op (.load arg11 (rTile i j).toLoadRect (View.loadsAt_vmem h_S1x1x512x256)) fun l => kk (prod j v l)

/-- `m` products from product `n` on, added to what is there. -/
def terms (i : Fin 2) : (m n : ℕ) → FVec F S512x256 .f32 → (FVec F S512x256 .f32 → P F PUnit.{1}) → P F PUnit.{1}
  | 0, _, a, kk => kk a
  | m + 1, n, a, kk => term nat arg11 i (jOf n) fun d => terms i m (n + 1) (addf a d) kk

/-- The same for the last unit. -/
def term' (i : Fin 2) (j : Fin 8) (kk : FVec F S512x128 .f32 → P F PUnit.{1}) : P F PUnit.{1} :=
  .op (.load nat rHalf.toLoadRect (View.loadsAt_vmem h_S2304x128)) fun v =>
  .op (.load arg11 (rTile i j).toLoadRect (View.loadsAt_vmem h_S1x1x512x256)) fun l => kk (prod' j v l)
def terms' (i : Fin 2) : (m n : ℕ) → FVec F S512x128 .f32 → (FVec F S512x128 .f32 → P F PUnit.{1}) → P F PUnit.{1}
  | 0, _, a, kk => kk a
  | m + 1, n, a, kk => term' nat arg11 i (jOf n) fun d => terms' i m (n + 1) (addf a d) kk
end

/-- The offsets a unit stores its column blocks at. -/
abbrev DcOff : Type := Fin 4 → Fin 2 → ℕ
abbrev DcInb (oo : DcOff) : Prop := ∀ rb, ∀ a, oo rb a + S256x128.size a ≤ S1920x512.size a

section
variable (natk natv : Memref sig .tc .vmem S4608x128 .bf16) (arg11 : Memref sig .tc .vmem S2x8x512x256 .bf16) (arg12 : Memref sig .tc .vmem S1920x512 .bf16) (harg12 : arg12.IsWhole)

/-- One column block stored. -/
def dcPut (oo : DcOff) (hoo : DcInb oo) (hpk : ∀ rb, (Rect.unit (s := S1920x512) (oo rb) S256x128.size (hoo rb)).PackedRows (EltTy.packing .bf16)) (rb : Fin 4) (a : FVec F S512x256 .f32) (kk : P F PUnit.{1}) : P F PUnit.{1} :=
  .op (.load arg12 (Rect.unit (s := S1920x512) (oo rb) S256x128.size (hoo rb)).toLoadRect (View.loadsAt_vmem h_S256x128)) fun _ =>
  .op (.store arg12 (Rect.unit (s := S1920x512) (oo rb) S256x128.size (hoo rb)) (dcPay rb a) Finset.univ (View.stores_vmem h_S256x128 (harg12.storeExact_slice rfl _ (hpk rb)) (fun _ => rfl)) (.inl rfl)) fun _ => kk

/-- One unit of `dc`: 256 tokens. -/
def unit (oo : DcOff) (hoo : DcInb oo) (hpk : ∀ rb, (Rect.unit (s := S1920x512) (oo rb) S256x128.size (hoo rb)).PackedRows (EltTy.packing .bf16)) (kk : P F PUnit.{1}) : P F PUnit.{1} :=
  term natk arg11 0 0 fun d => terms natk arg11 0 7 1 d fun a => terms natv arg11 1 8 0 a fun b =>
  dcPut arg12 harg12 oo hoo hpk 0 b <| dcPut arg12 harg12 oo hoo hpk 1 b <| dcPut arg12 harg12 oo hoo hpk 2 b <| dcPut arg12 harg12 oo hoo hpk 3 b kk

/-- The last unit's column block. -/
def dcPut' (rb : Fin 4) (a : FVec F S512x128 .f32) (kk : P F PUnit.{1}) : P F PUnit.{1} :=
  .op (.load arg12 (Rect.unit (s := S1920x512) ![1792, 128 * rb.1] S128x128.size (inbDc7 rb)).toLoadRect (View.loadsAt_vmem h_S128x128)) fun _ =>
  .op (.store arg12 (Rect.unit (s := S1920x512) ![1792, 128 * rb.1] S128x128.size (inbDc7 rb)) (dcPay' rb a) Finset.univ (View.stores_vmem h_S128x128 (harg12.storeExact_slice rfl _ (packedDc7 rb)) (fun _ => rfl)) (.inl rfl)) fun _ => kk

/-- The last unit: 128 tokens. -/
def unit' (kk : P F PUnit.{1}) : P F PUnit.{1} :=
  term' natk arg11 0 0 fun d => terms' natk arg11 0 7 1 d fun a => terms' natv arg11 1 8 0 a fun b =>
  dcPut' arg12 harg12 0 b <| dcPut' arg12 harg12 1 b <| dcPut' arg12 harg12 2 b <| dcPut' arg12 harg12 3 b kk
end

/-- The offsets of the loop's trips, as the kernel computes them. -/
abbrev oo1 (t : Fin k0_t1_loop.trips) : DcOff := ![k0_off2 t, k0_off3 t, k0_off4 t, k0_off5 t]
abbrev oo2 (t : Fin k0_t1_loop.trips) : DcOff := ![k0_off10 t, k0_off11 t, k0_off12 t, k0_off13 t]
theorem oo1_inb (t : Fin k0_t1_loop.trips) : DcInb (oo1 t) := fun | 0 => k0_off2_inb t | 1 => k0_off3_inb t | 2 => k0_off4_inb t | 3 => k0_off5_inb t
theorem oo2_inb (t : Fin k0_t1_loop.trips) : DcInb (oo2 t) := fun | 0 => k0_off10_inb t | 1 => k0_off11_inb t | 2 => k0_off12_inb t | 3 => k0_off13_inb t
theorem oo1_packed (t : Fin k0_t1_loop.trips) : ∀ rb, (Rect.unit (s := S1920x512) (oo1 t rb) S256x128.size (oo1_inb t rb)).PackedRows (EltTy.packing .bf16) :=
  fun | 0 => k0_off2_packedbf16 t | 1 => k0_off3_packedbf16 t | 2 => k0_off4_packedbf16 t | 3 => k0_off5_packedbf16 t
theorem oo2_packed (t : Fin k0_t1_loop.trips) : ∀ rb, (Rect.unit (s := S1920x512) (oo2 t rb) S256x128.size (oo2_inb t rb)).PackedRows (EltTy.packing .bf16) :=
  fun | 0 => k0_off10_packedbf16 t | 1 => k0_off11_packedbf16 t | 2 => k0_off12_packedbf16 t | 3 => k0_off13_packedbf16 t
abbrev oo6 : DcOff := fun rb => ![1536, 128 * rb.1]
abbrev so6 (t : Fin k0_t1_loop.trips) (r : Fin 2) : Fin 3 → ℕ := k0_off6 t (BitVec.ofNat 32 (1 + r.1))
abbrev so8 (t : Fin k0_t1_loop.trips) (r : Fin 2) : Fin 3 → ℕ := k0_off8 t (BitVec.ofNat 32 (1 + r.1))
abbrev co7 (t : Fin k0_t1_loop.trips) (r : Fin 2) : CodeOff := fun p => k0_off7 t (BitVec.ofNat 32 (1 + r.1)) (BitVec.ofNat 32 (32 * p.1))
abbrev co9 (t : Fin k0_t1_loop.trips) (r : Fin 2) : CodeOff := fun p => k0_off9 t (BitVec.ofNat 32 (1 + r.1)) (BitVec.ofNat 32 (32 * p.1))
abbrev soG (g : Fin 15) : Fin 3 → ℕ := ![g.1 / 5, 0, g.1 % 5 * 128]
abbrev coG (g : Fin 15) : CodeOff := fun p => ![2048 * g.1 + 32 * p.1, 0]

section
variable (arg0 : Memref sig .tc .vmem S30720x128 .fp8e5m2) (harg0 : arg0.IsWhole) (arg1 : Memref sig .tc .vmem S3x16x640 .f32) (harg1 : arg1.IsWhole) (arg2 : Memref sig .tc .vmem S30720x128 .fp8e5m2) (harg2 : arg2.IsWhole) (arg3 : Memref sig .tc .vmem S3x16x640 .f32) (harg3 : arg3.IsWhole) (arg4 : Memref sig .tc .hbm S8192x128 .fp8e4m3) (harg4 : arg4.IsWhole) (arg5 : Memref sig .tc .smem S4x16 .f32) (harg5 : arg5.IsWhole) (arg6 : Memref sig .tc .hbm S8192x128 .fp8e4m3) (harg6 : arg6.IsWhole) (arg7 : Memref sig .tc .smem S4x16 .f32) (harg7 : arg7.IsWhole) (arg8 : Memref sig .tc .hbm S1920x512 .bf16) (harg8 : arg8.IsWhole) (arg9 : Memref sig .tc .vmem S8192x128 .fp8e4m3) (harg9 : arg9.IsWhole) (arg10 : Memref sig .tc .vmem S8192x128 .fp8e4m3) (harg10 : arg10.IsWhole) (arg11 : Memref sig .tc .vmem S2x8x512x256 .bf16) (harg11 : arg11.IsWhole) (arg12 : Memref sig .tc .vmem S1920x512 .bf16) (harg12 : arg12.IsWhole) (arg13 : Memref sig .tc .vmem S4608x128 .bf16) (harg13 : arg13.IsWhole) (arg14 : Memref sig .tc .vmem S4608x128 .bf16) (harg14 : arg14.IsWhole) (arg15 : Memref sig .tc .vmem S4608x128 .bf16) (harg15 : arg15.IsWhole) (arg16 : Memref sig .tc .vmem S4608x128 .bf16) (harg16 : arg16.IsWhole) (arg17 : DmaSems sig S2) (arg18 : DmaSems sig S5)

/-- A group of both tensors, its offsets given. -/
def wide2 (natk natv : Memref sig .tc .vmem S4608x128 .bf16) (hk : natk.IsWhole) (hv : natv.IsWhole) (h : Fin 2) (so : Fin 3 → ℕ) (hso : ScaleInb so) (co : CodeOff) (hco : CodeInb co) (kk : P F PUnit.{1}) : P F PUnit.{1} :=
  wide arg0 arg1 natk hk h so hso co hco <| wide arg2 arg3 natv hv h so hso co hco kk

/-- One trip of the loop. -/
def trip (t : Fin k0_t1_loop.trips) (kk : P F PUnit.{1}) : P F PUnit.{1} :=
  unit arg13 arg14 arg11 arg12 harg12 (oo1 t) (oo1_inb t) (oo1_packed t) <|
  wide2 arg0 arg1 arg2 arg3 arg15 arg16 harg15 harg16 0 (so6 t 0) (k0_off6_inb t 0) (co7 t 0) (k0_off7_inb t 0) <|
  wide2 arg0 arg1 arg2 arg3 arg15 arg16 harg15 harg16 1 (so8 t 0) (k0_off8_inb t 0) (co9 t 0) (k0_off9_inb t 0) <|
  unit arg15 arg16 arg11 arg12 harg12 (oo2 t) (oo2_inb t) (oo2_packed t) <|
  wide2 arg0 arg1 arg2 arg3 arg13 arg14 harg13 harg14 0 (so6 t 1) (k0_off6_inb t 1) (co7 t 1) (k0_off7_inb t 1) <|
  wide2 arg0 arg1 arg2 arg3 arg13 arg14 harg13 harg14 1 (so8 t 1) (k0_off8_inb t 1) (co9 t 1) (k0_off9_inb t 1) kk

/-- The semaphores of the three copies. -/
abbrev semW (i : Fin 2) (hi : ∀ a, (![i.1] : Fin 1 → Nat) a + S1.size a ≤ S2.size a) : DmaSem sig := ((arg17.slice (Rect.unit (s := S2) ![i.1] S1.size hi)).squeeze S_ squeezes_S1_S_).sem
abbrev semO : DmaSem sig := ((arg18.slice (Rect.unit (s := S5) ![4] S1.size inb_S5_S1_4)).squeeze S_ squeezes_S1_S_).sem
abbrev outAll : Memref sig .tc .hbm S1920x512 .bf16 := arg8.slice (Rect.unit (s := S1920x512) ![0, 0] S1920x512.size inb_S1920x512_S1920x512_0_0) (fun _ => rfl)
abbrev stAll : Memref sig .tc .vmem S1920x512 .bf16 := arg12.slice (Rect.unit (s := S1920x512) ![0, 0] S1920x512.size inb_S1920x512_S1920x512_0_0) (fun _ => rfl)

/-- The copy out and its wait. -/
def sendOut : P F PUnit.{1} :=
  .op (.enqueueDma (stAll arg12) (.here (outAll arg8)) (.dma (semO arg18)) (harg12.wordExact_slice rfl _ wordsbf16_S1920x512_S1920x512_0_0) (harg8.wordExact_slice rfl _ wordsbf16_S1920x512_S1920x512_0_0) ⟨Or.inl rfl, trivial⟩) fun _ =>
  .op (.waitDma2 (semO arg18) (stAll arg12) (outAll arg8) (harg12.wordExact_slice rfl _ wordsbf16_S1920x512_S1920x512_0_0) (harg8.wordExact_slice rfl _ wordsbf16_S1920x512_S1920x512_0_0)) fun _ => .ret ⟨⟩

/-- What follows the loop. -/
def post : P F PUnit.{1} :=
  unit arg13 arg14 arg11 arg12 harg12 oo6 inbDc6 packedDc6 <|
  wide2 arg0 arg1 arg2 arg3 arg15 arg16 harg15 harg16 0 (soG 14) (inbScale 14) (coG 14) (inbCode 14) <|
  unit' arg15 arg16 arg11 arg12 harg12 <|
  sendOut arg8 harg8 arg12 harg12 arg18

/-- What goes before it. -/
def pre (kk : P F PUnit.{1}) : P F PUnit.{1} :=
  .op (.enqueueDma arg4 (.here arg9) (.dma (semW arg17 0 inb_S2_S1_0)) harg4.wordExact harg9.wordExact ⟨Or.inl rfl, trivial⟩) fun _ =>
  .op (.enqueueDma arg6 (.here arg10) (.dma (semW arg17 1 inb_S2_S1_1)) harg6.wordExact harg10.wordExact ⟨Or.inl rfl, trivial⟩) fun _ =>
  .op (.waitDma2 (semW arg17 0 inb_S2_S1_0) arg4 arg9 harg4.wordExact harg9.wordExact) fun _ =>
  wLoop arg9 arg5 arg11 harg11 0 16 0 <|
  .op (.waitDma2 (semW arg17 1 inb_S2_S1_1) arg6 arg10 harg6.wordExact harg10.wordExact) fun _ =>
  wLoop arg10 arg7 arg11 harg11 1 16 0 <|
  wide2 arg0 arg1 arg2 arg3 arg13 arg14 harg13 harg14 0 (soG 0) (inbScale 0) (coG 0) (inbCode 0) <|
  wide2 arg0 arg1 arg2 arg3 arg13 arg14 harg13 harg14 1 (soG 1) (inbScale 1) (coG 1) (inbCode 1) kk

/-- The body. -/
def body : P F PUnit.{1} :=
  pre arg0 arg1 arg2 arg3 arg4 harg4 arg5 arg6 harg6 arg7 arg9 harg9 arg10 harg10 arg11 harg11 arg13 harg13 arg14 harg14 arg17 <|
  Scf.Loop.for k0_t1_loop k0_t1_ok PUnit.unit.{1} (fun t _ => trip arg0 arg1 arg2 arg3 arg11 arg12 harg12 arg13 harg13 arg14 harg14 arg15 harg15 arg16 harg16 t (.ret ⟨⟩)) >>= fun _ =>
  post arg0 arg1 arg2 arg3 arg8 harg8 arg11 arg12 harg12 arg13 arg14 arg15 harg15 arg16 harg16 arg18

/-- The printed trip is the trip. -/
theorem trip_eq (t : Fin k0_t1_loop.trips) :
    printedLoop (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 t = trip arg0 arg1 arg2 arg3 arg11 arg12 harg12 arg13 harg13 arg14 harg14 arg15 harg15 arg16 harg16 t (.ret ⟨⟩) := by
  sl_kernel_rfl

/-- What is printed after the loop is what follows it. -/
theorem post_eq :
    ((printedTail1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 >>= printedTail2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) >>= printedTail3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) = post arg0 arg1 arg2 arg3 arg8 harg8 arg11 arg12 harg12 arg13 arg14 arg15 harg15 arg16 harg16 arg18 := by
  sl_kernel_rfl

/-- The printed body up to the loop. -/
theorem pre_eq :
    cc0_mla_kv_backward (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 =
      pre arg0 arg1 arg2 arg3 arg4 harg4 arg5 arg6 harg6 arg7 arg9 harg9 arg10 harg10 arg11 harg11 arg13 harg13 arg14 harg14 arg17
        (((Scf.Loop.for k0_t1_loop k0_t1_ok PUnit.unit.{1} (fun t _ => printedLoop arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 t) >>= fun _ => printedTail1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) >>= printedTail2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) >>= printedTail3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) := by
  sl_kernel_rfl

/-- The printed body is this program. -/
theorem body_eq :
    cc0_mla_kv_backward (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 =
      body arg0 arg1 arg2 arg3 arg4 harg4 arg5 arg6 harg6 arg7 arg8 harg8 arg9 harg9 arg10 harg10 arg11 harg11 arg12 harg12 arg13 harg13 arg14 harg14 arg15 harg15 arg16 harg16 arg17 arg18 := by
  rw [pre_eq, Prog.bind_assoc, Prog.bind_assoc]
  unfold body
  have hl : (fun (t : Fin k0_t1_loop.trips) (_ : PUnit.{1}) => printedLoop (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 t)
      = fun t _ => trip arg0 arg1 arg2 arg3 arg11 arg12 harg12 arg13 harg13 arg14 harg14 arg15 harg15 arg16 harg16 t (.ret ⟨⟩) := by
    funext t _
    exact trip_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 t
  rw [hl]
  refine congrArg (pre arg0 arg1 arg2 arg3 arg4 harg4 arg5 arg6 harg6 arg7 arg9 harg9 arg10 harg10 arg11 harg11 arg13 harg13 arg14 harg14 arg17) ?_
  refine congrArg (_ >>= ·) ?_
  funext _
  exact (Prog.bind_assoc _ _ _).symm.trans (post_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18)
end

end Cert.KernelDcIdeal.Hand

end
-- ==== Proof.KernelDcIdeal.Tiles.lean ====
/- The weight tiles over one core's separation state: the 64 tiles of each weight leave `WB`, its codes
   widened times the scale of their head and 128 rows. -/
module

public import proofs.«01_k».proof.Proof.KernelDcIdeal.Body
public import proofs.«01_k».proof.Proof.Index
public import Idealize.ShloMosaic.Lib.Pipeline.FrameBody
public import Idealize.ShloMosaic.Lib.Ring
public import Idealize.ShloMosaic.Lib.Transfers
public import Idealize.ShloMosaic.Lib.ValueLayout

@[expose] public section

noncomputable section

namespace Cert.KernelDcIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 ix4)
open Cert.KernelDcIdeal Cert.KernelDcIdeal.Gen

variable {F : FTy → Type} [FloatOps F]

local notation "𝕄" => MT nD τ sig Unit (Elt F) ℕ (Pipeline.UD sig nD τ) ℕ

/-- Buffer contents under a memref. -/
abbrev Cont (F : FTy → Type) {sp : Space} {s : Shape} {e : EltTy} (c : Dev nD) (m : Memref sig .tc sp s e) : Type :=
  Buf (Elt F) (m.view.loc (c : Thread nD τ))

/-- The elements of a memref, held at `f`. -/
abbrev Pt {sp : Space} {s : Shape} {e : EltTy} (c : Dev nD) (m : Memref sig .tc sp s e) (q : PosShare TreeShare) (f : Cont F c m) : sProp 𝕄 :=
  m.view.loc (c : Thread nD τ) ↦[m.view.set]{q} f

/-- What a memref reads. -/
abbrev rd {sp : Space} {s : Shape} {e : EltTy} {c : Dev nD} (m : Memref sig .tc sp s e) (f : Cont F c m) : s.Idx → Elt F e :=
  m.view.read (Elt F) f

/-- The weakest precondition of a kernel program on core `c`. -/
abbrev WP (c : Dev nD) (p : P F PUnit.{1}) (Q : PUnit.{1} → sProp 𝕄) : sProp 𝕄 :=
  wp frame (wpE (defs₀ (F := F)) Variants.none (c : Thread nD τ) none) Set.univ p Q

variable {c : Dev nD}

/-! ## One memory operation -/

theorem load_step {Q : PUnit.{1} → sProp 𝕄} {s : Shape} {e : EltTy} {m : Memref sig .tc .vmem s e} {r : Rect s} {hl : m.view.LoadsAt r.toLoadRect}
    {k : (r.shape.Idx → Elt F e) → P F PUnit.{1}} {q : PosShare TreeShare} {f : Cont F c m} :
    Pt c m q f ⊢ iprop((Pt c m q f -∗ WP c (k fun x => rd m f (r.emb x)) Q) -∗ WP c (.op (.load m r.toLoadRect hl) k) Q) :=
  wp_load (defs := defs₀ (F := F)) Variants.none (c : Thread nD τ) none (Γ := .empty) Set.univ (Q := Q) (m := m) (r := r.toLoadRect) (hl := hl)
    (k := k) (S := m.view.set) (q := q) (f := f) (View.setOn_subset_set _ _)

theorem store_step {Q : PUnit.{1} → sProp 𝕄} {s : Shape} {e : EltTy} {m : Memref sig .tc .vmem s e} {r : Rect s} {w : r.shape.Idx → Elt F e}
    {ha : (m.access r).Stores Finset.univ} {hx : Finset.univ = Finset.univ ∨ ∀ a, r.stride a = 1} {k : PUnit.{1} → P F PUnit.{1}} {f : Cont F c m} :
    Pt c m fullShare f ⊢ iprop((Pt c m fullShare ((m.access r).write (Elt F) f w Finset.univ) -∗ WP c (k ⟨⟩) Q)
      -∗ WP c (.op (.store m r w Finset.univ ha hx) k) Q) :=
  wp_store (defs := defs₀ (F := F)) Variants.none (c : Thread nD τ) none (Γ := .empty) Set.univ (Q := Q) (m := m) (r := r) (w := w) (Mk := Finset.univ)
    (hx := ha) (hm := hx) (k := k) (S := m.view.set) (f := f) ((View.setOn_subset_set _ _).trans (View.set_slice_subset _ _))

theorem smem_step {Q : PUnit.{1} → sProp 𝕄} {s : Shape} {e : EltTy} {m : Memref sig .tc .smem s e} {r : Rect s} {hw : (m.access r).Loads} {x : r.shape.Idx}
    {k : Elt F e → P F PUnit.{1}} {q : PosShare TreeShare} {f : Cont F c m} :
    Pt c m q f ⊢ iprop((Pt c m q f -∗ WP c (k (rd m f (r.emb x))) Q) -∗ WP c (smemLoadElt m r hw x k) Q) :=
  wp_smemLoadElt (defs := defs₀ (F := F)) Variants.none (c : Thread nD τ) none (Γ := .empty) Set.univ (Q := Q) (m := m) (r := r) (hw := hw) (x := x)
    (k := k) (S := m.view.set) (q := q) (f := f) (View.set_slice_subset _ _)

/-! ## The weight tiles -/

/-- One tile: head `4q + k` of rows `128 rb …`, from the weight's codes and scales. -/
def WT (cd : S8192x128.Idx → Elt F .fp8e4m3) (sc : S4x16.Idx → Elt F .f32) (q rb k : Fin 4) : FVec F S1x1x128x128 .bf16 :=
  wPay k (codesQ q fun x => cd ((rWc rb).emb x)) (sc ((rWs rb q k).emb (Shape.Idx.first (numel1_S1x1.symm ▸ Nat.one_pos))))

theorem hd_lt (y : S2x8x512x256.Idx) : 2 * (y 1).1 + (y 3).1 / 128 < 16 := by
  have h1 : (y 1).1 < 8 := (y 1).2
  have h3 : (y 3).1 < 256 := (y 3).2
  omega

/-- All tiles. -/
def WB (C : Fin 2 → S8192x128.Idx → Elt F .fp8e4m3) (S : Fin 2 → S4x16.Idx → Elt F .f32) : S2x8x512x256.Idx → Elt F .bf16 := fun y =>
  WT (C ⟨(y 0).1, (y 0).2⟩) (S ⟨(y 0).1, (y 0).2⟩) ⟨(2 * (y 1).1 + (y 3).1 / 128) / 4, Nat.div_lt_of_lt_mul (hd_lt y)⟩ ⟨(y 2).1 / 128, Nat.div_lt_of_lt_mul (y 2).2⟩
    ⟨(2 * (y 1).1 + (y 3).1 / 128) % 4, Nat.mod_lt _ (by decide)⟩
    (ix4 (0 : Fin 1) (0 : Fin 1) (⟨(y 2).1 % 128, Nat.mod_lt _ (by decide)⟩ : Fin 128) (⟨(y 3).1 % 128, Nat.mod_lt _ (by decide)⟩ : Fin 128))

theorem WB_emb (C : Fin 2 → S8192x128.Idx → Elt F .fp8e4m3) (S : Fin 2 → S4x16.Idx → Elt F .f32) (i : Fin 2) (rb q k : Fin 4) (x : S1x1x128x128.Idx) :
    WB C S ((rWb i rb q k).emb x) = WT (C i) (S i) q rb k x := by
  have l0 : (x 0).1 < 1 := (x 0).2
  have l1 : (x 1).1 < 1 := (x 1).2
  have l2 : (x 2).1 < 128 := (x 2).2
  have l3 : (x 3).1 < 128 := (x 3).2
  have e0 : (((rWb i rb q k).emb x) 0).1 = i.1 := by show i.1 + 1 * (x 0).1 = _; omega
  have e1 : (((rWb i rb q k).emb x) 1).1 = (4 * q.1 + k.1) / 2 := by show (4 * q.1 + k.1) / 2 + 1 * (x 1).1 = _; omega
  have e2 : (((rWb i rb q k).emb x) 2).1 = 128 * rb.1 + (x 2).1 := by show 128 * rb.1 + 1 * (x 2).1 = _; omega
  have e3 : (((rWb i rb q k).emb x) 3).1 = 128 * ((4 * q.1 + k.1) % 2) + (x 3).1 := by show 128 * ((4 * q.1 + k.1) % 2) + 1 * (x 3).1 = _; omega
  have eh : 2 * (((rWb i rb q k).emb x) 1).1 + (((rWb i rb q k).emb x) 3).1 / 128 = 4 * q.1 + k.1 := by rw [e1, e3]; omega
  have hi : (⟨(((rWb i rb q k).emb x) 0).1, (((rWb i rb q k).emb x) 0).2⟩ : Fin 2) = i := Fin.ext e0
  have hq : (⟨(2 * (((rWb i rb q k).emb x) 1).1 + (((rWb i rb q k).emb x) 3).1 / 128) / 4, Nat.div_lt_of_lt_mul (hd_lt _)⟩ : Fin 4) = q := Fin.ext (by show _ / 4 = _; rw [eh]; omega)
  have hk : (⟨(2 * (((rWb i rb q k).emb x) 1).1 + (((rWb i rb q k).emb x) 3).1 / 128) % 4, Nat.mod_lt _ (by decide)⟩ : Fin 4) = k := Fin.ext (by show _ % 4 = _; rw [eh]; omega)
  have hr : (⟨(((rWb i rb q k).emb x) 2).1 / 128, Nat.div_lt_of_lt_mul (((rWb i rb q k).emb x) 2).2⟩ : Fin 4) = rb := Fin.ext (by show (((rWb i rb q k).emb x) 2).1 / 128 = _; rw [e2]; omega)
  unfold WB
  rw [hi, hq, hk, hr]
  congr 1
  funext a
  apply Fin.ext
  match a with
  | ⟨0, _⟩ => show 0 = (x 0).1; omega
  | ⟨1, _⟩ => show 0 = (x 1).1; omega
  | ⟨2, _⟩ => show (((rWb i rb q k).emb x) 2).1 % 128 = (x 2).1; rw [e2]; omega
  | ⟨3, _⟩ => show (((rWb i rb q k).emb x) 3).1 % 128 = (x 3).1; rw [e3]; omega

section
variable {cod : Memref sig .tc .vmem S8192x128 .fp8e4m3} {scal : Memref sig .tc .smem S4x16 .f32} {arg11 : Memref sig .tc .vmem S2x8x512x256 .bf16} {harg11 : arg11.IsWhole}
  {qc qs : PosShare TreeShare} {fc : Cont F c cod} {fs : Cont F c scal}
  {C : Fin 2 → S8192x128.Idx → Elt F .fp8e4m3} {S : Fin 2 → S4x16.Idx → Elt F .f32}

/-- The first `n` tiles are there. -/
def WbOk (C : Fin 2 → S8192x128.Idx → Elt F .fp8e4m3) (S : Fin 2 → S4x16.Idx → Elt F .f32) (n : ℕ) (f : Cont F c arg11) : Prop :=
  ∀ y : S2x8x512x256.Idx, 64 * (y 0).1 + 16 * ((2 * (y 1).1 + (y 3).1 / 128) / 4) + 4 * ((y 2).1 / 128) + (2 * (y 1).1 + (y 3).1 / 128) % 4 < n → rd arg11 f y = WB C S y

theorem wStep_wp {Q : PUnit.{1} → sProp 𝕄} {kk : P F PUnit.{1}} {n : ℕ} {i : Fin 2} {q rb k : Fin 4} (hn : n = 64 * i.1 + 16 * q.1 + 4 * rb.1 + k.1)
    {w : FVec F S128x4x128 .fp8e4m3} (hw : w = codesQ q fun x => C i ((rWc rb).emb x)) (hs : rd scal fs = S i) {f : Cont F c arg11} (h : WbOk C S n f) :
    iprop(Pt c scal qs fs ∗ Pt c arg11 fullShare f
      ∗ (∀ f', ⌜WbOk C S (n + 1) f'⌝ -∗ Pt c scal qs fs -∗ Pt c arg11 fullShare f' -∗ WP c kk Q))
      ⊢ WP c (wStep scal arg11 harg11 i q rb k w kk) Q := by
  unfold wStep
  iintro ⟨HS, H, Hk⟩
  iapply smem_step $$ HS; iintro HS
  iapply load_step $$ H; iintro H
  iapply store_step $$ H; iintro H
  suffices hs : WbOk C S (n + 1) _ by iapply Hk $$ %_ %hs HS H
  intro y hy
  by_cases hm : y ∈ (Finset.univ : Finset S1x1x128x128.Idx).map (rWb i rb q k).emb
  · obtain ⟨x, -, rfl⟩ := Finset.mem_map.mp hm
    rw [WB_emb]
    refine (View.read_slice_write_emb _ _ _ (Finset.mem_univ x)).trans ?_
    rw [hw, hs]
    rfl
  · rw [← h y ?_]
    · exact View.read_slice_write_of_not_mem _ _ _ _ hm
    · by_contra hlt
      have l0 : (y 0).1 < 2 := (y 0).2
      have l1 : (y 1).1 < 8 := (y 1).2
      have l2 : (y 2).1 < 512 := (y 2).2
      have l3 : (y 3).1 < 256 := (y 3).2
      have e : 64 * (y 0).1 + 16 * ((2 * (y 1).1 + (y 3).1 / 128) / 4) + 4 * ((y 2).1 / 128) + (2 * (y 1).1 + (y 3).1 / 128) % 4 = 64 * i.1 + 16 * q.1 + 4 * rb.1 + k.1 := by omega
      apply hm
      refine Finset.mem_map.mpr ⟨ix4 (0 : Fin 1) (0 : Fin 1) (⟨(y 2).1 % 128, Nat.mod_lt _ (by decide)⟩ : Fin 128) (⟨(y 3).1 % 128, Nat.mod_lt _ (by decide)⟩ : Fin 128), Finset.mem_univ _, ?_⟩
      funext a
      apply Fin.ext
      match a with
      | ⟨0, _⟩ => show i.1 + 1 * 0 = (y 0).1; omega
      | ⟨1, _⟩ => show (4 * q.1 + k.1) / 2 + 1 * 0 = (y 1).1; omega
      | ⟨2, _⟩ => show 128 * rb.1 + 1 * ((y 2).1 % 128) = (y 2).1; omega
      | ⟨3, _⟩ => show 128 * ((4 * q.1 + k.1) % 2) + 1 * ((y 3).1 % 128) = (y 3).1; omega

theorem wBlock_wp {Q : PUnit.{1} → sProp 𝕄} {kk : P F PUnit.{1}} {n : ℕ} {i : Fin 2} {q rb : Fin 4} (hn : n = 64 * i.1 + 16 * q.1 + 4 * rb.1)
    (hc : rd cod fc = C i) (hs : rd scal fs = S i) {f : Cont F c arg11} (h : WbOk C S n f) :
    iprop(Pt c cod qc fc ∗ Pt c scal qs fs ∗ Pt c arg11 fullShare f
      ∗ (∀ f', ⌜WbOk C S (n + 4) f'⌝ -∗ Pt c cod qc fc -∗ Pt c scal qs fs -∗ Pt c arg11 fullShare f' -∗ WP c kk Q))
      ⊢ WP c (wBlock cod scal arg11 harg11 i q rb kk) Q := by
  unfold wBlock
  iintro ⟨HC, HS, H, Hk⟩
  iapply load_step $$ HC; iintro HC
  have hw : codesQ q (fun x => rd cod fc ((rWc rb).emb x)) = codesQ q fun x => C i ((rWc rb).emb x) := by rw [hc]
  iapply (wStep_wp (k := 0) (by rw [hn]; rfl) hw hs h)
  isplitl [HS]; · iexact HS
  isplitl [H]; · iexact H
  iintro %f1 %h1 HS H
  iapply (wStep_wp (k := 1) (by rw [hn]; rfl) hw hs h1)
  isplitl [HS]; · iexact HS
  isplitl [H]; · iexact H
  iintro %f2 %h2 HS H
  iapply (wStep_wp (k := 2) (by rw [hn]; rfl) hw hs h2)
  isplitl [HS]; · iexact HS
  isplitl [H]; · iexact H
  iintro %f3 %h3 HS H
  iapply (wStep_wp (k := 3) (by rw [hn]; rfl) hw hs h3)
  isplitl [HS]; · iexact HS
  isplitl [H]; · iexact H
  iintro %f4 %h4 HS H
  iapply Hk $$ %_ %h4 HC HS H

theorem wLoop_wp {Q : PUnit.{1} → sProp 𝕄} {kk : P F PUnit.{1}} {i : Fin 2} (hc : rd cod fc = C i) (hs : rd scal fs = S i) (m : ℕ) :
    ∀ (n : ℕ) (hn : n + m ≤ 16) (f : Cont F c arg11) (h : WbOk C S (64 * i.1 + 4 * n) f),
    iprop(Pt c cod qc fc ∗ Pt c scal qs fs ∗ Pt c arg11 fullShare f
      ∗ (∀ f', ⌜WbOk C S (64 * i.1 + 4 * (n + m)) f'⌝ -∗ Pt c cod qc fc -∗ Pt c scal qs fs -∗ Pt c arg11 fullShare f' -∗ WP c kk Q))
      ⊢ WP c (wLoop cod scal arg11 harg11 i m n kk) Q := by
  induction m with
  | zero =>
    intro n hn f h
    unfold wLoop
    iintro ⟨HC, HS, H, Hk⟩
    iapply Hk $$ %_ %h HC HS H
  | succ m ih =>
    intro n hn f h
    unfold wLoop
    iintro ⟨HC, HS, H, Hk⟩
    iapply (wBlock_wp (by show _ = 64 * i.1 + 16 * (n / 4 % 4) + 4 * (n % 4); omega) hc hs h)
    isplitl [HC]; · iexact HC
    isplitl [HS]; · iexact HS
    isplitl [H]; · iexact H
    iintro %f' %h' HC HS H
    iapply (ih (n + 1) (by omega) f' h')
    isplitl [HC]; · iexact HC
    isplitl [HS]; · iexact HS
    isplitl [H]; · iexact H
    iintro %f2 %h2 HC HS H
    have h3 : WbOk C S (64 * i.1 + 4 * (n + (m + 1))) f2 := by
      rw [show n + (m + 1) = n + 1 + m by omega]
      exact h2
    iapply Hk $$ %_ %h3 HC HS H
end

end Cert.KernelDcIdeal.Hand

end
-- ==== Proof.KernelDcIdeal.Wide.lean ====
/- The widened groups over one core's separation state: the 64 token pairs of a group leave, in its half
   of a buffer, the sixteen heads of every token times their scales, eighteen rows a token. -/
module

public import proofs.«01_k».proof.Proof.KernelDcIdeal.Tiles

@[expose] public section

noncomputable section

namespace Cert.KernelDcIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 ix4)
open Cert.KernelDcIdeal Cert.KernelDcIdeal.Gen

variable {F : FTy → Type} [FloatOps F]

local notation "𝕄" => MT nD τ sig Unit (Elt F) ℕ (Pipeline.UD sig nD τ) ℕ

variable {c : Dev nD}

abbrev rSc (g : Fin 15) : Rect S3x16x640 := Rect.unit (s := S3x16x640) (soG g) S1x16x128.size (inbScale g)
abbrev rCode (g : Fin 15) (p : Fin 64) : Rect S30720x128 := Rect.unit (s := S30720x128) (coG g p) S32x128.size (inbCode g p)

/-- The sixteen rows of token `t` of group `g`. -/
def WR (cd : S30720x128.Idx → Elt F .fp8e5m2) (sc : S3x16x640.Idx → Elt F .f32) (g : Fin 15) (t : ℕ) : FVec F S16x128 .bf16 :=
  widePay (pOf (t / 2)) ⟨t % 2, Nat.mod_lt _ (by decide)⟩ (fun z => sc ((rSc g).emb z)) (fun z => cd ((rCode g (pOf (t / 2))).emb z))

theorem WR_eq (cd : S30720x128.Idx → Elt F .fp8e5m2) (sc : S3x16x640.Idx → Elt F .f32) (g : Fin 15) (p : Fin 64) (i : Fin 2) (t : ℕ) (ht : t = 2 * p.1 + i.1) :
    WR cd sc g t = widePay p i (fun z => sc ((rSc g).emb z)) (fun z => cd ((rCode g p).emb z)) := by
  have hp : pOf (t / 2) = p := Fin.ext (by show t / 2 % 64 = p.1; omega)
  have hi : (⟨t % 2, Nat.mod_lt _ (by decide)⟩ : Fin 2) = i := Fin.ext (by show t % 2 = i.1; omega)
  unfold WR
  rw [hp, hi]

def gOf (n : ℕ) : Fin 15 := ⟨n % 15, Nat.mod_lt _ (by decide)⟩

/-- Row `x` of token `t` of a buffer. -/
abbrev natIx (t : ℕ) (ht : t < 256) (x : S16x128.Idx) : S4608x128.Idx :=
  ix2 (⟨18 * t + (x 0).1, by have h : (x 0).1 < 16 := (x 0).2; omega⟩ : Fin 4608) (⟨(x 1).1, (x 1).2⟩ : Fin 128)

section
variable {codes : Memref sig .tc .vmem S30720x128 .fp8e5m2} {sc : Memref sig .tc .vmem S3x16x640 .f32} {nat : Memref sig .tc .vmem S4608x128 .bf16} {hnat : nat.IsWhole}
  {qc qs : PosShare TreeShare} {fc : Cont F c codes} {fs : Cont F c sc}

/-- The first `n` tokens of unit `u` are there. -/
def NatOk (cd : S30720x128.Idx → Elt F .fp8e5m2) (sc : S3x16x640.Idx → Elt F .f32) (u n : ℕ) (f : Cont F c nat) : Prop :=
  ∀ (t : ℕ) (ht : t < 256) (x : S16x128.Idx), t < n → rd nat f (natIx t ht x) = WR cd sc (gOf (2 * u + t / 128)) (t % 128) x

theorem wideSt_wp {Q : PUnit.{1} → sProp 𝕄} {kk : P F PUnit.{1}} {cd : S30720x128.Idx → Elt F .fp8e5m2} {sd : S3x16x640.Idx → Elt F .f32} {u n : ℕ} {h : Fin 2} {p : Fin 64} {i : Fin 2} (hn : n = 128 * h.1 + 2 * p.1 + i.1)
    {s : Vec F S1x16x128 .f32} {v : Vec F S32x128 .fp8e5m2} (hs : s = fun z => sd ((rSc (gOf (2 * u + h.1))).emb z)) (hv : v = fun z => cd ((rCode (gOf (2 * u + h.1)) p).emb z))
    {f : Cont F c nat} (hf : NatOk cd sd u n f) :
    iprop(Pt c nat fullShare f ∗ (∀ f', ⌜NatOk cd sd u (n + 1) f'⌝ -∗ Pt c nat fullShare f' -∗ WP c kk Q))
      ⊢ WP c (wideSt nat hnat h p i s v kk) Q := by
  unfold wideSt
  iintro ⟨H, Hk⟩
  iapply load_step $$ H; iintro H
  iapply store_step $$ H; iintro H
  suffices hs : NatOk cd sd u (n + 1) _ by iapply Hk $$ %_ %hs H
  intro t ht x hlt
  have l0 : (x 0).1 < 16 := (x 0).2
  by_cases e : t = n
  · have ey : natIx t ht x = (rNat h p i).emb x := by
      funext a
      apply Fin.ext
      match a with
      | ⟨0, _⟩ => show 18 * t + (x 0).1 = 2304 * h.1 + (36 * p.1 + 18 * i.1) + 1 * (x 0).1; omega
      | ⟨1, _⟩ => show (x 1).1 = 0 + 1 * (x 1).1; omega
    rw [ey]
    refine (View.read_slice_write_emb _ _ _ (Finset.mem_univ x)).trans ?_
    rw [WR_eq cd sd _ p i (t % 128) (by omega), show t / 128 = h.1 by omega, hs, hv]
    rfl
  · rw [← hf t ht x (by omega)]
    refine View.read_slice_write_of_not_mem _ _ _ _ fun hx => ?_
    obtain ⟨z, -, hz⟩ := Finset.mem_map.mp hx
    have h0 : 2304 * h.1 + (36 * p.1 + 18 * i.1) + 1 * (z 0).1 = 18 * t + (x 0).1 := congrArg (fun z : S4608x128.Idx => (z 0).1) hz
    have lz : (z 0).1 < 16 := (z 0).2
    omega

theorem wideLoop_wp {Q : PUnit.{1} → sProp 𝕄} {kk : P F PUnit.{1}} {u : ℕ} {h : Fin 2} {hco : CodeInb (coG (gOf (2 * u + h.1)))}
    {s : Vec F S1x16x128 .f32} (hs : s = fun z => rd sc fs ((rSc (gOf (2 * u + h.1))).emb z)) (m : ℕ) :
    ∀ (n : ℕ) (hn : n + m ≤ 64) (f : Cont F c nat) (hf : NatOk (rd codes fc) (rd sc fs) u (128 * h.1 + 2 * n) f),
    iprop(Pt c codes qc fc ∗ Pt c nat fullShare f
      ∗ (∀ f', ⌜NatOk (rd codes fc) (rd sc fs) u (128 * h.1 + 2 * (n + m)) f'⌝ -∗ Pt c codes qc fc -∗ Pt c nat fullShare f' -∗ WP c kk Q))
      ⊢ WP c (wideLoop codes nat hnat h (coG (gOf (2 * u + h.1))) hco s m n kk) Q := by
  induction m with
  | zero =>
    intro n hn f hf
    unfold wideLoop
    iintro ⟨HC, H, Hk⟩
    iapply Hk $$ %_ %hf HC H
  | succ m ih =>
    intro n hn f hf
    unfold wideLoop wideStep
    iintro ⟨HC, H, Hk⟩
    iapply load_step $$ HC; iintro HC
    iapply (wideSt_wp (i := 0) (by show _ = 128 * h.1 + 2 * (n % 64) + 0; omega) hs rfl hf)
    isplitl [H]; · iexact H
    iintro %f1 %h1 H
    iapply (wideSt_wp (i := 1) (by show _ = 128 * h.1 + 2 * (n % 64) + 1; omega) hs rfl h1)
    isplitl [H]; · iexact H
    iintro %f2 %h2 H
    iapply (ih (n + 1) (by omega) f2 h2)
    isplitl [HC]; · iexact HC
    isplitl [H]; · iexact H
    iintro %f3 %h3 HC H
    have h4 : NatOk (rd codes fc) (rd sc fs) u (128 * h.1 + 2 * (n + (m + 1))) f3 := by
      rw [show n + (m + 1) = n + 1 + m by omega]
      exact h3
    iapply Hk $$ %_ %h4 HC H

theorem wide_wp {Q : PUnit.{1} → sProp 𝕄} {kk : P F PUnit.{1}} {u : ℕ} {h : Fin 2} {so : Fin 3 → ℕ} {hso : ScaleInb so} {co : CodeOff} {hco : CodeInb co}
    (eso : so = soG (gOf (2 * u + h.1))) (eco : co = coG (gOf (2 * u + h.1))) {f : Cont F c nat} (hf : NatOk (rd codes fc) (rd sc fs) u (128 * h.1) f) :
    iprop(Pt c codes qc fc ∗ Pt c sc qs fs ∗ Pt c nat fullShare f
      ∗ (∀ f', ⌜NatOk (rd codes fc) (rd sc fs) u (128 * h.1 + 128) f'⌝ -∗ Pt c codes qc fc -∗ Pt c sc qs fs -∗ Pt c nat fullShare f' -∗ WP c kk Q))
      ⊢ WP c (wide codes sc nat hnat h so hso co hco kk) Q := by
  subst eso eco
  unfold wide
  iintro ⟨HC, HS, H, Hk⟩
  iapply load_step $$ HS; iintro HS
  iapply (wideLoop_wp rfl 64 0 (by decide) f hf)
  isplitl [HC]; · iexact HC
  isplitl [H]; · iexact H
  iintro %f1 %h1 HC H
  iapply Hk $$ %_ %h1 HC HS H
end

/-! ## Both tensors -/

section
variable {arg0 : Memref sig .tc .vmem S30720x128 .fp8e5m2} {arg1 : Memref sig .tc .vmem S3x16x640 .f32} {arg2 : Memref sig .tc .vmem S30720x128 .fp8e5m2} {arg3 : Memref sig .tc .vmem S3x16x640 .f32}
  {natk natv : Memref sig .tc .vmem S4608x128 .bf16} {hk : natk.IsWhole} {hv : natv.IsWhole}
  {q0 q1 q2 q3 : PosShare TreeShare} {f0 : Cont F c arg0} {f1 : Cont F c arg1} {f2 : Cont F c arg2} {f3 : Cont F c arg3}

/-- The codes and scales of both tensors. -/
def Ins (c : Dev nD) (arg0 : Memref sig .tc .vmem S30720x128 .fp8e5m2) (arg1 : Memref sig .tc .vmem S3x16x640 .f32) (arg2 : Memref sig .tc .vmem S30720x128 .fp8e5m2) (arg3 : Memref sig .tc .vmem S3x16x640 .f32)
    (q0 q1 q2 q3 : PosShare TreeShare) (f0 : Cont F c arg0) (f1 : Cont F c arg1) (f2 : Cont F c arg2) (f3 : Cont F c arg3) : sProp 𝕄 :=
  iprop(Pt c arg0 q0 f0 ∗ Pt c arg1 q1 f1 ∗ Pt c arg2 q2 f2 ∗ Pt c arg3 q3 f3)

/-- The first `n` tokens of unit `u` of both tensors are there. -/
def Nats (c : Dev nD) (natk natv : Memref sig .tc .vmem S4608x128 .bf16) (kc : S30720x128.Idx → Elt F .fp8e5m2) (ks : S3x16x640.Idx → Elt F .f32)
    (vc : S30720x128.Idx → Elt F .fp8e5m2) (vs : S3x16x640.Idx → Elt F .f32) (u n : ℕ) : sProp 𝕄 :=
  iprop((∃ fk : Cont F c natk, ⌜NatOk kc ks u n fk⌝ ∗ Pt c natk fullShare fk) ∗ (∃ fv : Cont F c natv, ⌜NatOk vc vs u n fv⌝ ∗ Pt c natv fullShare fv))

/-- With no token asked for, any contents do. -/
theorem Nats_zero {kc : S30720x128.Idx → Elt F .fp8e5m2} {ks : S3x16x640.Idx → Elt F .f32}
    {vc : S30720x128.Idx → Elt F .fp8e5m2} {vs : S3x16x640.Idx → Elt F .f32} {u : ℕ} {fk : Cont F c natk} {fv : Cont F c natv} :
    iprop(Pt c natk fullShare fk ∗ Pt c natv fullShare fv) ⊢ Nats c natk natv kc ks vc vs u 0 := by
  unfold Nats
  iintro ⟨H1, H2⟩
  isplitl [H1]
  · iexists fk
    isplitr; · ipureintro; exact fun _ _ _ h => absurd h (Nat.not_lt_zero _)
    iexact H1
  · iexists fv
    isplitr; · ipureintro; exact fun _ _ _ h => absurd h (Nat.not_lt_zero _)
    iexact H2

theorem Nats_any {kc : S30720x128.Idx → Elt F .fp8e5m2} {ks : S3x16x640.Idx → Elt F .f32}
    {vc : S30720x128.Idx → Elt F .fp8e5m2} {vs : S3x16x640.Idx → Elt F .f32} {u u' n : ℕ} :
    Nats c natk natv kc ks vc vs u n ⊢ Nats c natk natv kc ks vc vs u' 0 := by
  unfold Nats
  iintro ⟨⟨%fk, -, H1⟩, ⟨%fv, -, H2⟩⟩
  isplitl [H1]
  · iexists fk
    isplitr; · ipureintro; exact fun _ _ _ h => absurd h (Nat.not_lt_zero _)
    iexact H1
  · iexists fv
    isplitr; · ipureintro; exact fun _ _ _ h => absurd h (Nat.not_lt_zero _)
    iexact H2

theorem wide2_wp {Q : PUnit.{1} → sProp 𝕄} {kk : P F PUnit.{1}} {u n : ℕ} {h : Fin 2} {so : Fin 3 → ℕ} {hso : ScaleInb so} {co : CodeOff} {hco : CodeInb co}
    (eso : so = soG (gOf (2 * u + h.1))) (eco : co = coG (gOf (2 * u + h.1))) (hn : n = 128 * h.1) :
    iprop(Ins c arg0 arg1 arg2 arg3 q0 q1 q2 q3 f0 f1 f2 f3 ∗ Nats c natk natv (rd arg0 f0) (rd arg1 f1) (rd arg2 f2) (rd arg3 f3) u n
      ∗ (Ins c arg0 arg1 arg2 arg3 q0 q1 q2 q3 f0 f1 f2 f3 -∗ Nats c natk natv (rd arg0 f0) (rd arg1 f1) (rd arg2 f2) (rd arg3 f3) u (n + 128) -∗ WP c kk Q))
      ⊢ WP c (wide2 arg0 arg1 arg2 arg3 natk natv hk hv h so hso co hco kk) Q := by
  subst hn
  unfold wide2 Ins Nats
  iintro ⟨⟨H0, H1, H2, H3⟩, ⟨⟨%fk, %hk', HK⟩, ⟨%fv, %hv', HV⟩⟩, Hk⟩
  iapply (wide_wp eso eco hk')
  isplitl [H0]; · iexact H0
  isplitl [H1]; · iexact H1
  isplitl [HK]; · iexact HK
  iintro %gk %ek H0 H1 HK
  iapply (wide_wp eso eco hv')
  isplitl [H2]; · iexact H2
  isplitl [H3]; · iexact H3
  isplitl [HV]; · iexact HV
  iintro %gv %ev H2 H3 HV
  iapply Hk $$ [H0 H1 H2 H3] [HK HV]
  · isplitl [H0]; · iexact H0
    isplitl [H1]; · iexact H1
    isplitl [H2]; · iexact H2
    iexact H3
  · isplitl [HK]
    · iexists gk
      isplitr; · ipureintro; exact ek
      iexact HK
    · iexists gv
      isplitr; · ipureintro; exact ev
      iexact HV
end

end Cert.KernelDcIdeal.Hand

end
-- ==== Proof.KernelDcIdeal.Units.lean ====
/- A unit of `dc` over one core's separation state: the sixteen products of the widened tokens with the
   weight tiles, summed, turned and stored as four column blocks. -/
module

public import proofs.«01_k».proof.Proof.KernelDcIdeal.Wide

@[expose] public section

noncomputable section

namespace Cert.KernelDcIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 ix4)
open Cert.KernelDcIdeal Cert.KernelDcIdeal.Gen Cert.Num

variable {F : FTy → Type} [FloatOps F]

local notation "𝕄" => MT nD τ sig Unit (Elt F) ℕ (Pipeline.UD sig nD τ) ℕ

variable {c : Dev nD}

/-! ## The right factor of a product, at an index -/

theorem sides_at (w : FVec F S256x2x128 .bf16) (t : Fin 256) (s : Fin 2) (d : Fin 128) (n : Fin 256) (hn : n.1 = 128 * s.1 + d.1) :
    sides w (ix2 t n) = w (ix3 t s d) := by
  unfold sides
  match s, hn with
  | 0, hn =>
    refine (concatenate_pair_apply_left (s₁ := S256x128) (s₂ := S256x128) (t := S256x256) 1 _ _ concatenates_S256x128_S256x128_S256x256_d1 (ix2 t n) rfl (ix2 t d) fun b => ?_).trans ?_
    · match b with
      | 0 => rfl
      | 1 => show d.1 = n.1; simp at hn; omega
    refine (cast_at _ _ _ (ix3 t (0 : Fin 1) d) ?_).trans (congrArg w (funext fun a => Fin.ext ?_))
    · rw [Shape.rowMajor_val_two, Shape.rowMajor_val_three]
      show (t.1 * 1 + 0) * 128 + d.1 = t.1 * 128 + d.1
      omega
    match a with
    | 0 => show 0 + t.1 = t.1; omega
    | 1 => rfl
    | 2 => show 0 + d.1 = d.1; omega
  | 1, hn =>
    refine (concatenate_pair_apply_right (s₁ := S256x128) (s₂ := S256x128) (t := S256x256) 1 _ _ concatenates_S256x128_S256x128_S256x256_d1 (ix2 t n) rfl rfl (ix2 t d) (fun b hb => ?_) ?_).trans ?_
    · match b with
      | 0 => rfl
      | 1 => exact absurd rfl hb
    · show d.1 + 128 = n.1; simp at hn; omega
    refine (cast_at _ _ _ (ix3 t (0 : Fin 1) d) ?_).trans (congrArg w (funext fun a => Fin.ext ?_))
    · rw [Shape.rowMajor_val_two, Shape.rowMajor_val_three]
      show (t.1 * 1 + 0) * 128 + d.1 = t.1 * 128 + d.1
      omega
    match a with
    | 0 => show 0 + t.1 = t.1; omega
    | 1 => rfl
    | 2 => show 0 + d.1 = d.1; omega

theorem pair2_at (j : Fin 8) (v : Vec F S4608x128 .bf16) (t : Fin 256) (s : Fin 2) (d : Fin 128) :
    pair2 j v (ix3 t s d) = v (ix2 (⟨18 * t.1 + (2 * j.1 + s.1), by omega⟩ : Fin 4608) d) := by
  unfold pair2
  refine (cast_at _ _ _ (ix4 t (0 : Fin 1) s d) ?_).trans ((cast_at v _ _ (ix2 (⟨18 * t.1 + (2 * j.1 + s.1), by omega⟩ : Fin 4608) d) ?_))
  · rw [Shape.rowMajor_val_three, Shape.rowMajor_val_four]
    show ((t.1 * 1 + 0) * 2 + s.1) * 128 + d.1 = (t.1 * 2 + s.1) * 128 + d.1
    omega
  · rw [Shape.rowMajor_val_two, Shape.rowMajor_val_four]
    show (18 * t.1 + (2 * j.1 + s.1)) * 128 + d.1 = (((0 + t.1) * 9 + (j.1 + 0)) * 2 + (0 + s.1)) * 128 + (0 + d.1)
    omega

theorem sides'_at (w : FVec F S128x2x128 .bf16) (t : Fin 128) (s : Fin 2) (d : Fin 128) (n : Fin 256) (hn : n.1 = 128 * s.1 + d.1) :
    sides' w (ix2 t n) = w (ix3 t s d) := by
  unfold sides'
  match s, hn with
  | 0, hn =>
    refine (concatenate_pair_apply_left (s₁ := S128x128) (s₂ := S128x128) (t := S128x256) 1 _ _ concatenates_S128x128_S128x128_S128x256_d1 (ix2 t n) rfl (ix2 t d) fun b => ?_).trans ?_
    · match b with
      | 0 => rfl
      | 1 => show d.1 = n.1; simp at hn; omega
    refine (cast_at _ _ _ (ix3 t (0 : Fin 1) d) ?_).trans (congrArg w (funext fun a => Fin.ext ?_))
    · rw [Shape.rowMajor_val_two, Shape.rowMajor_val_three]
      show (t.1 * 1 + 0) * 128 + d.1 = t.1 * 128 + d.1
      omega
    match a with
    | 0 => show 0 + t.1 = t.1; omega
    | 1 => rfl
    | 2 => show 0 + d.1 = d.1; omega
  | 1, hn =>
    refine (concatenate_pair_apply_right (s₁ := S128x128) (s₂ := S128x128) (t := S128x256) 1 _ _ concatenates_S128x128_S128x128_S128x256_d1 (ix2 t n) rfl rfl (ix2 t d) (fun b hb => ?_) ?_).trans ?_
    · match b with
      | 0 => rfl
      | 1 => exact absurd rfl hb
    · show d.1 + 128 = n.1; simp at hn; omega
    refine (cast_at _ _ _ (ix3 t (0 : Fin 1) d) ?_).trans (congrArg w (funext fun a => Fin.ext ?_))
    · rw [Shape.rowMajor_val_two, Shape.rowMajor_val_three]
      show (t.1 * 1 + 0) * 128 + d.1 = t.1 * 128 + d.1
      omega
    match a with
    | 0 => show 0 + t.1 = t.1; omega
    | 1 => rfl
    | 2 => show 0 + d.1 = d.1; omega

theorem pair2'_at (j : Fin 8) (v : Vec F S2304x128 .bf16) (t : Fin 128) (s : Fin 2) (d : Fin 128) :
    pair2' j v (ix3 t s d) = v (ix2 (⟨18 * t.1 + (2 * j.1 + s.1), by omega⟩ : Fin 2304) d) := by
  unfold pair2'
  refine (cast_at _ _ _ (ix4 t (0 : Fin 1) s d) ?_).trans ((cast_at v _ _ (ix2 (⟨18 * t.1 + (2 * j.1 + s.1), by omega⟩ : Fin 2304) d) ?_))
  · rw [Shape.rowMajor_val_three, Shape.rowMajor_val_four]
    show ((t.1 * 1 + 0) * 2 + s.1) * 128 + d.1 = (t.1 * 2 + s.1) * 128 + d.1
    omega
  · rw [Shape.rowMajor_val_two, Shape.rowMajor_val_four]
    show (18 * t.1 + (2 * j.1 + s.1)) * 128 + d.1 = (((0 + t.1) * 9 + (j.1 + 0)) * 2 + (0 + s.1)) * 128 + (0 + d.1)
    omega

/-! ## What a unit computes -/

section
variable (cd : S30720x128.Idx → Elt F .fp8e5m2) (sc : S3x16x640.Idx → Elt F .f32)

/-- The pair `j` of heads of unit `u`'s 256 tokens. -/
def SD (u : ℕ) (j : Fin 8) : FVec F S256x256 .bf16 := fun x =>
  WR cd sc (gOf (2 * u + (x 0).1 / 128)) ((x 0).1 % 128)
    (ix2 (⟨2 * j.1 + (x 1).1 / 128, by have h : (x 1).1 < 256 := (x 1).2; omega⟩ : Fin 16) (⟨(x 1).1 % 128, Nat.mod_lt _ (by decide)⟩ : Fin 128))
/-- The same for the 128 tokens of the last unit. -/
def SD' (j : Fin 8) : FVec F S128x256 .bf16 := fun x =>
  WR cd sc (gOf 14) (x 0).1
    (ix2 (⟨2 * j.1 + (x 1).1 / 128, by have h : (x 1).1 < 256 := (x 1).2; omega⟩ : Fin 16) (⟨(x 1).1 % 128, Nat.mod_lt _ (by decide)⟩ : Fin 128))

variable {cd sc}

theorem sides_nat {nat : Memref sig .tc .vmem S4608x128 .bf16} {f : Cont F c nat} {u : ℕ} (h : NatOk cd sc u 256 f) (j : Fin 8) :
    sides (pair2 j fun x => rd nat f (rAll.emb x)) = SD cd sc u j := by
  funext x
  have l0 : (x 0).1 < 256 := (x 0).2
  have l1 : (x 1).1 < 256 := (x 1).2
  have ex : x = ix2 (⟨(x 0).1, l0⟩ : Fin 256) (⟨(x 1).1, l1⟩ : Fin 256) := by
    funext a
    match a with
    | 0 => rfl
    | 1 => rfl
  refine (congrArg _ ex).trans ((sides_at _ _ (⟨(x 1).1 / 128, by omega⟩ : Fin 2) (⟨(x 1).1 % 128, by omega⟩ : Fin 128) _ (by show (x 1).1 = 128 * ((x 1).1 / 128) + (x 1).1 % 128; omega)).trans
    ((pair2_at _ _ _ _ _).trans (Eq.trans (congrArg (rd nat f) ?_) (h (x 0).1 l0 (ix2 (⟨2 * j.1 + (x 1).1 / 128, by omega⟩ : Fin 16) (⟨(x 1).1 % 128, by omega⟩ : Fin 128)) l0))))
  funext a
  apply Fin.ext
  match a with
  | ⟨0, _⟩ => show 0 + 1 * (18 * (x 0).1 + (2 * j.1 + (x 1).1 / 128)) = 18 * (x 0).1 + (2 * j.1 + (x 1).1 / 128); omega
  | ⟨1, _⟩ => show 0 + 1 * ((x 1).1 % 128) = (x 1).1 % 128; omega

theorem sides'_nat {nat : Memref sig .tc .vmem S4608x128 .bf16} {f : Cont F c nat} (h : NatOk cd sc 7 128 f) (j : Fin 8) :
    sides' (pair2' j fun x => rd nat f (rHalf.emb x)) = SD' cd sc j := by
  funext x
  have l0 : (x 0).1 < 128 := (x 0).2
  have l1 : (x 1).1 < 256 := (x 1).2
  have ex : x = ix2 (⟨(x 0).1, l0⟩ : Fin 128) (⟨(x 1).1, l1⟩ : Fin 256) := by
    funext a
    match a with
    | 0 => rfl
    | 1 => rfl
  refine (congrArg _ ex).trans ((sides'_at _ _ (⟨(x 1).1 / 128, by omega⟩ : Fin 2) (⟨(x 1).1 % 128, by omega⟩ : Fin 128) _ (by show (x 1).1 = 128 * ((x 1).1 / 128) + (x 1).1 % 128; omega)).trans
    ((pair2'_at _ _ _ _ _).trans (Eq.trans (congrArg (rd nat f) ?_) ((h (x 0).1 (by omega) (ix2 (⟨2 * j.1 + (x 1).1 / 128, by omega⟩ : Fin 16) (⟨(x 1).1 % 128, by omega⟩ : Fin 128)) l0).trans ?_))))
  · funext a
    apply Fin.ext
    match a with
    | ⟨0, _⟩ => show 0 + 1 * (18 * (x 0).1 + (2 * j.1 + (x 1).1 / 128)) = 18 * (x 0).1 + (2 * j.1 + (x 1).1 / 128); omega
    | ⟨1, _⟩ => show 0 + 1 * ((x 1).1 % 128) = (x 1).1 % 128; omega
  · rw [show 2 * 7 + (x 0).1 / 128 = 14 by omega, show (x 0).1 % 128 = (x 0).1 by omega]
    rfl
end

/-- A product of the tile `l` with the factor `s`. -/
def PR (s : FVec F S256x256 .bf16) (l : Vec F S1x1x512x256 .bf16) : FVec F S512x256 .f32 :=
  matmul dot_S512x256_S256x256_S512x256_1_1_0_0_n_n none (shapeCast S512x256 l shapeCasts_S1x1x512x256_S512x256 : FVec F S512x256 .bf16) s (constant S512x256 .f32 0x00000000#32)
def PR' (s : FVec F S128x256 .bf16) (l : Vec F S1x1x512x256 .bf16) : FVec F S512x128 .f32 :=
  matmul dot_S512x256_S128x256_S512x128_1_1_0_0_n_n none (shapeCast S512x256 l shapeCasts_S1x1x512x256_S512x256 : FVec F S512x256 .bf16) s (constant S512x128 .f32 0x00000000#32)

theorem prod_eq (j : Fin 8) (v : Vec F S4608x128 .bf16) (l : Vec F S1x1x512x256 .bf16) : prod j v l = PR (sides (pair2 j v)) l := rfl
theorem prod'_eq (j : Fin 8) (v : Vec F S2304x128 .bf16) (l : Vec F S1x1x512x256 .bf16) : prod' j v l = PR' (sides' (pair2' j v)) l := rfl

section
variable (s : Fin 8 → FVec F S256x256 .bf16) (wb : S2x8x512x256.Idx → Elt F .bf16)

/-- `m` products from product `n` on, added to what is there. -/
def TM (i : Fin 2) : (m n : ℕ) → FVec F S512x256 .f32 → FVec F S512x256 .f32
  | 0, _, a => a
  | m + 1, n, a => TM i m (n + 1) (addf a (PR (s (jOf n)) fun x => wb ((rTile i (jOf n)).emb x)))
end
section
variable (s : Fin 8 → FVec F S128x256 .bf16) (wb : S2x8x512x256.Idx → Elt F .bf16)
def TM' (i : Fin 2) : (m n : ℕ) → FVec F S512x128 .f32 → FVec F S512x128 .f32
  | 0, _, a => a
  | m + 1, n, a => TM' i m (n + 1) (addf a (PR' (s (jOf n)) fun x => wb ((rTile i (jOf n)).emb x)))
end

section
variable (kc : S30720x128.Idx → Elt F .fp8e5m2) (ks : S3x16x640.Idx → Elt F .f32) (vc : S30720x128.Idx → Elt F .fp8e5m2) (vs : S3x16x640.Idx → Elt F .f32)
  (wb : S2x8x512x256.Idx → Elt F .bf16)

/-- The sum of a unit. -/
def UA (u : ℕ) : FVec F S512x256 .f32 :=
  TM (SD vc vs u) wb 1 8 0 (TM (SD kc ks u) wb 0 7 1 (PR (SD kc ks u 0) fun x => wb ((rTile 0 0).emb x)))
def UA' : FVec F S512x128 .f32 :=
  TM' (SD' vc vs) wb 1 8 0 (TM' (SD' kc ks) wb 0 7 1 (PR' (SD' kc ks 0) fun x => wb ((rTile 0 0).emb x)))

/-- The result. -/
def DC : S1920x512.Idx → Elt F .bf16 := fun y =>
  if h : (y 0).1 < 1792 then
    dcPay ⟨(y 1).1 / 128, Nat.div_lt_of_lt_mul (y 1).2⟩ (UA kc ks vc vs wb ((y 0).1 / 256))
      (ix2 (⟨(y 0).1 % 256, Nat.mod_lt _ (by decide)⟩ : Fin 256) (⟨(y 1).1 % 128, Nat.mod_lt _ (by decide)⟩ : Fin 128))
  else
    dcPay' ⟨(y 1).1 / 128, Nat.div_lt_of_lt_mul (y 1).2⟩ (UA' kc ks vc vs wb)
      (ix2 (⟨(y 0).1 - 1792, by have h : (y 0).1 < 1920 := (y 0).2; omega⟩ : Fin 128) (⟨(y 1).1 % 128, Nat.mod_lt _ (by decide)⟩ : Fin 128))
end

/-! ## The steps -/

section
variable {nat : Memref sig .tc .vmem S4608x128 .bf16} {arg11 : Memref sig .tc .vmem S2x8x512x256 .bf16} {f : Cont F c nat} {f11 : Cont F c arg11}
  {cd : S30720x128.Idx → Elt F .fp8e5m2} {sc : S3x16x640.Idx → Elt F .f32} {u : ℕ}

theorem term_wp {Q : PUnit.{1} → sProp 𝕄} {i : Fin 2} {j : Fin 8} {kk : FVec F S512x256 .f32 → P F PUnit.{1}} (h : NatOk cd sc u 256 f) :
    iprop(Pt c nat fullShare f ∗ Pt c arg11 fullShare f11
      ∗ (Pt c nat fullShare f -∗ Pt c arg11 fullShare f11 -∗ WP c (kk (PR (SD cd sc u j) fun x => rd arg11 f11 ((rTile i j).emb x))) Q))
      ⊢ WP c (term nat arg11 i j kk) Q := by
  rw [← sides_nat h j]
  unfold term
  iintro ⟨H, H11, Hk⟩
  iapply load_step $$ H; iintro H
  iapply load_step $$ H11; iintro H11
  iapply Hk $$ H H11

theorem terms_wp {Q : PUnit.{1} → sProp 𝕄} {i : Fin 2} {kk : FVec F S512x256 .f32 → P F PUnit.{1}} (h : NatOk cd sc u 256 f) (m : ℕ) :
    ∀ (n : ℕ) (a : FVec F S512x256 .f32),
    iprop(Pt c nat fullShare f ∗ Pt c arg11 fullShare f11
      ∗ (Pt c nat fullShare f -∗ Pt c arg11 fullShare f11 -∗ WP c (kk (TM (SD cd sc u) (rd arg11 f11) i m n a)) Q))
      ⊢ WP c (terms nat arg11 i m n a kk) Q := by
  induction m with
  | zero =>
    intro n a
    unfold terms TM
    iintro ⟨H, H11, Hk⟩
    iapply Hk $$ H H11
  | succ m ih =>
    intro n a
    unfold terms TM
    iintro ⟨H, H11, Hk⟩
    iapply (term_wp h)
    isplitl [H]; · iexact H
    isplitl [H11]; · iexact H11
    iintro H H11
    iapply (ih (n + 1) _)
    isplitl [H]; · iexact H
    isplitl [H11]; · iexact H11
    iexact Hk

theorem term'_wp {Q : PUnit.{1} → sProp 𝕄} {i : Fin 2} {j : Fin 8} {kk : FVec F S512x128 .f32 → P F PUnit.{1}} (h : NatOk cd sc 7 128 f) :
    iprop(Pt c nat fullShare f ∗ Pt c arg11 fullShare f11
      ∗ (Pt c nat fullShare f -∗ Pt c arg11 fullShare f11 -∗ WP c (kk (PR' (SD' cd sc j) fun x => rd arg11 f11 ((rTile i j).emb x))) Q))
      ⊢ WP c (term' nat arg11 i j kk) Q := by
  rw [← sides'_nat h j]
  unfold term'
  iintro ⟨H, H11, Hk⟩
  iapply load_step $$ H; iintro H
  iapply load_step $$ H11; iintro H11
  iapply Hk $$ H H11

theorem terms'_wp {Q : PUnit.{1} → sProp 𝕄} {i : Fin 2} {kk : FVec F S512x128 .f32 → P F PUnit.{1}} (h : NatOk cd sc 7 128 f) (m : ℕ) :
    ∀ (n : ℕ) (a : FVec F S512x128 .f32),
    iprop(Pt c nat fullShare f ∗ Pt c arg11 fullShare f11
      ∗ (Pt c nat fullShare f -∗ Pt c arg11 fullShare f11 -∗ WP c (kk (TM' (SD' cd sc) (rd arg11 f11) i m n a)) Q))
      ⊢ WP c (terms' nat arg11 i m n a kk) Q := by
  induction m with
  | zero =>
    intro n a
    unfold terms' TM'
    iintro ⟨H, H11, Hk⟩
    iapply Hk $$ H H11
  | succ m ih =>
    intro n a
    unfold terms' TM'
    iintro ⟨H, H11, Hk⟩
    iapply (term'_wp h)
    isplitl [H]; · iexact H
    isplitl [H11]; · iexact H11
    iintro H H11
    iapply (ih (n + 1) _)
    isplitl [H]; · iexact H
    isplitl [H11]; · iexact H11
    iexact Hk
end

section
variable {arg12 : Memref sig .tc .vmem S1920x512 .bf16} {harg12 : arg12.IsWhole}

/-- The first `n` column blocks of units are those of `A`. -/
def DcOk (A : S1920x512.Idx → Elt F .bf16) (n : ℕ) (f : Cont F c arg12) : Prop :=
  ∀ y : S1920x512.Idx, 4 * ((y 0).1 / 256) + (y 1).1 / 128 < n → rd arg12 f y = A y

/-- Where unit `u`'s column blocks go. -/
abbrev ooU (u : ℕ) : DcOff := fun rb => ![256 * u, 128 * rb.1]

theorem dcPut_wp {Q : PUnit.{1} → sProp 𝕄} {kk : P F PUnit.{1}} {A : S1920x512.Idx → Elt F .bf16} {u n : ℕ} {rb : Fin 4} (hn : n = 4 * u + rb.1) (hu : u < 7)
    {hoo : DcInb (ooU u)} {hpk : ∀ rb, (Rect.unit (s := S1920x512) (ooU u rb) S256x128.size (hoo rb)).PackedRows (EltTy.packing .bf16)}
    {a : FVec F S512x256 .f32} (ha : ∀ x : S256x128.Idx, A ((Rect.unit (s := S1920x512) (ooU u rb) S256x128.size (hoo rb)).emb x) = dcPay rb a x)
    {f : Cont F c arg12} (h : DcOk A n f) :
    iprop(Pt c arg12 fullShare f ∗ (∀ f', ⌜DcOk A (n + 1) f'⌝ -∗ Pt c arg12 fullShare f' -∗ WP c kk Q))
      ⊢ WP c (dcPut arg12 harg12 (ooU u) hoo hpk rb a kk) Q := by
  unfold dcPut
  iintro ⟨H, Hk⟩
  iapply load_step $$ H; iintro H
  iapply store_step $$ H; iintro H
  suffices hs : DcOk A (n + 1) _ by iapply Hk $$ %_ %hs H
  intro y hy
  by_cases hm : y ∈ (Finset.univ : Finset S256x128.Idx).map (Rect.unit (s := S1920x512) (ooU u rb) S256x128.size (hoo rb)).emb
  · obtain ⟨x, -, rfl⟩ := Finset.mem_map.mp hm
    rw [ha]
    exact View.read_slice_write_emb _ _ _ (Finset.mem_univ x)
  · rw [← h y ?_]
    · exact View.read_slice_write_of_not_mem _ _ _ _ hm
    · by_contra hlt
      have l0 : (y 0).1 < 1920 := (y 0).2
      have l1 : (y 1).1 < 512 := (y 1).2
      have e : 4 * ((y 0).1 / 256) + (y 1).1 / 128 = 4 * u + rb.1 := by omega
      apply hm
      refine Finset.mem_map.mpr ⟨ix2 (⟨(y 0).1 % 256, Nat.mod_lt _ (by decide)⟩ : Fin 256) (⟨(y 1).1 % 128, Nat.mod_lt _ (by decide)⟩ : Fin 128), Finset.mem_univ _, ?_⟩
      funext a
      apply Fin.ext
      match a with
      | ⟨0, _⟩ => show 256 * u + 1 * ((y 0).1 % 256) = (y 0).1; omega
      | ⟨1, _⟩ => show 128 * rb.1 + 1 * ((y 1).1 % 128) = (y 1).1; omega

theorem dcPut'_wp {Q : PUnit.{1} → sProp 𝕄} {kk : P F PUnit.{1}} {A : S1920x512.Idx → Elt F .bf16} {n : ℕ} {rb : Fin 4} (hn : n = 28 + rb.1)
    {a : FVec F S512x128 .f32} (ha : ∀ x : S128x128.Idx, A ((Rect.unit (s := S1920x512) ![1792, 128 * rb.1] S128x128.size (inbDc7 rb)).emb x) = dcPay' rb a x)
    {f : Cont F c arg12} (h : DcOk A n f) :
    iprop(Pt c arg12 fullShare f ∗ (∀ f', ⌜DcOk A (n + 1) f'⌝ -∗ Pt c arg12 fullShare f' -∗ WP c kk Q))
      ⊢ WP c (dcPut' arg12 harg12 rb a kk) Q := by
  unfold dcPut'
  iintro ⟨H, Hk⟩
  iapply load_step $$ H; iintro H
  iapply store_step $$ H; iintro H
  suffices hs : DcOk A (n + 1) _ by iapply Hk $$ %_ %hs H
  intro y hy
  by_cases hm : y ∈ (Finset.univ : Finset S128x128.Idx).map (Rect.unit (s := S1920x512) ![1792, 128 * rb.1] S128x128.size (inbDc7 rb)).emb
  · obtain ⟨x, -, rfl⟩ := Finset.mem_map.mp hm
    rw [ha]
    exact View.read_slice_write_emb _ _ _ (Finset.mem_univ x)
  · rw [← h y ?_]
    · exact View.read_slice_write_of_not_mem _ _ _ _ hm
    · by_contra hlt
      have l0 : (y 0).1 < 1920 := (y 0).2
      have l1 : (y 1).1 < 512 := (y 1).2
      have e : 4 * ((y 0).1 / 256) + (y 1).1 / 128 = 28 + rb.1 := by omega
      apply hm
      refine Finset.mem_map.mpr ⟨ix2 (⟨(y 0).1 % 256 % 128, Nat.mod_lt _ (by decide)⟩ : Fin 128) (⟨(y 1).1 % 128, Nat.mod_lt _ (by decide)⟩ : Fin 128), Finset.mem_univ _, ?_⟩
      funext a
      apply Fin.ext
      match a with
      | ⟨0, _⟩ => show 1792 + 1 * ((y 0).1 % 256 % 128) = (y 0).1; omega
      | ⟨1, _⟩ => show 128 * rb.1 + 1 * ((y 1).1 % 128) = (y 1).1; omega
end

section
variable {natk natv : Memref sig .tc .vmem S4608x128 .bf16} {arg11 : Memref sig .tc .vmem S2x8x512x256 .bf16} {arg12 : Memref sig .tc .vmem S1920x512 .bf16} {harg12 : arg12.IsWhole}
  {kc : S30720x128.Idx → Elt F .fp8e5m2} {ks : S3x16x640.Idx → Elt F .f32} {vc : S30720x128.Idx → Elt F .fp8e5m2} {vs : S3x16x640.Idx → Elt F .f32} {f11 : Cont F c arg11}

theorem DC_emb {wb : S2x8x512x256.Idx → Elt F .bf16} {u : ℕ} (hu : u < 7) (hoo : DcInb (ooU u)) (rb : Fin 4) (x : S256x128.Idx) :
    DC kc ks vc vs wb ((Rect.unit (s := S1920x512) (ooU u rb) S256x128.size (hoo rb)).emb x) = dcPay rb (UA kc ks vc vs wb u) x := by
  have l0 : (x 0).1 < 256 := (x 0).2
  have l1 : (x 1).1 < 128 := (x 1).2
  generalize hy : (Rect.unit (s := S1920x512) (ooU u rb) S256x128.size (hoo rb)).emb x = y
  have h0 : (y 0).1 = 256 * u + (x 0).1 := by rw [← hy]; show 256 * u + 1 * (x 0).1 = _; omega
  have h1 : (y 1).1 = 128 * rb.1 + (x 1).1 := by rw [← hy]; show 128 * rb.1 + 1 * (x 1).1 = _; omega
  have hr : (⟨(y 1).1 / 128, Nat.div_lt_of_lt_mul (y 1).2⟩ : Fin 4) = rb := Fin.ext (by show (y 1).1 / 128 = rb.1; omega)
  unfold DC
  rw [dif_pos (by omega), hr, show (y 0).1 / 256 = u by omega]
  congr 1
  funext a
  apply Fin.ext
  match a with
  | ⟨0, _⟩ => show (y 0).1 % 256 = (x 0).1; omega
  | ⟨1, _⟩ => show (y 1).1 % 128 = (x 1).1; omega

theorem DC_emb' {wb : S2x8x512x256.Idx → Elt F .bf16} (rb : Fin 4) (x : S128x128.Idx) :
    DC kc ks vc vs wb ((Rect.unit (s := S1920x512) ![1792, 128 * rb.1] S128x128.size (inbDc7 rb)).emb x) = dcPay' rb (UA' kc ks vc vs wb) x := by
  have l0 : (x 0).1 < 128 := (x 0).2
  have l1 : (x 1).1 < 128 := (x 1).2
  generalize hy : (Rect.unit (s := S1920x512) ![1792, 128 * rb.1] S128x128.size (inbDc7 rb)).emb x = y
  have h0 : (y 0).1 = 1792 + (x 0).1 := by rw [← hy]; show 1792 + 1 * (x 0).1 = _; omega
  have h1 : (y 1).1 = 128 * rb.1 + (x 1).1 := by rw [← hy]; show 128 * rb.1 + 1 * (x 1).1 = _; omega
  have hr : (⟨(y 1).1 / 128, Nat.div_lt_of_lt_mul (y 1).2⟩ : Fin 4) = rb := Fin.ext (by show (y 1).1 / 128 = rb.1; omega)
  unfold DC
  rw [dif_neg (by omega), hr]
  congr 1
  funext a
  apply Fin.ext
  match a with
  | ⟨0, _⟩ => show (y 0).1 - 1792 = (x 0).1; omega
  | ⟨1, _⟩ => show (y 1).1 % 128 = (x 1).1; omega

/-- The result so far. -/
def Out (c : Dev nD) (arg12 : Memref sig .tc .vmem S1920x512 .bf16) (A : S1920x512.Idx → Elt F .bf16) (n : ℕ) : sProp 𝕄 :=
  iprop(∃ f : Cont F c arg12, ⌜DcOk A n f⌝ ∗ Pt c arg12 fullShare f)

theorem unit_wp {Q : PUnit.{1} → sProp 𝕄} {kk : P F PUnit.{1}} {u : ℕ} (hu : u < 7) {oo : DcOff} (eo : oo = ooU u) {hoo : DcInb oo}
    {hpk : ∀ rb, (Rect.unit (s := S1920x512) (oo rb) S256x128.size (hoo rb)).PackedRows (EltTy.packing .bf16)} :
    iprop(Nats c natk natv kc ks vc vs u 256 ∗ Pt c arg11 fullShare f11 ∗ Out c arg12 (DC kc ks vc vs (rd arg11 f11)) (4 * u)
      ∗ (Nats c natk natv kc ks vc vs u 256 -∗ Pt c arg11 fullShare f11 -∗ Out c arg12 (DC kc ks vc vs (rd arg11 f11)) (4 * u + 4) -∗ WP c kk Q))
      ⊢ WP c (unit natk natv arg11 arg12 harg12 oo hoo hpk kk) Q := by
  subst eo
  unfold unit Nats Out
  iintro ⟨⟨⟨%fk, %ek, HK⟩, ⟨%fv, %ev, HV⟩⟩, H11, ⟨%f, %h0, H⟩, Hk⟩
  iapply (term_wp ek)
  isplitl [HK]; · iexact HK
  isplitl [H11]; · iexact H11
  iintro HK H11
  iapply (terms_wp ek 7 1 _)
  isplitl [HK]; · iexact HK
  isplitl [H11]; · iexact H11
  iintro HK H11
  iapply (terms_wp ev 8 0 _)
  isplitl [HV]; · iexact HV
  isplitl [H11]; · iexact H11
  iintro HV H11
  iapply (dcPut_wp (rb := 0) rfl hu (fun x => DC_emb hu hoo 0 x) h0)
  isplitl [H]; · iexact H
  iintro %f1 %h1 H
  iapply (dcPut_wp (rb := 1) rfl hu (fun x => DC_emb hu hoo 1 x) h1)
  isplitl [H]; · iexact H
  iintro %f2 %h2 H
  iapply (dcPut_wp (rb := 2) rfl hu (fun x => DC_emb hu hoo 2 x) h2)
  isplitl [H]; · iexact H
  iintro %f3 %h3 H
  iapply (dcPut_wp (rb := 3) rfl hu (fun x => DC_emb hu hoo 3 x) h3)
  isplitl [H]; · iexact H
  iintro %f4 %h4 H
  iapply Hk $$ [HK HV] H11 [H]
  · isplitl [HK]
    · iexists fk
      isplitr; · ipureintro; exact ek
      iexact HK
    · iexists fv
      isplitr; · ipureintro; exact ev
      iexact HV
  · iexists f4
    isplitr; · ipureintro; exact h4
    iexact H

theorem unit'_wp {Q : PUnit.{1} → sProp 𝕄} {kk : P F PUnit.{1}} :
    iprop(Nats c natk natv kc ks vc vs 7 128 ∗ Pt c arg11 fullShare f11 ∗ Out c arg12 (DC kc ks vc vs (rd arg11 f11)) 28
      ∗ (Nats c natk natv kc ks vc vs 7 128 -∗ Pt c arg11 fullShare f11 -∗ Out c arg12 (DC kc ks vc vs (rd arg11 f11)) 32 -∗ WP c kk Q))
      ⊢ WP c (unit' natk natv arg11 arg12 harg12 kk) Q := by
  unfold unit' Nats Out
  iintro ⟨⟨⟨%fk, %ek, HK⟩, ⟨%fv, %ev, HV⟩⟩, H11, ⟨%f, %h0, H⟩, Hk⟩
  iapply (term'_wp ek)
  isplitl [HK]; · iexact HK
  isplitl [H11]; · iexact H11
  iintro HK H11
  iapply (terms'_wp ek 7 1 _)
  isplitl [HK]; · iexact HK
  isplitl [H11]; · iexact H11
  iintro HK H11
  iapply (terms'_wp ev 8 0 _)
  isplitl [HV]; · iexact HV
  isplitl [H11]; · iexact H11
  iintro HV H11
  iapply (dcPut'_wp (rb := 0) rfl (fun x => DC_emb' 0 x) h0)
  isplitl [H]; · iexact H
  iintro %f1 %h1 H
  iapply (dcPut'_wp (rb := 1) rfl (fun x => DC_emb' 1 x) h1)
  isplitl [H]; · iexact H
  iintro %f2 %h2 H
  iapply (dcPut'_wp (rb := 2) rfl (fun x => DC_emb' 2 x) h2)
  isplitl [H]; · iexact H
  iintro %f3 %h3 H
  iapply (dcPut'_wp (rb := 3) rfl (fun x => DC_emb' 3 x) h3)
  isplitl [H]; · iexact H
  iintro %f4 %h4 H
  iapply Hk $$ [HK HV] H11 [H]
  · isplitl [HK]
    · iexists fk
      isplitr; · ipureintro; exact ek
      iexact HK
    · iexists fv
      isplitr; · ipureintro; exact ev
      iexact HV
  · iexists f4
    isplitr; · ipureintro; exact h4
    iexact H
end

end Cert.KernelDcIdeal.Hand

end
-- ==== Proof.KernelDcIdeal.Run.lean ====
/- The whole body over one core's separation state: the result ends at `DC` of the operands and the
   weight tiles, the operands as they were, every semaphore at zero. -/
module

public import proofs.«01_k».proof.Proof.KernelDcIdeal.Units

@[expose] public section

noncomputable section

namespace Cert.KernelDcIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 ix4)
open Cert.KernelDcIdeal Cert.KernelDcIdeal.Gen

variable {F : FTy → Type} [FloatOps F]

local notation "𝕄" => MT nD τ sig Unit (Elt F) ℕ (Pipeline.UD sig nD τ) ℕ

variable {c : Dev nD}

/-- The counters a copy's flight is kept in. -/
abbrev EC : UEmb Counters 𝕄 := countersEmb (U := Pipeline.UD sig nD τ)

/-! ## The offsets of the loop's trips -/

theorem trip_lt (t : Fin k0_t1_loop.trips) : t.1 < 3 := lt_of_lt_of_eq t.2 (by decide)
theorem oo1_eq (t : Fin k0_t1_loop.trips) : oo1 t = ooU (2 * t.1) := by
  funext rb
  have e : 256 * (2 * t.1) = 512 * t.1 := by omega
  match rb with
  | 0 => show k0_off2 t = ![256 * (2 * t.1), 0]; rw [e, k0_off2_eq]
  | 1 => show k0_off3 t = ![256 * (2 * t.1), 128]; rw [e, k0_off3_eq]
  | 2 => show k0_off4 t = ![256 * (2 * t.1), 256]; rw [e, k0_off4_eq]
  | 3 => show k0_off5 t = ![256 * (2 * t.1), 384]; rw [e, k0_off5_eq]
theorem oo2_eq (t : Fin k0_t1_loop.trips) : oo2 t = ooU (2 * t.1 + 1) := by
  funext rb
  have e : 256 * (2 * t.1 + 1) = 512 * t.1 + 256 := by omega
  match rb with
  | 0 => show k0_off10 t = ![256 * (2 * t.1 + 1), 0]; rw [e, k0_off10_eq]
  | 1 => show k0_off11 t = ![256 * (2 * t.1 + 1), 128]; rw [e, k0_off11_eq]
  | 2 => show k0_off12 t = ![256 * (2 * t.1 + 1), 256]; rw [e, k0_off12_eq]
  | 3 => show k0_off13 t = ![256 * (2 * t.1 + 1), 384]; rw [e, k0_off13_eq]
theorem so6_eq : ∀ (t : Fin k0_t1_loop.trips) (r : Fin 2), so6 t r = soG (gOf (2 * (2 * t.1 + 1 + r.1) + 0)) := by decide +kernel
theorem so8_eq : ∀ (t : Fin k0_t1_loop.trips) (r : Fin 2), so8 t r = soG (gOf (2 * (2 * t.1 + 1 + r.1) + 1)) := by decide +kernel
theorem co7_eq (t : Fin k0_t1_loop.trips) (r : Fin 2) : co7 t r = coG (gOf (2 * (2 * t.1 + 1 + r.1) + 0)) := by
  funext p
  have ht := trip_lt t
  refine (k0_off7_eq t r p).trans ?_
  show _ = ![2048 * ((2 * (2 * t.1 + 1 + r.1) + 0) % 15) + 32 * p.1, 0]
  rw [show 8192 * t.1 + 4096 * r.1 + 32 * p.1 + 4096 = 2048 * ((2 * (2 * t.1 + 1 + r.1) + 0) % 15) + 32 * p.1 by omega]
theorem co9_eq (t : Fin k0_t1_loop.trips) (r : Fin 2) : co9 t r = coG (gOf (2 * (2 * t.1 + 1 + r.1) + 1)) := by
  funext p
  have ht := trip_lt t
  refine (k0_off9_eq t r p).trans ?_
  show _ = ![2048 * ((2 * (2 * t.1 + 1 + r.1) + 1) % 15) + 32 * p.1, 0]
  rw [show 8192 * t.1 + 4096 * r.1 + 32 * p.1 + 6144 = 2048 * ((2 * (2 * t.1 + 1 + r.1) + 1) % 15) + 32 * p.1 by omega]

variable {arg0 : Memref sig .tc .vmem S30720x128 .fp8e5m2} {arg1 : Memref sig .tc .vmem S3x16x640 .f32} {arg2 : Memref sig .tc .vmem S30720x128 .fp8e5m2} {arg3 : Memref sig .tc .vmem S3x16x640 .f32}
  {arg4 : Memref sig .tc .hbm S8192x128 .fp8e4m3} {harg4 : arg4.IsWhole} {arg5 : Memref sig .tc .smem S4x16 .f32} {arg6 : Memref sig .tc .hbm S8192x128 .fp8e4m3} {harg6 : arg6.IsWhole} {arg7 : Memref sig .tc .smem S4x16 .f32}
  {arg8 : Memref sig .tc .hbm S1920x512 .bf16} {harg8 : arg8.IsWhole} {arg9 : Memref sig .tc .vmem S8192x128 .fp8e4m3} {harg9 : arg9.IsWhole} {arg10 : Memref sig .tc .vmem S8192x128 .fp8e4m3} {harg10 : arg10.IsWhole}
  {arg11 : Memref sig .tc .vmem S2x8x512x256 .bf16} {harg11 : arg11.IsWhole} {arg12 : Memref sig .tc .vmem S1920x512 .bf16} {harg12 : arg12.IsWhole}
  {arg13 : Memref sig .tc .vmem S4608x128 .bf16} {harg13 : arg13.IsWhole} {arg14 : Memref sig .tc .vmem S4608x128 .bf16} {harg14 : arg14.IsWhole} {arg15 : Memref sig .tc .vmem S4608x128 .bf16} {harg15 : arg15.IsWhole} {arg16 : Memref sig .tc .vmem S4608x128 .bf16} {harg16 : arg16.IsWhole}
  {arg17 : DmaSems sig S2} {arg18 : DmaSems sig S5}
  {q0 q1 q2 q3 q5 q7 : PosShare TreeShare} {f0 : Cont F c arg0} {f1 : Cont F c arg1} {f2 : Cont F c arg2} {f3 : Cont F c arg3}
  {f4 : Cont F c arg4} {f5 : Cont F c arg5} {f6 : Cont F c arg6} {f7 : Cont F c arg7} {f8 : Cont F c arg8} {f11 : Cont F c arg11}

/-- Two groups make a unit. -/
theorem widen_wp {Q : PUnit.{1} → sProp 𝕄} {kk : P F PUnit.{1}} {natk natv : Memref sig .tc .vmem S4608x128 .bf16} {hk : natk.IsWhole} {hv : natv.IsWhole} {u u' n : ℕ}
    {so so' : Fin 3 → ℕ} {hso : ScaleInb so} {hso' : ScaleInb so'} {co co' : CodeOff} {hco : CodeInb co} {hco' : CodeInb co'}
    (eso : so = soG (gOf (2 * u + 0))) (eco : co = coG (gOf (2 * u + 0))) (eso' : so' = soG (gOf (2 * u + 1))) (eco' : co' = coG (gOf (2 * u + 1))) :
    iprop(Ins c arg0 arg1 arg2 arg3 q0 q1 q2 q3 f0 f1 f2 f3 ∗ Nats c natk natv (rd arg0 f0) (rd arg1 f1) (rd arg2 f2) (rd arg3 f3) u' n
      ∗ (Ins c arg0 arg1 arg2 arg3 q0 q1 q2 q3 f0 f1 f2 f3 -∗ Nats c natk natv (rd arg0 f0) (rd arg1 f1) (rd arg2 f2) (rd arg3 f3) u 256 -∗ WP c kk Q))
      ⊢ WP c (wide2 arg0 arg1 arg2 arg3 natk natv hk hv 0 so hso co hco <| wide2 arg0 arg1 arg2 arg3 natk natv hk hv 1 so' hso' co' hco' kk) Q := by
  iintro ⟨HI, HN, Hk⟩
  iapply (wide2_wp (u := u) (n := 0) (h := 0) eso eco rfl)
  isplitl [HI]; · iexact HI
  isplitl [HN]; · iapply Nats_any; iexact HN
  iintro HI HN
  iapply (wide2_wp (u := u) (n := 128) (h := 1) eso' eco' rfl)
  isplitl [HI]; · iexact HI
  isplitl [HN]; · iexact HN
  iexact Hk

/-- The state between two trips. -/
def St (c : Dev nD) (arg0 : Memref sig .tc .vmem S30720x128 .fp8e5m2) (arg1 : Memref sig .tc .vmem S3x16x640 .f32) (arg2 : Memref sig .tc .vmem S30720x128 .fp8e5m2) (arg3 : Memref sig .tc .vmem S3x16x640 .f32)
    (arg11 : Memref sig .tc .vmem S2x8x512x256 .bf16) (arg12 : Memref sig .tc .vmem S1920x512 .bf16) (arg13 arg14 arg15 arg16 : Memref sig .tc .vmem S4608x128 .bf16)
    (q0 q1 q2 q3 : PosShare TreeShare) (f0 : Cont F c arg0) (f1 : Cont F c arg1) (f2 : Cont F c arg2) (f3 : Cont F c arg3) (f11 : Cont F c arg11) (t : ℕ) : sProp 𝕄 :=
  iprop(Ins c arg0 arg1 arg2 arg3 q0 q1 q2 q3 f0 f1 f2 f3 ∗ Pt c arg11 fullShare f11
    ∗ Out c arg12 (DC (rd arg0 f0) (rd arg1 f1) (rd arg2 f2) (rd arg3 f3) (rd arg11 f11)) (4 * (2 * t))
    ∗ Nats c arg13 arg14 (rd arg0 f0) (rd arg1 f1) (rd arg2 f2) (rd arg3 f3) (2 * t) 256
    ∗ Nats c arg15 arg16 (rd arg0 f0) (rd arg1 f1) (rd arg2 f2) (rd arg3 f3) 0 0)

theorem trip_wp {Q : PUnit.{1} → sProp 𝕄} {kk : P F PUnit.{1}} (t : Fin k0_t1_loop.trips) :
    iprop(St c arg0 arg1 arg2 arg3 arg11 arg12 arg13 arg14 arg15 arg16 q0 q1 q2 q3 f0 f1 f2 f3 f11 t.1
      ∗ (St c arg0 arg1 arg2 arg3 arg11 arg12 arg13 arg14 arg15 arg16 q0 q1 q2 q3 f0 f1 f2 f3 f11 (t.1 + 1) -∗ WP c kk Q))
      ⊢ WP c (trip arg0 arg1 arg2 arg3 arg11 arg12 harg12 arg13 harg13 arg14 harg14 arg15 harg15 arg16 harg16 t kk) Q := by
  have ht := trip_lt t
  unfold trip St
  rw [show 4 * (2 * (t.1 + 1)) = 4 * (2 * t.1 + 1) + 4 by omega, show 2 * (t.1 + 1) = 2 * t.1 + 2 by omega]
  iintro ⟨⟨HI, H11, H12, HA, HB⟩, Hk⟩
  iapply (unit_wp (u := 2 * t.1) (by omega) (oo1_eq t))
  isplitl [HA]; · iexact HA
  isplitl [H11]; · iexact H11
  isplitl [H12]; · iexact H12
  iintro HA H11 H12
  iapply (widen_wp (u := 2 * t.1 + 1) (so6_eq t 0) (co7_eq t 0) (so8_eq t 0) (co9_eq t 0))
  isplitl [HI]; · iexact HI
  isplitl [HB]; · iexact HB
  iintro HI HB
  iapply (unit_wp (u := 2 * t.1 + 1) (by omega) (oo2_eq t))
  isplitl [HB]; · iexact HB
  isplitl [H11]; · iexact H11
  isplitl [H12]; · iexact H12
  iintro HB H11 H12
  iapply (widen_wp (u := 2 * t.1 + 2) (so6_eq t 1) (co7_eq t 1) (so8_eq t 1) (co9_eq t 1))
  isplitl [HI]; · iexact HI
  isplitl [HA]; · iexact HA
  iintro HI HA
  iapply Hk
  isplitl [HI]; · iexact HI
  isplitl [H11]; · iexact H11
  isplitl [H12]; · iexact H12
  isplitl [HA]; · iexact HA
  iapply Nats_any; iexact HB

/-! ## The copy out -/

theorem all_emb (y : S1920x512.Idx) : (Rect.unit (s := S1920x512) ![0, 0] S1920x512.size inb_S1920x512_S1920x512_0_0).emb y = y := by
  funext a
  apply Fin.ext
  match a with
  | ⟨0, _⟩ => show 0 + 1 * (y 0).1 = (y 0).1; omega
  | ⟨1, _⟩ => show 0 + 1 * (y 1).1 = (y 1).1; omega

theorem stAll_set : (stAll arg12).view.set = arg12.view.set := by
  refine le_antisymm (View.set_slice_subset _ _) fun x hx => ?_
  obtain ⟨y, -, rfl⟩ := Finset.mem_map.mp hx
  refine Finset.mem_map.mpr ⟨y, Finset.mem_univ _, ?_⟩
  exact congrArg arg12.view.emb (all_emb y)

theorem outAll_sub : (outAll arg8).view.set ⊆ arg8.view.set := View.set_slice_subset _ _

/-- A scratch buffer at some contents. -/
def Any {s : Shape} {e : EltTy} (c : Dev nD) (m : Memref sig .tc .vmem s e) : sProp 𝕄 := iprop(∃ f : Cont F c m, Pt c m fullShare f)

theorem Any_open {s : Shape} {e : EltTy} {m : Memref sig .tc .vmem s e} : Any (F := F) c m ⊢ iprop(∃ f : Cont F c m, Pt c m fullShare f) := .rfl
theorem Any_close {s : Shape} {e : EltTy} {m : Memref sig .tc .vmem s e} : iprop(∃ f : Cont F c m, Pt c m fullShare f) ⊢ Any (F := F) c m := .rfl

theorem sendOut_wp {Q : PUnit.{1} → sProp 𝕄} {W : Waits sig Unit} {A : S1920x512.Idx → Elt F .bf16} :
    iprop(Out c arg12 A 32 ∗ Pt c arg8 fullShare f8 ∗ semVal ((c : Thread nD τ), .dma (semO arg18)) 0 ∗ owes (c : Thread nD τ) 0 W
      ∗ (∀ W' : Waits sig Unit, Any c arg12 -∗ (∃ f8' : Cont F c arg8, ⌜rd arg8 f8' = A⌝ ∗ Pt c arg8 fullShare f8')
        -∗ semVal ((c : Thread nD τ), .dma (semO arg18)) 0 -∗ owes (c : Thread nD τ) 0 W' -∗ Q ⟨⟩))
      ⊢ WP c (sendOut arg8 harg8 arg12 harg12 arg18) Q := by
  unfold sendOut Out Any
  iintro ⟨⟨%f, %hf, H⟩, H8, HS, HW, Hk⟩
  have hv : rd (c := c) arg8 ((outAll arg8).view.write (Elt F) f8 (rd (c := c) (stAll arg12) f) Finset.univ) = A := by
    funext y
    have l0 : (y 0).1 < 1920 := (y 0).2
    have l1 : (y 1).1 < 512 := (y 1).2
    refine Eq.trans (congrArg _ (all_emb y).symm) ((congrFun (View.read_write_univ (v := (outAll arg8).view) f8 (rd (c := c) (stAll arg12) f)) y).trans ?_)
    exact (congrArg (rd arg12 f) (all_emb y)).trans (hf y (by omega))
  iapply (Transfers.wp_dmaLocal (defs := defs₀ (F := F)) (Q := Q) EC Variants.none (c : Thread nD τ) none () (outAll arg8).view.dmaCredit
    (src := stAll arg12) (dst := outAll arg8) (Sd := arg8.view.set) (fs := f) (fd := f8)
    rfl (View.dmaCredit_pos _ (by decide)) outAll_sub) $$ [H H8 HS]
  · isplitl [H]; · rw [stAll_set]; iexact H
    isplitl [H8]; · iexact H8
    iexact HS
  iintro Hf
  iapply (Transfers.wp_waitLocal (defs := defs₀ (F := F)) (Q := Q) EC Variants.none (c : Thread nD τ) none (srcw := stAll arg12) (dstw := outAll arg8)
    (hsrc := harg12.wordExact_slice rfl _ wordsbf16_S1920x512_S1920x512_0_0) (hdst := harg8.wordExact_slice rfl _ wordsbf16_S1920x512_S1920x512_0_0) () (N := (outAll arg8).view.dmaCredit) rfl) $$ [Hf HW]
  · isplitl [Hf]; · iexact Hf
    iexact HW
  iintro ⟨⟨H8, H⟩, HS, HW⟩
  iapply (le_wp_ret _ _ _ _ Q)
  iapply Hk $$ %_ [H] [H8] HS HW
  · iexists f
    rw [stAll_set]
    iexact H
  · iexists _
    isplitr; · ipureintro; exact hv
    iexact H8

theorem Nats_split {natk natv : Memref sig .tc .vmem S4608x128 .bf16} {kc : S30720x128.Idx → Elt F .fp8e5m2} {ks : S3x16x640.Idx → Elt F .f32}
    {vc : S30720x128.Idx → Elt F .fp8e5m2} {vs : S3x16x640.Idx → Elt F .f32} {u n : ℕ} :
    Nats c natk natv kc ks vc vs u n ⊢ iprop(Any c natk ∗ Any c natv) := by
  unfold Nats Any
  iintro ⟨⟨%fk, -, H1⟩, ⟨%fv, -, H2⟩⟩
  isplitl [H1]
  · iexists fk; iexact H1
  · iexists fv; iexact H2

theorem Nats_join {natk natv : Memref sig .tc .vmem S4608x128 .bf16} {kc : S30720x128.Idx → Elt F .fp8e5m2} {ks : S3x16x640.Idx → Elt F .f32}
    {vc : S30720x128.Idx → Elt F .fp8e5m2} {vs : S3x16x640.Idx → Elt F .f32} {u : ℕ} :
    iprop(Any c natk ∗ Any c natv) ⊢ Nats c natk natv kc ks vc vs u 0 := by
  unfold Any
  iintro ⟨⟨%fk, H1⟩, ⟨%fv, H2⟩⟩
  iapply Nats_zero
  isplitl [H1]; · iexact H1
  iexact H2

/-- The three trips. -/
theorem loop_wp {Q : PUnit.{1} → sProp 𝕄} {kk : PUnit.{1} → P F PUnit.{1}} :
    iprop(St c arg0 arg1 arg2 arg3 arg11 arg12 arg13 arg14 arg15 arg16 q0 q1 q2 q3 f0 f1 f2 f3 f11 0
      ∗ (St c arg0 arg1 arg2 arg3 arg11 arg12 arg13 arg14 arg15 arg16 q0 q1 q2 q3 f0 f1 f2 f3 f11 3 -∗ WP c (kk ⟨⟩) Q))
      ⊢ WP c (Scf.Loop.for k0_t1_loop k0_t1_ok PUnit.unit.{1} (fun t _ => trip arg0 arg1 arg2 arg3 arg11 arg12 harg12 arg13 harg13 arg14 harg14 arg15 harg15 arg16 harg16 t (.ret ⟨⟩)) >>= kk) Q := by
  iintro ⟨H, Hk⟩
  iapply (Scf.wp_for_bind _ _ _ _ _ _ k0_t1_ok _ _ (fun t _ => St c arg0 arg1 arg2 arg3 arg11 arg12 arg13 arg14 arg15 arg16 q0 q1 q2 q3 f0 f1 f2 f3 f11 t) (fun t _ => ?_)) $$ [H]
  · refine .trans ?_ (trip_wp (q0 := q0) (q1 := q1) (q2 := q2) (q3 := q3) (f0 := f0) (f1 := f1) (f2 := f2) (f3 := f3) (f11 := f11) t)
    iintro H
    isplitl [H]; · iexact H
    iintro H
    iapply (le_wp_ret _ _ _ _ _)
    iexact H
  · iexact H
  iintro %_ H
  iapply Hk
  iexact H

/-! ## After the loop -/

theorem post_wp {Q : PUnit.{1} → sProp 𝕄} {W : Waits sig Unit} :
    iprop(St c arg0 arg1 arg2 arg3 arg11 arg12 arg13 arg14 arg15 arg16 q0 q1 q2 q3 f0 f1 f2 f3 f11 3
      ∗ Pt c arg8 fullShare f8 ∗ semVal ((c : Thread nD τ), .dma (semO arg18)) 0 ∗ owes (c : Thread nD τ) 0 W
      ∗ (∀ W' : Waits sig Unit, Ins c arg0 arg1 arg2 arg3 q0 q1 q2 q3 f0 f1 f2 f3 -∗ Any c arg11 -∗ Any c arg12 -∗ (Any c arg13 ∗ Any c arg14) -∗ (Any c arg15 ∗ Any c arg16)
        -∗ (∃ f8' : Cont F c arg8, ⌜rd arg8 f8' = DC (rd arg0 f0) (rd arg1 f1) (rd arg2 f2) (rd arg3 f3) (rd arg11 f11)⌝ ∗ Pt c arg8 fullShare f8')
        -∗ semVal ((c : Thread nD τ), .dma (semO arg18)) 0 -∗ owes (c : Thread nD τ) 0 W' -∗ Q ⟨⟩))
      ⊢ WP c (post arg0 arg1 arg2 arg3 arg8 harg8 arg11 arg12 harg12 arg13 arg14 arg15 harg15 arg16 harg16 arg18) Q := by
  unfold post St
  iintro ⟨⟨HI, H11, H12, HA, HB⟩, H8, HS, HW, Hk⟩
  iapply (unit_wp (u := 6) (by decide) (oo := oo6) rfl)
  isplitl [HA]; · iexact HA
  isplitl [H11]; · iexact H11
  isplitl [H12]; · iexact H12
  iintro HA H11 H12
  iapply (wide2_wp (u := 7) (n := 0) (h := 0) rfl rfl rfl)
  isplitl [HI]; · iexact HI
  isplitl [HB]; · iapply Nats_any; iexact HB
  iintro HI HB
  iapply unit'_wp
  isplitl [HB]; · iexact HB
  isplitl [H11]; · iexact H11
  isplitl [H12]; · iexact H12
  iintro HB H11 H12
  iapply sendOut_wp
  isplitl [H12]; · iexact H12
  isplitl [H8]; · iexact H8
  isplitl [HS]; · iexact HS
  isplitl [HW]; · iexact HW
  iintro %W' H12 H8 HS HW
  iapply Hk $$ %_ HI [H11] H12 [HA] [HB] H8 HS HW
  · unfold Any; iexists f11; iexact H11
  · iapply Nats_split; iexact HA
  · iapply Nats_split; iexact HB

/-! ## The whole body -/

/-- The two weights' codes and their scales, by weight. -/
abbrev CC (a b : S8192x128.Idx → Elt F .fp8e4m3) : Fin 2 → S8192x128.Idx → Elt F .fp8e4m3 := ![a, b]
abbrev SS (a b : S4x16.Idx → Elt F .f32) : Fin 2 → S4x16.Idx → Elt F .f32 := ![a, b]

abbrev semW0 (arg17 : DmaSems sig S2) : DmaSem sig := semW arg17 0 inb_S2_S1_0
abbrev semW1 (arg17 : DmaSems sig S2) : DmaSem sig := semW arg17 1 inb_S2_S1_1

theorem body_wp {Q : PUnit.{1} → sProp 𝕄} {W : Waits sig Unit} :
    iprop(Ins c arg0 arg1 arg2 arg3 q0 q1 q2 q3 f0 f1 f2 f3
      ∗ Pt c arg4 fullShare f4 ∗ Pt c arg5 q5 f5 ∗ Pt c arg6 fullShare f6 ∗ Pt c arg7 q7 f7 ∗ Pt c arg8 fullShare f8
      ∗ Any c arg9 ∗ Any c arg10 ∗ Any c arg11 ∗ Any c arg12 ∗ (Any c arg13 ∗ Any c arg14) ∗ (Any c arg15 ∗ Any c arg16)
      ∗ semVal ((c : Thread nD τ), .dma (semW0 arg17)) 0 ∗ semVal ((c : Thread nD τ), .dma (semW1 arg17)) 0 ∗ semVal ((c : Thread nD τ), .dma (semO arg18)) 0
      ∗ owes (c : Thread nD τ) 0 W
      ∗ (∀ W' : Waits sig Unit, Ins c arg0 arg1 arg2 arg3 q0 q1 q2 q3 f0 f1 f2 f3
        -∗ Pt c arg4 fullShare f4 -∗ Pt c arg5 q5 f5 -∗ Pt c arg6 fullShare f6 -∗ Pt c arg7 q7 f7
        -∗ (∃ f8' : Cont F c arg8, ⌜rd arg8 f8' = DC (rd arg0 f0) (rd arg1 f1) (rd arg2 f2) (rd arg3 f3) (WB (CC (rd arg4 f4) (rd arg6 f6)) (SS (rd arg5 f5) (rd arg7 f7)))⌝ ∗ Pt c arg8 fullShare f8')
        -∗ Any c arg9 -∗ Any c arg10 -∗ Any c arg11 -∗ Any c arg12 -∗ (Any c arg13 ∗ Any c arg14) -∗ (Any c arg15 ∗ Any c arg16)
        -∗ semVal ((c : Thread nD τ), .dma (semW0 arg17)) 0 -∗ semVal ((c : Thread nD τ), .dma (semW1 arg17)) 0 -∗ semVal ((c : Thread nD τ), .dma (semO arg18)) 0
        -∗ owes (c : Thread nD τ) 0 W' -∗ Q ⟨⟩))
      ⊢ WP c (body arg0 arg1 arg2 arg3 arg4 harg4 arg5 arg6 harg6 arg7 arg8 harg8 arg9 harg9 arg10 harg10 arg11 harg11 arg12 harg12 arg13 harg13 arg14 harg14 arg15 harg15 arg16 harg16 arg17 arg18) Q := by
  unfold body pre
  iintro ⟨HI, H4, H5, H6, H7, H8, H9, H10, H11, H12, HA, HB, HS0, HS1, HS4, HW, Hk⟩
  icases Any_open $$ H9 with ⟨%f9, H9⟩
  icases Any_open $$ H10 with ⟨%f10, H10⟩
  icases Any_open $$ H11 with ⟨%f11, H11⟩
  icases Any_open $$ H12 with ⟨%f12, H12⟩
  iapply (Transfers.wp_dmaLocal (defs := defs₀ (F := F)) (Q := Q) EC Variants.none (c : Thread nD τ) none () arg9.view.dmaCredit
    (src := arg4) (dst := arg9) (Sd := arg9.view.set) (fs := f4) (fd := f9)
    rfl (View.dmaCredit_pos _ (by decide)) subset_rfl) $$ [H4 H9 HS0]
  · isplitl [H4]; · iexact H4
    isplitl [H9]; · iexact H9
    iexact HS0
  iintro Hf0
  iapply (Transfers.wp_dmaLocal (defs := defs₀ (F := F)) (Q := Q) EC Variants.none (c : Thread nD τ) none () arg10.view.dmaCredit
    (src := arg6) (dst := arg10) (Sd := arg10.view.set) (fs := f6) (fd := f10)
    rfl (View.dmaCredit_pos _ (by decide)) subset_rfl) $$ [H6 H10 HS1]
  · isplitl [H6]; · iexact H6
    isplitl [H10]; · iexact H10
    iexact HS1
  iintro Hf1
  iapply (Transfers.wp_waitLocal (defs := defs₀ (F := F)) (Q := Q) EC Variants.none (c : Thread nD τ) none (srcw := arg4) (dstw := arg9)
    (hsrc := harg4.wordExact) (hdst := harg9.wordExact) () (N := arg9.view.dmaCredit) rfl) $$ [Hf0 HW]
  · isplitl [Hf0]; · iexact Hf0
    iexact HW
  iintro ⟨⟨H9, H4⟩, HS0, HW⟩
  have e9 : rd (c := c) arg9 (arg9.view.write (Elt F) f9 (rd arg4 f4) Finset.univ) = CC (rd arg4 f4) (rd arg6 f6) 0 := View.read_write_univ _ _
  have h11 : WbOk (c := c) (arg11 := arg11) (CC (rd arg4 f4) (rd arg6 f6)) (SS (rd arg5 f5) (rd arg7 f7)) (64 * (0 : Fin 2).1 + 4 * 0) f11 := fun _ h => absurd h (Nat.not_lt_zero _)
  iapply (wLoop_wp (i := 0) (S := SS (rd arg5 f5) (rd arg7 f7)) e9 rfl 16 0 (by decide) f11 h11)
  isplitl [H9]; · iexact H9
  isplitl [H5]; · iexact H5
  isplitl [H11]; · iexact H11
  iintro %g11 %h11' H9 H5 H11
  iapply (Transfers.wp_waitLocal (defs := defs₀ (F := F)) (Q := Q) EC Variants.none (c : Thread nD τ) none (srcw := arg6) (dstw := arg10)
    (hsrc := harg6.wordExact) (hdst := harg10.wordExact) () (N := arg10.view.dmaCredit) rfl) $$ [Hf1 HW]
  · isplitl [Hf1]; · iexact Hf1
    iexact HW
  iintro ⟨⟨H10, H6⟩, HS1, HW⟩
  have e10 : rd (c := c) arg10 (arg10.view.write (Elt F) f10 (rd arg6 f6) Finset.univ) = CC (rd arg4 f4) (rd arg6 f6) 1 := View.read_write_univ _ _
  iapply (wLoop_wp (i := 1) (S := SS (rd arg5 f5) (rd arg7 f7)) e10 rfl 16 0 (by decide) g11 h11')
  isplitl [H10]; · iexact H10
  isplitl [H7]; · iexact H7
  isplitl [H11]; · iexact H11
  iintro %k11 %hk11 H10 H7 H11
  have e11 : rd arg11 k11 = WB (CC (rd arg4 f4) (rd arg6 f6)) (SS (rd arg5 f5) (rd arg7 f7)) := by
    funext y
    have l0 : (y 0).1 < 2 := (y 0).2
    have l1 : (y 1).1 < 8 := (y 1).2
    have l2 : (y 2).1 < 512 := (y 2).2
    have l3 : (y 3).1 < 256 := (y 3).2
    exact hk11 y (by show _ < 64 * 1 + 4 * (0 + 16); omega)
  rw [← e11]
  iapply (widen_wp (u := 0) (u' := 0) (n := 0) rfl rfl rfl rfl)
  isplitl [HI]; · iexact HI
  isplitl [HA]; · iapply Nats_join; iexact HA
  iintro HI HA
  iapply (loop_wp (f11 := k11))
  isplitl [HI H11 H12 HA HB]
  · unfold St
    isplitl [HI]; · iexact HI
    isplitl [H11]; · iexact H11
    isplitl [H12]
    · unfold Out
      iexists f12
      isplitr; · ipureintro; exact fun _ h => absurd h (Nat.not_lt_zero _)
      iexact H12
    isplitl [HA]; · iexact HA
    iapply Nats_join; iexact HB
  iintro HSt
  iapply post_wp
  isplitl [HSt]; · iexact HSt
  isplitl [H8]; · iexact H8
  isplitl [HS4]; · iexact HS4
  isplitl [HW]; · iexact HW
  iintro %W' HI H11 H12 HA HB H8 HS4 HW
  iapply Hk $$ %_ HI H4 H5 H6 H7 H8 [H9] [H10] H11 H12 HA HB HS0 HS1 HS4 HW
  · unfold Any; iexists _; iexact H9
  · unfold Any; iexists _; iexact H10

end Cert.KernelDcIdeal.Hand

end
-- ==== Proof.KernelDcIdeal.Whole.lean ====
/- The whole program: the host operations, the one launch, its body by `body_wp`. It ends with its
   arguments unchanged, every semaphore at zero, and the result at `DC` of the arrays the region
   finds. -/
module

public import proofs.«01_k».proof.Proof.Gen.KernelDcIdeal.Frame
public import proofs.«01_k».proof.Proof.KernelDcIdeal.Run
public import Idealize.ShloMosaic.Lib.Pipeline.FrameValue

@[expose] public section

noncomputable section

namespace Cert.KernelDcIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelDcIdeal Cert.KernelDcIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch is handed -/

/-- The copy-out semaphores no copy of this slice uses. -/
abbrev semQ (arg18 : DmaSems sig S5) (i : Fin 4) : DmaSem sig :=
  ((arg18.slice (Rect.unit (s := S5) ![i.1] S1.size (fun a => by have := i.2; match a with | ⟨0, _⟩ => show i.1 + 1 ≤ 5; omega))).squeeze S_ squeezes_S1_S_).sem

/-- The semaphores of the two copies in and of the copies out. -/
abbrev osem0 : Fin 7 → SemLoc sig := fun j => (![SemLoc.dma (semW0 cc0_scratch8), SemLoc.dma (semW1 cc0_scratch8), SemLoc.dma (semQ cc0_scratch9 0), SemLoc.dma (semQ cc0_scratch9 1), SemLoc.dma (semQ cc0_scratch9 2), SemLoc.dma (semQ cc0_scratch9 3), SemLoc.dma (semO cc0_scratch9)] : Fin 7 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semW0 cc0_scratch8)) 0
        ∗ semVal ((c : Thread nD τ), SemLoc.dma (semW1 cc0_scratch8)) 0
        ∗ semVal ((c : Thread nD τ), SemLoc.dma (semQ cc0_scratch9 0)) 0
        ∗ semVal ((c : Thread nD τ), SemLoc.dma (semQ cc0_scratch9 1)) 0
        ∗ semVal ((c : Thread nD τ), SemLoc.dma (semQ cc0_scratch9 2)) 0
        ∗ semVal ((c : Thread nD τ), SemLoc.dma (semQ cc0_scratch9 3)) 0
        ∗ semVal ((c : Thread nD τ), SemLoc.dma (semO cc0_scratch9)) 0) := by
  rw [Pipeline.ownSems0_eq_of_list c osem0 [0, 1, 2, 3, 4, 5, 6] (by decide) (by decide)]; rfl

/-- The operands the body copies in, and the result it copies out. -/
def H0 : Finset (Ref sig .tc) := {main_v4, main_v5}
def R0 : Finset (Ref sig .tc) := {main_v6}
theorem H0_sub : H0 ⊆ Pipeline.restRefs sig spec0 := by decide
theorem R0_sub : R0 ⊆ Pipeline.restRefs sig spec0 \ H0 := by decide

/-- A whole buffer, as the memref on it. -/
theorem Pt_whole (c : Dev nD) (b : Ref sig .tc) (q : PosShare TreeShare) (f : Buf (Elt F) ((c : Thread nD τ).loc b)) :
    (((c : Thread nD τ).loc b) ↦{q} f : sProp 𝕄) = ((Memref.whole b : Memref sig .tc _ _ _).view.loc (c : Thread nD τ) ↦[(Memref.whole b : Memref sig .tc _ _ _).view.set]{q} f) := by
  rw [show (Memref.whole b : Memref sig .tc _ _ _).view.set = Finset.univ from View.set_whole b]

theorem hbmPts0_eq (c : Dev nD) :
    (bigSep H0 (fun b => ((c : Thread nD τ).loc b) ↦{fullShare} V m c b) : sProp 𝕄)
      = iprop(Pt c (Memref.whole main_v4) fullShare (V m c main_v4) ∗ Pt c (Memref.whole main_v5) fullShare (V m c main_v5)) := by
  rw [BI.bigSep_eq_bigSepL_of_eq [main_v4, main_v5] (by decide) (by decide)]
  simp only [BI.bigSepL_cons_cons, BI.bigSepL_singleton]
  rw [Pt_whole, Pt_whole]
  rfl

theorem routed0_eq (c : Dev nD) (G : (b : Ref sig .tc) → Buf (Elt F) ((c : Thread nD τ).loc b)) :
    (Pipeline.routed R0 c G : sProp 𝕄) = Pt c (Memref.whole main_v6) fullShare (G main_v6) := by
  unfold Pipeline.routed; rw [BI.bigSep_eq_bigSepL_of_eq [main_v6] (by decide) (by decide)]
  exact Pt_whole c main_v6 fullShare _

/-! ## What the program computes -/

/-- The weights' codes, as the body copies them in, and their scales, as it finds them staged. -/
abbrev wcodes (c : Dev nD) : Fin 2 → S8192x128.Idx → Elt F .fp8e4m3 :=
  CC (rd (c := c) (Memref.whole main_v4) (V m c main_v4)) (rd (c := c) (Memref.whole main_v5) (V m c main_v5))
abbrev wscales (c : Dev nD) (t : Fin cfg0.N) : Fin 2 → S4x16.Idx → Elt F .f32 := SS (iblk m c 4 t) (iblk m c 5 t)

/-- The result. -/
def RES (c : Dev nD) (t : Fin cfg0.N) : S1920x512.Idx → Elt F .bf16 :=
  DC (iblk m c 0 t) (iblk m c 1 t) (iblk m c 2 t) (iblk m c 3 t) (WB (wcodes m c) (wscales m c t))

/-- The unscoped buffers at the end. -/
def G (c : Dev nD) (b : Ref sig .tc) : Buf (Elt F) ((c : Thread nD τ).loc b) :=
  Function.update (V m c) main_v6 (RES m c t0_0) b

theorem G_0 (c : Dev nD) : G m c main_v6 = RES m c t0_0 := by
  unfold G
  rw [Function.update_self]

/-- What the body hands on: at the start the result as the region finds it, at the end finished. -/
def Inv (c : Dev nD) (G : (b : Ref sig .tc) → Buf (Elt F) ((c : Thread nD τ).loc b)) : sProp 𝕄 :=
  iprop((Any c (Memref.whole cc0_scratch0)
      ∗ Any c (Memref.whole cc0_scratch1)
      ∗ Any c (Memref.whole cc0_scratch2)
      ∗ Any c (Memref.whole cc0_scratch3)
      ∗ Any c (Memref.whole cc0_scratch4)
      ∗ Any c (Memref.whole cc0_scratch5)
      ∗ Any c (Memref.whole cc0_scratch6)
      ∗ Any c (Memref.whole cc0_scratch7))
    ∗ (∃ r, prngReg c r)
    ∗ (semVal ((c : Thread nD τ), SemLoc.dma (semW0 cc0_scratch8)) 0
        ∗ semVal ((c : Thread nD τ), SemLoc.dma (semW1 cc0_scratch8)) 0
        ∗ semVal ((c : Thread nD τ), SemLoc.dma (semQ cc0_scratch9 0)) 0
        ∗ semVal ((c : Thread nD τ), SemLoc.dma (semQ cc0_scratch9 1)) 0
        ∗ semVal ((c : Thread nD τ), SemLoc.dma (semQ cc0_scratch9 2)) 0
        ∗ semVal ((c : Thread nD τ), SemLoc.dma (semQ cc0_scratch9 3)) 0
        ∗ semVal ((c : Thread nD τ), SemLoc.dma (semO cc0_scratch9)) 0)
    ∗ (Pt c (Memref.whole main_v4) fullShare (V m c main_v4) ∗ Pt c (Memref.whole main_v5) fullShare (V m c main_v5))
    ∗ Pt c (Memref.whole main_v6) fullShare (G main_v6))

theorem inv_eq (c : Dev nD) (G : (c : Dev nD) → (b : Ref sig .tc) → Buf (Elt F) ((c : Thread nD τ).loc b)) :
    Pipeline.ΦDRG osem0 spec0 H0 R0 (V m) G c = Inv m c (G c) := by
  rw [Pipeline.ΦDRG_eq, scopedRest0_eq, ownSems00_eq, hbmPts0_eq, routed0_eq]
  unfold Inv Any
  simp only [Pt_whole]

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := Inv m c (if t.1 = 0 then V m c else G m c)
  q _ := fullShare
  owed _ := 0

theorem A_eq (c : Dev nD) (w : Fin cfg0.W) : (dats m 0 c).A w = V m c (Pipeline.arrRef spec0 w) := by
  dsimp only [dats]

section
variable (c : Dev nD) (t : Fin cfg0.N)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
end

/-! An input's staging buffer holds its block when the body starts. -/

section
variable {m} {c : Dev nD} (t : Fin cfg0.N)
theorem before0 (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
end

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [body_eq]
  simp only [before0, before1, before2, before3, before4, before5, after0, after1, after2, after3, after4, after5]
  rw [show (dats m 0 c).Φ (Fin.castSucc t0_0) = Inv m c (V m c) from rfl, show (dats m 0 c).Φ (Fin.succ t0_0) = Inv m c (G m c) from rfl]
  unfold Inv
  rw [G_0]
  unfold Dat.owesAt Pipeline.owesWithin
  rw [show (dats m 0 c).owed (Fin.castSucc t0_0) = 0 from rfl, show (dats m 0 c).owed (Fin.succ t0_0) = 0 from rfl]
  unfold owns
  iintro ⟨⟨⟨H9, H10, H11, H12, H13, H14, H15, H16⟩, Hg, ⟨HS0, HS1, HQ0, HQ1, HQ2, HQ3, HS4⟩, ⟨H4, H6⟩, H8⟩, ⟨%W, -, HW⟩, ⟨%d0, %f0, %e0, H0⟩, ⟨%d1, %f1, %e1, H1⟩, ⟨%d2, %f2, %e2, H2⟩, ⟨%d3, %f3, %e3, H3⟩, ⟨%d5, %f5, %e5, H5⟩, ⟨%d7, %f7, %e7, H7⟩⟩
  have eA : DC (rd (c := c) (st0_0 t0_0) f0) (rd (c := c) (st0_1 t0_0) f1) (rd (c := c) (st0_2 t0_0) f2) (rd (c := c) (st0_3 t0_0) f3)
      (WB (CC (rd (c := c) (Memref.whole main_v4) (V m c main_v4)) (rd (c := c) (Memref.whole main_v5) (V m c main_v5))) (SS (rd (c := c) (st0_4 t0_0) f5) (rd (c := c) (st0_5 t0_0) f7)))
      = RES m c t0_0 := by
    rw [show rd (c := c) (st0_0 t0_0) f0 = _ from e0, show rd (c := c) (st0_1 t0_0) f1 = _ from e1, show rd (c := c) (st0_2 t0_0) f2 = _ from e2,
      show rd (c := c) (st0_3 t0_0) f3 = _ from e3, show rd (c := c) (st0_4 t0_0) f5 = _ from e5, show rd (c := c) (st0_5 t0_0) f7 = _ from e7]; rfl
  iapply (body_wp (arg0 := st0_0 t0_0) (arg1 := st0_1 t0_0) (arg2 := st0_2 t0_0) (arg3 := st0_3 t0_0) (arg4 := Memref.whole main_v4) (arg5 := st0_4 t0_0) (arg6 := Memref.whole main_v5) (arg7 := st0_5 t0_0)
    (arg8 := Memref.whole main_v6) (arg9 := Memref.whole cc0_scratch0) (arg10 := Memref.whole cc0_scratch1) (arg11 := Memref.whole cc0_scratch2) (arg12 := Memref.whole cc0_scratch3)
    (arg13 := Memref.whole cc0_scratch4) (arg14 := Memref.whole cc0_scratch5) (arg15 := Memref.whole cc0_scratch6) (arg16 := Memref.whole cc0_scratch7) (arg17 := cc0_scratch8) (arg18 := cc0_scratch9)
    (f0 := f0) (f1 := f1) (f2 := f2) (f3 := f3) (f4 := V m c main_v4) (f5 := f5) (f6 := V m c main_v5) (f7 := f7)
    (q0 := fullShare) (q1 := fullShare) (q2 := fullShare) (q3 := fullShare) (q5 := fullShare) (q7 := fullShare))
  rw [eA]
  unfold Ins
  isplitl [H0 H1 H2 H3]
  · isplitl [H0]; · iexact H0
    isplitl [H1]; · iexact H1
    isplitl [H2]; · iexact H2
    iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13 H14]
  · isplitl [H13]; · iexact H13
    iexact H14
  isplitl [H15 H16]
  · isplitl [H15]; · iexact H15
    iexact H16
  isplitl [HS0]; · iexact HS0
  isplitl [HS1]; · iexact HS1
  isplitl [HS4]; · iexact HS4
  isplitl [HW]; · iexact HW
  iintro %W' ⟨H0, H1, H2, H3⟩ H4 H5 H6 H7 ⟨%fo, %ho, H8⟩ H9 H10 H11 H12 ⟨H13, H14⟩ ⟨H15, H16⟩ HS0 HS1 HS4 HW
  have eo : fo = RES m c t0_0 := ho
  rw [eo]
  isplitl [H4 H6 H8 H9 H10 H11 H12 H13 H14 H15 H16 Hg HS0 HS1 HQ0 HQ1 HQ2 HQ3 HS4]
  · isplitl [H9 H10 H11 H12 H13 H14 H15 H16]
    · isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    isplitl [Hg]; · iexact Hg
    isplitl [HS0 HS1 HQ0 HQ1 HQ2 HQ3 HS4]
    · isplitl [HS0]; · iexact HS0
      isplitl [HS1]; · iexact HS1
      isplitl [HQ0]; · iexact HQ0
      isplitl [HQ1]; · iexact HQ1
      isplitl [HQ2]; · iexact HQ2
      isplitl [HQ3]; · iexact HQ3
      iexact HS4
    isplitl [H4 H6]
    · isplitl [H4]; · iexact H4
      iexact H6
    iexact H8
  isplitl [HW]
  · iexists W'; isplitr; · ipureintro; exact fun _ _ => Or.inl trivial
    iexact HW
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H5]
  · iexists f5; isplitr; · ipureintro; exact e5
    iexact H5
  iexists f7; isplitr; · ipureintro; exact e7
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m) (hA := A_eq m) (G := G m)
    (hin := fun c => (inv_eq m c (V m)).le) (hout := fun c => (inv_eq m c (G m)).ge) (hQ' := fun _ h => h)

/-- What every run ends in: the arguments as launched, the result, no semaphore counted. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v6) = RES m c t0_0)
      ∧ r.2.sem = fun _ => 0) :=
  (θ_run defs _ _).mono (fun _ h => ⟨fun c =>
    have a (b : Ref sig .tc) (hb : b ∈ Pipeline.restRefs sig spec0 \ R0) := (h.1.1 c).2 b hb
    ⟨⟨(a main_arg0 (by decide)).trans (V_main_arg0 m c),
      (a main_arg1 (by decide)).trans (V_main_arg1 m c),
      (a main_arg2 (by decide)).trans (V_main_arg2 m c),
      (a main_arg3 (by decide)).trans (V_main_arg3 m c),
      (a main_arg4 (by decide)).trans (V_main_arg4 m c),
      ((h.1.1 c).1 4).trans (((dats m 0 c).arrAt_in 4 rfl _).trans ((A_eq m c 4).trans (V_main_arg5 m c))),
      (a main_arg6 (by decide)).trans (V_main_arg6 m c),
      ((h.1.1 c).1 5).trans (((dats m 0 c).arrAt_in 5 rfl _).trans ((A_eq m c 5).trans (V_main_arg7 m c)))⟩,
      (h.1.2 c main_v6 (by decide)).trans (G_0 m c)⟩, h.2⟩) (run_main m ρ)

end Cert.KernelDcIdeal.Hand

end
-- ==== Proof.DcIndex.lean ====
/- The latent gradient as mathematics, and the sums the two value proofs of it share: a sum over the
   2048 entries of a token as 8 sums of 256, and a chain of additions as a sum. -/
module

public import proofs.«01_k».proof.Proof.Index

@[expose] public section

noncomputable section

namespace Cert.Num

open Idealize.ShloMosaic Idealize.ShloMosaic.ValueIdx
open scoped BigOperators

/-- The sum over 2048 entries is the sum over 8 pairs of heads of the pairs' sums. -/
theorem sum_pairs {M : Type} [AddCommMonoid M] (f : Fin 2048 → M) :
    ∑ t, f t = ∑ j : Fin 8, ∑ n : Fin 256, f ⟨256 * j.1 + n.1, by omega⟩ := by
  rw [← Fintype.sum_prod_type' (f := fun (j : Fin 8) (n : Fin 256) => f ⟨256 * j.1 + n.1, by omega⟩)]
  refine (Fintype.sum_equiv (finProdFinEquiv (m := 8) (n := 256)) _ _ fun x => ?_).symm
  refine congrArg f (Fin.ext ?_)
  show 256 * x.1.1 + x.2.1 = x.2.1 + 256 * x.1.1
  omega

/-- `m` terms from term `n` on, added one after the other. -/
def chain {M : Type} [Add M] (f : Fin 8 → M) : (m n : ℕ) → M → M
  | 0, _, a => a
  | m + 1, n, a => chain f m (n + 1) (a + f ⟨n % 8, Nat.mod_lt _ (by decide)⟩)

theorem chain_sum {M : Type} [AddCommMonoid M] (f g : Fin 8 → M) :
    chain g 8 0 (chain f 7 1 (f 0)) = (∑ j, f j) + ∑ j, g j := by
  show f 0 + f 1 + f 2 + f 3 + f 4 + f 5 + f 6 + f 7 + g 0 + g 1 + g 2 + g 3 + g 4 + g 5 + g 6 + g 7 = _
  simp only [Fin.sum_univ_eight, ← add_assoc]

/-! ## The mathematics -/

/-- Entry `n` of a token's cotangent: its code times the scale of the token's head. -/
def tok (a : (⟨4, ![3, 640, 16, 128]⟩ : Shape).Idx → EReal) (s : (⟨3, ![3, 640, 16]⟩ : Shape).Idx → EReal) (t : Fin 1920) (n : Fin 2048) : EReal :=
  a (ix4 (⟨t.1 / 640, by omega⟩ : Fin 3) (⟨t.1 % 640, by omega⟩ : Fin 640) (⟨n.1 / 128, by omega⟩ : Fin 16) (⟨n.1 % 128, by omega⟩ : Fin 128))
    * s (ix3 (⟨t.1 / 640, by omega⟩ : Fin 3) (⟨t.1 % 640, by omega⟩ : Fin 640) (⟨n.1 / 128, by omega⟩ : Fin 16))

/-- Entry `n` of a weight's row: its code times the scale of its group of 128 rows at its head. -/
def wgt (w : (⟨3, ![512, 16, 128]⟩ : Shape).Idx → EReal) (s : (⟨2, ![4, 16]⟩ : Shape).Idx → EReal) (r : Fin 512) (n : Fin 2048) : EReal :=
  w (ix3 r (⟨n.1 / 128, by omega⟩ : Fin 16) (⟨n.1 % 128, by omega⟩ : Fin 128))
    * s (ix2 (⟨r.1 / 128, by omega⟩ : Fin 4) (⟨n.1 / 128, by omega⟩ : Fin 16))

section
variable (a0 : (⟨4, ![3, 640, 16, 128]⟩ : Shape).Idx → EReal) (a1 : (⟨3, ![3, 640, 16]⟩ : Shape).Idx → EReal)
  (a2 : (⟨4, ![3, 640, 16, 128]⟩ : Shape).Idx → EReal) (a3 : (⟨3, ![3, 640, 16]⟩ : Shape).Idx → EReal)
  (a4 : (⟨3, ![512, 16, 128]⟩ : Shape).Idx → EReal) (a5 : (⟨2, ![4, 16]⟩ : Shape).Idx → EReal)
  (a6 : (⟨3, ![512, 16, 128]⟩ : Shape).Idx → EReal) (a7 : (⟨2, ![4, 16]⟩ : Shape).Idx → EReal)

/-- The latent gradient: each token's key cotangent against the key weight, plus its value cotangent
    against the value weight. -/
def dcArr (y : (⟨2, ![1920, 512]⟩ : Shape).Idx) : EReal :=
  (∑ n : Fin 2048, tok a0 a1 ⟨(y 0).1, (y 0).2⟩ n * wgt a4 a5 ⟨(y 1).1, (y 1).2⟩ n)
    + ∑ n : Fin 2048, tok a2 a3 ⟨(y 0).1, (y 0).2⟩ n * wgt a6 a7 ⟨(y 1).1, (y 1).2⟩ n
end

end Cert.Num
-- ==== Proof.KernelDcIdeal.Value.lean ====
/- What the kernel's result is at the exact values: entry `(t, r)` is the sum over the 2048 entries of
   token `t` times weight row `r`, for the keys and for the values. -/
module

public import proofs.«01_k».proof.Proof.KernelDcIdeal.Whole
public import proofs.«01_k».proof.Proof.DcIndex
public import Idealize.ShloMosaic.Lib.StableHlo.RunRead

@[expose] public section

noncomputable section

namespace Cert.KernelDcIdeal.Hand

open Idealize.ShloMosaic Idealize.ShloMosaic.TcCoe Idealize.ShloMosaic.ValueIdx
open Cert.KernelDcIdeal Cert.KernelDcIdeal.Gen Cert.Num
open scoped BigOperators

/-! ## The widened factors at an index -/

theorem slice_at {α : Type} (p : Fin 64) (i : Fin 2) (x : S16x128.Idx → α) (h : Fin 16) :
    extractStridedSlice S16x1 ![0, 2 * p.1 + i.1] x (slicesCol p i) (ix2 h (0 : Fin 1)) = x (ix2 h (⟨2 * p.1 + i.1, by omega⟩ : Fin 128)) := by
  refine congrArg x (funext fun a => Fin.ext ?_)
  match a with
  | 0 => show 0 + h.1 = h.1; omega
  | 1 => show 2 * p.1 + i.1 + 0 = 2 * p.1 + i.1; omega

theorem bcast_at {α : Type} (x : S16x1.Idx → α) (h : Fin 16) (d : Fin 128) :
    broadcastTo S16x128 x broadcasts_S16x1_S16x128 (ix2 h d) = x (ix2 h (0 : Fin 1)) := by
  refine congrArg x (funext fun a => Fin.ext ?_)
  match a with
  | 0 => rfl
  | 1 => rfl

theorem self_at {α : Type} (x : S16x1.Idx → α) (h : Fin 16) : shapeCast S16x1 x shapeCasts_S16x1_S16x1 (ix2 h (0 : Fin 1)) = x (ix2 h (0 : Fin 1)) :=
  cast_at x shapeCasts_S16x1_S16x1 (ix2 h (0 : Fin 1)) (ix2 h (0 : Fin 1)) rfl

theorem col_at (p : Fin 64) (i : Fin 2) (s : Vec Ideal S1x16x128 .f32) (h : Fin 16) :
    shapeCast S16x1 (extractStridedSlice S16x1 ![0, 2 * p.1 + i.1] (shapeCast S16x128 s shapeCasts_S1x16x128_S16x128) (slicesCol p i)) shapeCasts_S16x1_S16x1 (ix2 h (0 : Fin 1))
      = s (ix3 (0 : Fin 1) h (⟨2 * p.1 + i.1, by omega⟩ : Fin 128)) := by
  rw [self_at, slice_at]
  refine cast_at s _ _ _ ?_
  rw [Shape.rowMajor_val_two, Shape.rowMajor_val_three]
  show (0 * 16 + h.1) * 128 + (2 * p.1 + i.1) = h.1 * 128 + (2 * p.1 + i.1)
  omega

theorem widePay_at (p : Fin 64) (i : Fin 2) (s : Vec Ideal S1x16x128 .f32) (v : Vec Ideal S32x128 .fp8e5m2) (h : Fin 16) (d : Fin 128) :
    widePay p i s v (ix2 h d) = (v (ix2 (⟨16 * i.1 + h.1, by omega⟩ : Fin 32) d) * s (ix3 (0 : Fin 1) h (⟨2 * p.1 + i.1, by omega⟩ : Fin 128)) : EReal) := by
  unfold widePay
  refine (cast_at (α := EReal) _ _ _ (ix2 h d) rfl).trans ?_
  refine congrArg₂ (fun x y : EReal => x * y) ?_ ?_
  · show extractStridedSlice S16x128 ![16 * i.1, 0] (shapeCast S32x128 v shapeCasts_S32x128_S32x128) (slicesHalf i) (ix2 h d) = _
    refine cast_at v _ _ _ ?_
    rw [Shape.rowMajor_val_two, Shape.rowMajor_val_two]
    show (16 * i.1 + h.1) * 128 + d.1 = (16 * i.1 + h.1) * 128 + (0 + d.1)
    omega
  · show broadcastTo S16x128 (shapeCast S16x1 (extractStridedSlice S16x1 ![0, 2 * p.1 + i.1] (shapeCast S16x128 s shapeCasts_S1x16x128_S16x128) (slicesCol p i)) shapeCasts_S16x1_S16x1) broadcasts_S16x1_S16x128 (ix2 h d) = _
    exact (bcast_at _ h d).trans (col_at p i s h)

theorem codesQ_at (q : Fin 4) (v : Vec Ideal S2048x128 .fp8e4m3) (l : Fin 128) (k : Fin 4) (d : Fin 128) :
    codesQ q v (ix3 l k d) = v (ix2 (⟨16 * l.1 + 4 * q.1 + k.1, by omega⟩ : Fin 2048) d) := by
  unfold codesQ
  refine (cast_at _ _ _ (ix4 l (0 : Fin 1) k d) ?_).trans ?_
  · rw [Shape.rowMajor_val_three, Shape.rowMajor_val_four]
    show ((l.1 * 1 + 0) * 4 + k.1) * 128 + d.1 = (l.1 * 4 + k.1) * 128 + d.1
    omega
  refine cast_at v _ _ (ix2 (⟨16 * l.1 + 4 * q.1 + k.1, by omega⟩ : Fin 2048) d) ?_
  rw [Shape.rowMajor_val_two, Shape.rowMajor_val_four]
  show (16 * l.1 + 4 * q.1 + k.1) * 128 + d.1 = (((0 + l.1) * 4 + (q.1 + 0)) * 4 + (0 + k.1)) * 128 + (0 + d.1)
  omega

theorem wPay_at (k : Fin 4) (w : FVec Ideal S128x4x128 .fp8e4m3) (s : Elt Ideal .f32) (l d : Fin 128) :
    wPay k w s (ix4 (0 : Fin 1) (0 : Fin 1) l d) = (w (ix3 l k d) * s : EReal) := by
  unfold wPay
  refine (cast_at (α := EReal) _ _ _ (ix2 l d) ?_).trans ?_
  · rw [Shape.rowMajor_val_two, Shape.rowMajor_val_four]
    show l.1 * 128 + d.1 = ((0 * 1 + 0) * 128 + l.1) * 128 + d.1
    omega
  refine congrArg₂ (fun x y : EReal => x * y) ?_ rfl
  show shapeCast S128x128 (extractStridedSlice S128x1x128 ![0, k.1, 0] w (slicesK k)) shapeCasts_S128x1x128_S128x128 (ix2 l d) = w (ix3 l k d)
  refine (cast_at _ _ _ (ix3 l (0 : Fin 1) d) ?_).trans ?_
  · rw [Shape.rowMajor_val_two, Shape.rowMajor_val_three]
    show (l.1 * 1 + 0) * 128 + d.1 = l.1 * 128 + d.1
    omega
  refine congrArg w (funext fun a => Fin.ext ?_)
  match a with
  | 0 => show 0 + l.1 = l.1; omega
  | 1 => show k.1 + 0 = k.1; omega
  | 2 => show 0 + d.1 = d.1; omega

/-- Entry `n` of weight row `r`, from the codes as rows of heads. -/
def wK (cd : S8192x128.Idx → EReal) (sc : S4x16.Idx → EReal) (r : Fin 512) (n : Fin 2048) : EReal :=
  cd (ix2 (⟨16 * r.1 + n.1 / 128, by omega⟩ : Fin 8192) (⟨n.1 % 128, by omega⟩ : Fin 128)) * sc (ix2 (⟨r.1 / 128, by omega⟩ : Fin 4) (⟨n.1 / 128, by omega⟩ : Fin 16))

/-- Entry `n` of token `t`, likewise. -/
def tK (cd : S30720x128.Idx → EReal) (sc : S3x16x640.Idx → EReal) (t : Fin 1920) (n : Fin 2048) : EReal :=
  cd (ix2 (⟨16 * t.1 + n.1 / 128, by omega⟩ : Fin 30720) (⟨n.1 % 128, by omega⟩ : Fin 128)) * sc (ix3 (⟨t.1 / 640, by omega⟩ : Fin 3) (⟨n.1 / 128, by omega⟩ : Fin 16) (⟨t.1 % 640, by omega⟩ : Fin 640))

theorem WB_at (C : Fin 2 → S8192x128.Idx → EReal) (S : Fin 2 → S4x16.Idx → EReal) (i : Fin 2) (j : Fin 8) (r : Fin 512) (n : Fin 256) :
    WB (F := Ideal) C S (ix4 i j r n) = wK (C i) (S i) r ⟨256 * j.1 + n.1, by omega⟩ := by
  refine (wPay_at _ _ _ _ _).trans (congrArg₂ (fun x y : EReal => x * y) ((codesQ_at _ _ _ _ _).trans (congrArg (C i) ?_)) (congrArg (S i) ?_))
  · refine funext fun a => Fin.ext ?_
    match a with
    | 0 => show 2048 * (r.1 / 128) + 1 * (16 * (r.1 % 128) + 4 * ((2 * j.1 + n.1 / 128) / 4) + (2 * j.1 + n.1 / 128) % 4) = 16 * r.1 + (256 * j.1 + n.1) / 128; omega
    | 1 => show 0 + 1 * (n.1 % 128) = (256 * j.1 + n.1) % 128; omega
  · refine funext fun a => Fin.ext ?_
    match a with
    | 0 => show r.1 / 128 + 1 * 0 = r.1 / 128; omega
    | 1 => show 4 * ((2 * j.1 + n.1 / 128) / 4) + (2 * j.1 + n.1 / 128) % 4 + 1 * 0 = (256 * j.1 + n.1) / 128; omega

theorem WR_at (cd : S30720x128.Idx → EReal) (sc : S3x16x640.Idx → EReal) (g : Fin 15) (l : ℕ) (hl : l < 128) (h : Fin 16) (d : Fin 128)
    (t : Fin 1920) (n : Fin 2048) (ht : t.1 = 128 * g.1 + l) (hn : n.1 = 128 * h.1 + d.1) :
    WR (F := Ideal) cd sc g l (ix2 h d) = tK cd sc t n := by
  unfold WR
  refine (widePay_at _ _ _ _ _ _).trans (congrArg₂ (fun x y : EReal => x * y) (congrArg cd ?_) (congrArg sc ?_))
  · refine funext fun a => Fin.ext ?_
    match a with
    | 0 => show 2048 * g.1 + 32 * (l / 2 % 64) + 1 * (16 * (l % 2) + h.1) = 16 * t.1 + n.1 / 128; omega
    | 1 => show 0 + 1 * d.1 = n.1 % 128; omega
  · refine funext fun a => Fin.ext ?_
    match a with
    | 0 => show g.1 / 5 + 1 * 0 = t.1 / 640; omega
    | 1 => show 0 + 1 * h.1 = n.1 / 128; omega
    | 2 => show g.1 % 5 * 128 + 1 * (2 * (l / 2 % 64) + l % 2) = t.1 % 640; omega

theorem SD_at (cd : S30720x128.Idx → EReal) (sc : S3x16x640.Idx → EReal) (u : ℕ) (hu : u < 7) (j : Fin 8) (l n : Fin 256) :
    SD (F := Ideal) cd sc u j (ix2 l n) = tK cd sc ⟨256 * u + l.1, by omega⟩ ⟨256 * j.1 + n.1, by omega⟩ := by
  refine WR_at cd sc _ _ (Nat.mod_lt _ (by decide)) _ _ _ _ ?_ ?_
  · show 256 * u + l.1 = 128 * ((2 * u + l.1 / 128) % 15) + l.1 % 128; omega
  · show 256 * j.1 + n.1 = 128 * (2 * j.1 + n.1 / 128) + n.1 % 128; omega

theorem SD'_at (cd : S30720x128.Idx → EReal) (sc : S3x16x640.Idx → EReal) (j : Fin 8) (l : Fin 128) (n : Fin 256) :
    SD' (F := Ideal) cd sc j (ix2 l n) = tK cd sc ⟨1792 + l.1, by omega⟩ ⟨256 * j.1 + n.1, by omega⟩ := by
  refine WR_at cd sc _ _ l.2 _ _ _ _ ?_ ?_
  · show 1792 + l.1 = 128 * (14 % 15) + l.1; omega
  · show 256 * j.1 + n.1 = 128 * (2 * j.1 + n.1 / 128) + n.1 % 128; omega

/-! ## The products -/

theorem tile_at (l : Vec Ideal S1x1x512x256 .bf16) (r : Fin 512) (n : Fin 256) :
    (shapeCast S512x256 l shapeCasts_S1x1x512x256_S512x256 : FVec Ideal S512x256 .bf16) (ix2 r n) = l (ix4 (0 : Fin 1) (0 : Fin 1) r n) := by
  refine cast_at l _ _ _ ?_
  rw [Shape.rowMajor_val_two, Shape.rowMajor_val_four]
  show ((0 * 1 + 0) * 512 + r.1) * 256 + n.1 = r.1 * 256 + n.1
  omega

theorem PR_at (s : FVec Ideal S256x256 .bf16) (l : Vec Ideal S1x1x512x256 .bf16) (r : Fin 512) (t : Fin 256) :
    PR (F := Ideal) s l (ix2 r t) = (∑ n : Fin 256, l (ix4 (0 : Fin 1) (0 : Fin 1) r n) * s (ix2 t n) : EReal) := by
  unfold PR
  refine (Ideal.matmul_constant_zero_apply dot_S512x256_S256x256_S512x256_1_1_0_0_n_n none _ s (ix2 r t)).trans ?_
  rw [← Equiv.sum_comp (contrEquiv1 dot_S512x256_S256x256_S512x256_1_1_0_0_n_n 256 rfl rfl).symm]
  refine Finset.sum_congr rfl fun n _ => ?_
  have hn := contrEquiv1_symm_val dot_S512x256_S256x256_S512x256_1_1_0_0_n_n 256 rfl rfl n
  refine congrArg₂ (fun x y : EReal => x * y) ((congrArg _ ?_).trans (tile_at l r n)) (congrArg s ?_)
  · refine funext fun a => Fin.ext ?_
    match a with
    | ⟨0, _⟩ => rfl
    | ⟨1, _⟩ => exact hn
  · refine funext fun a => Fin.ext ?_
    match a with
    | ⟨0, _⟩ => rfl
    | ⟨1, _⟩ => exact hn

theorem PR'_at (s : FVec Ideal S128x256 .bf16) (l : Vec Ideal S1x1x512x256 .bf16) (r : Fin 512) (t : Fin 128) :
    PR' (F := Ideal) s l (ix2 r t) = (∑ n : Fin 256, l (ix4 (0 : Fin 1) (0 : Fin 1) r n) * s (ix2 t n) : EReal) := by
  unfold PR'
  refine (Ideal.matmul_constant_zero_apply dot_S512x256_S128x256_S512x128_1_1_0_0_n_n none _ s (ix2 r t)).trans ?_
  rw [← Equiv.sum_comp (contrEquiv1 dot_S512x256_S128x256_S512x128_1_1_0_0_n_n 256 rfl rfl).symm]
  refine Finset.sum_congr rfl fun n _ => ?_
  have hn := contrEquiv1_symm_val dot_S512x256_S128x256_S512x128_1_1_0_0_n_n 256 rfl rfl n
  refine congrArg₂ (fun x y : EReal => x * y) ((congrArg _ ?_).trans (tile_at l r n)) (congrArg s ?_)
  · refine funext fun a => Fin.ext ?_
    match a with
    | ⟨0, _⟩ => rfl
    | ⟨1, _⟩ => exact hn
  · refine funext fun a => Fin.ext ?_
    match a with
    | ⟨0, _⟩ => rfl
    | ⟨1, _⟩ => exact hn

section
variable (C : Fin 2 → S8192x128.Idx → EReal) (S : Fin 2 → S4x16.Idx → EReal) (cd : S30720x128.Idx → EReal) (sc : S3x16x640.Idx → EReal)

/-- Pair `j`'s part of an entry. -/
def part (i : Fin 2) (t : Fin 1920) (r : Fin 512) (j : Fin 8) : EReal :=
  ∑ n : Fin 256, tK cd sc t ⟨256 * j.1 + n.1, by omega⟩ * wK (C i) (S i) r ⟨256 * j.1 + n.1, by omega⟩

theorem part_sum (i : Fin 2) (t : Fin 1920) (r : Fin 512) : ∑ j, part C S cd sc i t r j = ∑ n : Fin 2048, tK cd sc t n * wK (C i) (S i) r n :=
  (sum_pairs fun n : Fin 2048 => tK cd sc t n * wK (C i) (S i) r n).symm

theorem read_tile (i : Fin 2) (j : Fin 8) (r : Fin 512) (n : Fin 256) :
    WB (F := Ideal) C S ((rTile i j).emb (ix4 (0 : Fin 1) (0 : Fin 1) r n)) = wK (C i) (S i) r ⟨256 * j.1 + n.1, by omega⟩ := by
  refine (congrArg (WB (F := Ideal) C S) (?_ : _ = ix4 i j r n)).trans (WB_at C S i j r n)
  refine funext fun a => Fin.ext ?_
  match a with
  | 0 => show i.1 + 1 * 0 = i.1; omega
  | 1 => show j.1 + 1 * 0 = j.1; omega
  | 2 => show 0 + 1 * r.1 = r.1; omega
  | 3 => show 0 + 1 * n.1 = n.1; omega

theorem pr_part (i : Fin 2) (j : Fin 8) (u : ℕ) (hu : u < 7) (r : Fin 512) (l : Fin 256) :
    PR (F := Ideal) (SD cd sc u j) (fun x => WB (F := Ideal) C S ((rTile i j).emb x)) (ix2 r l) = part C S cd sc i ⟨256 * u + l.1, by omega⟩ r j := by
  refine (PR_at _ _ _ _).trans (Finset.sum_congr rfl fun n _ => ?_)
  rw [read_tile, SD_at cd sc u hu, mul_comm]

theorem pr'_part (i : Fin 2) (j : Fin 8) (r : Fin 512) (l : Fin 128) :
    PR' (F := Ideal) (SD' cd sc j) (fun x => WB (F := Ideal) C S ((rTile i j).emb x)) (ix2 r l) = part C S cd sc i ⟨1792 + l.1, by omega⟩ r j := by
  refine (PR'_at _ _ _ _).trans (Finset.sum_congr rfl fun n _ => ?_)
  rw [read_tile, SD'_at, mul_comm]

theorem TM_at (i : Fin 2) (u : ℕ) (hu : u < 7) (r : Fin 512) (l : Fin 256) (m : ℕ) : ∀ (n : ℕ) (a : FVec Ideal S512x256 .f32),
    TM (F := Ideal) (SD cd sc u) (WB (F := Ideal) C S) i m n a (ix2 r l) = chain (part C S cd sc i ⟨256 * u + l.1, by omega⟩ r) m n (a (ix2 r l)) := by
  induction m with
  | zero => intro n a; rfl
  | succ m ih =>
    intro n a
    refine (ih (n + 1) _).trans (congrArg (chain (part C S cd sc i ⟨256 * u + l.1, by omega⟩ r) m (n + 1)) ?_)
    exact congrArg (fun y : EReal => a (ix2 r l) + y) (pr_part C S cd sc i (jOf n) u hu r l)

theorem TM'_at (i : Fin 2) (r : Fin 512) (l : Fin 128) (m : ℕ) : ∀ (n : ℕ) (a : FVec Ideal S512x128 .f32),
    TM' (F := Ideal) (SD' cd sc) (WB (F := Ideal) C S) i m n a (ix2 r l) = chain (part C S cd sc i ⟨1792 + l.1, by omega⟩ r) m n (a (ix2 r l)) := by
  induction m with
  | zero => intro n a; rfl
  | succ m ih =>
    intro n a
    refine (ih (n + 1) _).trans (congrArg (chain (part C S cd sc i ⟨1792 + l.1, by omega⟩ r) m (n + 1)) ?_)
    exact congrArg (fun y : EReal => a (ix2 r l) + y) (pr'_part C S cd sc i (jOf n) r l)
end

theorem dcPay_at (rb : Fin 4) (a : FVec Ideal S512x256 .f32) (l : Fin 256) (d : Fin 128) (r : Fin 512) (hr : r.1 = 128 * rb.1 + d.1) :
    dcPay (F := Ideal) rb a (ix2 l d) = a (ix2 r l) := by
  unfold dcPay
  refine (cast_at (α := EReal) _ _ _ (ix2 l d) rfl).trans ((transpose_ix2_apply _ _ _ _).trans (congrArg a (funext fun b => Fin.ext ?_)))
  match b with
  | 0 => show 128 * rb.1 + d.1 = r.1; omega
  | 1 => show 0 + l.1 = l.1; omega

theorem dcPay'_at (rb : Fin 4) (a : FVec Ideal S512x128 .f32) (l : Fin 128) (d : Fin 128) (r : Fin 512) (hr : r.1 = 128 * rb.1 + d.1) :
    dcPay' (F := Ideal) rb a (ix2 l d) = a (ix2 r l) := by
  unfold dcPay'
  refine (cast_at (α := EReal) _ _ _ (ix2 l d) rfl).trans ((transpose_ix2_apply _ _ _ _).trans (congrArg a (funext fun b => Fin.ext ?_)))
  match b with
  | 0 => show 128 * rb.1 + d.1 = r.1; omega
  | 1 => show 0 + l.1 = l.1; omega

section
variable (C : Fin 2 → S8192x128.Idx → EReal) (S : Fin 2 → S4x16.Idx → EReal) (kc : S30720x128.Idx → EReal) (ks : S3x16x640.Idx → EReal) (vc : S30720x128.Idx → EReal) (vs : S3x16x640.Idx → EReal)

/-- An entry, from the staged arrays. -/
def entry (t : Fin 1920) (r : Fin 512) : EReal :=
  (∑ n : Fin 2048, tK kc ks t n * wK (C 0) (S 0) r n) + ∑ n : Fin 2048, tK vc vs t n * wK (C 1) (S 1) r n

theorem UA_at (u : ℕ) (hu : u < 7) (r : Fin 512) (l : Fin 256) :
    UA (F := Ideal) kc ks vc vs (WB (F := Ideal) C S) u (ix2 r l) = entry C S kc ks vc vs ⟨256 * u + l.1, by omega⟩ r := by
  unfold UA entry
  rw [TM_at C S vc vs 1 u hu, TM_at C S kc ks 0 u hu, pr_part C S kc ks 0 0 u hu, chain_sum, part_sum, part_sum]

theorem UA'_at (r : Fin 512) (l : Fin 128) :
    UA' (F := Ideal) kc ks vc vs (WB (F := Ideal) C S) (ix2 r l) = entry C S kc ks vc vs ⟨1792 + l.1, by omega⟩ r := by
  unfold UA' entry
  rw [TM'_at C S vc vs 1, TM'_at C S kc ks 0, pr'_part C S kc ks 0 0, chain_sum, part_sum, part_sum]

theorem DC_at (y : S1920x512.Idx) :
    DC (F := Ideal) kc ks vc vs (WB (F := Ideal) C S) y = entry C S kc ks vc vs ⟨(y 0).1, (y 0).2⟩ ⟨(y 1).1, (y 1).2⟩ := by
  have l0 : (y 0).1 < 1920 := (y 0).2
  have l1 : (y 1).1 < 512 := (y 1).2
  unfold DC
  by_cases h : (y 0).1 < 1792
  · rw [dif_pos h]
    refine (dcPay_at _ _ _ _ (⟨(y 1).1, l1⟩ : Fin 512) ?_).trans ((UA_at C S kc ks vc vs _ (by omega) _ _).trans (congrArg (fun t => entry C S kc ks vc vs t ⟨(y 1).1, l1⟩) (Fin.ext ?_)))
    · show (y 1).1 = 128 * ((y 1).1 / 128) + (y 1).1 % 128; omega
    · show 256 * ((y 0).1 / 256) + (y 0).1 % 256 = (y 0).1; omega
  · rw [dif_neg h]
    refine (dcPay'_at _ _ _ _ (⟨(y 1).1, l1⟩ : Fin 512) ?_).trans ((UA'_at C S kc ks vc vs _ _).trans (congrArg (fun t => entry C S kc ks vc vs t ⟨(y 1).1, l1⟩) (Fin.ext ?_)))
    · show (y 1).1 = 128 * ((y 1).1 / 128) + (y 1).1 % 128; omega
    · show 1792 + ((y 0).1 - 1792) = (y 0).1; omega
end

/-! ## From the arguments -/

theorem tK_tok (cd : S30720x128.Idx → EReal) (sc : S3x16x640.Idx → EReal) (a : S3x640x16x128.Idx → EReal) (s : S3x640x16.Idx → EReal)
    (ec : cd = shapeCast S30720x128 a shapeCasts_S3x640x16x128_S30720x128) (es : sc = transpose S3x16x640 [0, 2, 1] s transposes_S3x640x16_S3x16x640_0_2_1)
    (t : Fin 1920) (n : Fin 2048) : tK cd sc t n = tok a s t n := by
  subst ec es
  refine congrArg₂ (fun x y : EReal => x * y) (cast_at a _ _ _ ?_) (congrArg s ?_)
  · rw [Shape.rowMajor_val_two, Shape.rowMajor_val_four]
    show ((t.1 / 640 * 640 + t.1 % 640) * 16 + n.1 / 128) * 128 + n.1 % 128 = (16 * t.1 + n.1 / 128) * 128 + n.1 % 128
    omega
  · refine funext fun a => Fin.ext ?_
    match a with
    | 0 => rfl
    | 1 => rfl
    | 2 => rfl

theorem wK_wgt (cd : S8192x128.Idx → EReal) (sc : S4x16.Idx → EReal) (w : S512x16x128.Idx → EReal) (s : S4x16.Idx → EReal)
    (ec : cd = shapeCast S8192x128 w shapeCasts_S512x16x128_S8192x128) (es : sc = s) (r : Fin 512) (n : Fin 2048) : wK cd sc r n = wgt w s r n := by
  subst ec es
  refine congrArg₂ (fun x y : EReal => x * y) (cast_at w _ _ _ ?_) rfl
  rw [Shape.rowMajor_val_two, Shape.rowMajor_val_three]
  show (r.1 * 16 + n.1 / 128) * 128 + n.1 % 128 = (16 * r.1 + n.1 / 128) * 128 + n.1 % 128
  omega

theorem DC_dcArr (C : Fin 2 → S8192x128.Idx → EReal) (S : Fin 2 → S4x16.Idx → EReal) (kc : S30720x128.Idx → EReal) (ks : S3x16x640.Idx → EReal) (vc : S30720x128.Idx → EReal) (vs : S3x16x640.Idx → EReal)
    (a0 : S3x640x16x128.Idx → EReal) (a1 : S3x640x16.Idx → EReal) (a2 : S3x640x16x128.Idx → EReal) (a3 : S3x640x16.Idx → EReal)
    (a4 : S512x16x128.Idx → EReal) (a5 : S4x16.Idx → EReal) (a6 : S512x16x128.Idx → EReal) (a7 : S4x16.Idx → EReal)
    (e0 : kc = shapeCast S30720x128 a0 shapeCasts_S3x640x16x128_S30720x128) (e1 : ks = transpose S3x16x640 [0, 2, 1] a1 transposes_S3x640x16_S3x16x640_0_2_1)
    (e2 : vc = shapeCast S30720x128 a2 shapeCasts_S3x640x16x128_S30720x128) (e3 : vs = transpose S3x16x640 [0, 2, 1] a3 transposes_S3x640x16_S3x16x640_0_2_1)
    (e4 : C 0 = shapeCast S8192x128 a4 shapeCasts_S512x16x128_S8192x128) (e5 : S 0 = a5) (e6 : C 1 = shapeCast S8192x128 a6 shapeCasts_S512x16x128_S8192x128) (e7 : S 1 = a7) :
    DC (F := Ideal) kc ks vc vs (WB (F := Ideal) C S) = dcArr a0 a1 a2 a3 a4 a5 a6 a7 := by
  funext y
  refine (DC_at C S kc ks vc vs y).trans (congrArg₂ (fun x y : EReal => x + y) (Finset.sum_congr rfl fun n _ => ?_) (Finset.sum_congr rfl fun n _ => ?_))
  · exact congrArg₂ (fun x y : EReal => x * y) (tK_tok kc ks a0 a1 e0 e1 _ n) (wK_wgt (C 0) (S 0) a4 a5 e4 e5 _ n)
  · exact congrArg₂ (fun x y : EReal => x * y) (tK_tok vc vs a2 a3 e2 e3 _ n) (wK_wgt (C 1) (S 1) a6 a7 e6 e7 _ n)

section
variable (m : (ℓ : Loc nD τ sig) → Buf (Elt Ideal) ℓ) (c : Dev nD)

/-- What the host operations before the call leave in the arrays it finds. -/
theorem V_v0 : V m c main_v0 = shapeCast S30720x128 (m ((c : Thread nD τ).loc main_arg0)) shapeCasts_S3x640x16x128_S30720x128 :=
  (StableHlo.after_last_write (ops := hostOps0) (i := 0) [main_v1, main_v2, main_v3, main_v4, main_v5] rfl rfl (by decide) _).trans rfl
theorem V_v1 : V m c main_v1 = transpose S3x16x640 [0, 2, 1] (m ((c : Thread nD τ).loc main_arg1)) transposes_S3x640x16_S3x16x640_0_2_1 :=
  (StableHlo.after_last_write (ops := hostOps0) (i := 1) [main_v2, main_v3, main_v4, main_v5] rfl rfl (by decide) _).trans rfl
theorem V_v2 : V m c main_v2 = shapeCast S30720x128 (m ((c : Thread nD τ).loc main_arg2)) shapeCasts_S3x640x16x128_S30720x128 :=
  (StableHlo.after_last_write (ops := hostOps0) (i := 2) [main_v3, main_v4, main_v5] rfl rfl (by decide) _).trans rfl
theorem V_v3 : V m c main_v3 = transpose S3x16x640 [0, 2, 1] (m ((c : Thread nD τ).loc main_arg3)) transposes_S3x640x16_S3x16x640_0_2_1 :=
  (StableHlo.after_last_write (ops := hostOps0) (i := 3) [main_v4, main_v5] rfl rfl (by decide) _).trans rfl
theorem V_v4 : V m c main_v4 = shapeCast S8192x128 (m ((c : Thread nD τ).loc main_arg4)) shapeCasts_S512x16x128_S8192x128 :=
  (StableHlo.after_last_write (ops := hostOps0) (i := 4) [main_v5] rfl rfl (by decide) _).trans rfl
theorem V_v5 : V m c main_v5 = shapeCast S8192x128 (m ((c : Thread nD τ).loc main_arg6)) shapeCasts_S512x16x128_S8192x128 :=
  (StableHlo.after_last_write (ops := hostOps0) (i := 5) [] rfl rfl (by decide) _).trans rfl

/-- Every staged block is its whole array. -/
theorem idx_zero0 : ∀ t : Fin cfg0.N, win0_0.index t (0 : Fin 2) = 0 ∧ win0_0.index t (1 : Fin 2) = 0 :=
  (by decide +kernel : ∀ t : Fin grid0.N, _)
theorem iblk0 (t : Fin cfg0.N) : iblk m c 0 t = V m c main_v0 := by
  obtain ⟨e0, e1⟩ := idx_zero0 t
  refine funext fun j => congrArg (V m c main_v0) (funext fun a => Fin.ext ?_)
  match a with
  | ⟨0, _⟩ => show win0_0.index t (0 : Fin 2) * 30720 + 1 * (j 0).val = (j 0).val; omega
  | ⟨1, _⟩ => show win0_0.index t (1 : Fin 2) * 128 + 1 * (j 1).val = (j 1).val; omega
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)
theorem iblk1 (t : Fin cfg0.N) : iblk m c 1 t = V m c main_v1 := by
  obtain ⟨e0, e1, e2⟩ := idx_zero1 t
  refine funext fun j => congrArg (V m c main_v1) (funext fun a => Fin.ext ?_)
  match a with
  | ⟨0, _⟩ => show win0_1.index t (0 : Fin 3) * 3 + 1 * (j 0).val = (j 0).val; omega
  | ⟨1, _⟩ => show win0_1.index t (1 : Fin 3) * 16 + 1 * (j 1).val = (j 1).val; omega
  | ⟨2, _⟩ => show win0_1.index t (2 : Fin 3) * 640 + 1 * (j 2).val = (j 2).val; omega
theorem idx_zero2 : ∀ t : Fin cfg0.N, win0_2.index t (0 : Fin 2) = 0 ∧ win0_2.index t (1 : Fin 2) = 0 :=
  (by decide +kernel : ∀ t : Fin grid0.N, _)
theorem iblk2 (t : Fin cfg0.N) : iblk m c 2 t = V m c main_v2 := by
  obtain ⟨e0, e1⟩ := idx_zero2 t
  refine funext fun j => congrArg (V m c main_v2) (funext fun a => Fin.ext ?_)
  match a with
  | ⟨0, _⟩ => show win0_2.index t (0 : Fin 2) * 30720 + 1 * (j 0).val = (j 0).val; omega
  | ⟨1, _⟩ => show win0_2.index t (1 : Fin 2) * 128 + 1 * (j 1).val = (j 1).val; omega
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)
theorem iblk3 (t : Fin cfg0.N) : iblk m c 3 t = V m c main_v3 := by
  obtain ⟨e0, e1, e2⟩ := idx_zero3 t
  refine funext fun j => congrArg (V m c main_v3) (funext fun a => Fin.ext ?_)
  match a with
  | ⟨0, _⟩ => show win0_3.index t (0 : Fin 3) * 3 + 1 * (j 0).val = (j 0).val; omega
  | ⟨1, _⟩ => show win0_3.index t (1 : Fin 3) * 16 + 1 * (j 1).val = (j 1).val; omega
  | ⟨2, _⟩ => show win0_3.index t (2 : Fin 3) * 640 + 1 * (j 2).val = (j 2).val; omega
theorem idx_zero4 : ∀ t : Fin cfg0.N, win0_4.index t (0 : Fin 2) = 0 ∧ win0_4.index t (1 : Fin 2) = 0 :=
  (by decide +kernel : ∀ t : Fin grid0.N, _)
theorem iblk4 (t : Fin cfg0.N) : iblk m c 4 t = V m c main_arg5 := by
  obtain ⟨e0, e1⟩ := idx_zero4 t
  refine funext fun j => congrArg (V m c main_arg5) (funext fun a => Fin.ext ?_)
  match a with
  | ⟨0, _⟩ => show win0_4.index t (0 : Fin 2) * 4 + 1 * (j 0).val = (j 0).val; omega
  | ⟨1, _⟩ => show win0_4.index t (1 : Fin 2) * 16 + 1 * (j 1).val = (j 1).val; omega
theorem idx_zero5 : ∀ t : Fin cfg0.N, win0_5.index t (0 : Fin 2) = 0 ∧ win0_5.index t (1 : Fin 2) = 0 :=
  (by decide +kernel : ∀ t : Fin grid0.N, _)
theorem iblk5 (t : Fin cfg0.N) : iblk m c 5 t = V m c main_arg7 := by
  obtain ⟨e0, e1⟩ := idx_zero5 t
  refine funext fun j => congrArg (V m c main_arg7) (funext fun a => Fin.ext ?_)
  match a with
  | ⟨0, _⟩ => show win0_5.index t (0 : Fin 2) * 4 + 1 * (j 0).val = (j 0).val; omega
  | ⟨1, _⟩ => show win0_5.index t (1 : Fin 2) * 16 + 1 * (j 1).val = (j 1).val; omega

theorem wcodes0 : wcodes m c 0 = V m c main_v4 := rfl
theorem wcodes1 : wcodes m c 1 = V m c main_v5 := rfl
theorem wscales0 (t : Fin cfg0.N) : wscales m c t 0 = iblk m c 4 t := rfl
theorem wscales1 (t : Fin cfg0.N) : wscales m c t 1 = iblk m c 5 t := rfl

/-- The result, as the latent gradient of the arguments. -/
theorem value : RES m c t0_0 = dcArr (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) :=
  DC_dcArr (wcodes m c) (wscales m c t0_0) _ _ _ _ _ _ _ _ _ _ _ _ ((iblk0 m c _).trans (V_v0 m c)) ((iblk1 m c _).trans (V_v1 m c)) ((iblk2 m c _).trans (V_v2 m c)) ((iblk3 m c _).trans (V_v3 m c))
    ((wcodes0 m c).trans (V_v4 m c)) ((wscales0 m c _).trans ((iblk4 m c _).trans (V_main_arg5 m c))) ((wcodes1 m c).trans (V_v5 m c)) ((wscales1 m c _).trans ((iblk5 m c _).trans (V_main_arg7 m c)))
end

end Cert.KernelDcIdeal.Hand
-- ==== Proof.RefDcValue.lean ====
/- What the latent-gradient reference's result is at the exact values: the same latent gradient. -/
module

public import proofs.«01_k».proof.Proof.Gen.ReferenceDcIdeal.Value
public import proofs.«01_k».proof.Proof.DcIndex

@[expose] public section

noncomputable section

namespace Cert.ReferenceDcIdeal.Hand

open Idealize.ShloMosaic Idealize.ShloMosaic.TcCoe Idealize.ShloMosaic.ValueIdx
open Cert.ReferenceDcIdeal Cert.ReferenceDcIdeal.Gen Cert.Num
open scoped BigOperators

/-- The widened tokens. -/
def TOK (a : S3x640x16x128.Idx → EReal) (s : S3x640x16.Idx → EReal) : S1920x2048.Idx → EReal :=
  (shapeCast S1920x2048 (mulf (shapeCast S1920x16x128 a shapeCasts_S3x640x16x128_S1920x16x128 : FVec Ideal S1920x16x128 .bf16)
    (broadcastTo S1920x16x128 (shapeCast S1920x16x1 (shapeCast S1920x16 s shapeCasts_S3x640x16_S1920x16 : FVec Ideal S1920x16 .bf16) shapeCasts_S1920x16_S1920x16x1 : FVec Ideal S1920x16x1 .bf16) broadcasts_S1920x16x1_S1920x16x128)) shapeCasts_S1920x16x128_S1920x2048 : FVec Ideal S1920x2048 .bf16)

theorem TOK_at (a : S3x640x16x128.Idx → EReal) (s : S3x640x16.Idx → EReal) (t : Fin 1920) (n : Fin 2048) : TOK a s (ix2 t n) = tok a s t n := by
  unfold TOK
  refine (cast_at (α := EReal) _ shapeCasts_S1920x16x128_S1920x2048 _ (ix3 t (⟨n.1 / 128, by omega⟩ : Fin 16) (⟨n.1 % 128, by omega⟩ : Fin 128)) ?_).trans ?_
  · rw [Shape.rowMajor_val_two, Shape.rowMajor_val_three]
    show (t.1 * 16 + n.1 / 128) * 128 + n.1 % 128 = t.1 * 2048 + n.1
    omega
  refine congrArg₂ (fun x y : EReal => x * y) (cast_at a _ _ _ ?_)
    ((congrArg _ (?_ : _ = ix3 t (⟨n.1 / 128, by omega⟩ : Fin 16) (0 : Fin 1))).trans ((cast_at (α := EReal) _ shapeCasts_S1920x16_S1920x16x1 _ (ix2 t (⟨n.1 / 128, by omega⟩ : Fin 16)) ?_).trans (cast_at s _ _ _ ?_)))
  · rw [Shape.rowMajor_val_three, Shape.rowMajor_val_four]
    show ((t.1 / 640 * 640 + t.1 % 640) * 16 + n.1 / 128) * 128 + n.1 % 128 = (t.1 * 16 + n.1 / 128) * 128 + n.1 % 128
    omega
  · refine funext fun a => Fin.ext ?_
    match a with
    | 0 => rfl
    | 1 => rfl
    | 2 => rfl
  · rw [Shape.rowMajor_val_two, Shape.rowMajor_val_three]
    show t.1 * 16 + n.1 / 128 = (t.1 * 16 + n.1 / 128) * 1 + 0
    omega
  · rw [Shape.rowMajor_val_two, Shape.rowMajor_val_three]
    show (t.1 / 640 * 640 + t.1 % 640) * 16 + n.1 / 128 = t.1 * 16 + n.1 / 128
    omega

/-- The widened weights. -/
def WGT (w : S512x16x128.Idx → EReal) (s : S4x16.Idx → EReal) : S512x2048.Idx → EReal :=
  (shapeCast S512x2048 (mulf (shapeCast S4x128x16x128 w shapeCasts_S512x16x128_S4x128x16x128 : FVec Ideal S4x128x16x128 .bf16)
    (broadcastTo S4x128x16x128 (shapeCast S4x1x16x1 s shapeCasts_S4x16_S4x1x16x1 : FVec Ideal S4x1x16x1 .bf16) broadcasts_S4x1x16x1_S4x128x16x128)) shapeCasts_S4x128x16x128_S512x2048 : FVec Ideal S512x2048 .bf16)

theorem WGT_at (w : S512x16x128.Idx → EReal) (s : S4x16.Idx → EReal) (r : Fin 512) (n : Fin 2048) : WGT w s (ix2 r n) = wgt w s r n := by
  unfold WGT
  refine (cast_at (α := EReal) _ shapeCasts_S4x128x16x128_S512x2048 _ (ix4 (⟨r.1 / 128, by omega⟩ : Fin 4) (⟨r.1 % 128, by omega⟩ : Fin 128) (⟨n.1 / 128, by omega⟩ : Fin 16) (⟨n.1 % 128, by omega⟩ : Fin 128)) ?_).trans ?_
  · rw [Shape.rowMajor_val_two, Shape.rowMajor_val_four]
    show ((r.1 / 128 * 128 + r.1 % 128) * 16 + n.1 / 128) * 128 + n.1 % 128 = r.1 * 2048 + n.1
    omega
  refine congrArg₂ (fun x y : EReal => x * y) (cast_at w _ _ _ ?_)
    ((congrArg _ (?_ : _ = ix4 (⟨r.1 / 128, by omega⟩ : Fin 4) (0 : Fin 1) (⟨n.1 / 128, by omega⟩ : Fin 16) (0 : Fin 1))).trans (cast_at s _ _ _ ?_))
  · rw [Shape.rowMajor_val_three, Shape.rowMajor_val_four]
    show (r.1 * 16 + n.1 / 128) * 128 + n.1 % 128 = ((r.1 / 128 * 128 + r.1 % 128) * 16 + n.1 / 128) * 128 + n.1 % 128
    omega
  · refine funext fun a => Fin.ext ?_
    match a with
    | 0 => rfl
    | 1 => rfl
    | 2 => rfl
    | 3 => rfl
  · rw [Shape.rowMajor_val_two, Shape.rowMajor_val_four]
    show r.1 / 128 * 16 + n.1 / 128 = ((r.1 / 128 * 1 + 0) * 16 + n.1 / 128) * 1 + 0
    omega

/-- The product over the entries, the columns of both factors. -/
theorem dot_at (x : FVec Ideal S1920x2048 .bf16) (w : FVec Ideal S512x2048 .bf16) (t : Fin 1920) (r : Fin 512) :
    (matmul dot_S1920x2048_S512x2048_S1920x512_1_1_0_0_n_n none x w (constant S1920x512 .f32 0x00000000#32) : FVec Ideal S1920x512 .f32) (ix2 t r)
      = (∑ n : Fin 2048, x (ix2 t n) * w (ix2 r n) : EReal) := by
  refine (Ideal.matmul_constant_zero_apply dot_S1920x2048_S512x2048_S1920x512_1_1_0_0_n_n none x w (ix2 t r)).trans ?_
  rw [← Equiv.sum_comp (contrEquiv1 dot_S1920x2048_S512x2048_S1920x512_1_1_0_0_n_n 2048 rfl rfl).symm]
  refine Finset.sum_congr rfl fun n _ => ?_
  have hn := contrEquiv1_symm_val dot_S1920x2048_S512x2048_S1920x512_1_1_0_0_n_n 2048 rfl rfl n
  refine congrArg₂ (fun x y : EReal => x * y) (congrArg x ?_) (congrArg w ?_)
  · refine funext fun a => Fin.ext ?_
    match a with
    | ⟨0, _⟩ => rfl
    | ⟨1, _⟩ => exact hn
  · refine funext fun a => Fin.ext ?_
    match a with
    | ⟨0, _⟩ => rfl
    | ⟨1, _⟩ => exact hn

theorem value (a0 : S3x640x16x128.Idx → EReal) (a1 : S3x640x16.Idx → EReal) (a2 : S3x640x16x128.Idx → EReal) (a3 : S3x640x16.Idx → EReal)
    (a4 : S512x16x128.Idx → EReal) (a5 : S4x16.Idx → EReal) (a6 : S512x16x128.Idx → EReal) (a7 : S4x16.Idx → EReal) :
    Value.G8 (F := Ideal) a0 a1 a2 a3 a4 a5 a6 a7 = dcArr a0 a1 a2 a3 a4 a5 a6 a7 := by
  funext y
  show (matmul dot_S1920x2048_S512x2048_S1920x512_1_1_0_0_n_n none (TOK a0 a1 : FVec Ideal S1920x2048 .bf16) (WGT a4 a5 : FVec Ideal S512x2048 .bf16) (constant S1920x512 .f32 0x00000000#32) : FVec Ideal S1920x512 .f32) y
    + (matmul dot_S1920x2048_S512x2048_S1920x512_1_1_0_0_n_n none (TOK a2 a3 : FVec Ideal S1920x2048 .bf16) (WGT a6 a7 : FVec Ideal S512x2048 .bf16) (constant S1920x512 .f32 0x00000000#32) : FVec Ideal S1920x512 .f32) y = (dcArr a0 a1 a2 a3 a4 a5 a6 a7 y : EReal)
  have ey : y = ix2 (⟨(y 0).1, (y 0).2⟩ : Fin 1920) (⟨(y 1).1, (y 1).2⟩ : Fin 512) := by
    funext a
    match a with
    | 0 => rfl
    | 1 => rfl
  refine congrArg₂ (fun x y : EReal => x + y) ((congrArg _ ey).trans ((dot_at _ _ _ _).trans (Finset.sum_congr rfl fun n _ => ?_))) ((congrArg _ ey).trans ((dot_at _ _ _ _).trans (Finset.sum_congr rfl fun n _ => ?_)))
  · exact congrArg₂ (fun x y : EReal => x * y) (TOK_at a0 a1 _ n) (WGT_at a4 a5 _ n)
  · exact congrArg₂ (fun x y : EReal => x * y) (TOK_at a2 a3 _ n) (WGT_at a6 a7 _ n)

end Cert.ReferenceDcIdeal.Hand
-- ==== Proof.lean ====
module

public import proofs.«01_k».proof.Defs
public import proofs.«01_k».proof.Proof.Kernel.Whole
public import proofs.«01_k».proof.Proof.KernelIdeal.Value
public import proofs.«01_k».proof.Proof.RefValue
public import proofs.«01_k».proof.Proof.KernelDc.Whole
public import proofs.«01_k».proof.Proof.KernelDcIdeal.Value
public import proofs.«01_k».proof.Proof.RefDcValue
public import proofs.«01_k».proof.Proof.Gen.KernelDc
public import proofs.«01_k».proof.Proof.Gen.KernelDc.Frame
public import proofs.«01_k».proof.Proof.Gen.KernelDcIdeal
public import proofs.«01_k».proof.Proof.Gen.KernelDcIdeal.Frame
public import proofs.«01_k».proof.Proof.Gen.ReferenceDcIdeal
public import proofs.«01_k».proof.Proof.Gen.ReferenceDcIdeal.Value
public import Idealize.ShloMosaic.Adequacy
public import Idealize.ShloMosaic.Init

@[expose] public section

noncomputable section

namespace Cert.Proof

open Idealize.ShloMosaic Idealize.SL.Sem Cert.Kernel

/-- The kernel ends, its arguments as they were. -/
theorem frameKernel : Cert.quiescent_Kernel (hKernel := Cert.Kernel.Gen.facts) := fun m ρ _ =>
  (θ_run _ _ _).mono (fun _ h => ⟨fun c => (h.1 c).1, h.2⟩) (Cert.Kernel.Hand.run m ρ)

/-- So does the ideal program. -/
theorem frameKernelIdeal : Cert.quiescent_KernelIdeal (hKernelIdeal := Cert.KernelIdeal.Gen.facts) := fun m ρ _ =>
  (θ_run _ _ _).mono (fun _ h => ⟨fun c => (h.1 c).1, h.2⟩) (Cert.KernelIdeal.Hand.run m ρ)

/-- And the reference. -/
theorem frameReference : Cert.quiescent_ReferenceIdeal (hReferenceIdeal := Cert.ReferenceIdeal.Gen.facts) := fun m ρ _ =>
  Cert.ReferenceIdeal.Gen.frame m ρ

/-- Kernel and reference both return the weight gradients of the arguments. -/
theorem algebraic : Cert.algebraic_KernelIdeal_ReferenceIdeal (hKernelIdeal := Cert.KernelIdeal.Gen.facts) (hReferenceIdeal := Cert.ReferenceIdeal.Gen.facts) := by
  intro m g m' g' _ he
  let a (b : Ref Cert.KernelIdeal.sig .tc) (c : Dev Cert.KernelIdeal.nD) := m ((c.tc : Thread Cert.KernelIdeal.nD Cert.KernelIdeal.τ).loc b)
  refine ⟨fun c => Cert.Num.gradArr (a Cert.KernelIdeal.main_arg0 c) (a Cert.KernelIdeal.main_arg1 c) (a Cert.KernelIdeal.main_arg2 c) (a Cert.KernelIdeal.main_arg3 c),
    fun c => Cert.Num.gradArr (a Cert.KernelIdeal.main_arg0 c) (a Cert.KernelIdeal.main_arg1 c) (a Cert.KernelIdeal.main_arg4 c) (a Cert.KernelIdeal.main_arg5 c),
    (θ_run _ _ _).mono (fun _ h c => ?_) (Cert.KernelIdeal.Hand.run m g), (θ_run _ _ _).mono (fun _ h c => ?_) (Cert.ReferenceIdeal.Value.run m' g')⟩
  · have ⟨ha, h0, h1⟩ := h.1 c
    exact ⟨h0.trans (Cert.KernelIdeal.Hand.value0 m c), h1.trans (Cert.KernelIdeal.Hand.value1 m c), ha⟩
  · have ⟨h0, h1, ha⟩ := h c
    have ⟨e0, e1, e2, e3, e4, e5⟩ := he c
    refine ⟨h0.trans ?_, h1.trans ?_, ha⟩
    · rw [Cert.ReferenceIdeal.Hand.value6, e0, e1, e2, e3]
    · rw [Cert.ReferenceIdeal.Hand.value7, e0, e1, e4, e5]

/-- The latent-gradient kernel ends, its arguments as they were. -/
theorem frameKernelDc : Cert.quiescent_KernelDc (hKernelDc := Cert.KernelDc.Gen.facts) := fun m ρ _ =>
  (θ_run _ _ _).mono (fun _ h => ⟨fun c => (h.1 c).1, h.2⟩) (Cert.KernelDc.Hand.run m ρ)

/-- So does its ideal program. -/
theorem frameKernelDcIdeal : Cert.quiescent_KernelDcIdeal (hKernelDcIdeal := Cert.KernelDcIdeal.Gen.facts) := fun m ρ _ =>
  (θ_run _ _ _).mono (fun _ h => ⟨fun c => (h.1 c).1, h.2⟩) (Cert.KernelDcIdeal.Hand.run m ρ)

/-- And its reference. -/
theorem frameReferenceDc : Cert.quiescent_ReferenceDcIdeal (hReferenceDcIdeal := Cert.ReferenceDcIdeal.Gen.facts) := fun m ρ _ =>
  Cert.ReferenceDcIdeal.Gen.frame m ρ

/-- Kernel and reference both return the latent gradient of the arguments. -/
theorem algebraicDc : Cert.algebraic_KernelDcIdeal_ReferenceDcIdeal (hKernelDcIdeal := Cert.KernelDcIdeal.Gen.facts) (hReferenceDcIdeal := Cert.ReferenceDcIdeal.Gen.facts) := by
  intro m g m' g' _ he
  let a (b : Ref Cert.KernelDcIdeal.sig .tc) (c : Dev Cert.KernelDcIdeal.nD) := m ((c.tc : Thread Cert.KernelDcIdeal.nD Cert.KernelDcIdeal.τ).loc b)
  refine ⟨fun c => Cert.Num.dcArr (a Cert.KernelDcIdeal.main_arg0 c) (a Cert.KernelDcIdeal.main_arg1 c) (a Cert.KernelDcIdeal.main_arg2 c) (a Cert.KernelDcIdeal.main_arg3 c)
      (a Cert.KernelDcIdeal.main_arg4 c) (a Cert.KernelDcIdeal.main_arg5 c) (a Cert.KernelDcIdeal.main_arg6 c) (a Cert.KernelDcIdeal.main_arg7 c),
    (θ_run _ _ _).mono (fun _ h c => ?_) (Cert.KernelDcIdeal.Hand.run m g), (θ_run _ _ _).mono (fun _ h c => ?_) (Cert.ReferenceDcIdeal.Value.run m' g')⟩
  · have ⟨ha, h0⟩ := h.1 c
    exact ⟨h0.trans (Cert.KernelDcIdeal.Hand.value m c), ha⟩
  · have ⟨h0, ha⟩ := h c
    have ⟨e0, e1, e2, e3, e4, e5, e6, e7⟩ := he c
    refine ⟨h0.trans ?_, ha⟩
    rw [Cert.ReferenceDcIdeal.Hand.value, e0, e1, e2, e3, e4, e5, e6, e7]

theorem claim : Cert.Claim := ⟨Cert.Kernel.Gen.facts, Cert.KernelIdeal.Gen.facts, Cert.ReferenceIdeal.Gen.facts,
  Cert.KernelDc.Gen.facts, Cert.KernelDcIdeal.Gen.facts, Cert.ReferenceDcIdeal.Gen.facts,
  frameKernel, frameKernelIdeal, frameReference, frameKernelDc, frameKernelDcIdeal, frameReferenceDc,
  trivial, algebraic, trivial, algebraicDc⟩

end Cert.Proof

end
